-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v15)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v15) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v55) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Proj_ProjIdeal : Prop :=
  IdealRules.named_const.Statement Cert.ProjIdeal.κ "query_scale" .f32 0x3E38AA3B#32 (((1 / 8) * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v75_0)) (v1 : (c : Dev Cert.ProjIdeal.nD) → Buf (Elt Ideal) ((c.tc : Thread Cert.ProjIdeal.nD Cert.ProjIdeal.τ).loc Cert.ProjIdeal.main_v75_1)) (v2 : (c : Dev Cert.ProjIdeal.nD) → Buf (Elt Ideal) ((c.tc : Thread Cert.ProjIdeal.nD Cert.ProjIdeal.τ).loc Cert.ProjIdeal.main_v75_2)) (v3 : (c : Dev Cert.ProjIdeal.nD) → Buf (Elt Ideal) ((c.tc : Thread Cert.ProjIdeal.nD Cert.ProjIdeal.τ).loc Cert.ProjIdeal.main_v75_3)) (v4 : (c : Dev Cert.ProjIdeal.nD) → Buf (Elt Ideal) ((c.tc : Thread Cert.ProjIdeal.nD Cert.ProjIdeal.τ).loc Cert.ProjIdeal.main_v75_4)) (v5 : (c : Dev Cert.ProjIdeal.nD) → Buf (Elt Ideal) ((c.tc : Thread Cert.ProjIdeal.nD Cert.ProjIdeal.τ).loc Cert.ProjIdeal.main_v75_5)) (v6 : (c : Dev Cert.ProjIdeal.nD) → Buf (Elt Ideal) ((c.tc : Thread Cert.ProjIdeal.nD Cert.ProjIdeal.τ).loc Cert.ProjIdeal.main_v75_6)) (v7 : (c : Dev Cert.ProjIdeal.nD) → Buf (Elt Ideal) ((c.tc : Thread Cert.ProjIdeal.nD Cert.ProjIdeal.τ).loc Cert.ProjIdeal.main_v75_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v75_0) = v0 c
          ∧ r.2.mem ((c.tc : Thread Cert.ProjIdeal.nD Cert.ProjIdeal.τ).loc Cert.ProjIdeal.main_v75_1) = v1 c
          ∧ r.2.mem ((c.tc : Thread Cert.ProjIdeal.nD Cert.ProjIdeal.τ).loc Cert.ProjIdeal.main_v75_2) = v2 c
          ∧ r.2.mem ((c.tc : Thread Cert.ProjIdeal.nD Cert.ProjIdeal.τ).loc Cert.ProjIdeal.main_v75_3) = v3 c
          ∧ r.2.mem ((c.tc : Thread Cert.ProjIdeal.nD Cert.ProjIdeal.τ).loc Cert.ProjIdeal.main_v75_4) = v4 c
          ∧ r.2.mem ((c.tc : Thread Cert.ProjIdeal.nD Cert.ProjIdeal.τ).loc Cert.ProjIdeal.main_v75_5) = v5 c
          ∧ r.2.mem ((c.tc : Thread Cert.ProjIdeal.nD Cert.ProjIdeal.τ).loc Cert.ProjIdeal.main_v75_6) = v6 c
          ∧ r.2.mem ((c.tc : Thread Cert.ProjIdeal.nD Cert.ProjIdeal.τ).loc Cert.ProjIdeal.main_v75_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v147) = v0 c
          ∧ r.2.mem ((c.tc : Thread Cert.ProjRefIdeal.nD Cert.ProjRefIdeal.τ).loc Cert.ProjRefIdeal.main_v149) = v1 c
          ∧ r.2.mem ((c.tc : Thread Cert.ProjRefIdeal.nD Cert.ProjRefIdeal.τ).loc Cert.ProjRefIdeal.main_v151) = v2 c
          ∧ r.2.mem ((c.tc : Thread Cert.ProjRefIdeal.nD Cert.ProjRefIdeal.τ).loc Cert.ProjRefIdeal.main_v153) = v3 c
          ∧ r.2.mem ((c.tc : Thread Cert.ProjRefIdeal.nD Cert.ProjRefIdeal.τ).loc Cert.ProjRefIdeal.main_v155) = v4 c
          ∧ r.2.mem ((c.tc : Thread Cert.ProjRefIdeal.nD Cert.ProjRefIdeal.τ).loc Cert.ProjRefIdeal.main_v156) = v5 c
          ∧ r.2.mem ((c.tc : Thread Cert.ProjRefIdeal.nD Cert.ProjRefIdeal.τ).loc Cert.ProjRefIdeal.main_v164) = v6 c
          ∧ r.2.mem ((c.tc : Thread Cert.ProjRefIdeal.nD Cert.ProjRefIdeal.τ).loc Cert.ProjRefIdeal.main_v145) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
-- ==== Pre_finite.lean ====
abbrev S32x2048x512 : Shape := ⟨3, ![32, 2048, 512]⟩
abbrev S1x64 : Shape := ⟨2, ![1, 64]⟩
abbrev S1x128 : Shape := ⟨2, ![1, 128]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S32x2048x512 .f32) (main_arg1 : FVec F S32x2048x512 .f32) (main_arg2 : FVec F S32x2048x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S32x2048x512 .f32 := Host.absf main_arg2
  let main_cst_2 : FVec F S_ .f32 := constant S_ .f32 0x7F800000#32
  let main_v10 : FVec F S32x2048x512 .f32 := broadcastInDim S32x2048x512 ![] bcast_S_S32x2048x512 main_cst_2
  let main_v11 : IVec S32x2048x512 1 := cmpf .olt main_v9 main_v10
  let main_c_3 : IVec S_ 1 := constantI S_ 1 1#1
  let main_v12 : IVec S_ 1 := (fun x v => Host.reduce IntOp.andi x v reducesTo_S32x2048x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Attn.lean ====
abbrev S32x2048x512 : Shape := ⟨3, ![32, 2048, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S128 : Shape := ⟨1, ![128]⟩
abbrev S128x1 : Shape := ⟨2, ![128, 1]⟩
abbrev S1x2048x256 : Shape := ⟨3, ![1, 2048, 256]⟩
abbrev S2x144x4096 : Shape := ⟨3, ![2, 144, 4096]⟩
abbrev S2x1x4096 : Shape := ⟨3, ![2, 1, 4096]⟩
abbrev S1 : Shape := ⟨1, ![1]⟩
abbrev S1x1 : Shape := ⟨2, ![1, 1]⟩
abbrev S1x2048x128 : Shape := ⟨3, ![1, 2048, 128]⟩
abbrev S2048x128 : Shape := ⟨2, ![2048, 128]⟩
abbrev S256x128 : Shape := ⟨2, ![256, 128]⟩
abbrev S512x128 : Shape := ⟨2, ![512, 128]⟩
abbrev S1x256x128 : Shape := ⟨3, ![1, 256, 128]⟩
abbrev S256x512 : Shape := ⟨2, ![256, 512]⟩
abbrev S256x256 : Shape := ⟨2, ![256, 256]⟩
abbrev S1792x128 : Shape := ⟨2, ![1792, 128]⟩
abbrev S3584x128 : Shape := ⟨2, ![3584, 128]⟩
abbrev S1x512x128 : Shape := ⟨3, ![1, 512, 128]⟩
abbrev S512x3584 : Shape := ⟨2, ![512, 3584]⟩
abbrev S512x256 : Shape := ⟨2, ![512, 256]⟩
abbrev S512x1536 : Shape := ⟨2, ![512, 1536]⟩
abbrev S512 : Shape := ⟨1, ![512]⟩
abbrev S1x512 : Shape := ⟨2, ![1, 512]⟩
abbrev S1x256 : Shape := ⟨2, ![1, 256]⟩
abbrev S1x1x256 : Shape := ⟨3, ![1, 1, 256]⟩
abbrev S1x128x128 : Shape := ⟨3, ![1, 128, 128]⟩
abbrev S128x128 : Shape := ⟨2, ![128, 128]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S1x144x256 : Shape := ⟨3, ![1, 144, 256]⟩
abbrev S1280x128 : Shape := ⟨2, ![1280, 128]⟩
abbrev S2560x128 : Shape := ⟨2, ![2560, 128]⟩
abbrev S512x2560 : Shape := ⟨2, ![512, 2560]⟩
abbrev S512x1024 : Shape := ⟨2, ![512, 1024]⟩
abbrev S3584 : Shape := ⟨1, ![3584]⟩
abbrev S1x3584 : Shape := ⟨2, ![1, 3584]⟩
abbrev S1x1792 : Shape := ⟨2, ![1, 1792]⟩
abbrev S1x1x1792 : Shape := ⟨3, ![1, 1, 1792]⟩
abbrev S128x512 : Shape := ⟨2, ![128, 512]⟩
abbrev S16x512 : Shape := ⟨2, ![16, 512]⟩
abbrev S144x3584 : Shape := ⟨2, ![144, 3584]⟩
abbrev S144x1792 : Shape := ⟨2, ![144, 1792]⟩
abbrev S1x144x1792 : Shape := ⟨3, ![1, 144, 1792]⟩
abbrev S768x128 : Shape := ⟨2, ![768, 128]⟩
abbrev S1536x128 : Shape := ⟨2, ![1536, 128]⟩
abbrev S512x512 : Shape := ⟨2, ![512, 512]⟩
abbrev S2560 : Shape := ⟨1, ![2560]⟩
abbrev S1x2560 : Shape := ⟨2, ![1, 2560]⟩
abbrev S1x1x1280 : Shape := ⟨3, ![1, 1, 1280]⟩
abbrev S1x1280 : Shape := ⟨2, ![1, 1280]⟩
abbrev S1x144x1280 : Shape := ⟨3, ![1, 144, 1280]⟩
abbrev S144x1280 : Shape := ⟨2, ![144, 1280]⟩
abbrev S144x2560 : Shape := ⟨2, ![144, 2560]⟩
abbrev S1536 : Shape := ⟨1, ![1536]⟩
abbrev S1x1536 : Shape := ⟨2, ![1, 1536]⟩
abbrev S1x1x768 : Shape := ⟨3, ![1, 1, 768]⟩
abbrev S1x768 : Shape := ⟨2, ![1, 768]⟩
abbrev S1x144x768 : Shape := ⟨3, ![1, 144, 768]⟩
abbrev S144x768 : Shape := ⟨2, ![144, 768]⟩
abbrev S144x1536 : Shape := ⟨2, ![144, 1536]⟩
abbrev S1x128x256 : Shape := ⟨3, ![1, 128, 256]⟩
abbrev S256 : Shape := ⟨1, ![256]⟩

abbrev nBuf : Space → Nat
  | .hbm => 29
  | .vmem => 12
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x512, .f32⟩
  | .hbm, ⟨13, _⟩ => ⟨S32x2048x512, .f32⟩
  | .hbm, ⟨14, _⟩ => ⟨S32x2048x512, .bf16⟩
  | .hbm, ⟨15, _⟩ => ⟨S32x2048x512, .bf16⟩
  | .hbm, ⟨16, _⟩ => ⟨S32x2048x512, .bf16⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S4x64, .f32⟩
  | .hbm, ⟨26, _⟩ => ⟨S128, .f32⟩
  | .hbm, ⟨27, _⟩ => ⟨S128x1, .f32⟩
  | .hbm, ⟨28, _⟩ => ⟨S32x2048x512, .bf16⟩
  | .local _ .vmem, ⟨0, _⟩ => ⟨S4x64, .f32⟩
  | .local _ .vmem, ⟨1, _⟩ => ⟨S128x1, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S2x144x4096, .f32⟩
  | .local _ .vmem, ⟨11, _⟩ => ⟨S2x1x4096, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S32x2048x512 : Shape := ⟨3, ![32, 2048, 512]⟩
abbrev S1x64 : Shape := ⟨2, ![1, 64]⟩
abbrev S1x128 : Shape := ⟨2, ![1, 128]⟩
abbrev S32x2048x4x2x64 : Shape := ⟨5, ![32, 2048, 4, 2, 64]⟩
abbrev S32x4x2x2048x64 : Shape := ⟨5, ![32, 4, 2, 2048, 64]⟩
abbrev S32x2048x4x128 : Shape := ⟨4, ![32, 2048, 4, 128]⟩
abbrev S32x4x2048x128 : Shape := ⟨4, ![32, 4, 2048, 128]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S128 : Shape := ⟨1, ![128]⟩
abbrev S32x4x2048 : Shape := ⟨3, ![32, 4, 2048]⟩
abbrev S32x4x2048x1 : Shape := ⟨4, ![32, 4, 2048, 1]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32x2048x4x2x64, .f32⟩
  | .hbm, ⟨9, _⟩ => ⟨S32x4x2x2048x64, .f32⟩
  | .hbm, ⟨10, _⟩ => ⟨S32x2048x4x2x64, .f32⟩
  | .hbm, ⟨11, _⟩ => ⟨S32x4x2x2048x64, .f32⟩
  | .hbm, ⟨12, _⟩ => ⟨S32x2048x4x128, .f32⟩
  | .hbm, ⟨13, _⟩ => ⟨S32x4x2048x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x4x2x2048x2048, .f32⟩
  | .hbm, ⟨30, _⟩ => ⟨S_, .f32⟩
  | .hbm, ⟨31, _⟩ => ⟨S32x4x2x2048x2048, .f32⟩
  | .hbm, ⟨32, _⟩ => ⟨S32x4x2x2048x2048, .f32⟩
  | .hbm, ⟨33, _⟩ => ⟨S2048, .i32⟩
  | .hbm, ⟨34, _⟩ => ⟨S2048x1, .i32⟩
  | .hbm, ⟨35, _⟩ => ⟨S2048, .i32⟩
  | .hbm, ⟨36, _⟩ => ⟨S1x2048, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S32x4x2x2048x2048, .i1⟩
  | .hbm, ⟨43, _⟩ => ⟨S32x4x2x2048x2048, .f32⟩
  | .hbm, ⟨44, _⟩ => ⟨S32x4x2x2048x2048, .f32⟩
  | .hbm, ⟨45, _⟩ => ⟨S_, .f32⟩
  | .hbm, ⟨46, _⟩ => ⟨S32x4x2x2048, .f32⟩
  | .hbm, ⟨47, _⟩ => ⟨S_, .f32⟩
  | .hbm, ⟨48, _⟩ => ⟨S32x4x2x2048, .f32⟩
  | .hbm, ⟨49, _⟩ => ⟨S32x4x2x2048, .f32⟩
  | .hbm, ⟨50, _⟩ => ⟨S32x4x2x2048x1, .f32⟩
  | .hbm, ⟨51, _⟩ => ⟨S32x4x2x2048x2048, .f32⟩
  | .hbm, ⟨52, _⟩ => ⟨S32x4x2x2048x2048, .f32⟩
  | .hbm, ⟨53, _⟩ => ⟨S32x4x2x2048x2048, .f32⟩
  | .hbm, ⟨54, _⟩ => ⟨S_, .f32⟩
  | .hbm, ⟨55, _⟩ => ⟨S32x4x2x2048, .f32⟩
  | .hbm, ⟨56, _⟩ => ⟨S32x4x2x2048x1, .f32⟩
  | .hbm, ⟨57, _⟩ => ⟨S32x4x2x2048x2048, .f32⟩
  | .hbm, ⟨58, _⟩ => ⟨S32x4x2x2048x2048, .f32⟩
  | .hbm, ⟨59, _⟩ => ⟨S32x4x1x2048x2048, .f32⟩
  | .hbm, ⟨60, _⟩ => ⟨S32x4x2048x2048, .f32⟩
  | .hbm, ⟨61, _⟩ => ⟨S32x4x1x2048x2048, .f32⟩
  | .hbm, ⟨62, _⟩ => ⟨S32x4x2048x2048, .f32⟩
  | .hbm, ⟨63, _⟩ => ⟨S32x4x2048x2048, .f32⟩
  | .hbm, ⟨64, _⟩ => ⟨S32x4x2048x2048, .f32⟩
  | .hbm, ⟨65, _⟩ => ⟨S32x4x2048x2048, .f32⟩
  | .hbm, ⟨66, _⟩ => ⟨S32x4x2048x128, .f32⟩
  | .hbm, ⟨67, _⟩ => ⟨S128, .f32⟩
  | .hbm, ⟨68, _⟩ => ⟨S32x4x2048x128, .f32⟩
  | .hbm, ⟨69, _⟩ => ⟨S_, .f32⟩
  | .hbm, ⟨70, _⟩ => ⟨S32x4x2048, .f32⟩
  | .hbm, ⟨71, _⟩ => ⟨S32x4x2048x1, .f32⟩
  | .hbm, ⟨72, _⟩ => ⟨S_, .f32⟩
  | .hbm, ⟨73, _⟩ => ⟨S32x4x2048x1, .f32⟩
  | .hbm, ⟨74, _⟩ => ⟨S32x4x2048x1, .f32⟩
  | .hbm, ⟨75, _⟩ => ⟨S_, .f32⟩
  | .hbm, ⟨76, _⟩ => ⟨S32x4x2048x1, .f32⟩
  | .hbm, ⟨77, _⟩ => ⟨S32x4x2048x1, .f32⟩
  | .hbm, ⟨78, _⟩ => ⟨S32x4x2048x1, .f32⟩
  | .hbm, ⟨79, _⟩ => ⟨S32x4x2048x128, .f32⟩
  | .hbm, ⟨80, _⟩ => ⟨S32x4x2048x128, .f32⟩
  | .hbm, ⟨81, _⟩ => ⟨S1x1x1x128, .f32⟩
  | .hbm, ⟨82, _⟩ => ⟨S32x4x2048x128, .f32⟩
  | .hbm, ⟨83, _⟩ => ⟨S32x4x2048x128, .f32⟩
  | .hbm, ⟨84, _⟩ => ⟨S_, .f32⟩
  | .hbm, ⟨85, _⟩ => ⟨S32x4x2048x128, .f32⟩
  | .hbm, ⟨86, _⟩ => ⟨S32x4x2048x128, .f32⟩
  | .hbm, ⟨87, _⟩ => ⟨S32x2048x4x128, .f32⟩
  | .hbm, ⟨88, _⟩ => ⟨S32x2048x512, .f32⟩
  | .hbm, ⟨89, _⟩ => ⟨S32x2048x512, .bf16⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Mlp.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S65536x1024 : Shape := ⟨2, ![65536, 1024]⟩
abbrev S1024x1024 : Shape := ⟨2, ![1024, 1024]⟩
abbrev S1024x4096 : Shape := ⟨2, ![1024, 4096]⟩
abbrev S4096x1024 : Shape := ⟨2, ![4096, 1024]⟩
abbrev S65536x512 : Shape := ⟨2, ![65536, 512]⟩
abbrev S1024 : Shape := ⟨1, ![1024]⟩
abbrev S1024x512 : Shape := ⟨2, ![1024, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S65536x1024, .f32⟩
  | .hbm, ⟨10, _⟩ => ⟨S1024x1024, .f32⟩
  | .hbm, ⟨11, _⟩ => ⟨S1024x1024, .bf16⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S65536x512, .bf16⟩
  | .hbm, ⟨17, _⟩ => ⟨S65536x512, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpRefIdeal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S4096x1024 : Shape := ⟨2, ![4096, 1024]⟩
abbrev S65536x1024 : Shape := ⟨2, ![65536, 1024]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S32x2048x512, .f32⟩
  | .hbm, ⟨10, _⟩ => ⟨S32x2048x512, .f32⟩
  | .hbm, ⟨11, _⟩ => ⟨S32x2048x1024, .f32⟩
  | .hbm, ⟨12, _⟩ => ⟨S1024x1024, .f32⟩
  | .hbm, ⟨13, _⟩ => ⟨S32x2048x1024, .f32⟩
  | .hbm, ⟨14, _⟩ => ⟨S1024, .f32⟩
  | .hbm, ⟨15, _⟩ => ⟨S32x2048x1024, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S1x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S1024, .f32⟩
  | .hbm, ⟨33, _⟩ => ⟨S32x2048x1024, .f32⟩
  | .hbm, ⟨34, _⟩ => ⟨S_, .f32⟩
  | .hbm, ⟨35, _⟩ => ⟨S32x2048, .f32⟩
  | .hbm, ⟨36, _⟩ => ⟨S32x2048x1, .f32⟩
  | .hbm, ⟨37, _⟩ => ⟨S_, .f32⟩
  | .hbm, ⟨38, _⟩ => ⟨S32x2048x1, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S32x2048x1, .f32⟩
  | .hbm, ⟨44, _⟩ => ⟨S32x2048x1024, .f32⟩
  | .hbm, ⟨45, _⟩ => ⟨S32x2048x1024, .f32⟩
  | .hbm, ⟨46, _⟩ => ⟨S1x1x1024, .f32⟩
  | .hbm, ⟨47, _⟩ => ⟨S32x2048x1024, .f32⟩
  | .hbm, ⟨48, _⟩ => ⟨S32x2048x1024, .f32⟩
  | .hbm, ⟨49, _⟩ => ⟨S1024x4096, .f32⟩
  | .hbm, ⟨50, _⟩ => ⟨S32x2048x4096, .f32⟩
  | .hbm, ⟨51, _⟩ => ⟨S_, .f32⟩
  | .hbm, ⟨52, _⟩ => ⟨S32x2048x4096, .f32⟩
  | .hbm, ⟨53, _⟩ => ⟨S32x2048x4096, .f32⟩
  | .hbm, ⟨54, _⟩ => ⟨S32x2048x4096, .f32⟩
  | .hbm, ⟨55, _⟩ => ⟨S4096x1024, .f32⟩
  | .hbm, ⟨56, _⟩ => ⟨S32x2048x1024, .f32⟩
  | .hbm, ⟨57, _⟩ => ⟨S1024, .f32⟩
  | .hbm, ⟨58, _⟩ => ⟨S32x2048x1024, .f32⟩
  | .hbm, ⟨59, _⟩ => ⟨S_, .f32⟩
  | .hbm, ⟨60, _⟩ => ⟨S32x2048, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S32x2048x1, .f32⟩
  | .hbm, ⟨69, _⟩ => ⟨S32x2048x1024, .f32⟩
  | .hbm, ⟨70, _⟩ => ⟨S32x2048x1024, .f32⟩
  | .hbm, ⟨71, _⟩ => ⟨S1x1x1024, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x4x512 : Shape := ⟨3, ![1, 4, 512]⟩
abbrev S1x512 : Shape := ⟨2, ![1, 512]⟩
abbrev S65536x1024 : Shape := ⟨2, ![65536, 1024]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S1024x512 : Shape := ⟨2, ![1024, 512]⟩
abbrev S1024x256 : Shape := ⟨2, ![1024, 256]⟩
abbrev S1024x4x64 : Shape := ⟨3, ![1024, 4, 64]⟩
abbrev S1024x4x128 : Shape := ⟨3, ![1024, 4, 128]⟩
abbrev S1024x1024 : Shape := ⟨2, ![1024, 1024]⟩
abbrev S1024x3200 : Shape := ⟨2, ![1024, 3200]⟩
abbrev S4x512 : Shape := ⟨2, ![4, 512]⟩
abbrev S4x256 : Shape := ⟨2, ![4, 256]⟩
abbrev S4x4x64 : Shape := ⟨3, ![4, 4, 64]⟩
abbrev S4x4x128 : Shape := ⟨3, ![4, 4, 128]⟩
abbrev S512 : Shape := ⟨1, ![512]⟩
abbrev S256 : Shape := ⟨1, ![256]⟩
abbrev S4x64 : Shape := ⟨2, ![4, 64]⟩
abbrev S4x128 : Shape := ⟨2, ![4, 128]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024 : Shape := ⟨1, ![1024]⟩
abbrev S65536x512 : Shape := ⟨2, ![65536, 512]⟩
abbrev S32x8x512x256 : Shape := ⟨4, ![32, 8, 512, 256]⟩
abbrev S32x8x2048 : Shape := ⟨3, ![32, 8, 2048]⟩
abbrev S1x4x512x256 : Shape := ⟨4, ![1, 4, 512, 256]⟩
abbrev S1x8x1024 : Shape := ⟨3, ![1, 8, 1024]⟩
abbrev S8x512 : Shape := ⟨2, ![8, 512]⟩
abbrev S8x1 : Shape := ⟨2, ![8, 1]⟩
abbrev S512x1024 : Shape := ⟨2, ![512, 1024]⟩
abbrev S512x1 : Shape := ⟨2, ![512, 1]⟩
abbrev S512x512 : Shape := ⟨2, ![512, 512]⟩
abbrev S504x512 : Shape := ⟨2, ![504, 512]⟩
abbrev S512x128 : Shape := ⟨2, ![512, 128]⟩
abbrev S256x512 : Shape := ⟨2, ![256, 512]⟩
abbrev S512x256 : Shape := ⟨2, ![512, 256]⟩
abbrev S1x1x512x256 : Shape := ⟨4, ![1, 1, 512, 256]⟩
abbrev S128x512 : Shape := ⟨2, ![128, 512]⟩
abbrev S1x8x512 : Shape := ⟨3, ![1, 8, 512]⟩

abbrev nBuf : Space → Nat
  | .hbm => 97
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3080, .f32⟩
  | .hbm, ⟨3, _⟩ => ⟨S1x4x512, .f32⟩
  | .hbm, ⟨4, _⟩ => ⟨S1x512, .f32⟩
  | .hbm, ⟨5, _⟩ => ⟨S65536x1024, .f32⟩
  | .hbm, ⟨6, _⟩ => ⟨S1024x3080, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x1536, .f32⟩
  | .hbm, ⟨12, _⟩ => ⟨S1024x512, .f32⟩
  | .hbm, ⟨13, _⟩ => ⟨S1024x256, .f32⟩
  | .hbm, ⟨14, _⟩ => ⟨S1024x4x64, .f32⟩
  | .hbm, ⟨15, _⟩ => ⟨S1024x256, .f32⟩
  | .hbm, ⟨16, _⟩ => ⟨S1024x4x64, .f32⟩
  | .hbm, ⟨17, _⟩ => ⟨S1024x4x128, .f32⟩
  | .hbm, ⟨18, _⟩ => ⟨S1024x512, .f32⟩
  | .hbm, ⟨19, _⟩ => ⟨S1024x1024, .f32⟩
  | .hbm, ⟨20, _⟩ => ⟨S1024x3200, .f32⟩
  | .hbm, ⟨21, _⟩ => ⟨S1024x3200, .bf16⟩
  | .hbm, ⟨22, _⟩ => ⟨S4x512, .f32⟩
  | .hbm, ⟨23, _⟩ => ⟨S4x256, .f32⟩
  | .hbm, ⟨24, _⟩ => ⟨S4x4x64, .f32⟩
  | .hbm, ⟨25, _⟩ => ⟨S4x256, .f32⟩
  | .hbm, ⟨26, _⟩ => ⟨S4x4x64, .f32⟩
  | .hbm, ⟨27, _⟩ => ⟨S4x4x128, .f32⟩
  | .hbm, ⟨28, _⟩ => ⟨S4x512, .f32⟩
  | .hbm, ⟨29, _⟩ => ⟨S512, .f32⟩
  | .hbm, ⟨30, _⟩ => ⟨S256, .f32⟩
  | .hbm, ⟨31, _⟩ => ⟨S4x64, .f32⟩
  | .hbm, ⟨32, _⟩ => ⟨S256, .f32⟩
  | .hbm, ⟨33, _⟩ => ⟨S4x64, .f32⟩
  | .hbm, ⟨34, _⟩ => ⟨S4x128, .f32⟩
  | .hbm, ⟨35, _⟩ => ⟨S512, .f32⟩
  | .hbm, ⟨36, _⟩ => ⟨S1x512, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S512, .f32⟩
  | .hbm, ⟨42, _⟩ => ⟨S256, .f32⟩
  | .hbm, ⟨43, _⟩ => ⟨S4x64, .f32⟩
  | .hbm, ⟨44, _⟩ => ⟨S256, .f32⟩
  | .hbm, ⟨45, _⟩ => ⟨S4x64, .f32⟩
  | .hbm, ⟨46, _⟩ => ⟨S4x128, .f32⟩
  | .hbm, ⟨47, _⟩ => ⟨S512, .f32⟩
  | .hbm, ⟨48, _⟩ => ⟨S1x512, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S2048, .i32⟩
  | .hbm, ⟨64, _⟩ => ⟨S2048, .f32⟩
  | .hbm, ⟨65, _⟩ => ⟨S2048x1, .f32⟩
  | .hbm, ⟨66, _⟩ => ⟨S1x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S_, .f32⟩
  | .hbm, ⟨73, _⟩ => ⟨S2048x32, .f32⟩
  | .hbm, ⟨74, _⟩ => ⟨S2048x64, .f32⟩
  | .hbm, ⟨75, _⟩ => ⟨S1x2048x1x64, .f32⟩
  | .hbm, ⟨76, _⟩ => ⟨S1x2048x2x64, .f32⟩
  | .hbm, ⟨77, _⟩ => ⟨S2048x128, .f32⟩
  | .hbm, ⟨78, _⟩ => ⟨S2048x32, .f32⟩
  | .hbm, ⟨79, _⟩ => ⟨S2048x64, .f32⟩
  | .hbm, ⟨80, _⟩ => ⟨S1x2048x1x64, .f32⟩
  | .hbm, ⟨81, _⟩ => ⟨S1x2048x2x64, .f32⟩
  | .hbm, ⟨82, _⟩ => ⟨S2048x128, .f32⟩
  | .hbm, ⟨83, _⟩ => ⟨S2048x64, .f32⟩
  | .hbm, ⟨84, _⟩ => ⟨S1x2048x1x64, .f32⟩
  | .hbm, ⟨85, _⟩ => ⟨S1x2048x2x64, .f32⟩
  | .hbm, ⟨86, _⟩ => ⟨S2048x128, .f32⟩
  | .hbm, ⟨87, _⟩ => ⟨S1024, .f32⟩
  | .hbm, ⟨88, _⟩ => ⟨S1x1024, .f32⟩
  | .hbm, ⟨89, _⟩ => ⟨S65536x512, .bf16⟩
  | .hbm, ⟨90, _⟩ => ⟨S65536x512, .bf16⟩
  | .hbm, ⟨91, _⟩ => ⟨S65536x512, .bf16⟩
  | .hbm, ⟨92, _⟩ => ⟨S65536x512, .bf16⟩
  | .hbm, ⟨93, _⟩ => ⟨S65536x512, .bf16⟩
  | .hbm, ⟨94, _⟩ => ⟨S32x8x512x256, .bf16⟩
  | .hbm, ⟨95, _⟩ => ⟨S65536x512, .bf16⟩
  | .hbm, ⟨96, _⟩ => ⟨S32x8x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4x512, .f32⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1x4x512x256, .bf16⟩
  | .local _ .vmem, ⟨24, _⟩ => ⟨S1x4x512x256, .bf16⟩
  | .local _ .vmem, ⟨25, _⟩ => ⟨S1024x512, .bf16⟩
  | .local _ .vmem, ⟨26, _⟩ => ⟨S1024x512, .bf16⟩
  | .local _ .vmem, ⟨27, _⟩ => ⟨S1x8x1024, .f32⟩
  | .local _ .vmem, ⟨28, _⟩ => ⟨S1x8x1024, .f32⟩
  | .local _ .vmem, ⟨29, _⟩ => ⟨S8x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75_0 : Ref sig .tc := ⟨.hbm, 89, rfl⟩
abbrev main_v75_1 : Ref sig .tc := ⟨.hbm, 90, rfl⟩
abbrev main_v75_2 : Ref sig .tc := ⟨.hbm, 91, rfl⟩
abbrev main_v75_3 : Ref sig .tc := ⟨.hbm, 92, rfl⟩
abbrev main_v75_4 : Ref sig .tc := ⟨.hbm, 93, rfl⟩
abbrev main_v75_5 : Ref sig .tc := ⟨.hbm, 94, rfl⟩
abbrev main_v75_6 : Ref sig .tc := ⟨.hbm, 95, rfl⟩
abbrev main_v75_7 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjIdeal.lean ====
variable {F : FTy → Type} [FloatOps F] [Named F]
def κ : String → Option EReal := fun
  | "query_scale" => some (((1 / 8) * (Real.log 2)⁻¹ : ℝ) : EReal)
  | _ => none
-- ==== ProjRefIdeal.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x4x512 : Shape := ⟨3, ![1, 4, 512]⟩
abbrev S1x512 : Shape := ⟨2, ![1, 512]⟩
abbrev S2048 : Shape := ⟨1, ![2048]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x3080 : Shape := ⟨2, ![1024, 3080]⟩
abbrev S32x2048x3080 : Shape := ⟨3, ![32, 2048, 3080]⟩
abbrev S32x2048x512 : Shape := ⟨3, ![32, 2048, 512]⟩
abbrev S32x2048x256 : Shape := ⟨3, ![32, 2048, 256]⟩
abbrev S32x2048x4 : Shape := ⟨3, ![32, 2048, 4]⟩
abbrev S32x2048x8x64 : Shape := ⟨4, ![32, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x8x32 : Shape := ⟨4, ![32, 2048, 8, 32]⟩
abbrev S4x512 : Shape := ⟨2, ![4, 512]⟩
abbrev S512 : Shape := ⟨1, ![512]⟩
abbrev S32x2051x512 : Shape := ⟨3, ![32, 2051, 512]⟩
abbrev S1x1x512 : Shape := ⟨3, ![1, 1, 512]⟩
abbrev S32x2048x4x64 : Shape := ⟨4, ![32, 2048, 4, 64]⟩
abbrev S32x2048x4x128 : Shape := ⟨4, ![32, 2048, 4, 128]⟩
abbrev S32x8x256x512 : Shape := ⟨4, ![32, 8, 256, 512]⟩
abbrev S32x8x512x256 : Shape := ⟨4, ![32, 8, 512, 256]⟩
abbrev S32x2048x8 : Shape := ⟨3, ![32, 2048, 8]⟩
abbrev S32x8x2048 : Shape := ⟨3, ![32, 8, 2048]⟩
abbrev S65536x512 : Shape := ⟨2, ![65536, 512]⟩

abbrev nBuf : Space → Nat
  | .hbm => 197
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x3080, .f32⟩
  | 3 => ⟨S1x4x512, .f32⟩
  | 4 => ⟨S1x512, .f32⟩
  | 5 => ⟨S2048, .i32⟩
  | 6 => ⟨S1024, .f32⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S1024x3080, .f32⟩
  | 24 => ⟨S32x2048x3080, .f32⟩
  | 25 => ⟨S32x2048x512, .f32⟩
  | 26 => ⟨S32x2048x512, .f32⟩
  | 27 => ⟨S32x2048x512, .f32⟩
  | 28 => ⟨S32x2048x256, .f32⟩
  | 29 => ⟨S32x2048x256, .f32⟩
  | 30 => ⟨S32x2048x512, .f32⟩
  | 31 => ⟨S32x2048x512, .f32⟩
  | 32 => ⟨S32x2048x4, .f32⟩
  | 33 => ⟨S32x2048x4, .f32⟩
  | 34 => ⟨S32x2048x8x64, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S1x2048x1x32, .f32⟩
  | 57 => ⟨S2048x32, .f32⟩
  | 58 => ⟨S1x2048x1x32, .f32⟩
  | 59 => ⟨S32x2048x8x32, .f32⟩
  | 60 => ⟨S32x2048x8x32, .f32⟩
  | 61 => ⟨S32x2048x8x32, .f32⟩
  | 62 => ⟨S32x2048x8x32, .f32⟩
  | 63 => ⟨S32x2048x8x32, .f32⟩
  | 64 => ⟨S32x2048x8x32, .f32⟩
  | 65 => ⟨S32x2048x8x32, .f32⟩
  | 66 => ⟨S32x2048x8x32, .f32⟩
  | 67 => ⟨S32x2048x8x32, .f32⟩
  | 68 => ⟨S32x2048x8x32, .f32⟩
  | 69 => ⟨S32x2048x8x32, .f32⟩
  | 70 => ⟨S32x2048x8x32, .f32⟩
  | 71 => ⟨S32x2048x8x64, .f32⟩
  | 72 => ⟨S_, .f32⟩
  | 73 => ⟨S_, .f32⟩
  | 74 => ⟨S_, .f32⟩
  | 75 => ⟨S_, .f32⟩
  | 76 => ⟨S32x2048x8x64, .f32⟩
  | 77 => ⟨S32x2048x8x64, .f32⟩
  | 78 => ⟨S32x2048x8x64, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S2048, .f32⟩
  | 94 => ⟨S2048x1, .f32⟩
  | 95 => ⟨S1x32, .f32⟩
  | 96 => ⟨S2048x32, .f32⟩
  | 97 => ⟨S2048x32, .f32⟩
  | 98 => ⟨S2048x32, .f32⟩
  | 99 => ⟨S2048x32, .f32⟩
  | 100 => ⟨S1x2048x1x32, .f32⟩
  | 101 => ⟨S2048x32, .f32⟩
  | 102 => ⟨S1x2048x1x32, .f32⟩
  | 103 => ⟨S32x2048x8x32, .f32⟩
  | 104 => ⟨S32x2048x8x32, .f32⟩
  | 105 => ⟨S32x2048x8x32, .f32⟩
  | 106 => ⟨S32x2048x8x32, .f32⟩
  | 107 => ⟨S32x2048x8x32, .f32⟩
  | 108 => ⟨S32x2048x8x32, .f32⟩
  | 109 => ⟨S32x2048x8x32, .f32⟩
  | 110 => ⟨S32x2048x8x32, .f32⟩
  | 111 => ⟨S32x2048x8x32, .f32⟩
  | 112 => ⟨S32x2048x8x32, .f32⟩
  | 113 => ⟨S32x2048x8x32, .f32⟩
  | 114 => ⟨S32x2048x8x32, .f32⟩
  | 115 => ⟨S32x2048x8x64, .f32⟩
  | 116 => ⟨S32x2048x512, .f32⟩
  | 117 => ⟨S4x512, .f32⟩
  | 118 => ⟨S512, .f32⟩
  | 119 => ⟨S_, .i32⟩
  | 120 => ⟨S_, .f32⟩
  | 121 => ⟨S32x2051x512, .f32⟩
  | 122 => ⟨S1x512, .f32⟩
  | 123 => ⟨S512, .f32⟩
  | 124 => ⟨S32x2048x512, .f32⟩
  | 125 => ⟨S1x1x512, .f32⟩
  | 126 => ⟨S32x2048x512, .f32⟩
  | 127 => ⟨S32x2048x512, .f32⟩
  | _ => ⟨S32x2048x1024, .f32⟩

abbrev hbmTy0_1 (i : Nat) : BufTy := match i % 128 with
  | 0 => ⟨S1x1x512, .f32⟩
  | 1 => ⟨S32x2048x512, .f32⟩
  | 2 => ⟨S32x2048x512, .f32⟩
  | 3 => ⟨S1x512, .f32⟩
  | 4 => ⟨S512, .f32⟩
  | 5 => ⟨S32x2048x512, .f32⟩
  | 6 => ⟨S1x1x512, .f32⟩
  | 7 => ⟨S32x2048x512, .f32⟩
  | 8 => ⟨S32x2048x512, .f32⟩
  | 9 => ⟨S32x2048x512, .f32⟩
  | 10 => ⟨S1x512, .f32⟩
  | 11 => ⟨S512, .f32⟩
  | 12 => ⟨S32x2048x512, .f32⟩
  | 13 => ⟨S1x1x512, .f32⟩
  | 14 => ⟨S32x2048x512, .f32⟩
  | 15 => ⟨S32x2048x512, .f32⟩
  | 16 => ⟨S32x2048x512, .f32⟩
  | 17 => ⟨S1x512, .f32⟩
  | 18 => ⟨S512, .f32⟩
  | 19 => ⟨S32x2048x512, .f32⟩
  | 20 => ⟨S1x1x512, .f32⟩
  | 21 => ⟨S32x2048x512, .f32⟩
  | 22 => ⟨S32x2048x512, .f32⟩
  | 23 => ⟨S32x2048x512, .f32⟩
  | 24 => ⟨S32x2048x512, .f32⟩
  | 25 => ⟨S32x2048x512, .f32⟩
  | 26 => ⟨S_, .f32⟩
  | 27 => ⟨S32x2048x512, .f32⟩
  | 28 => ⟨S32x2048x512, .f32⟩
  | 29 => ⟨S_, .f32⟩
  | 30 => ⟨S32x2048x512, .f32⟩
  | 31 => ⟨S32x2048x512, .f32⟩
  | 32 => ⟨S32x2048x512, .f32⟩
  | 33 => ⟨S32x2048x256, .f32⟩
  | 34 => ⟨S32x2048x4x64, .f32⟩
  | 35 => ⟨S32x2048x256, .f32⟩
  | 36 => ⟨S32x2048x4x64, .f32⟩
  | 37 => ⟨S_, .f32⟩
  | 38 => ⟨S32x2048x4x64, .f32⟩
  | 39 => ⟨S32x2048x4x64, .f32⟩
  | 40 => ⟨S_, .f32⟩
  | 41 => ⟨S32x2048x4x64, .f32⟩
  | 42 => ⟨S32x2048x4x128, .f32⟩
  | 43 => ⟨S32x2048x4x128, .f32⟩
  | 44 => ⟨S32x8x256x512, .f32⟩
  | 45 => ⟨S32x8x512x256, .f32⟩
  | 46 => ⟨S32x2048x8, .f32⟩
  | 47 => ⟨S32x8x2048, .f32⟩
  | 48 => ⟨S65536x512, .f32⟩
  | 49 => ⟨S65536x512, .bf16⟩
  | 50 => ⟨S65536x512, .f32⟩
  | 51 => ⟨S65536x512, .bf16⟩
  | 52 => ⟨S65536x512, .f32⟩
  | 53 => ⟨S65536x512, .bf16⟩
  | 54 => ⟨S65536x512, .f32⟩
  | 55 => ⟨S65536x512, .bf16⟩
  | 56 => ⟨S65536x512, .f32⟩
  | 57 => ⟨S65536x512, .bf16⟩
  | 58 => ⟨S32x8x512x256, .bf16⟩
  | 59 => ⟨S32x2048x512, .f32⟩
  | 60 => ⟨S32x2048x512, .f32⟩
  | 61 => ⟨S_, .f32⟩
  | 62 => ⟨S32x2048x512, .f32⟩
  | 63 => ⟨S32x2048x512, .f32⟩
  | 64 => ⟨S_, .f32⟩
  | 65 => ⟨S32x2048x512, .f32⟩
  | 66 => ⟨S32x2048x512, .f32⟩
  | 67 => ⟨S65536x512, .f32⟩
  | 68 => ⟨S65536x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_c : Ref sig .tc := ⟨.hbm, 119, rfl⟩
abbrev main_call0_v0 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_call1_v5 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_cst_12 : Ref sig .tc := ⟨.hbm, 165, rfl⟩
abbrev main_v137 : Ref sig .tc := ⟨.hbm, 166, rfl⟩
abbrev main_v138 : Ref sig .tc := ⟨.hbm, 167, rfl⟩
abbrev main_cst_13 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_14 : Ref sig .tc := ⟨.hbm, 189, rfl⟩
abbrev main_v159 : Ref sig .tc := ⟨.hbm, 190, rfl⟩
abbrev main_v160 : Ref sig .tc := ⟨.hbm, 191, rfl⟩
abbrev main_cst_15 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩

abbrev nD : Nat := 1
abbrev τ : Topo := Topo.v7x

variable {F : FTy → Type} [FloatOps F]
-- ==== Proof.MlpRow.lean ====
module
public import Idealize.ShloMosaic.Lib.Pointwise
/-! One row of the output projection and the MLP block, over the extended reals: the root-mean-square norm of a row, the
    row after the first residual, and the row after the second. Everything the two programs compute is this function of
    one row of the inputs. -/
@[expose] public section
noncomputable section
open Idealize.ShloMosaic
namespace Cert.MlpRow

/-- A row times its reciprocal root mean square, times the gains. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The two head groups' outputs through the upper and lower halves of the output projection. -/
def mix (a b : Fin 512 → EReal) (w1 w2 : Fin 512 → Fin 1024 → EReal) (j : Fin 1024) : EReal :=
  ∑ k, a k * w1 k j + ∑ k, b k * w2 k j

/-- The row after the first residual. -/
def mid (x : Fin 1024 → EReal) (a b : Fin 512 → EReal) (w1 w2 : Fin 512 → Fin 1024 → EReal) (g : Fin 1024 → EReal)
    (j : Fin 1024) : EReal := x j + rms (mix a b w1 w2) g j

/-- One chunk of the MLP: project up, squared positive part, project down. -/
def chunk (h : Fin 1024 → EReal) (u d : Fin 1024 → Fin 1024 → EReal) (j : Fin 1024) : EReal :=
  ∑ f, max (∑ k, h k * u k f) 0 * max (∑ k, h k * u k f) 0 * d f j

/-- The MLP over its whole hidden width. -/
def mlp (h : Fin 1024 → EReal) (u : Fin 1024 → Fin 4096 → EReal) (d : Fin 4096 → Fin 1024 → EReal) (j : Fin 1024) : EReal :=
  ∑ f, max (∑ k, h k * u k f) 0 * max (∑ k, h k * u k f) 0 * d f j

/-- The hidden width's chunk `q` starts at column `1024 q`. -/
def at4 (q : Fin 4) (f : Fin 1024) : Fin 4096 := ⟨1024 * q.val + f.val, by omega⟩

theorem at4_zero (f : Fin 1024) : at4 0 f = ⟨f.val, by omega⟩ := Fin.ext (by simp [at4])

/-- A sum over the hidden width is its four chunks' sums. -/
theorem sum_at4 (f : Fin 4096 → EReal) : ∑ k, f k = ∑ k, f (at4 0 k) + ∑ k, f (at4 1 k) + ∑ k, f (at4 2 k) + ∑ k, f (at4 3 k) := by
  rw [← (finProdFinEquiv (m := 4) (n := 1024)).sum_comp, Fintype.sum_prod_type, Fin.sum_univ_four]
  have e (q : Fin 4) (k : Fin 1024) : (finProdFinEquiv (q, k) : Fin (4 * 1024)) = at4 q k :=
    Fin.ext (by simp [finProdFinEquiv, at4]; omega)
  simp only [e]

/-- The MLP is the sum of its four chunks, taken in order. -/
theorem mlp_eq (h : Fin 1024 → EReal) (u : Fin 1024 → Fin 4096 → EReal) (d : Fin 4096 → Fin 1024 → EReal) (j : Fin 1024) :
    mlp h u d j = chunk h (fun k f => u k (at4 0 f)) (fun f => d (at4 0 f)) j + chunk h (fun k f => u k (at4 1 f)) (fun f => d (at4 1 f)) j
      + chunk h (fun k f => u k (at4 2 f)) (fun f => d (at4 2 f)) j + chunk h (fun k f => u k (at4 3 f)) (fun f => d (at4 3 f)) j := by
  unfold mlp chunk; rw [sum_at4]

/-- The two halves of the output projection's rows. -/
def lo (k : Fin 512) : Fin 1024 := ⟨k.val, by omega⟩
def hi (k : Fin 512) : Fin 1024 := ⟨512 + k.val, by omega⟩

/-- The whole row: first residual, norm, MLP, norm, second residual. -/
def out (x : Fin 1024 → EReal) (a b : Fin 512 → EReal) (w : Fin 1024 → Fin 1024 → EReal) (g1 g2 : Fin 1024 → EReal)
    (u : Fin 1024 → Fin 4096 → EReal) (d : Fin 4096 → Fin 1024 → EReal) (g3 : Fin 1024 → EReal) (j : Fin 1024) : EReal :=
  mid x a b (fun k => w (lo k)) (fun k => w (hi k)) g1 j
    + rms (mlp (rms (mid x a b (fun k => w (lo k)) (fun k => w (hi k)) g1) g2) u d) g3 j

/-- The concatenated row through the whole projection is the two halves. -/
theorem mix_concat (a b : Fin 512 → EReal) (w : Fin 1024 → Fin 1024 → EReal) (v : Fin 1024 → EReal)
    (hlo : ∀ k, v (lo k) = a k) (hhi : ∀ k, v (hi k) = b k) (j : Fin 1024) :
    ∑ k, v k * w k j = mix a b (fun k => w (lo k)) (fun k => w (hi k)) j := by
  rw [show (∑ k : Fin 1024, v k * w k j) = ∑ k : Fin (512 + 512), v k * w k j from rfl, Fin.sum_univ_add]
  have h1 (k : Fin 512) : (Fin.castAdd 512 k : Fin (512 + 512)) = lo k := rfl
  have h2 (k : Fin 512) : (Fin.natAdd 512 k : Fin (512 + 512)) = hi k := rfl
  simp only [h1, h2, hlo, hhi, mix]

end Cert.MlpRow
-- ==== Proof.MlpBody.lean ====
module
public import proofs.«01_k».proof.Proof.Gen.MlpIdeal.Value
public import proofs.«01_k».proof.Proof.MlpRow
public import Idealize.ShloMosaic.Lib.Pipeline.ValueKit.Geometry
/-! The kernel body of the output projection and MLP: each of its two stored halves, a row at a time, is `MlpRow.out` of the
    blocks' rows. -/
@[expose] public section
noncomputable section
open Idealize.ShloMosaic Idealize.ShloMosaic.TcCoe Idealize.SL.Sem
namespace Cert.MlpIdeal.Value
open Cert.MlpIdeal Cert.MlpIdeal.Gen Cert.MlpRow

/-- Row `i` of a rank-two array. -/
abbrev row {a b : Nat} {α : Type} (x : (⟨2, ![a, b]⟩ : Shape).Idx → α) (i : Fin a) : Fin b → α := fun k => x (ix2 i k)

theorem pay2 (v0 : Vec Ideal S512x512 .bf16) (v2 : Vec Ideal S512x1024 .bf16) (v5 : Vec Ideal S512x512 .bf16) (v7 : Vec Ideal S512x1024 .bf16) (v11 : Vec Ideal S512x1024 .f32) (v13 : Vec Ideal S1x1024 .f32) (i : Fin 512) (j : Fin 1024) :
   k0_pay2 v0 v2 v5 v7 v11 v13 (ix2 i j) = mid (row v11 i) (row v0 i) (row v5 i) (row v2) (row v7) (row v13 0) j := by
  pointwise [k0_pay2]; rfl
theorem pay6 (v0 : Vec Ideal S512x512 .bf16) (v2 : Vec Ideal S512x1024 .bf16) (v5 : Vec Ideal S512x512 .bf16) (v7 : Vec Ideal S512x1024 .bf16) (v11 : Vec Ideal S512x1024 .f32) (v13 : Vec Ideal S1x1024 .f32) (i : Fin 512) (j : Fin 1024) :
   k0_pay6 v0 v2 v5 v7 v11 v13 (ix2 i j) = mid (row v11 i) (row v0 i) (row v5 i) (row v2) (row v7) (row v13 0) j := by
  pointwise [k0_pay6]; rfl
theorem pay5 (v0 : Vec Ideal S512x512 .bf16) (v2 : Vec Ideal S512x1024 .bf16) (v5 : Vec Ideal S512x512 .bf16) (v7 : Vec Ideal S512x1024 .bf16) (v11 : Vec Ideal S512x1024 .f32) (v13 : Vec Ideal S1x1024 .f32) (v28 : Vec Ideal S1x1024 .f32) (i : Fin 512) (j : Fin 1024) :
   k0_pay5 (k0_pay2 v0 v2 v5 v7 v11 v13) (k0_pay3 v28) (k0_pay4 v0 v2 v5 v7 v11 v13) (ix2 i j)
     = rms (mid (row v11 i) (row v0 i) (row v5 i) (row v2) (row v7) (row v13 0)) (row v28 0) j := by
  pointwise [k0_pay5, k0_pay4, k0_pay3]
  simp only [pay2]; rfl
theorem pay9 (v0 : Vec Ideal S512x512 .bf16) (v2 : Vec Ideal S512x1024 .bf16) (v5 : Vec Ideal S512x512 .bf16) (v7 : Vec Ideal S512x1024 .bf16) (v11 : Vec Ideal S512x1024 .f32) (v13 : Vec Ideal S1x1024 .f32) (v28 : Vec Ideal S1x1024 .f32) (i : Fin 512) (j : Fin 1024) :
   k0_pay9 (k0_pay6 v0 v2 v5 v7 v11 v13) (k0_pay7 v28) (k0_pay8 v0 v2 v5 v7 v11 v13) (Scalar.ofBits .f32 0x44800000#32) (ix2 i j)
     = rms (mid (row v11 i) (row v0 i) (row v5 i) (row v2) (row v7) (row v13 0)) (row v28 0) j := by
  pointwise [k0_pay9, k0_pay8, k0_pay7]
  simp only [pay6]; rfl
theorem pay12 (h : FVec Ideal S512x1024 .bf16) (u0 d0 u1 d1 u2 d2 u3 d3 : Vec Ideal S1024x1024 .bf16) (i : Fin 512) (j : Fin 1024) :
    k0_pay12 h (k0_pay10 h u0 d0 u1 d1) (k0_pay11 h u2) d2 u3 d3 (ix2 i j)
      = chunk (row h i) (row u0) (row d0) j + chunk (row h i) (row u1) (row d1) j + chunk (row h i) (row u2) (row d2) j + chunk (row h i) (row u3) (row d3) j := by
  pointwise [k0_pay12, k0_pay11, k0_pay10]; rfl
theorem pay14 (h : FVec Ideal S512x1024 .bf16) (u0 d0 u1 d1 u2 d2 u3 d3 : Vec Ideal S1024x1024 .bf16) (i : Fin 512) (j : Fin 1024) :
    k0_pay14 h (k0_pay13 h u0 d0 u1 d1) u2 d2 u3 d3 (ix2 i j)
      = chunk (row h i) (row u0) (row d0) j + chunk (row h i) (row u1) (row d1) j + chunk (row h i) (row u2) (row d2) j + chunk (row h i) (row u3) (row d3) j := by
  pointwise [k0_pay14, k0_pay13]; rfl
theorem pay15 (x y : FVec Ideal S512x1024 .f32) (g : Vec Ideal S1x1024 .f32) (i : Fin 512) (j : Fin 1024) :
   k0_pay15 x y g (ix2 i j) = x (ix2 i j) + rms (row y i) (row g 0) j := by
  pointwise [k0_pay15]; rfl
theorem pay1 (x y : FVec Ideal S512x1024 .f32) (g : Vec Ideal S1x1024 .f32) (i : Fin 512) (j : Fin 1024) :
   k0_pay1 x y g (ix2 i j) = x (ix2 i j) + rms (row y i) (row g 0) j := by
  pointwise [k0_pay1]; rfl

/-- The block's row `i`, from the blocks of the inputs. -/
def blockOut (x0 : Vec Ideal S1024x1024 .f32) (x1 x2 : Vec Ideal S1024x512 .bf16) (x3 : Vec Ideal S1024x1024 .bf16) (x4 x5 : Vec Ideal S1x1024 .f32)
    (x6 : Vec Ideal S1024x4096 .bf16) (x7 : Vec Ideal S4096x1024 .bf16) (x8 : Vec Ideal S1x1024 .f32) : Vec Ideal S1024x1024 .f32 :=
  fun y => out (row x0 (y 0)) (row x1 (y 0)) (row x2 (y 0)) (row x3) (row x4 0) (row x5 0) (row x6) (row x7) (row x8 0) (y 1)

theorem half2 (v0 : Vec Ideal S512x512 .bf16) (v2 : Vec Ideal S512x1024 .bf16) (v5 : Vec Ideal S512x512 .bf16) (v7 : Vec Ideal S512x1024 .bf16) (v11 : Vec Ideal S512x1024 .f32) (v13 v28 : Vec Ideal S1x1024 .f32)
    (u0 d0 u1 d1 u2 d2 u3 d3 : Vec Ideal S1024x1024 .bf16) (g : Vec Ideal S1x1024 .f32) (i : Fin 512) (j : Fin 1024)
    (w : Fin 1024 → Fin 1024 → EReal) (hw1 : ∀ k, w (lo k) = row v2 k) (hw2 : ∀ k, w (hi k) = row v7 k)
    (u : Fin 1024 → Fin 4096 → EReal) (d : Fin 4096 → Fin 1024 → EReal)
    (hu0 : ∀ k f, u k (at4 0 f) = u0 (ix2 k f)) (hu1 : ∀ k f, u k (at4 1 f) = u1 (ix2 k f)) (hu2 : ∀ k f, u k (at4 2 f) = u2 (ix2 k f)) (hu3 : ∀ k f, u k (at4 3 f) = u3 (ix2 k f))
    (hd0 : ∀ f, d (at4 0 f) = row d0 f) (hd1 : ∀ f, d (at4 1 f) = row d1 f) (hd2 : ∀ f, d (at4 2 f) = row d2 f) (hd3 : ∀ f, d (at4 3 f) = row d3 f) :
    mid (row v11 i) (row v0 i) (row v5 i) (row v2) (row v7) (row v13 0) j
      + rms (fun j => chunk (rms (mid (row v11 i) (row v0 i) (row v5 i) (row v2) (row v7) (row v13 0)) (row v28 0)) (row u0) (row d0) j
        + chunk (rms (mid (row v11 i) (row v0 i) (row v5 i) (row v2) (row v7) (row v13 0)) (row v28 0)) (row u1) (row d1) j
        + chunk (rms (mid (row v11 i) (row v0 i) (row v5 i) (row v2) (row v7) (row v13 0)) (row v28 0)) (row u2) (row d2) j
        + chunk (rms (mid (row v11 i) (row v0 i) (row v5 i) (row v2) (row v7) (row v13 0)) (row v28 0)) (row u3) (row d3) j) (row g 0) j
      = out (row v11 i) (row v0 i) (row v5 i) w (row v13 0) (row v28 0) u d (row g 0) j := by
  unfold out
  simp only [funext (mlp_eq _ u d), hw1, hw2, hu0, hu1, hu2, hu3, hd0, hd1, hd2, hd3]

theorem upper (v0 : Vec Ideal S512x512 .bf16) (v2 : Vec Ideal S512x1024 .bf16) (v5 : Vec Ideal S512x512 .bf16) (v7 : Vec Ideal S512x1024 .bf16) (v11 : Vec Ideal S512x1024 .f32) (v13 v28 : Vec Ideal S1x1024 .f32)
    (u0 d0 u1 d1 u2 d2 u3 d3 : Vec Ideal S1024x1024 .bf16) (g : Vec Ideal S1x1024 .f32) (i : Fin 512) (j : Fin 1024)
    (w : Fin 1024 → Fin 1024 → EReal) (hw1 : ∀ k, w (lo k) = row v2 k) (hw2 : ∀ k, w (hi k) = row v7 k)
    (u : Fin 1024 → Fin 4096 → EReal) (d : Fin 4096 → Fin 1024 → EReal)
    (hu0 : ∀ k f, u k (at4 0 f) = u0 (ix2 k f)) (hu1 : ∀ k f, u k (at4 1 f) = u1 (ix2 k f)) (hu2 : ∀ k f, u k (at4 2 f) = u2 (ix2 k f)) (hu3 : ∀ k f, u k (at4 3 f) = u3 (ix2 k f))
    (hd0 : ∀ f, d (at4 0 f) = row d0 f) (hd1 : ∀ f, d (at4 1 f) = row d1 f) (hd2 : ∀ f, d (at4 2 f) = row d2 f) (hd3 : ∀ f, d (at4 3 f) = row d3 f) :
    k0_pay15 (k0_pay2 v0 v2 v5 v7 v11 v13)
      (k0_pay12 (k0_pay5 (k0_pay2 v0 v2 v5 v7 v11 v13) (k0_pay3 v28) (k0_pay4 v0 v2 v5 v7 v11 v13))
        (k0_pay10 (k0_pay5 (k0_pay2 v0 v2 v5 v7 v11 v13) (k0_pay3 v28) (k0_pay4 v0 v2 v5 v7 v11 v13)) u0 d0 u1 d1)
        (k0_pay11 (k0_pay5 (k0_pay2 v0 v2 v5 v7 v11 v13) (k0_pay3 v28) (k0_pay4 v0 v2 v5 v7 v11 v13)) u2) d2 u3 d3) g (ix2 i j)
      = out (row v11 i) (row v0 i) (row v5 i) w (row v13 0) (row v28 0) u d (row g 0) j := by
  rw [← half2 v0 v2 v5 v7 v11 v13 v28 u0 d0 u1 d1 u2 d2 u3 d3 g i j w hw1 hw2 u d hu0 hu1 hu2 hu3 hd0 hd1 hd2 hd3, pay15, pay2]
  have h5 : row (k0_pay5 (k0_pay2 v0 v2 v5 v7 v11 v13) (k0_pay3 v28) (k0_pay4 v0 v2 v5 v7 v11 v13)) i = _ := funext (pay5 v0 v2 v5 v7 v11 v13 v28 i)
  rw [show row (k0_pay12 _ _ _ d2 u3 d3) i = _ from funext (pay12 _ u0 d0 u1 d1 u2 d2 u3 d3 i), h5]

theorem lower (v0 : Vec Ideal S512x512 .bf16) (v2 : Vec Ideal S512x1024 .bf16) (v5 : Vec Ideal S512x512 .bf16) (v7 : Vec Ideal S512x1024 .bf16) (v11 : Vec Ideal S512x1024 .f32) (v13 v28 : Vec Ideal S1x1024 .f32)
    (u0 d0 u1 d1 u2 d2 u3 d3 : Vec Ideal S1024x1024 .bf16) (g : Vec Ideal S1x1024 .f32) (i : Fin 512) (j : Fin 1024)
    (w : Fin 1024 → Fin 1024 → EReal) (hw1 : ∀ k, w (lo k) = row v2 k) (hw2 : ∀ k, w (hi k) = row v7 k)
    (u : Fin 1024 → Fin 4096 → EReal) (d : Fin 4096 → Fin 1024 → EReal)
    (hu0 : ∀ k f, u k (at4 0 f) = u0 (ix2 k f)) (hu1 : ∀ k f, u k (at4 1 f) = u1 (ix2 k f)) (hu2 : ∀ k f, u k (at4 2 f) = u2 (ix2 k f)) (hu3 : ∀ k f, u k (at4 3 f) = u3 (ix2 k f))
    (hd0 : ∀ f, d (at4 0 f) = row d0 f) (hd1 : ∀ f, d (at4 1 f) = row d1 f) (hd2 : ∀ f, d (at4 2 f) = row d2 f) (hd3 : ∀ f, d (at4 3 f) = row d3 f) :
    k0_pay1 (k0_pay6 v0 v2 v5 v7 v11 v13)
      (k0_pay14 (k0_pay9 (k0_pay6 v0 v2 v5 v7 v11 v13) (k0_pay7 v28) (k0_pay8 v0 v2 v5 v7 v11 v13) (Scalar.ofBits .f32 0x44800000#32))
        (k0_pay13 (k0_pay9 (k0_pay6 v0 v2 v5 v7 v11 v13) (k0_pay7 v28) (k0_pay8 v0 v2 v5 v7 v11 v13) (Scalar.ofBits .f32 0x44800000#32)) u0 d0 u1 d1)
        u2 d2 u3 d3) g (ix2 i j)
      = out (row v11 i) (row v0 i) (row v5 i) w (row v13 0) (row v28 0) u d (row g 0) j := by
  rw [← half2 v0 v2 v5 v7 v11 v13 v28 u0 d0 u1 d1 u2 d2 u3 d3 g i j w hw1 hw2 u d hu0 hu1 hu2 hu3 hd0 hd1 hd2 hd3, pay1, pay6]
  have h9 : row (k0_pay9 (k0_pay6 v0 v2 v5 v7 v11 v13) (k0_pay7 v28) (k0_pay8 v0 v2 v5 v7 v11 v13) (Scalar.ofBits .f32 0x44800000#32)) i = _ :=
    funext (pay9 v0 v2 v5 v7 v11 v13 v28 i)
  rw [show row (k0_pay14 _ _ u2 d2 u3 d3) i = _ from funext (pay14 _ u0 d0 u1 d1 u2 d2 u3 d3 i), h9]

/-- `out` at equal rows. -/
theorem out_congr {x x' : Fin 1024 → EReal} {a a' b b' : Fin 512 → EReal} {w : Fin 1024 → Fin 1024 → EReal} {g1 g1' g2 g2' : Fin 1024 → EReal}
    {u : Fin 1024 → Fin 4096 → EReal} {d : Fin 4096 → Fin 1024 → EReal} {g3 g3' : Fin 1024 → EReal}
    (hx : ∀ k, x k = x' k) (ha : ∀ k, a k = a' k) (hb : ∀ k, b k = b' k) (h1 : ∀ k, g1 k = g1' k) (h2 : ∀ k, g2 k = g2' k)
    (h3 : ∀ k, g3 k = g3' k) (j : Fin 1024) : out x a b w g1 g2 u d g3 j = out x' a' b' w g1' g2' u d g3' j := by
  obtain rfl := funext hx
  obtain rfl := funext ha
  obtain rfl := funext hb
  obtain rfl := funext h1
  obtain rfl := funext h2
  obtain rfl := funext h3
  rfl

/-- The block the body stores is `blockOut` of the blocks it loads. -/
theorem out0_9_eq (x0 : Vec Ideal S1024x1024 .f32) (x1 x2 : Vec Ideal S1024x512 .bf16) (x3 : Vec Ideal S1024x1024 .bf16) (x4 x5 : Vec Ideal S1x1024 .f32)
    (x6 : Vec Ideal S1024x4096 .bf16) (x7 : Vec Ideal S4096x1024 .bf16) (x8 : Vec Ideal S1x1024 .f32) :
    out0_9 x0 x1 x2 x3 x4 x5 x6 x7 x8 = blockOut x0 x1 x2 x3 x4 x5 x6 x7 x8 := by
  funext y
  unfold out0_9 k0_pay19 k0_pay18 k0_pay17 k0_pay16
  refine View.canon_apply_of_pieces (blockOut x0 x1 x2 x3 x4 x5 x6 x7 x8) _ ?_ y (cover0_9 _ _ y)
  intro pc hpc x
  rcases List.mem_cons.mp hpc with rfl | hpc
  · obtain ⟨i, j, rfl⟩ : ∃ (i : Fin 512) (j : Fin 1024), x = ix2 i j := ⟨x 0, x 1, ValueIdx.eq_ix2 x⟩
    clear hpc
    refine (lower _ _ _ _ _ _ _ _ _ _ _ _ _ _ _ _ i j (row x3) ?_ ?_ (row x6) (row x7) ?_ ?_ ?_ ?_ ?_ ?_ ?_ ?_).trans ?_
    case refine_11 =>
      have e : r0_2.emb (ix2 i j) = (ix2 (⟨512 + i.val, by omega⟩ : Fin 1024) j : S1024x1024.Idx) := by
        funext a; apply Fin.ext
        match a with
        | ⟨0, _⟩ => show 512 + 1 * i.val = 512 + i.val; omega
        | ⟨1, _⟩ => show 0 + 1 * j.val = j.val; omega
      rw [e]
      show _ = out (row x0 _) (row x1 _) (row x2 _) (row x3) (row x4 0) (row x5 0) (row x6) (row x7) (row x8 0) _
      refine out_congr ?_ ?_ ?_ ?_ ?_ ?_ j <;> intro k <;> pointwise [row]
    all_goals intros
    all_goals try funext
    all_goals pointwise [row]
    all_goals first | rfl | rw [at4_zero]
  · obtain rfl := List.mem_singleton.mp hpc
    obtain ⟨i, j, rfl⟩ : ∃ (i : Fin 512) (j : Fin 1024), x = ix2 i j := ⟨x 0, x 1, ValueIdx.eq_ix2 x⟩
    clear hpc
    refine (upper _ _ _ _ _ _ _ _ _ _ _ _ _ _ _ _ i j (row x3) ?_ ?_ (row x6) (row x7) ?_ ?_ ?_ ?_ ?_ ?_ ?_ ?_).trans ?_
    case refine_11 =>
      have e : r0_1.emb (ix2 i j) = (ix2 (⟨i.val, by omega⟩ : Fin 1024) j : S1024x1024.Idx) := by
        funext a; apply Fin.ext
        match a with
        | ⟨0, _⟩ => show 0 + 1 * i.val = i.val; omega
        | ⟨1, _⟩ => show 0 + 1 * j.val = j.val; omega
      rw [e]
      show _ = out (row x0 _) (row x1 _) (row x2 _) (row x3) (row x4 0) (row x5 0) (row x6) (row x7) (row x8 0) _
      refine out_congr ?_ ?_ ?_ ?_ ?_ ?_ j <;> intro k <;> pointwise [row]
    all_goals intros
    all_goals try funext
    all_goals pointwise [row]
    all_goals first | rfl | rw [at4_zero]

end Cert.MlpIdeal.Value
-- ==== Proof.MlpArray.lean ====
module
public import proofs.«01_k».proof.Proof.MlpBody
public import Idealize.ShloMosaic.Lib.Claim
public import Idealize.ShloMosaic.Lib.Tactic
/-! The output projection and MLP call: what its result array ends holding, as a function of the arguments. -/
@[expose] public section
noncomputable section
open Idealize.ShloMosaic Idealize.ShloMosaic.TcCoe Idealize.SL.Sem
open Idealize.ShloMosaic.Pipeline (Dat)
namespace Cert.MlpRow

/-- Merging the two leading axes, at an index. -/
theorem merge_apply {A B C N : Nat} {α : Type} (x : (⟨3, ![A, B, C]⟩ : Shape).Idx → α) (h : Shape.ShapeCasts ⟨3, ![A, B, C]⟩ ⟨2, ![N, C]⟩)
    (i : Fin N) (j : Fin C) (b : Fin A) (s : Fin B) (e : b.val * B + s.val = i.val) :
    shapeCast ⟨2, ![N, C]⟩ x h (ix2 i j) = x (ix3 b s j) := by
  refine congrArg x (Shape.reshapeEquiv_eq_of_rowMajor _ ?_)
  rw [Shape.rowMajor_val_two, Shape.rowMajor_val_three]
  show (b.val * B + s.val) * C + j.val = i.val * C + j.val
  rw [e]

/-- Splitting the leading axis in two, at an index. -/
theorem split_apply {A B C N : Nat} {α : Type} (x : (⟨2, ![N, C]⟩ : Shape).Idx → α) (h : Shape.ShapeCasts ⟨2, ![N, C]⟩ ⟨3, ![A, B, C]⟩)
    (i : Fin N) (j : Fin C) (b : Fin A) (s : Fin B) (e : b.val * B + s.val = i.val) :
    shapeCast ⟨3, ![A, B, C]⟩ x h (ix3 b s j) = x (ix2 i j) := by
  refine congrArg x (Shape.reshapeEquiv_eq_of_rowMajor _ ?_)
  rw [Shape.rowMajor_val_two, Shape.rowMajor_val_three]
  show i.val * C + j.val = (b.val * B + s.val) * C + j.val
  rw [e]

end Cert.MlpRow

namespace Cert.MlpIdeal.Value
open Cert.MlpIdeal Cert.MlpIdeal.Gen Cert.MlpRow

variable (m : (ℓ : Loc nD τ sig) → Buf (Elt Ideal) ℓ)

/-! ## The arrays the call reads, from the arguments -/

theorem V0 (c : Dev nD) (i : Fin 65536) (j : Fin 1024) : (V m c main_v0 : Vec Ideal S65536x1024 .f32) (ix2 i j)
    = (m ((c : Thread nD τ).loc main_arg0) : Vec Ideal S32x2048x1024 .f32) (ix3 ⟨i.val / 2048, by omega⟩ ⟨i.val % 2048, by omega⟩ j) := by
  have e : (V m c main_v0 : Vec Ideal S65536x1024 .f32) = shapeCast S65536x1024 (m ((c : Thread nD τ).loc main_arg0) : Vec Ideal S32x2048x1024 .f32) shapeCasts_S32x2048x1024_S65536x1024 := by
    unfold_abbrev_sides
    after_results
    rfl
  rw [e]
  exact merge_apply _ _ i j _ _ (by dsimp only; omega)

theorem V7 (c : Dev nD) (i : Fin 65536) (j : Fin 512) : (V m c main_v7 : Vec Ideal S65536x512 .bf16) (ix2 i j)
    = (m ((c : Thread nD τ).loc main_arg1) : Vec Ideal S32x2048x512 .bf16) (ix3 ⟨i.val / 2048, by omega⟩ ⟨i.val % 2048, by omega⟩ j) := by
  have e : (V m c main_v7 : Vec Ideal S65536x512 .bf16) = shapeCast S65536x512 (m ((c : Thread nD τ).loc main_arg1) : Vec Ideal S32x2048x512 .bf16) shapeCasts_S32x2048x512_S65536x512 := by
    unfold_abbrev_sides
    after_results
    rfl
  rw [e]
  exact merge_apply _ _ i j _ _ (by dsimp only; omega)

theorem V8 (c : Dev nD) (i : Fin 65536) (j : Fin 512) : (V m c main_v8 : Vec Ideal S65536x512 .bf16) (ix2 i j)
    = (m ((c : Thread nD τ).loc main_arg2) : Vec Ideal S32x2048x512 .bf16) (ix3 ⟨i.val / 2048, by omega⟩ ⟨i.val % 2048, by omega⟩ j) := by
  have e : (V m c main_v8 : Vec Ideal S65536x512 .bf16) = shapeCast S65536x512 (m ((c : Thread nD τ).loc main_arg2) : Vec Ideal S32x2048x512 .bf16) shapeCasts_S32x2048x512_S65536x512 := by
    unfold_abbrev_sides
    after_results
    rfl
  rw [e]
  exact merge_apply _ _ i j _ _ (by dsimp only; omega)

theorem V2 (c : Dev nD) (i : Fin 1024) (j : Fin 1024) : (V m c main_v2 : Vec Ideal S1024x1024 .bf16) (ix2 i j)
    = (m ((c : Thread nD τ).loc main_arg3) : Vec Ideal S1x1024x1024 .f32) (ix3 0 i j) := by
  have e : (V m c main_v2 : FVec Ideal S1024x1024 .bf16) = (truncf .bf16 (shapeCast S1024x1024 (m ((c : Thread nD τ).loc main_arg3) : FVec Ideal S1x1024x1024 .f32) shapeCasts_S1x1024x1024_S1024x1024) bitsLt_bf16_f32 : FVec Ideal S1024x1024 .bf16) := by
    unfold_abbrev_sides
    after_results
    rfl
  rw [e]
  exact merge_apply (m ((c : Thread nD τ).loc main_arg3) : Vec Ideal S1x1024x1024 .f32) _ i j 0 i (by simp)

theorem V4 (c : Dev nD) (i : Fin 1024) (j : Fin 4096) : (V m c main_v4 : Vec Ideal S1024x4096 .bf16) (ix2 i j)
    = (m ((c : Thread nD τ).loc main_arg6) : Vec Ideal S1x1024x4096 .f32) (ix3 0 i j) := by
  have e : (V m c main_v4 : FVec Ideal S1024x4096 .bf16) = (truncf .bf16 (shapeCast S1024x4096 (m ((c : Thread nD τ).loc main_arg6) : FVec Ideal S1x1024x4096 .f32) shapeCasts_S1x1024x4096_S1024x4096) bitsLt_bf16_f32 : FVec Ideal S1024x4096 .bf16) := by
    unfold_abbrev_sides
    after_results
    rfl
  rw [e]
  exact merge_apply (m ((c : Thread nD τ).loc main_arg6) : Vec Ideal S1x1024x4096 .f32) _ i j 0 i (by simp)

theorem V6 (c : Dev nD) (i : Fin 4096) (j : Fin 1024) : (V m c main_v6 : Vec Ideal S4096x1024 .bf16) (ix2 i j)
    = (m ((c : Thread nD τ).loc main_arg7) : Vec Ideal S1x4096x1024 .f32) (ix3 0 i j) := by
  have e : (V m c main_v6 : FVec Ideal S4096x1024 .bf16) = (truncf .bf16 (shapeCast S4096x1024 (m ((c : Thread nD τ).loc main_arg7) : FVec Ideal S1x4096x1024 .f32) shapeCasts_S1x4096x1024_S4096x1024) bitsLt_bf16_f32 : FVec Ideal S4096x1024 .bf16) := by
    unfold_abbrev_sides
    after_results
    rfl
  rw [e]
  exact merge_apply (m ((c : Thread nD τ).loc main_arg7) : Vec Ideal S1x4096x1024 .f32) _ i j 0 i (by simp)

theorem V10 (c : Dev nD) (j : Fin 1024) : (V m c main_v10 : Vec Ideal S1x1024 .f32) (ix2 0 j)
    = (m ((c : Thread nD τ).loc main_arg4) : Vec Ideal S1x1024 .f32) (ix2 0 j) := by
  have e : V m c main_v10 = broadcastInDim S1x1024 ![1] bcast_S1024_S1x1024_1 (shapeCast S1024 (m ((c : Thread nD τ).loc main_arg4)) shapeCasts_S1x1024_S1024) := by
    unfold_abbrev_sides
    after_results
    rfl
  rw [e]
  pointwise

theorem V12 (c : Dev nD) (j : Fin 1024) : (V m c main_v12 : Vec Ideal S1x1024 .f32) (ix2 0 j)
    = (m ((c : Thread nD τ).loc main_arg5) : Vec Ideal S1x1024 .f32) (ix2 0 j) := by
  have e : V m c main_v12 = broadcastInDim S1x1024 ![1] bcast_S1024_S1x1024_1 (shapeCast S1024 (m ((c : Thread nD τ).loc main_arg5)) shapeCasts_S1x1024_S1024) := by
    unfold_abbrev_sides
    after_results
    rfl
  rw [e]
  pointwise

theorem V14 (c : Dev nD) (j : Fin 1024) : (V m c main_v14 : Vec Ideal S1x1024 .f32) (ix2 0 j)
    = (m ((c : Thread nD τ).loc main_arg8) : Vec Ideal S1x1024 .f32) (ix2 0 j) := by
  have e : V m c main_v14 = broadcastInDim S1x1024 ![1] bcast_S1024_S1x1024_1 (shapeCast S1024 (m ((c : Thread nD τ).loc main_arg8)) shapeCasts_S1x1024_S1024) := by
    unfold_abbrev_sides
    after_results
    rfl
  rw [e]
  pointwise

/-! ## The blocks the body loads at point `t` -/

/-- Row `i` of block `t`. -/
abbrev tok (t : Fin cfg0.N) (i : Fin 1024) : Fin 65536 := ⟨1024 * t.val + i.val, by have : t.val < 64 := t.isLt; omega⟩

theorem e0 : ∀ t : Fin cfg0.N, win0_0.index t = ![t.val, 0] := (by decide +kernel : ∀ t : Fin grid0.N, _)

theorem rd0 (c : Dev nD) (t : Fin cfg0.N) (i : Fin 1024) (j : Fin 1024) : (iblk m c 0 t : Vec Ideal S1024x1024 .f32) (ix2 i j)
    = (V m c main_v0 : Vec Ideal S65536x1024 .f32) (ix2 (tok t i) j) := by
  blk_simp [iblk]
  refine congrArg (V m c main_v0) ?_
  funext a; apply Fin.ext
  match a with
  | ⟨0, _⟩ => blk_simp [e0]; show t.val * 1024 + i.val = 1024 * t.val + i.val; omega
  | ⟨1, _⟩ => blk_simp [e0]

theorem e1 : ∀ t : Fin cfg0.N, win0_1.index t = ![t.val, 0] := (by decide +kernel : ∀ t : Fin grid0.N, _)

theorem rd1 (c : Dev nD) (t : Fin cfg0.N) (i : Fin 1024) (j : Fin 512) : (iblk m c 1 t : Vec Ideal S1024x512 .bf16) (ix2 i j)
    = (V m c main_v7 : Vec Ideal S65536x512 .bf16) (ix2 (tok t i) j) := by
  blk_simp [iblk]
  refine congrArg (V m c main_v7) ?_
  funext a; apply Fin.ext
  match a with
  | ⟨0, _⟩ => blk_simp [e1]; show t.val * 1024 + i.val = 1024 * t.val + i.val; omega
  | ⟨1, _⟩ => blk_simp [e1]

theorem e2 : ∀ t : Fin cfg0.N, win0_2.index t = ![t.val, 0] := (by decide +kernel : ∀ t : Fin grid0.N, _)

theorem rd2 (c : Dev nD) (t : Fin cfg0.N) (i : Fin 1024) (j : Fin 512) : (iblk m c 2 t : Vec Ideal S1024x512 .bf16) (ix2 i j)
    = (V m c main_v8 : Vec Ideal S65536x512 .bf16) (ix2 (tok t i) j) := by
  blk_simp [iblk]
  refine congrArg (V m c main_v8) ?_
  funext a; apply Fin.ext
  match a with
  | ⟨0, _⟩ => blk_simp [e2]; show t.val * 1024 + i.val = 1024 * t.val + i.val; omega
  | ⟨1, _⟩ => blk_simp [e2]

theorem e9 : ∀ t : Fin cfg0.N, win0_9.index t = ![t.val, 0] := (by decide +kernel : ∀ t : Fin grid0.N, _)

theorem e3 : ∀ t : Fin cfg0.N, win0_3.index t = ![0, 0] := (by decide +kernel : ∀ t : Fin grid0.N, _)

theorem rd3 (c : Dev nD) (t : Fin cfg0.N) (i : Fin 1024) (j : Fin 1024) : (iblk m c 3 t : Vec Ideal S1024x1024 .bf16) (ix2 i j)
    = (V m c main_v2 : Vec Ideal S1024x1024 .bf16) (ix2 i j) := by
  blk_simp [iblk]
  refine congrArg (V m c main_v2) ?_
  funext a; apply Fin.ext
  match a with
  | ⟨0, _⟩ => blk_simp [e3]
  | ⟨1, _⟩ => blk_simp [e3]

theorem e4 : ∀ t : Fin cfg0.N, win0_4.index t = ![0, 0] := (by decide +kernel : ∀ t : Fin grid0.N, _)

theorem rd4 (c : Dev nD) (t : Fin cfg0.N) (i : Fin 1) (j : Fin 1024) : (iblk m c 4 t : Vec Ideal S1x1024 .f32) (ix2 i j)
    = (V m c main_v10 : Vec Ideal S1x1024 .f32) (ix2 i j) := by
  blk_simp [iblk]
  refine congrArg (V m c main_v10) ?_
  funext a; apply Fin.ext
  match a with
  | ⟨0, _⟩ => blk_simp [e4]
  | ⟨1, _⟩ => blk_simp [e4]

theorem e5 : ∀ t : Fin cfg0.N, win0_5.index t = ![0, 0] := (by decide +kernel : ∀ t : Fin grid0.N, _)

theorem rd5 (c : Dev nD) (t : Fin cfg0.N) (i : Fin 1) (j : Fin 1024) : (iblk m c 5 t : Vec Ideal S1x1024 .f32) (ix2 i j)
    = (V m c main_v12 : Vec Ideal S1x1024 .f32) (ix2 i j) := by
  blk_simp [iblk]
  refine congrArg (V m c main_v12) ?_
  funext a; apply Fin.ext
  match a with
  | ⟨0, _⟩ => blk_simp [e5]
  | ⟨1, _⟩ => blk_simp [e5]

theorem e6 : ∀ t : Fin cfg0.N, win0_6.index t = ![0, 0] := (by decide +kernel : ∀ t : Fin grid0.N, _)

theorem rd6 (c : Dev nD) (t : Fin cfg0.N) (i : Fin 1024) (j : Fin 4096) : (iblk m c 6 t : Vec Ideal S1024x4096 .bf16) (ix2 i j)
    = (V m c main_v4 : Vec Ideal S1024x4096 .bf16) (ix2 i j) := by
  blk_simp [iblk]
  refine congrArg (V m c main_v4) ?_
  funext a; apply Fin.ext
  match a with
  | ⟨0, _⟩ => blk_simp [e6]
  | ⟨1, _⟩ => blk_simp [e6]

theorem e7 : ∀ t : Fin cfg0.N, win0_7.index t = ![0, 0] := (by decide +kernel : ∀ t : Fin grid0.N, _)

theorem rd7 (c : Dev nD) (t : Fin cfg0.N) (i : Fin 4096) (j : Fin 1024) : (iblk m c 7 t : Vec Ideal S4096x1024 .bf16) (ix2 i j)
    = (V m c main_v6 : Vec Ideal S4096x1024 .bf16) (ix2 i j) := by
  blk_simp [iblk]
  refine congrArg (V m c main_v6) ?_
  funext a; apply Fin.ext
  match a with
  | ⟨0, _⟩ => blk_simp [e7]
  | ⟨1, _⟩ => blk_simp [e7]

theorem e8 : ∀ t : Fin cfg0.N, win0_8.index t = ![0, 0] := (by decide +kernel : ∀ t : Fin grid0.N, _)

theorem rd8 (c : Dev nD) (t : Fin cfg0.N) (i : Fin 1) (j : Fin 1024) : (iblk m c 8 t : Vec Ideal S1x1024 .f32) (ix2 i j)
    = (V m c main_v14 : Vec Ideal S1x1024 .f32) (ix2 i j) := by
  blk_simp [iblk]
  refine congrArg (V m c main_v14) ?_
  funext a; apply Fin.ext
  match a with
  | ⟨0, _⟩ => blk_simp [e8]
  | ⟨1, _⟩ => blk_simp [e8]

/-! ## The result -/

/-- One token's row of the result, from the arguments. -/
def tokenOut (a0 : Vec Ideal S32x2048x1024 .f32) (a1 a2 : Vec Ideal S32x2048x512 .bf16) (a3 : Vec Ideal S1x1024x1024 .f32) (a4 a5 : Vec Ideal S1x1024 .f32)
    (a6 : Vec Ideal S1x1024x4096 .f32) (a7 : Vec Ideal S1x4096x1024 .f32) (a8 : Vec Ideal S1x1024 .f32) (b : Fin 32) (s : Fin 2048) : Fin 1024 → EReal :=
  out (fun k => a0 (ix3 b s k)) (fun k => a1 (ix3 b s k)) (fun k => a2 (ix3 b s k)) (fun k f => a3 (ix3 0 k f))
    (fun k => a4 (ix2 0 k)) (fun k => a5 (ix2 0 k)) (fun k f => a6 (ix3 0 k f)) (fun k f => a7 (ix3 0 k f)) (fun k => a8 (ix2 0 k))

/-- The result array: token `i` of the flattened batch. -/
def result (a0 : Vec Ideal S32x2048x1024 .f32) (a1 a2 : Vec Ideal S32x2048x512 .bf16) (a3 : Vec Ideal S1x1024x1024 .f32) (a4 a5 : Vec Ideal S1x1024 .f32)
    (a6 : Vec Ideal S1x1024x4096 .f32) (a7 : Vec Ideal S1x4096x1024 .f32) (a8 : Vec Ideal S1x1024 .f32) : Vec Ideal S65536x1024 .f32 :=
  fun i => tokenOut a0 a1 a2 a3 a4 a5 a6 a7 a8 ⟨(i 0).val / 2048, by have := (i 0).isLt; change _ < 65536 at this; omega⟩ ⟨(i 0).val % 2048, by omega⟩ (i 1)

theorem final9 (c : Dev nD) : (dats m 0 c).arrAt 9 cfg0.N
    = (result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) : Vec Ideal S65536x1024 .f32) := by
  refine (dats m 0 c).arrAt_eq_of_covers 9 _ (by decide +kernel) fun t hf y => ?_
  obtain ⟨i, j, rfl⟩ : ∃ (i : Fin 1024) (j : Fin 1024), y = ix2 i j := ⟨y 0, y 1, ValueIdx.eq_ix2 y⟩
  have e : ((cfg0.win 9).blk t).view.emb (ix2 i j) = (ix2 (tok t i) j : S65536x1024.Idx) := by
    funext a; apply Fin.ext
    match a with
    | ⟨0, _⟩ => blk_simp [e9]; show t.val * 1024 + i.val = 1024 * t.val + i.val; omega
    | ⟨1, _⟩ => blk_simp [e9]
  rw [e]
  blk_simp
  rw [after0_9, out0_9_eq]
  show out (row (iblk m c 0 t : Vec Ideal S1024x1024 .f32) i) (row (iblk m c 1 t : Vec Ideal S1024x512 .bf16) i) (row (iblk m c 2 t : Vec Ideal S1024x512 .bf16) i)
    (row (iblk m c 3 t : Vec Ideal S1024x1024 .bf16)) (row (iblk m c 4 t : Vec Ideal S1x1024 .f32) 0) (row (iblk m c 5 t : Vec Ideal S1x1024 .f32) 0)
    (row (iblk m c 6 t : Vec Ideal S1024x4096 .bf16)) (row (iblk m c 7 t : Vec Ideal S4096x1024 .bf16)) (row (iblk m c 8 t : Vec Ideal S1x1024 .f32) 0) j = _
  rw [show row (iblk m c 3 t : Vec Ideal S1024x1024 .bf16) = fun k f => _ from funext fun k => funext fun f => (rd3 m c t k f).trans (V2 m c k f),
    show row (iblk m c 6 t : Vec Ideal S1024x4096 .bf16) = fun k f => _ from funext fun k => funext fun f => (rd6 m c t k f).trans (V4 m c k f),
    show row (iblk m c 7 t : Vec Ideal S4096x1024 .bf16) = fun k f => _ from funext fun k => funext fun f => (rd7 m c t k f).trans (V6 m c k f)]
  exact out_congr (fun k => (rd0 m c t i k).trans (V0 m c _ k)) (fun k => (rd1 m c t i k).trans (V7 m c _ k)) (fun k => (rd2 m c t i k).trans (V8 m c _ k))
    (fun k => (rd4 m c t 0 k).trans (V10 m c k)) (fun k => (rd5 m c t 0 k).trans (V12 m c k)) (fun k => (rd8 m c t 0 k).trans (V14 m c k)) j

end Cert.MlpIdeal.Value
-- ==== Proof.MlpRefRows.lean ====
module
public import proofs.«01_k».proof.Proof.Gen.MlpRefIdeal.Read
public import proofs.«01_k».proof.Proof.MlpArray
/-! The reference of the output projection and MLP, read a token at a time: the same row function. -/
@[expose] public section
noncomputable section
open Idealize.ShloMosaic Idealize.ShloMosaic.TcCoe Idealize.SL.Sem
namespace Cert.MlpRefIdeal.Rows
open Cert.MlpRefIdeal Cert.MlpRefIdeal.Gen Cert.MlpRefIdeal.Read Cert.MlpRow

variable (x0 : Vec Ideal S32x2048x1024 .f32) (x1 x2 : Vec Ideal S32x2048x512 .bf16) (x3 : Vec Ideal S1x1024x1024 .f32) (x4 x5 : Vec Ideal S1x1024 .f32)
  (x6 : Vec Ideal S1x1024x4096 .f32) (x7 : Vec Ideal S1x4096x1024 .f32) (x8 : Vec Ideal S1x1024 .f32) (b : Fin 32) (s : Fin 2048)

/-- The output projection of the two groups' concatenated outputs. -/
theorem proj (j : Fin 1024) : val_main_v4 x1 x2 x3 (ix3 b s j)
    = mix (fun k => x1 (ix3 b s k)) (fun k => x2 (ix3 b s k)) (fun k => (fun k f => x3 (ix3 0 k f)) (lo k)) (fun k => (fun k f => x3 (ix3 0 k f)) (hi k)) j := by
  have hl (k : Fin 512) : val_main_v2 (F := Ideal) x1 x2 (ix3 b s (lo k)) = x1 (ix3 b s k) := by
    unfold val_main_v2
    exact concatenate_pair_apply_left (s₁ := S32x2048x512) (s₂ := S32x2048x512) 2 _ _ _ (ix3 b s (lo k)) rfl (ix3 b s k) (fun a => by fin_cases a <;> rfl)
  have hr (k : Fin 512) : val_main_v2 (F := Ideal) x1 x2 (ix3 b s (hi k)) = x2 (ix3 b s k) := by
    unfold val_main_v2
    exact concatenate_pair_apply_right (s₁ := S32x2048x512) (s₂ := S32x2048x512) 2 _ _ _ (ix3 b s (hi k)) rfl rfl (ix3 b s k) (fun a => by fin_cases a <;> simp)
      (by show k.val + 512 = 512 + k.val; omega)
  rw [← mix_concat _ _ (fun k f => x3 (ix3 0 k f)) (fun k => val_main_v2 (F := Ideal) x1 x2 (ix3 b s k)) hl hr j, val_main_v4_apply]
  refine Finset.sum_congr rfl fun k _ => ?_
  rw [val_main_v3_apply]
  congr 1
  · exact congrArg (val_main_v2 (F := Ideal) x1 x2) (eq_ix3 _)
  · refine congrArg x3 ?_
    funext a
    apply Fin.ext
    fin_cases a
    · rfl
    · show (k.val * 1024 + j.val) / 1024 % 1024 = k.val; omega
    · show (k.val * 1024 + j.val) % 1024 = j.val; omega

/-- The first norm. -/
theorem norm1 (j : Fin 1024) : val_main_v18 x1 x2 x3 x4 (ix3 b s j)
    = rms (fun k => val_main_v4 (F := Ideal) x1 x2 x3 (ix3 b s k)) (fun k => x4 (ix2 0 k)) j := by
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  rfl

/-- The row after the first residual. -/
theorem first (j : Fin 1024) : val_main_v19 x0 x1 x2 x3 x4 (ix3 b s j)
    = mid (fun k => x0 (ix3 b s k)) (fun k => x1 (ix3 b s k)) (fun k => x2 (ix3 b s k)) (fun k f => x3 (ix3 0 (lo k) f)) (fun k f => x3 (ix3 0 (hi k) f)) (fun k => x4 (ix2 0 k)) j := by
  rw [val_main_v19_apply, norm1]
  unfold mid
  rw [show (fun k => val_main_v4 (F := Ideal) x1 x2 x3 (ix3 b s k)) = _ from funext (proj x1 x2 x3 b s)]
  rfl

/-- The second norm. -/
theorem norm2 (j : Fin 1024) : val_main_v33 x0 x1 x2 x3 x4 x5 (ix3 b s j)
    = rms (fun k => val_main_v19 (F := Ideal) x0 x1 x2 x3 x4 (ix3 b s k)) (fun k => x5 (ix2 0 k)) j := by
  pointwise [val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  rfl

/-- The projection up, its positive part squared, and the projection down. -/
theorem down (j : Fin 1024) : val_main_v39 x0 x1 x2 x3 x4 x5 x6 x7 (ix3 b s j)
    = mlp (fun k => val_main_v33 (F := Ideal) x0 x1 x2 x3 x4 x5 (ix3 b s k)) (fun k f => x6 (ix3 0 k f)) (fun k f => x7 (ix3 0 k f)) j := by
  pointwise [val_main_v39, val_main_v38, val_main_v37, val_main_v36, val_main_v35, val_main_v34, val_main_call0_cst, val_main_call0_v0]
  rfl

/-- The third norm. -/
theorem norm3 (j : Fin 1024) : val_main_v53 x0 x1 x2 x3 x4 x5 x6 x7 x8 (ix3 b s j)
    = rms (fun k => val_main_v39 (F := Ideal) x0 x1 x2 x3 x4 x5 x6 x7 (ix3 b s k)) (fun k => x8 (ix2 0 k)) j := by
  pointwise [val_main_v53, val_main_v52, val_main_v51, val_main_v50, val_main_v49, val_main_v48, val_main_v47, val_main_v46, val_main_v45, val_main_v44, val_main_v43, val_main_v42, val_main_v41, val_main_v40, val_main_cst_5, val_main_cst_6, val_main_cst_7]
  rfl

/-- A token's row of the reference. -/
theorem token (j : Fin 1024) : val_main_v54 x0 x1 x2 x3 x4 x5 x6 x7 x8 (ix3 b s j) = Cert.MlpIdeal.Value.tokenOut x0 x1 x2 x3 x4 x5 x6 x7 x8 b s j := by
  rw [val_main_v54_apply, norm3, first, show (fun k => val_main_v39 (F := Ideal) x0 x1 x2 x3 x4 x5 x6 x7 (ix3 b s k)) = _ from funext (down x0 x1 x2 x3 x4 x5 x6 x7 b s),
    show (fun k => val_main_v33 (F := Ideal) x0 x1 x2 x3 x4 x5 (ix3 b s k)) = _ from funext (norm2 x0 x1 x2 x3 x4 x5 b s),
    show (fun k => val_main_v19 (F := Ideal) x0 x1 x2 x3 x4 (ix3 b s k)) = _ from funext (first x0 x1 x2 x3 x4 b s)]
  rfl

/-- The reference's result is the array the kernel leaves. -/
theorem result_eq : val_main_v55 x0 x1 x2 x3 x4 x5 x6 x7 x8 = Cert.MlpIdeal.Value.result x0 x1 x2 x3 x4 x5 x6 x7 x8 := by
  funext i
  obtain ⟨t, j, rfl⟩ : ∃ (t : Fin 65536) (j : Fin 1024), i = ix2 t j := ⟨i 0, i 1, ValueIdx.eq_ix2 i⟩
  unfold val_main_v55
  rw [merge_apply (val_main_v54 (F := Ideal) x0 x1 x2 x3 x4 x5 x6 x7 x8) _ t j ⟨t.val / 2048, by omega⟩ ⟨t.val % 2048, by omega⟩ (by dsimp only; omega), token]
  rfl

end Cert.MlpRefIdeal.Rows
-- ==== Proof.MlpClaim.lean ====
module
public import proofs.«01_k».proof.Defs
public import proofs.«01_k».proof.Proof.MlpRefRows
public import proofs.«01_k».proof.Proof.Gen.MlpRefIdeal.Run
/-! The output projection and MLP call computes what its reference computes. -/
@[expose] public section
noncomputable section
open Idealize.ShloMosaic Idealize.ShloMosaic.TcCoe Idealize.SL.Sem
namespace Cert.MlpClaim

theorem algebraic : Cert.algebraic_MlpIdeal_MlpRefIdeal (hMlpIdeal := Cert.MlpIdeal.Gen.facts) (hMlpRefIdeal := Cert.MlpRefIdeal.Gen.facts) := by
  intro m g m' g' _ hargs
  refine ⟨fun c => Cert.MlpIdeal.Value.result (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)), ?_, ?_⟩
  · refine (θ_run Cert.MlpIdeal.defs _ _).mono (fun r h c => ?_) (Cert.MlpIdeal.Value.run_blocks (F := Ideal) m g)
    exact ⟨(h c).1.trans (Cert.MlpIdeal.Value.final9 m c), (h c).2⟩
  · refine (θ_run Cert.MlpRefIdeal.defs _ _).mono (fun r h c => ?_) (Cert.MlpRefIdeal.Value.run (F := Ideal) m' g')
    refine ⟨(h c).1.trans ?_, (h c).2⟩
    obtain ⟨h0, h1, h2, h3, h4, h5, h6, h7, h8⟩ := hargs c
    rw [Cert.MlpRefIdeal.Read.val_main_v55_eq, h0, h1, h2, h3, h4, h5, h6, h7, h8]
    exact Cert.MlpRefIdeal.Rows.result_eq _ _ _ _ _ _ _ _ _

end Cert.MlpClaim
-- ==== Proof.AttnCol.lean ====
module
public import Idealize.ShloMosaic.Lib.Pointwise
/-! One column of the attention's running softmax in base two: a query column meets its keys a block at a time, keeping the
    largest score seen and sums weighted by powers of two of the scores less that largest. Whatever the blocks' maxima
    are, the kept sums are the plain sums scaled by one power of two, so their quotients are the softmax averages. -/
@[expose] public section
noncomputable section
open Idealize.ShloMosaic
namespace Cert.AttnCol

/-- The largest of a block's scores. -/
def colMax {n : Nat} (s : Fin n → EReal) : EReal := Finset.univ.fold max ⊥ s
/-- The running largest after a block. -/
def stepM {n : Nat} (m : EReal) (s : Fin n → EReal) : EReal := max m (colMax s)
/-- A weighted sum after the first block. -/
def firstA {n : Nat} (s v : Fin n → EReal) : EReal := ∑ r, v r * Ideal.exp2 (s r - colMax s)
/-- A weighted sum after a further block. -/
def stepA {n : Nat} (m a : EReal) (s v : Fin n → EReal) : EReal :=
  Ideal.exp2 (m - stepM m s) * a + ∑ r, v r * Ideal.exp2 (s r - stepM m s)
/-- A score, or minus infinity where the key comes after the query. -/
def masked (key query : Nat) (x : EReal) : EReal := if key ≤ query then x else ⊥

/-- A finite sum of reals in the extended reals. -/
theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

/-- A block's largest is minus infinity or a real. -/
theorem colMax_real {n : Nat} (s : Fin n → EReal) (h : ∀ r, s r = ⊥ ∨ ∃ x : ℝ, s r = x) : colMax s = ⊥ ∨ ∃ x : ℝ, colMax s = x := by
  show Finset.univ.sup s = ⊥ ∨ ∃ x : ℝ, Finset.univ.sup s = x
  refine Finset.sup_induction (p := fun x : EReal => x = ⊥ ∨ ∃ y : ℝ, x = y) (Or.inl rfl) ?_ fun r _ => h r
  rintro a (rfl | ⟨x, rfl⟩) b (rfl | ⟨y, rfl⟩)
  · left; simp
  · right; exact ⟨y, by simp⟩
  · right; exact ⟨x, by simp⟩
  · right; exact ⟨max x y, (EReal.coe_strictMono.monotone.map_max).symm⟩

/-- It is a real if one of the scores is. -/
theorem colMax_real' {n : Nat} (s : Fin n → EReal) (h : ∀ r, s r = ⊥ ∨ ∃ x : ℝ, s r = x) (r₀ : Fin n) (x₀ : ℝ) (h₀ : s r₀ = x₀) :
    ∃ x : ℝ, colMax s = x := by
  rcases colMax_real s h with h1 | h1
  · have : s r₀ ≤ colMax s := Finset.le_sup (f := s) (Finset.mem_univ r₀)
    rw [h1, h₀, le_bot_iff] at this
    exact absurd this (EReal.coe_ne_bot _)
  · exact h1

/-- A masked score is minus infinity or a real. -/
theorem masked_real (k q : Nat) (x : ℝ) : masked k q x = ⊥ ∨ ∃ y : ℝ, masked k q x = y := by
  unfold masked; split
  · exact .inr ⟨x, rfl⟩
  · exact .inl rfl

/-- One term of a weighted sum. -/
theorem term_eq (k q : Nat) (x v μ : ℝ) :
    (v : EReal) * Ideal.exp2 (masked k q x - (μ : EReal)) = ((if k ≤ q then (2 : ℝ) ^ (x - μ) * v else 0 : ℝ) : EReal) := by
  unfold masked
  split
  · rw [← EReal.coe_sub, Ideal.exp2_coe, ← EReal.coe_mul, mul_comm]; rfl
  · rw [EReal.bot_sub, Ideal.exp2_bot, mul_zero, EReal.coe_zero]

/-- What is kept of a query column after its first `K` keys. -/
def Kept {ι : Type} (q K : Nat) (s : Nat → ℝ) (v : ι → Nat → ℝ) (m : EReal) (a : ι → EReal) : Prop :=
  ∃ μ : ℝ, m = μ ∧ ∀ i, a i = ((∑ k ∈ Finset.range K, if k ≤ q then (2 : ℝ) ^ (s k - μ) * v i k else 0 : ℝ) : EReal)

theorem sum_block {n : Nat} (o q : Nat) (s : Nat → ℝ) (v : Nat → ℝ) (μ : ℝ) (sb vb : Fin n → EReal)
    (hs : ∀ r : Fin n, sb r = masked (o + r.val) q (s (o + r.val))) (hv : ∀ r : Fin n, vb r = v (o + r.val)) :
    ∑ r, vb r * Ideal.exp2 (sb r - (μ : EReal))
      = ((∑ k ∈ Finset.range n, if o + k ≤ q then (2 : ℝ) ^ (s (o + k) - μ) * v (o + k) else 0 : ℝ) : EReal) := by
  rw [Finset.sum_range, coe_sum]
  exact Finset.sum_congr rfl fun r _ => by rw [hs, hv, term_eq]

/-- The first block. -/
theorem kept_first {ι : Type} {n : Nat} (hn : 0 < n) (q : Nat) (s : Nat → ℝ) (v : ι → Nat → ℝ) (sb : Fin n → EReal) (vb : ι → Fin n → EReal)
    (hs : ∀ r : Fin n, sb r = masked r.val q (s r.val)) (hv : ∀ i (r : Fin n), vb i r = v i r.val) :
    Kept q n s v (colMax sb) (fun i => firstA sb (vb i)) := by
  obtain ⟨μ, hμ⟩ := colMax_real' sb (fun r => by rw [hs]; exact masked_real _ _ _) ⟨0, hn⟩ (s 0) (by rw [hs]; simp [masked])
  refine ⟨μ, hμ, fun i => ?_⟩
  show firstA sb (vb i) = _
  unfold firstA
  rw [hμ, sum_block 0 q s (v i) μ sb (vb i) (fun r => by rw [hs, Nat.zero_add]) (fun r => by rw [hv, Nat.zero_add])]
  simp only [Nat.zero_add]

/-- A further block. -/
theorem kept_step {ι : Type} {n : Nat} (q K : Nat) (s : Nat → ℝ) (v : ι → Nat → ℝ) (m : EReal) (a : ι → EReal) (h : Kept q K s v m a)
    (sb : Fin n → EReal) (vb : ι → Fin n → EReal) (hs : ∀ r : Fin n, sb r = masked (K + r.val) q (s (K + r.val)))
    (hv : ∀ i (r : Fin n), vb i r = v i (K + r.val)) :
    Kept q (K + n) s v (stepM m sb) (fun i => stepA m (a i) sb (vb i)) := by
  obtain ⟨μ, hm, ha⟩ := h
  obtain ⟨ν, hν⟩ : ∃ ν : ℝ, stepM m sb = ν := by
    unfold stepM
    rcases colMax_real sb (fun r => by rw [hs]; exact masked_real _ _ _) with h1 | ⟨x, h1⟩
    · exact ⟨μ, by rw [h1, hm]; simp⟩
    · exact ⟨max μ x, by rw [h1, hm]; exact (EReal.coe_strictMono.monotone.map_max).symm⟩
  refine ⟨ν, hν, fun i => ?_⟩
  show stepA m (a i) sb (vb i) = _
  unfold stepA
  rw [hν, hm, ha i, sum_block K q s (v i) ν sb (vb i) hs (hv i), ← EReal.coe_sub, Ideal.exp2_coe, ← EReal.coe_mul, ← EReal.coe_add,
    Finset.sum_range_add]
  congr 2
  rw [Finset.mul_sum]
  refine Finset.sum_congr rfl fun k _ => ?_
  split
  · rw [← mul_assoc]; congr 1
    show (2 : ℝ) ^ (μ - ν) * (2 : ℝ) ^ (s k - μ) = _
    rw [← Real.rpow_add (by norm_num)]; congr 1; ring
  · rw [mul_zero]

/-- The average of a query's values, each key's weighted by two to its score. -/
def avg (q : Nat) (s v : Nat → ℝ) : ℝ :=
  (∑ k ∈ Finset.range (q + 1), (2 : ℝ) ^ s k * v k) / ∑ k ∈ Finset.range (q + 1), (2 : ℝ) ^ s k

theorem sum_upto (q K : Nat) (h : q < K) (f : Nat → ℝ) : (∑ k ∈ Finset.range K, if k ≤ q then f k else 0) = ∑ k ∈ Finset.range (q + 1), f k := by
  rw [← Finset.sum_filter]
  refine Finset.sum_congr ?_ fun _ _ => rfl
  ext k; simp only [Finset.mem_filter, Finset.mem_range]; omega

theorem weight_pos (q : Nat) (s : Nat → ℝ) : 0 < ∑ k ∈ Finset.range (q + 1), (2 : ℝ) ^ s k :=
  Finset.sum_pos (fun k _ => Real.rpow_pos_of_pos (by norm_num) _) ⟨0, by simp⟩

/-- The quotient of two kept sums, the second of weights alone, is the average. -/
theorem kept_div {ι : Type} (q K : Nat) (s : Nat → ℝ) (v : ι → Nat → ℝ) (m : EReal) (a : ι → EReal) (h : Kept q K s v m a) (hK : q < K)
    (i l : ι) (hl : ∀ k, v l k = 1) : Ideal.div (a i) (a l) = (avg q s (v i) : EReal) := by
  obtain ⟨μ, hm, ha⟩ := h
  rw [ha i, ha l, sum_upto q K hK, sum_upto q K hK]
  have e : ∀ f : Nat → ℝ, ∑ k ∈ Finset.range (q + 1), (2 : ℝ) ^ (s k - μ) * f k = (2 : ℝ) ^ (-μ) * ∑ k ∈ Finset.range (q + 1), (2 : ℝ) ^ s k * f k := by
    intro f; rw [Finset.mul_sum]
    refine Finset.sum_congr rfl fun k _ => ?_
    rw [sub_eq_add_neg, Real.rpow_add (by norm_num)]; ring
  have e1 : ∑ k ∈ Finset.range (q + 1), (2 : ℝ) ^ s k * v l k = ∑ k ∈ Finset.range (q + 1), (2 : ℝ) ^ s k :=
    Finset.sum_congr rfl fun k _ => by rw [hl, mul_one]
  have p : (0 : ℝ) < (2 : ℝ) ^ (-μ) := Real.rpow_pos_of_pos (by norm_num) _
  have w := weight_pos q s
  rw [e, e, e1, Ideal.div_coe (mul_pos p w).ne', ← EReal.coe_mul]
  congr 1
  unfold avg
  field_simp

end Cert.AttnCol
-- ==== Proof.AttnTiles.lean ====
module
public import proofs.«01_k».proof.Proof.Gen.AttnIdeal.Value
public import proofs.«01_k».proof.Proof.AttnCol
public import Idealize.ShloMosaic.Lib.Pipeline.ValueKit.Geometry
/-! The vector steps of the attention's body, one per shape they come in, each read at an index: the scores of a block of
    keys against a run of queries under the two maps side by side, their mask, their largest, and the weighted sums. -/
@[expose] public section
set_option maxRecDepth 8192
noncomputable section
open Idealize.ShloMosaic Idealize.ShloMosaic.TcCoe Idealize.SL.Sem
namespace Cert.AttnTiles
open Cert.AttnIdeal Cert.AttnIdeal.Gen Cert.AttnCol

/-- Minus infinity's word. -/
theorem ninf : Ideal.ofBits .f32 0xFF800000#32 = (⊥ : EReal) := by simp [Ideal.ofBits, Ideal.ieee]

/-- The mask at an index: the position of the query against that of the key. -/
theorem sel (a r d : Nat) (ha : a < 4096) (hr : r < 4096) (hd : d < 4096) (x : EReal) :
    Scalar.select (IntOp.cmpi CmpIPredicate.sge (IntOp.addi (BitVec.ofNat 32 a) (BitVec.ofNat 32 d)) (BitVec.ofNat 32 r)) x (Ideal.ofBits .f32 0xFF800000#32)
     = masked r (d + a) x := by
  rw [ninf]
  have e : (BitVec.ofNat 32 r).sle (BitVec.ofNat 32 a + BitVec.ofNat 32 d) = decide (r ≤ d + a) := by
    rw [← BitVec.ofNat_add, BitVec.sle_eq_decide, BitVec.toInt_eq_toNat_of_lt, BitVec.toInt_eq_toNat_of_lt, BitVec.toNat_ofNat, BitVec.toNat_ofNat,
      Nat.mod_eq_of_lt (by omega), Nat.mod_eq_of_lt (by omega)]
    · exact decide_eq_decide.2 (by omega)
    · rw [BitVec.toNat_ofNat]; omega
    · rw [BitVec.toNat_ofNat]; omega
  unfold Scalar.select IntOp.cmpi IntOp.addi masked
  dsimp only
  rw [e]
  by_cases h : r ≤ d + a <;> simp [h]
theorem masked_of_le (k q : Nat) (h : k ≤ q) (x y : EReal) (e : y = x) : y = masked k q x := by unfold masked; rw [if_pos h, e]

/-- A tile of values, turned. -/
def tr (V : Vec Ideal S1x128x128 .bf16) : FVec Ideal S128x128 .bf16 :=
  truncf .bf16 (transpose S128x128 [1, 0] (extf .f32 (shapeCast S128x128 V shapeCasts_S1x128x128_S128x128 : FVec Ideal S128x128 .bf16) bitsLt_bf16_f32) transposes_S128x128_p1_0_S128x128) bitsLt_bf16_f32
theorem tr_apply (V : Vec Ideal S1x128x128 .bf16) (i r : Fin 128) : tr V (ix2 i r) = V (ix3 0 r i) := by pointwise [tr]
/-- The turned values of 256 keys over sixteen rows of ones. -/
def vt256 (V0 V1 : Vec Ideal S1x128x128 .bf16) : FVec Ideal S144x256 .bf16 :=
  concatenate S144x256 0 [⟨S128x256, concatenate S128x256 1 [⟨S128x128, tr V0⟩, ⟨S128x128, tr V1⟩] concatenates_S128x128_S128x128_S128x256_d1⟩,
    ⟨S16x256, broadcast S16x256 (Scalar.ofBits .bf16 0x3F80#16)⟩] concatenates_S128x256_S16x256_S144x256_d0
theorem vt256_apply (V0 V1 : Vec Ideal S1x128x128 .bf16) (w : Nat → Nat → EReal)
    (h0 : ∀ i r : Fin 128, V0 (ix3 0 r i) = w i.val (0 + r.val)) (h1 : ∀ i r : Fin 128, V1 (ix3 0 r i) = w i.val (128 + r.val))
    (i : Fin 144) (r : Fin 256) : vt256 V0 V1 (ix2 i r) = if i.val < 128 then w i.val r.val else 1 := by
  pointwise [vt256, tr]
  by_cases hi : i.val < 128
  · rw [dif_pos hi, if_pos hi]
    by_cases k0 : r.val < 128
    · rw [dif_pos k0, h0]; exact congrArg (w i.val) (show 0 + (r.val) = r.val by omega)
    rw [dif_neg k0]
    rw [h1]; exact congrArg (w i.val) (show 128 + (r.val - 128) = r.val by omega)
  · rw [dif_neg hi, if_neg hi]
/-- The turned values of 512 keys over sixteen rows of ones. -/
def vt512 (V0 V1 V2 V3 : Vec Ideal S1x128x128 .bf16) : FVec Ideal S144x512 .bf16 :=
  concatenate S144x512 0 [⟨S128x512, concatenate S128x512 1 [⟨S128x128, tr V0⟩, ⟨S128x128, tr V1⟩, ⟨S128x128, tr V2⟩, ⟨S128x128, tr V3⟩] concatenates_S128x128_S128x128_S128x128_S128x128_S128x512_d1⟩,
    ⟨S16x512, broadcast S16x512 (Scalar.ofBits .bf16 0x3F80#16)⟩] concatenates_S128x512_S16x512_S144x512_d0
theorem vt512_apply (V0 V1 V2 V3 : Vec Ideal S1x128x128 .bf16) (w : Nat → Nat → EReal)
    (h0 : ∀ i r : Fin 128, V0 (ix3 0 r i) = w i.val (0 + r.val)) (h1 : ∀ i r : Fin 128, V1 (ix3 0 r i) = w i.val (128 + r.val)) (h2 : ∀ i r : Fin 128, V2 (ix3 0 r i) = w i.val (256 + r.val)) (h3 : ∀ i r : Fin 128, V3 (ix3 0 r i) = w i.val (384 + r.val))
    (i : Fin 144) (r : Fin 512) : vt512 V0 V1 V2 V3 (ix2 i r) = if i.val < 128 then w i.val r.val else 1 := by
  pointwise [vt512, tr]
  by_cases hi : i.val < 128
  · rw [dif_pos hi, if_pos hi]
    by_cases k0 : r.val < 128
    · rw [dif_pos k0, h0]; exact congrArg (w i.val) (show 0 + (r.val) = r.val by omega)
    rw [dif_neg k0]
    by_cases k1 : r.val - 128 < 128
    · rw [dif_pos k1, h1]; exact congrArg (w i.val) (show 128 + (r.val - 128) = r.val by omega)
    rw [dif_neg k1]
    by_cases k2 : r.val - 128 - 128 < 128
    · rw [dif_pos k2, h2]; exact congrArg (w i.val) (show 256 + (r.val - 128 - 128) = r.val by omega)
    rw [dif_neg k2]
    rw [h3]; exact congrArg (w i.val) (show 384 + (r.val - 128 - 128 - 128) = r.val by omega)
  · rw [dif_neg hi, if_neg hi]
/-- Queries 0 to 256 under the first map, then under the second. -/
def qc0_256 (A B : FVec Ideal S2048x128 .bf16) : FVec Ideal S512x128 .bf16 :=
  concatenate S512x128 0 [⟨S256x128, extractStridedSlice S256x128 ![0, 0] A slices_S2048x128_o0_0_S256x128⟩,
    ⟨S256x128, extractStridedSlice S256x128 ![0, 0] B slices_S2048x128_o0_0_S256x128⟩] concatenates_S256x128_S256x128_S512x128_d0
theorem qc0_256_left (A B : FVec Ideal S2048x128 .bf16) (j : Fin 256) (d : Fin 128) :
    qc0_256 A B (ix2 (⟨j.val, by omega⟩ : Fin 512) d) = A (ix2 (⟨0 + j.val, by omega⟩ : Fin 2048) d) := by
  pointwise [qc0_256]
theorem qc0_256_right (A B : FVec Ideal S2048x128 .bf16) (j : Fin 256) (d : Fin 128) :
    qc0_256 A B (ix2 (⟨256 + j.val, by omega⟩ : Fin 512) d) = B (ix2 (⟨0 + j.val, by omega⟩ : Fin 2048) d) := by
  pointwise [qc0_256]
/-- Queries 512 to 768 under the first map, then under the second. -/
def qc512_256 (A B : FVec Ideal S2048x128 .bf16) : FVec Ideal S512x128 .bf16 :=
  concatenate S512x128 0 [⟨S256x128, extractStridedSlice S256x128 ![512, 0] A slices_S2048x128_o512_0_S256x128⟩,
    ⟨S256x128, extractStridedSlice S256x128 ![512, 0] B slices_S2048x128_o512_0_S256x128⟩] concatenates_S256x128_S256x128_S512x128_d0
theorem qc512_256_left (A B : FVec Ideal S2048x128 .bf16) (j : Fin 256) (d : Fin 128) :
    qc512_256 A B (ix2 (⟨j.val, by omega⟩ : Fin 512) d) = A (ix2 (⟨512 + j.val, by omega⟩ : Fin 2048) d) := by
  pointwise [qc512_256]
theorem qc512_256_right (A B : FVec Ideal S2048x128 .bf16) (j : Fin 256) (d : Fin 128) :
    qc512_256 A B (ix2 (⟨256 + j.val, by omega⟩ : Fin 512) d) = B (ix2 (⟨512 + j.val, by omega⟩ : Fin 2048) d) := by
  pointwise [qc512_256]
/-- Queries 1024 to 1280 under the first map, then under the second. -/
def qc1024_256 (A B : FVec Ideal S2048x128 .bf16) : FVec Ideal S512x128 .bf16 :=
  concatenate S512x128 0 [⟨S256x128, extractStridedSlice S256x128 ![1024, 0] A slices_S2048x128_o1024_0_S256x128⟩,
    ⟨S256x128, extractStridedSlice S256x128 ![1024, 0] B slices_S2048x128_o1024_0_S256x128⟩] concatenates_S256x128_S256x128_S512x128_d0
theorem qc1024_256_left (A B : FVec Ideal S2048x128 .bf16) (j : Fin 256) (d : Fin 128) :
    qc1024_256 A B (ix2 (⟨j.val, by omega⟩ : Fin 512) d) = A (ix2 (⟨1024 + j.val, by omega⟩ : Fin 2048) d) := by
  pointwise [qc1024_256]
theorem qc1024_256_right (A B : FVec Ideal S2048x128 .bf16) (j : Fin 256) (d : Fin 128) :
    qc1024_256 A B (ix2 (⟨256 + j.val, by omega⟩ : Fin 512) d) = B (ix2 (⟨1024 + j.val, by omega⟩ : Fin 2048) d) := by
  pointwise [qc1024_256]
/-- Queries 1536 to 1792 under the first map, then under the second. -/
def qc1536_256 (A B : FVec Ideal S2048x128 .bf16) : FVec Ideal S512x128 .bf16 :=
  concatenate S512x128 0 [⟨S256x128, extractStridedSlice S256x128 ![1536, 0] A slices_S2048x128_o1536_0_S256x128⟩,
    ⟨S256x128, extractStridedSlice S256x128 ![1536, 0] B slices_S2048x128_o1536_0_S256x128⟩] concatenates_S256x128_S256x128_S512x128_d0
theorem qc1536_256_left (A B : FVec Ideal S2048x128 .bf16) (j : Fin 256) (d : Fin 128) :
    qc1536_256 A B (ix2 (⟨j.val, by omega⟩ : Fin 512) d) = A (ix2 (⟨1536 + j.val, by omega⟩ : Fin 2048) d) := by
  pointwise [qc1536_256]
theorem qc1536_256_right (A B : FVec Ideal S2048x128 .bf16) (j : Fin 256) (d : Fin 128) :
    qc1536_256 A B (ix2 (⟨256 + j.val, by omega⟩ : Fin 512) d) = B (ix2 (⟨1536 + j.val, by omega⟩ : Fin 2048) d) := by
  pointwise [qc1536_256]
/-- Queries 1792 to 2048 under the first map, then under the second. -/
def qc1792_256 (A B : FVec Ideal S2048x128 .bf16) : FVec Ideal S512x128 .bf16 :=
  concatenate S512x128 0 [⟨S256x128, extractStridedSlice S256x128 ![1792, 0] A slices_S2048x128_o1792_0_S256x128⟩,
    ⟨S256x128, extractStridedSlice S256x128 ![1792, 0] B slices_S2048x128_o1792_0_S256x128⟩] concatenates_S256x128_S256x128_S512x128_d0
theorem qc1792_256_left (A B : FVec Ideal S2048x128 .bf16) (j : Fin 256) (d : Fin 128) :
    qc1792_256 A B (ix2 (⟨j.val, by omega⟩ : Fin 512) d) = A (ix2 (⟨1792 + j.val, by omega⟩ : Fin 2048) d) := by
  pointwise [qc1792_256]
theorem qc1792_256_right (A B : FVec Ideal S2048x128 .bf16) (j : Fin 256) (d : Fin 128) :
    qc1792_256 A B (ix2 (⟨256 + j.val, by omega⟩ : Fin 512) d) = B (ix2 (⟨1792 + j.val, by omega⟩ : Fin 2048) d) := by
  pointwise [qc1792_256]
/-- Queries 256 to 2048 under the first map, then under the second. -/
def qc256_1792 (A B : FVec Ideal S2048x128 .bf16) : FVec Ideal S3584x128 .bf16 :=
  concatenate S3584x128 0 [⟨S1792x128, extractStridedSlice S1792x128 ![256, 0] A slices_S2048x128_o256_0_S1792x128⟩,
    ⟨S1792x128, extractStridedSlice S1792x128 ![256, 0] B slices_S2048x128_o256_0_S1792x128⟩] concatenates_S1792x128_S1792x128_S3584x128_d0
theorem qc256_1792_left (A B : FVec Ideal S2048x128 .bf16) (j : Fin 1792) (d : Fin 128) :
    qc256_1792 A B (ix2 (⟨j.val, by omega⟩ : Fin 3584) d) = A (ix2 (⟨256 + j.val, by omega⟩ : Fin 2048) d) := by
  pointwise [qc256_1792]
theorem qc256_1792_right (A B : FVec Ideal S2048x128 .bf16) (j : Fin 1792) (d : Fin 128) :
    qc256_1792 A B (ix2 (⟨1792 + j.val, by omega⟩ : Fin 3584) d) = B (ix2 (⟨256 + j.val, by omega⟩ : Fin 2048) d) := by
  pointwise [qc256_1792]
/-- Queries 768 to 2048 under the first map, then under the second. -/
def qc768_1280 (A B : FVec Ideal S2048x128 .bf16) : FVec Ideal S2560x128 .bf16 :=
  concatenate S2560x128 0 [⟨S1280x128, extractStridedSlice S1280x128 ![768, 0] A slices_S2048x128_o768_0_S1280x128⟩,
    ⟨S1280x128, extractStridedSlice S1280x128 ![768, 0] B slices_S2048x128_o768_0_S1280x128⟩] concatenates_S1280x128_S1280x128_S2560x128_d0
theorem qc768_1280_left (A B : FVec Ideal S2048x128 .bf16) (j : Fin 1280) (d : Fin 128) :
    qc768_1280 A B (ix2 (⟨j.val, by omega⟩ : Fin 2560) d) = A (ix2 (⟨768 + j.val, by omega⟩ : Fin 2048) d) := by
  pointwise [qc768_1280]
theorem qc768_1280_right (A B : FVec Ideal S2048x128 .bf16) (j : Fin 1280) (d : Fin 128) :
    qc768_1280 A B (ix2 (⟨1280 + j.val, by omega⟩ : Fin 2560) d) = B (ix2 (⟨768 + j.val, by omega⟩ : Fin 2048) d) := by
  pointwise [qc768_1280]
/-- Queries 1280 to 2048 under the first map, then under the second. -/
def qc1280_768 (A B : FVec Ideal S2048x128 .bf16) : FVec Ideal S1536x128 .bf16 :=
  concatenate S1536x128 0 [⟨S768x128, extractStridedSlice S768x128 ![1280, 0] A slices_S2048x128_o1280_0_S768x128⟩,
    ⟨S768x128, extractStridedSlice S768x128 ![1280, 0] B slices_S2048x128_o1280_0_S768x128⟩] concatenates_S768x128_S768x128_S1536x128_d0
theorem qc1280_768_left (A B : FVec Ideal S2048x128 .bf16) (j : Fin 768) (d : Fin 128) :
    qc1280_768 A B (ix2 (⟨j.val, by omega⟩ : Fin 1536) d) = A (ix2 (⟨1280 + j.val, by omega⟩ : Fin 2048) d) := by
  pointwise [qc1280_768]
theorem qc1280_768_right (A B : FVec Ideal S2048x128 .bf16) (j : Fin 768) (d : Fin 128) :
    qc1280_768 A B (ix2 (⟨768 + j.val, by omega⟩ : Fin 1536) d) = B (ix2 (⟨1280 + j.val, by omega⟩ : Fin 2048) d) := by
  pointwise [qc1280_768]
/-- The raw scores. -/
def raw256_256 (K : Vec Ideal S1x256x128 .bf16) (Q : FVec Ideal S512x128 .bf16) : FVec Ideal S256x512 .f32 :=
  matmul dot_S256x128_S512x128_S256x512_1_1_0_0_n_n none (shapeCast S256x128 K shapeCasts_S1x256x128_S256x128 : FVec Ideal S256x128 .bf16) Q (constant S256x512 .f32 0x00000000#32)
theorem raw256_256_apply (K : Vec Ideal S1x256x128 .bf16) (Q : FVec Ideal S512x128 .bf16) (r : Fin 256) (j : Fin 512) :
    raw256_256 K Q (ix2 r j) = ∑ d : Fin 128, K (ix3 0 r d) * Q (ix2 j d) := by
  pointwise [raw256_256]
/-- Which of the first 256 columns a key is seen by. -/
def keep256_256 : IVec S256x256 1 :=
  cmpi .sge (addi (iota .tc S256x256 32 [1] iota_S256x256_d1_w32) (broadcast S256x256 0#32)) (iota .tc S256x256 32 [0] iota_S256x256_d0_w32)
/-- The scores with the unseen keys' at minus infinity. -/
def msk256_256 (s : FVec Ideal S256x512 .f32) : FVec Ideal S256x512 .f32 :=
  concatenate S256x512 1 [⟨S256x256, select keep256_256 (extractStridedSlice S256x256 ![0, 0] s slices_S256x512_o0_0_S256x256) (broadcast S256x256 (Scalar.ofBits .f32 0xFF800000#32))⟩,
    ⟨S256x256, select keep256_256 (extractStridedSlice S256x256 ![0, 256] s slices_S256x512_o0_256_S256x256) (broadcast S256x256 (Scalar.ofBits .f32 0xFF800000#32))⟩] concatenates_S256x256_S256x256_S256x512_d1
theorem msk256_256_left (s : FVec Ideal S256x512 .f32) (r : Fin 256) (j : Fin 256) :
    msk256_256 s (ix2 r (⟨j.val, by omega⟩ : Fin 512)) = masked r.val (0 + j.val) (s (ix2 r (⟨j.val, by omega⟩ : Fin 512))) := by
  pointwise [msk256_256, keep256_256]
  exact (sel j.val r.val 0 (by omega) (by omega) (by omega) _).trans (congrArg (fun q => masked r.val q _) (Nat.zero_add j.val))
theorem msk256_256_right (s : FVec Ideal S256x512 .f32) (r : Fin 256) (j : Fin 256) :
    msk256_256 s (ix2 r (⟨256 + j.val, by omega⟩ : Fin 512)) = masked r.val (0 + j.val) (s (ix2 r (⟨256 + j.val, by omega⟩ : Fin 512))) := by
  pointwise [msk256_256, keep256_256]
  exact (sel j.val r.val 0 (by omega) (by omega) (by omega) _).trans (congrArg (fun q => masked r.val q _) (Nat.zero_add j.val))
/-- The columns' largest. -/
def mx256_256 (s : FVec Ideal S256x512 .f32) : FVec Ideal S1x512 .f32 :=
  shapeCast S1x512 (multiReduction .maximumf [0] S512 s 0xFF800000#32 reduces_S256x512_S512 (.inl rfl) rfl : FVec Ideal S512 .f32) shapeCasts_S512_S1x512
theorem mx256_256_apply (s : FVec Ideal S256x512 .f32) (j : Fin 512) : mx256_256 s (ix2 0 j) = colMax fun r => s (ix2 r j) := by
  pointwise [mx256_256]
  rw [ninf]; rfl
/-- The weights. -/
def wt256_256 (s : FVec Ideal S256x512 .f32) (m : FVec Ideal S1x512 .f32) : FVec Ideal S256x512 .bf16 :=
  truncf .bf16 (exp2 (subf s (broadcastTo S256x512 m broadcasts_S1x512_S256x512)) : FVec Ideal S256x512 .f32) bitsLt_bf16_f32
/-- The block's weighted sums. -/
def sm256_256 (v : FVec Ideal S144x256 .bf16) (w : FVec Ideal S256x512 .bf16) : FVec Ideal S144x512 .f32 :=
  matmul dot_S144x256_S256x512_S144x512_1_0_0_1_n_n none v w (constant S144x512 .f32 0x00000000#32)
theorem sm256_256_apply (v : FVec Ideal S144x256 .bf16) (s : FVec Ideal S256x512 .f32) (m : FVec Ideal S1x512 .f32) (i : Fin 144) (j : Fin 512) :
    sm256_256 v (wt256_256 s m) (ix2 i j) = ∑ r, v (ix2 i r) * Ideal.exp2 (s (ix2 r j) - m (ix2 0 j)) := by
  pointwise [sm256_256, wt256_256]
  rfl
theorem first256_256 (v : FVec Ideal S144x256 .bf16) (s : FVec Ideal S256x512 .f32) (i : Fin 144) (j : Fin 512) :
    sm256_256 v (wt256_256 s (mx256_256 s)) (ix2 i j) = firstA (fun r => s (ix2 r j)) (fun r => v (ix2 i r)) := by
  rw [sm256_256_apply, mx256_256_apply]; rfl
/-- The largest so far and the new one. -/
def old256_256 (mL mR : Vec Ideal S1x1x256 .f32) : FVec Ideal S1x512 .f32 :=
  concatenate S1x512 1 [⟨S1x256, (shapeCast S1x256 mL shapeCasts_S1x1x256_S1x256 : FVec Ideal S1x256 .f32)⟩, ⟨S1x256, (shapeCast S1x256 mR shapeCasts_S1x1x256_S1x256 : FVec Ideal S1x256 .f32)⟩] concatenates_S1x256_S1x256_S1x512_d1
def mn256_256 (s : FVec Ideal S256x512 .f32) (mL mR : Vec Ideal S1x1x256 .f32) : FVec Ideal S1x512 .f32 := maximumf (old256_256 mL mR) (mx256_256 s)
theorem mn256_256_apply (s : FVec Ideal S256x512 .f32) (mL mR : Vec Ideal S1x1x256 .f32) (j : Fin 512) :
    mn256_256 s mL mR (ix2 0 j) = stepM (old256_256 mL mR (ix2 0 j)) fun r => s (ix2 r j) := by
  unfold stepM; rw [← mx256_256_apply]; rfl
theorem old256_256_left (mL mR : Vec Ideal S1x1x256 .f32) (j : Fin 256) : old256_256 mL mR (ix2 0 (⟨j.val, by omega⟩ : Fin 512)) = mL (ix3 0 0 j) := by
  pointwise [old256_256]
theorem old256_256_right (mL mR : Vec Ideal S1x1x256 .f32) (j : Fin 256) : old256_256 mL mR (ix2 0 (⟨256 + j.val, by omega⟩ : Fin 512)) = mR (ix3 0 0 j) := by
  pointwise [old256_256]
/-- The sums so far, scaled to the new largest, and the block's added. -/
def olda256_256 (aL aR : Vec Ideal S1x144x256 .f32) : FVec Ideal S144x512 .f32 :=
  concatenate S144x512 1 [⟨S144x256, (shapeCast S144x256 aL shapeCasts_S1x144x256_S144x256 : FVec Ideal S144x256 .f32)⟩, ⟨S144x256, (shapeCast S144x256 aR shapeCasts_S1x144x256_S144x256 : FVec Ideal S144x256 .f32)⟩] concatenates_S144x256_S144x256_S144x512_d1
theorem olda256_256_left (aL aR : Vec Ideal S1x144x256 .f32) (i : Fin 144) (j : Fin 256) : olda256_256 aL aR (ix2 i (⟨j.val, by omega⟩ : Fin 512)) = aL (ix3 0 i j) := by
  pointwise [olda256_256]
theorem olda256_256_right (aL aR : Vec Ideal S1x144x256 .f32) (i : Fin 144) (j : Fin 256) : olda256_256 aL aR (ix2 i (⟨256 + j.val, by omega⟩ : Fin 512)) = aR (ix3 0 i j) := by
  pointwise [olda256_256]
def nx256_256 (v : FVec Ideal S144x256 .bf16) (s : FVec Ideal S256x512 .f32) (mL mR : Vec Ideal S1x1x256 .f32) (aL aR : Vec Ideal S1x144x256 .f32) : FVec Ideal S144x512 .f32 :=
  addf (mulf (broadcastTo S144x512 (exp2 (subf (old256_256 mL mR) (mn256_256 s mL mR)) : FVec Ideal S1x512 .f32) broadcasts_S1x512_S144x512) (olda256_256 aL aR))
    (sm256_256 v (wt256_256 s (mn256_256 s mL mR)))
theorem nx256_256_apply (v : FVec Ideal S144x256 .bf16) (s : FVec Ideal S256x512 .f32) (mL mR : Vec Ideal S1x1x256 .f32) (aL aR : Vec Ideal S1x144x256 .f32) (i : Fin 144) (j : Fin 512) :
    nx256_256 v s mL mR aL aR (ix2 i j) = stepA (old256_256 mL mR (ix2 0 j)) (olda256_256 aL aR (ix2 i j)) (fun r => s (ix2 r j)) (fun r => v (ix2 i r)) := by
  unfold stepA; rw [← mn256_256_apply, ← sm256_256_apply]
  pointwise [nx256_256]
  rfl
/-- The raw scores. -/
def raw512_1792 (K : Vec Ideal S1x512x128 .bf16) (Q : FVec Ideal S3584x128 .bf16) : FVec Ideal S512x3584 .f32 :=
  matmul dot_S512x128_S3584x128_S512x3584_1_1_0_0_n_n none (shapeCast S512x128 K shapeCasts_S1x512x128_S512x128 : FVec Ideal S512x128 .bf16) Q (constant S512x3584 .f32 0x00000000#32)
theorem raw512_1792_apply (K : Vec Ideal S1x512x128 .bf16) (Q : FVec Ideal S3584x128 .bf16) (r : Fin 512) (j : Fin 3584) :
    raw512_1792 K Q (ix2 r j) = ∑ d : Fin 128, K (ix3 0 r d) * Q (ix2 j d) := by
  pointwise [raw512_1792]
/-- Which of the first 256 columns a key is seen by. -/
def keep512_1792 : IVec S512x256 1 :=
  cmpi .sge (addi (iota .tc S512x256 32 [1] iota_S512x256_d1_w32) (broadcast S512x256 256#32)) (iota .tc S512x256 32 [0] iota_S512x256_d0_w32)
/-- The scores with the unseen keys' at minus infinity. -/
def msk512_1792 (s : FVec Ideal S512x3584 .f32) : FVec Ideal S512x3584 .f32 :=
  concatenate S512x3584 1 [⟨S512x256, select keep512_1792 (extractStridedSlice S512x256 ![0, 0] s slices_S512x3584_o0_0_S512x256) (broadcast S512x256 (Scalar.ofBits .f32 0xFF800000#32))⟩,
    ⟨S512x1536, extractStridedSlice S512x1536 ![0, 256] s slices_S512x3584_o0_256_S512x1536⟩,
    ⟨S512x256, select keep512_1792 (extractStridedSlice S512x256 ![0, 1792] s slices_S512x3584_o0_1792_S512x256) (broadcast S512x256 (Scalar.ofBits .f32 0xFF800000#32))⟩,
    ⟨S512x1536, extractStridedSlice S512x1536 ![0, 2048] s slices_S512x3584_o0_2048_S512x1536⟩] concatenates_S512x256_S512x1536_S512x256_S512x1536_S512x3584_d1
theorem msk512_1792_left (s : FVec Ideal S512x3584 .f32) (r : Fin 512) (j : Fin 1792) :
    msk512_1792 s (ix2 r (⟨j.val, by omega⟩ : Fin 3584)) = masked r.val (256 + j.val) (s (ix2 r (⟨j.val, by omega⟩ : Fin 3584))) := by
  pointwise [msk512_1792, keep512_1792]
  by_cases h : j.val < 256
  · rw [dif_pos h]; exact sel j.val r.val 256 (by omega) (by omega) (by omega) _
  · rw [dif_neg h, dif_pos (by omega)]
    exact masked_of_le _ _ (by omega) _ _ (congrArg (fun k => s (ix2 r k)) (Fin.ext (show 256 + (j.val - 256) = j.val by omega)))
theorem msk512_1792_right (s : FVec Ideal S512x3584 .f32) (r : Fin 512) (j : Fin 1792) :
    msk512_1792 s (ix2 r (⟨1792 + j.val, by omega⟩ : Fin 3584)) = masked r.val (256 + j.val) (s (ix2 r (⟨1792 + j.val, by omega⟩ : Fin 3584))) := by
  pointwise [msk512_1792, keep512_1792]
  have e : 1792 + j.val - 256 - 1536 = j.val := by omega
  rw [dif_neg (by omega), dif_neg (by omega)]
  by_cases h : j.val < 256
  · rw [dif_pos (by omega)]; simp only [e]
    exact sel j.val r.val 256 (by omega) (by omega) (by omega) _
  · rw [dif_neg (by omega)]
    exact masked_of_le _ _ (by omega) _ _ (congrArg (fun k => s (ix2 r k)) (Fin.ext (show 2048 + (1792 + j.val - 256 - 1536 - 256) = 1792 + j.val by omega)))
/-- The columns' largest. -/
def mx512_1792 (s : FVec Ideal S512x3584 .f32) : FVec Ideal S1x3584 .f32 :=
  shapeCast S1x3584 (multiReduction .maximumf [0] S3584 s 0xFF800000#32 reduces_S512x3584_S3584 (.inl rfl) rfl : FVec Ideal S3584 .f32) shapeCasts_S3584_S1x3584
theorem mx512_1792_apply (s : FVec Ideal S512x3584 .f32) (j : Fin 3584) : mx512_1792 s (ix2 0 j) = colMax fun r => s (ix2 r j) := by
  pointwise [mx512_1792]
  rw [ninf]; rfl
/-- The weights. -/
def wt512_1792 (s : FVec Ideal S512x3584 .f32) (m : FVec Ideal S1x3584 .f32) : FVec Ideal S512x3584 .bf16 :=
  truncf .bf16 (exp2 (subf s (broadcastTo S512x3584 m broadcasts_S1x3584_S512x3584)) : FVec Ideal S512x3584 .f32) bitsLt_bf16_f32
/-- The block's weighted sums. -/
def sm512_1792 (v : FVec Ideal S144x512 .bf16) (w : FVec Ideal S512x3584 .bf16) : FVec Ideal S144x3584 .f32 :=
  matmul dot_S144x512_S512x3584_S144x3584_1_0_0_1_n_n none v w (constant S144x3584 .f32 0x00000000#32)
theorem sm512_1792_apply (v : FVec Ideal S144x512 .bf16) (s : FVec Ideal S512x3584 .f32) (m : FVec Ideal S1x3584 .f32) (i : Fin 144) (j : Fin 3584) :
    sm512_1792 v (wt512_1792 s m) (ix2 i j) = ∑ r, v (ix2 i r) * Ideal.exp2 (s (ix2 r j) - m (ix2 0 j)) := by
  pointwise [sm512_1792, wt512_1792]
  rfl
theorem first512_1792 (v : FVec Ideal S144x512 .bf16) (s : FVec Ideal S512x3584 .f32) (i : Fin 144) (j : Fin 3584) :
    sm512_1792 v (wt512_1792 s (mx512_1792 s)) (ix2 i j) = firstA (fun r => s (ix2 r j)) (fun r => v (ix2 i r)) := by
  rw [sm512_1792_apply, mx512_1792_apply]; rfl
/-- The raw scores. -/
def raw512_1280 (K : Vec Ideal S1x512x128 .bf16) (Q : FVec Ideal S2560x128 .bf16) : FVec Ideal S512x2560 .f32 :=
  matmul dot_S512x128_S2560x128_S512x2560_1_1_0_0_n_n none (shapeCast S512x128 K shapeCasts_S1x512x128_S512x128 : FVec Ideal S512x128 .bf16) Q (constant S512x2560 .f32 0x00000000#32)
theorem raw512_1280_apply (K : Vec Ideal S1x512x128 .bf16) (Q : FVec Ideal S2560x128 .bf16) (r : Fin 512) (j : Fin 2560) :
    raw512_1280 K Q (ix2 r j) = ∑ d : Fin 128, K (ix3 0 r d) * Q (ix2 j d) := by
  pointwise [raw512_1280]
/-- Which of the first 256 columns a key is seen by. -/
def keep512_1280 : IVec S512x256 1 :=
  cmpi .sge (addi (iota .tc S512x256 32 [1] iota_S512x256_d1_w32) (broadcast S512x256 256#32)) (iota .tc S512x256 32 [0] iota_S512x256_d0_w32)
/-- The scores with the unseen keys' at minus infinity. -/
def msk512_1280 (s : FVec Ideal S512x2560 .f32) : FVec Ideal S512x2560 .f32 :=
  concatenate S512x2560 1 [⟨S512x256, select keep512_1280 (extractStridedSlice S512x256 ![0, 0] s slices_S512x2560_o0_0_S512x256) (broadcast S512x256 (Scalar.ofBits .f32 0xFF800000#32))⟩,
    ⟨S512x1024, extractStridedSlice S512x1024 ![0, 256] s slices_S512x2560_o0_256_S512x1024⟩,
    ⟨S512x256, select keep512_1280 (extractStridedSlice S512x256 ![0, 1280] s slices_S512x2560_o0_1280_S512x256) (broadcast S512x256 (Scalar.ofBits .f32 0xFF800000#32))⟩,
    ⟨S512x1024, extractStridedSlice S512x1024 ![0, 1536] s slices_S512x2560_o0_1536_S512x1024⟩] concatenates_S512x256_S512x1024_S512x256_S512x1024_S512x2560_d1
theorem msk512_1280_left (s : FVec Ideal S512x2560 .f32) (r : Fin 512) (j : Fin 1280) :
    msk512_1280 s (ix2 r (⟨j.val, by omega⟩ : Fin 2560)) = masked r.val (256 + j.val) (s (ix2 r (⟨j.val, by omega⟩ : Fin 2560))) := by
  pointwise [msk512_1280, keep512_1280]
  by_cases h : j.val < 256
  · rw [dif_pos h]; exact sel j.val r.val 256 (by omega) (by omega) (by omega) _
  · rw [dif_neg h, dif_pos (by omega)]
    exact masked_of_le _ _ (by omega) _ _ (congrArg (fun k => s (ix2 r k)) (Fin.ext (show 256 + (j.val - 256) = j.val by omega)))
theorem msk512_1280_right (s : FVec Ideal S512x2560 .f32) (r : Fin 512) (j : Fin 1280) :
    msk512_1280 s (ix2 r (⟨1280 + j.val, by omega⟩ : Fin 2560)) = masked r.val (256 + j.val) (s (ix2 r (⟨1280 + j.val, by omega⟩ : Fin 2560))) := by
  pointwise [msk512_1280, keep512_1280]
  have e : 1280 + j.val - 256 - 1024 = j.val := by omega
  rw [dif_neg (by omega), dif_neg (by omega)]
  by_cases h : j.val < 256
  · rw [dif_pos (by omega)]; simp only [e]
    exact sel j.val r.val 256 (by omega) (by omega) (by omega) _
  · rw [dif_neg (by omega)]
    exact masked_of_le _ _ (by omega) _ _ (congrArg (fun k => s (ix2 r k)) (Fin.ext (show 1536 + (1280 + j.val - 256 - 1024 - 256) = 1280 + j.val by omega)))
/-- The columns' largest. -/
def mx512_1280 (s : FVec Ideal S512x2560 .f32) : FVec Ideal S1x2560 .f32 :=
  shapeCast S1x2560 (multiReduction .maximumf [0] S2560 s 0xFF800000#32 reduces_S512x2560_S2560 (.inl rfl) rfl : FVec Ideal S2560 .f32) shapeCasts_S2560_S1x2560
theorem mx512_1280_apply (s : FVec Ideal S512x2560 .f32) (j : Fin 2560) : mx512_1280 s (ix2 0 j) = colMax fun r => s (ix2 r j) := by
  pointwise [mx512_1280]
  rw [ninf]; rfl
/-- The weights. -/
def wt512_1280 (s : FVec Ideal S512x2560 .f32) (m : FVec Ideal S1x2560 .f32) : FVec Ideal S512x2560 .bf16 :=
  truncf .bf16 (exp2 (subf s (broadcastTo S512x2560 m broadcasts_S1x2560_S512x2560)) : FVec Ideal S512x2560 .f32) bitsLt_bf16_f32
/-- The block's weighted sums. -/
def sm512_1280 (v : FVec Ideal S144x512 .bf16) (w : FVec Ideal S512x2560 .bf16) : FVec Ideal S144x2560 .f32 :=
  matmul dot_S144x512_S512x2560_S144x2560_1_0_0_1_n_n none v w (constant S144x2560 .f32 0x00000000#32)
theorem sm512_1280_apply (v : FVec Ideal S144x512 .bf16) (s : FVec Ideal S512x2560 .f32) (m : FVec Ideal S1x2560 .f32) (i : Fin 144) (j : Fin 2560) :
    sm512_1280 v (wt512_1280 s m) (ix2 i j) = ∑ r, v (ix2 i r) * Ideal.exp2 (s (ix2 r j) - m (ix2 0 j)) := by
  pointwise [sm512_1280, wt512_1280]
  rfl
theorem first512_1280 (v : FVec Ideal S144x512 .bf16) (s : FVec Ideal S512x2560 .f32) (i : Fin 144) (j : Fin 2560) :
    sm512_1280 v (wt512_1280 s (mx512_1280 s)) (ix2 i j) = firstA (fun r => s (ix2 r j)) (fun r => v (ix2 i r)) := by
  rw [sm512_1280_apply, mx512_1280_apply]; rfl
/-- The largest so far and the new one. -/
def old512_1280 (mL mR : Vec Ideal S1x1x1280 .f32) : FVec Ideal S1x2560 .f32 :=
  concatenate S1x2560 1 [⟨S1x1280, (shapeCast S1x1280 mL shapeCasts_S1x1x1280_S1x1280 : FVec Ideal S1x1280 .f32)⟩, ⟨S1x1280, (shapeCast S1x1280 mR shapeCasts_S1x1x1280_S1x1280 : FVec Ideal S1x1280 .f32)⟩] concatenates_S1x1280_S1x1280_S1x2560_d1
def mn512_1280 (s : FVec Ideal S512x2560 .f32) (mL mR : Vec Ideal S1x1x1280 .f32) : FVec Ideal S1x2560 .f32 := maximumf (old512_1280 mL mR) (mx512_1280 s)
theorem mn512_1280_apply (s : FVec Ideal S512x2560 .f32) (mL mR : Vec Ideal S1x1x1280 .f32) (j : Fin 2560) :
    mn512_1280 s mL mR (ix2 0 j) = stepM (old512_1280 mL mR (ix2 0 j)) fun r => s (ix2 r j) := by
  unfold stepM; rw [← mx512_1280_apply]; rfl
theorem old512_1280_left (mL mR : Vec Ideal S1x1x1280 .f32) (j : Fin 1280) : old512_1280 mL mR (ix2 0 (⟨j.val, by omega⟩ : Fin 2560)) = mL (ix3 0 0 j) := by
  pointwise [old512_1280]
theorem old512_1280_right (mL mR : Vec Ideal S1x1x1280 .f32) (j : Fin 1280) : old512_1280 mL mR (ix2 0 (⟨1280 + j.val, by omega⟩ : Fin 2560)) = mR (ix3 0 0 j) := by
  pointwise [old512_1280]
/-- The sums so far, scaled to the new largest, and the block's added. -/
def olda512_1280 (aL aR : Vec Ideal S1x144x1280 .f32) : FVec Ideal S144x2560 .f32 :=
  concatenate S144x2560 1 [⟨S144x1280, (shapeCast S144x1280 aL shapeCasts_S1x144x1280_S144x1280 : FVec Ideal S144x1280 .f32)⟩, ⟨S144x1280, (shapeCast S144x1280 aR shapeCasts_S1x144x1280_S144x1280 : FVec Ideal S144x1280 .f32)⟩] concatenates_S144x1280_S144x1280_S144x2560_d1
theorem olda512_1280_left (aL aR : Vec Ideal S1x144x1280 .f32) (i : Fin 144) (j : Fin 1280) : olda512_1280 aL aR (ix2 i (⟨j.val, by omega⟩ : Fin 2560)) = aL (ix3 0 i j) := by
  pointwise [olda512_1280]
theorem olda512_1280_right (aL aR : Vec Ideal S1x144x1280 .f32) (i : Fin 144) (j : Fin 1280) : olda512_1280 aL aR (ix2 i (⟨1280 + j.val, by omega⟩ : Fin 2560)) = aR (ix3 0 i j) := by
  pointwise [olda512_1280]
def nx512_1280 (v : FVec Ideal S144x512 .bf16) (s : FVec Ideal S512x2560 .f32) (mL mR : Vec Ideal S1x1x1280 .f32) (aL aR : Vec Ideal S1x144x1280 .f32) : FVec Ideal S144x2560 .f32 :=
  addf (mulf (broadcastTo S144x2560 (exp2 (subf (old512_1280 mL mR) (mn512_1280 s mL mR)) : FVec Ideal S1x2560 .f32) broadcasts_S1x2560_S144x2560) (olda512_1280 aL aR))
    (sm512_1280 v (wt512_1280 s (mn512_1280 s mL mR)))
theorem nx512_1280_apply (v : FVec Ideal S144x512 .bf16) (s : FVec Ideal S512x2560 .f32) (mL mR : Vec Ideal S1x1x1280 .f32) (aL aR : Vec Ideal S1x144x1280 .f32) (i : Fin 144) (j : Fin 2560) :
    nx512_1280 v s mL mR aL aR (ix2 i j) = stepA (old512_1280 mL mR (ix2 0 j)) (olda512_1280 aL aR (ix2 i j)) (fun r => s (ix2 r j)) (fun r => v (ix2 i r)) := by
  unfold stepA; rw [← mn512_1280_apply, ← sm512_1280_apply]
  pointwise [nx512_1280]
  rfl
/-- The raw scores. -/
def raw512_768 (K : Vec Ideal S1x512x128 .bf16) (Q : FVec Ideal S1536x128 .bf16) : FVec Ideal S512x1536 .f32 :=
  matmul dot_S512x128_S1536x128_S512x1536_1_1_0_0_n_n none (shapeCast S512x128 K shapeCasts_S1x512x128_S512x128 : FVec Ideal S512x128 .bf16) Q (constant S512x1536 .f32 0x00000000#32)
theorem raw512_768_apply (K : Vec Ideal S1x512x128 .bf16) (Q : FVec Ideal S1536x128 .bf16) (r : Fin 512) (j : Fin 1536) :
    raw512_768 K Q (ix2 r j) = ∑ d : Fin 128, K (ix3 0 r d) * Q (ix2 j d) := by
  pointwise [raw512_768]
/-- Which of the first 256 columns a key is seen by. -/
def keep512_768 : IVec S512x256 1 :=
  cmpi .sge (addi (iota .tc S512x256 32 [1] iota_S512x256_d1_w32) (broadcast S512x256 256#32)) (iota .tc S512x256 32 [0] iota_S512x256_d0_w32)
/-- The scores with the unseen keys' at minus infinity. -/
def msk512_768 (s : FVec Ideal S512x1536 .f32) : FVec Ideal S512x1536 .f32 :=
  concatenate S512x1536 1 [⟨S512x256, select keep512_768 (extractStridedSlice S512x256 ![0, 0] s slices_S512x1536_o0_0_S512x256) (broadcast S512x256 (Scalar.ofBits .f32 0xFF800000#32))⟩,
    ⟨S512x512, extractStridedSlice S512x512 ![0, 256] s slices_S512x1536_o0_256_S512x512⟩,
    ⟨S512x256, select keep512_768 (extractStridedSlice S512x256 ![0, 768] s slices_S512x1536_o0_768_S512x256) (broadcast S512x256 (Scalar.ofBits .f32 0xFF800000#32))⟩,
    ⟨S512x512, extractStridedSlice S512x512 ![0, 1024] s slices_S512x1536_o0_1024_S512x512⟩] concatenates_S512x256_S512x512_S512x256_S512x512_S512x1536_d1
theorem msk512_768_left (s : FVec Ideal S512x1536 .f32) (r : Fin 512) (j : Fin 768) :
    msk512_768 s (ix2 r (⟨j.val, by omega⟩ : Fin 1536)) = masked r.val (256 + j.val) (s (ix2 r (⟨j.val, by omega⟩ : Fin 1536))) := by
  pointwise [msk512_768, keep512_768]
  by_cases h : j.val < 256
  · rw [dif_pos h]; exact sel j.val r.val 256 (by omega) (by omega) (by omega) _
  · rw [dif_neg h, dif_pos (by omega)]
    exact masked_of_le _ _ (by omega) _ _ (congrArg (fun k => s (ix2 r k)) (Fin.ext (show 256 + (j.val - 256) = j.val by omega)))
theorem msk512_768_right (s : FVec Ideal S512x1536 .f32) (r : Fin 512) (j : Fin 768) :
    msk512_768 s (ix2 r (⟨768 + j.val, by omega⟩ : Fin 1536)) = masked r.val (256 + j.val) (s (ix2 r (⟨768 + j.val, by omega⟩ : Fin 1536))) := by
  pointwise [msk512_768, keep512_768]
  have e : 768 + j.val - 256 - 512 = j.val := by omega
  rw [dif_neg (by omega), dif_neg (by omega)]
  by_cases h : j.val < 256
  · rw [dif_pos (by omega)]; simp only [e]
    exact sel j.val r.val 256 (by omega) (by omega) (by omega) _
  · rw [dif_neg (by omega)]
    exact masked_of_le _ _ (by omega) _ _ (congrArg (fun k => s (ix2 r k)) (Fin.ext (show 1024 + (768 + j.val - 256 - 512 - 256) = 768 + j.val by omega)))
/-- The columns' largest. -/
def mx512_768 (s : FVec Ideal S512x1536 .f32) : FVec Ideal S1x1536 .f32 :=
  shapeCast S1x1536 (multiReduction .maximumf [0] S1536 s 0xFF800000#32 reduces_S512x1536_S1536 (.inl rfl) rfl : FVec Ideal S1536 .f32) shapeCasts_S1536_S1x1536
theorem mx512_768_apply (s : FVec Ideal S512x1536 .f32) (j : Fin 1536) : mx512_768 s (ix2 0 j) = colMax fun r => s (ix2 r j) := by
  pointwise [mx512_768]
  rw [ninf]; rfl
/-- The weights. -/
def wt512_768 (s : FVec Ideal S512x1536 .f32) (m : FVec Ideal S1x1536 .f32) : FVec Ideal S512x1536 .bf16 :=
  truncf .bf16 (exp2 (subf s (broadcastTo S512x1536 m broadcasts_S1x1536_S512x1536)) : FVec Ideal S512x1536 .f32) bitsLt_bf16_f32
/-- The block's weighted sums. -/
def sm512_768 (v : FVec Ideal S144x512 .bf16) (w : FVec Ideal S512x1536 .bf16) : FVec Ideal S144x1536 .f32 :=
  matmul dot_S144x512_S512x1536_S144x1536_1_0_0_1_n_n none v w (constant S144x1536 .f32 0x00000000#32)
theorem sm512_768_apply (v : FVec Ideal S144x512 .bf16) (s : FVec Ideal S512x1536 .f32) (m : FVec Ideal S1x1536 .f32) (i : Fin 144) (j : Fin 1536) :
    sm512_768 v (wt512_768 s m) (ix2 i j) = ∑ r, v (ix2 i r) * Ideal.exp2 (s (ix2 r j) - m (ix2 0 j)) := by
  pointwise [sm512_768, wt512_768]
  rfl
theorem first512_768 (v : FVec Ideal S144x512 .bf16) (s : FVec Ideal S512x1536 .f32) (i : Fin 144) (j : Fin 1536) :
    sm512_768 v (wt512_768 s (mx512_768 s)) (ix2 i j) = firstA (fun r => s (ix2 r j)) (fun r => v (ix2 i r)) := by
  rw [sm512_768_apply, mx512_768_apply]; rfl
/-- The largest so far and the new one. -/
def old512_768 (mL mR : Vec Ideal S1x1x768 .f32) : FVec Ideal S1x1536 .f32 :=
  concatenate S1x1536 1 [⟨S1x768, (shapeCast S1x768 mL shapeCasts_S1x1x768_S1x768 : FVec Ideal S1x768 .f32)⟩, ⟨S1x768, (shapeCast S1x768 mR shapeCasts_S1x1x768_S1x768 : FVec Ideal S1x768 .f32)⟩] concatenates_S1x768_S1x768_S1x1536_d1
def mn512_768 (s : FVec Ideal S512x1536 .f32) (mL mR : Vec Ideal S1x1x768 .f32) : FVec Ideal S1x1536 .f32 := maximumf (old512_768 mL mR) (mx512_768 s)
theorem mn512_768_apply (s : FVec Ideal S512x1536 .f32) (mL mR : Vec Ideal S1x1x768 .f32) (j : Fin 1536) :
    mn512_768 s mL mR (ix2 0 j) = stepM (old512_768 mL mR (ix2 0 j)) fun r => s (ix2 r j) := by
  unfold stepM; rw [← mx512_768_apply]; rfl
theorem old512_768_left (mL mR : Vec Ideal S1x1x768 .f32) (j : Fin 768) : old512_768 mL mR (ix2 0 (⟨j.val, by omega⟩ : Fin 1536)) = mL (ix3 0 0 j) := by
  pointwise [old512_768]
theorem old512_768_right (mL mR : Vec Ideal S1x1x768 .f32) (j : Fin 768) : old512_768 mL mR (ix2 0 (⟨768 + j.val, by omega⟩ : Fin 1536)) = mR (ix3 0 0 j) := by
  pointwise [old512_768]
/-- The sums so far, scaled to the new largest, and the block's added. -/
def olda512_768 (aL aR : Vec Ideal S1x144x768 .f32) : FVec Ideal S144x1536 .f32 :=
  concatenate S144x1536 1 [⟨S144x768, (shapeCast S144x768 aL shapeCasts_S1x144x768_S144x768 : FVec Ideal S144x768 .f32)⟩, ⟨S144x768, (shapeCast S144x768 aR shapeCasts_S1x144x768_S144x768 : FVec Ideal S144x768 .f32)⟩] concatenates_S144x768_S144x768_S144x1536_d1
theorem olda512_768_left (aL aR : Vec Ideal S1x144x768 .f32) (i : Fin 144) (j : Fin 768) : olda512_768 aL aR (ix2 i (⟨j.val, by omega⟩ : Fin 1536)) = aL (ix3 0 i j) := by
  pointwise [olda512_768]
theorem olda512_768_right (aL aR : Vec Ideal S1x144x768 .f32) (i : Fin 144) (j : Fin 768) : olda512_768 aL aR (ix2 i (⟨768 + j.val, by omega⟩ : Fin 1536)) = aR (ix3 0 i j) := by
  pointwise [olda512_768]
def nx512_768 (v : FVec Ideal S144x512 .bf16) (s : FVec Ideal S512x1536 .f32) (mL mR : Vec Ideal S1x1x768 .f32) (aL aR : Vec Ideal S1x144x768 .f32) : FVec Ideal S144x1536 .f32 :=
  addf (mulf (broadcastTo S144x1536 (exp2 (subf (old512_768 mL mR) (mn512_768 s mL mR)) : FVec Ideal S1x1536 .f32) broadcasts_S1x1536_S144x1536) (olda512_768 aL aR))
    (sm512_768 v (wt512_768 s (mn512_768 s mL mR)))
theorem nx512_768_apply (v : FVec Ideal S144x512 .bf16) (s : FVec Ideal S512x1536 .f32) (mL mR : Vec Ideal S1x1x768 .f32) (aL aR : Vec Ideal S1x144x768 .f32) (i : Fin 144) (j : Fin 1536) :
    nx512_768 v s mL mR aL aR (ix2 i j) = stepA (old512_768 mL mR (ix2 0 j)) (olda512_768 aL aR (ix2 i j)) (fun r => s (ix2 r j)) (fun r => v (ix2 i r)) := by
  unfold stepA; rw [← mn512_768_apply, ← sm512_768_apply]
  pointwise [nx512_768]
  rfl
/-- The raw scores. -/
def raw512_256 (K : Vec Ideal S1x512x128 .bf16) (Q : FVec Ideal S512x128 .bf16) : FVec Ideal S512x512 .f32 :=
  matmul dot_S512x128_S512x128_S512x512_1_1_0_0_n_n none (shapeCast S512x128 K shapeCasts_S1x512x128_S512x128 : FVec Ideal S512x128 .bf16) Q (constant S512x512 .f32 0x00000000#32)
theorem raw512_256_apply (K : Vec Ideal S1x512x128 .bf16) (Q : FVec Ideal S512x128 .bf16) (r : Fin 512) (j : Fin 512) :
    raw512_256 K Q (ix2 r j) = ∑ d : Fin 128, K (ix3 0 r d) * Q (ix2 j d) := by
  pointwise [raw512_256]
/-- Which of the first 256 columns a key is seen by. -/
def keep512_256 : IVec S512x256 1 :=
  cmpi .sge (addi (iota .tc S512x256 32 [1] iota_S512x256_d1_w32) (broadcast S512x256 256#32)) (iota .tc S512x256 32 [0] iota_S512x256_d0_w32)
/-- The scores with the unseen keys' at minus infinity. -/
def msk512_256 (s : FVec Ideal S512x512 .f32) : FVec Ideal S512x512 .f32 :=
  concatenate S512x512 1 [⟨S512x256, select keep512_256 (extractStridedSlice S512x256 ![0, 0] s slices_S512x512_o0_0_S512x256) (broadcast S512x256 (Scalar.ofBits .f32 0xFF800000#32))⟩,
    ⟨S512x256, select keep512_256 (extractStridedSlice S512x256 ![0, 256] s slices_S512x512_o0_256_S512x256) (broadcast S512x256 (Scalar.ofBits .f32 0xFF800000#32))⟩] concatenates_S512x256_S512x256_S512x512_d1
theorem msk512_256_left (s : FVec Ideal S512x512 .f32) (r : Fin 512) (j : Fin 256) :
    msk512_256 s (ix2 r (⟨j.val, by omega⟩ : Fin 512)) = masked r.val (256 + j.val) (s (ix2 r (⟨j.val, by omega⟩ : Fin 512))) := by
  pointwise [msk512_256, keep512_256]
  exact sel j.val r.val 256 (by omega) (by omega) (by omega) _
theorem msk512_256_right (s : FVec Ideal S512x512 .f32) (r : Fin 512) (j : Fin 256) :
    msk512_256 s (ix2 r (⟨256 + j.val, by omega⟩ : Fin 512)) = masked r.val (256 + j.val) (s (ix2 r (⟨256 + j.val, by omega⟩ : Fin 512))) := by
  pointwise [msk512_256, keep512_256]
  exact sel j.val r.val 256 (by omega) (by omega) (by omega) _
/-- The columns' largest. -/
def mx512_256 (s : FVec Ideal S512x512 .f32) : FVec Ideal S1x512 .f32 :=
  shapeCast S1x512 (multiReduction .maximumf [0] S512 s 0xFF800000#32 reduces_S512x512_S512 (.inl rfl) rfl : FVec Ideal S512 .f32) shapeCasts_S512_S1x512
theorem mx512_256_apply (s : FVec Ideal S512x512 .f32) (j : Fin 512) : mx512_256 s (ix2 0 j) = colMax fun r => s (ix2 r j) := by
  pointwise [mx512_256]
  rw [ninf]; rfl
/-- The weights. -/
def wt512_256 (s : FVec Ideal S512x512 .f32) (m : FVec Ideal S1x512 .f32) : FVec Ideal S512x512 .bf16 :=
  truncf .bf16 (exp2 (subf s (broadcastTo S512x512 m broadcasts_S1x512_S512x512)) : FVec Ideal S512x512 .f32) bitsLt_bf16_f32
/-- The block's weighted sums. -/
def sm512_256 (v : FVec Ideal S144x512 .bf16) (w : FVec Ideal S512x512 .bf16) : FVec Ideal S144x512 .f32 :=
  matmul dot_S144x512_S512x512_S144x512_1_0_0_1_n_n none v w (constant S144x512 .f32 0x00000000#32)
theorem sm512_256_apply (v : FVec Ideal S144x512 .bf16) (s : FVec Ideal S512x512 .f32) (m : FVec Ideal S1x512 .f32) (i : Fin 144) (j : Fin 512) :
    sm512_256 v (wt512_256 s m) (ix2 i j) = ∑ r, v (ix2 i r) * Ideal.exp2 (s (ix2 r j) - m (ix2 0 j)) := by
  pointwise [sm512_256, wt512_256]
  rfl
theorem first512_256 (v : FVec Ideal S144x512 .bf16) (s : FVec Ideal S512x512 .f32) (i : Fin 144) (j : Fin 512) :
    sm512_256 v (wt512_256 s (mx512_256 s)) (ix2 i j) = firstA (fun r => s (ix2 r j)) (fun r => v (ix2 i r)) := by
  rw [sm512_256_apply, mx512_256_apply]; rfl
/-- The largest so far and the new one. -/
def old512_256 (mL mR : Vec Ideal S1x1x256 .f32) : FVec Ideal S1x512 .f32 :=
  concatenate S1x512 1 [⟨S1x256, (shapeCast S1x256 mL shapeCasts_S1x1x256_S1x256 : FVec Ideal S1x256 .f32)⟩, ⟨S1x256, (shapeCast S1x256 mR shapeCasts_S1x1x256_S1x256 : FVec Ideal S1x256 .f32)⟩] concatenates_S1x256_S1x256_S1x512_d1
def mn512_256 (s : FVec Ideal S512x512 .f32) (mL mR : Vec Ideal S1x1x256 .f32) : FVec Ideal S1x512 .f32 := maximumf (old512_256 mL mR) (mx512_256 s)
theorem mn512_256_apply (s : FVec Ideal S512x512 .f32) (mL mR : Vec Ideal S1x1x256 .f32) (j : Fin 512) :
    mn512_256 s mL mR (ix2 0 j) = stepM (old512_256 mL mR (ix2 0 j)) fun r => s (ix2 r j) := by
  unfold stepM; rw [← mx512_256_apply]; rfl
theorem old512_256_left (mL mR : Vec Ideal S1x1x256 .f32) (j : Fin 256) : old512_256 mL mR (ix2 0 (⟨j.val, by omega⟩ : Fin 512)) = mL (ix3 0 0 j) := by
  pointwise [old512_256]
theorem old512_256_right (mL mR : Vec Ideal S1x1x256 .f32) (j : Fin 256) : old512_256 mL mR (ix2 0 (⟨256 + j.val, by omega⟩ : Fin 512)) = mR (ix3 0 0 j) := by
  pointwise [old512_256]
/-- The sums so far, scaled to the new largest, and the block's added. -/
def olda512_256 (aL aR : Vec Ideal S1x144x256 .f32) : FVec Ideal S144x512 .f32 :=
  concatenate S144x512 1 [⟨S144x256, (shapeCast S144x256 aL shapeCasts_S1x144x256_S144x256 : FVec Ideal S144x256 .f32)⟩, ⟨S144x256, (shapeCast S144x256 aR shapeCasts_S1x144x256_S144x256 : FVec Ideal S144x256 .f32)⟩] concatenates_S144x256_S144x256_S144x512_d1
theorem olda512_256_left (aL aR : Vec Ideal S1x144x256 .f32) (i : Fin 144) (j : Fin 256) : olda512_256 aL aR (ix2 i (⟨j.val, by omega⟩ : Fin 512)) = aL (ix3 0 i j) := by
  pointwise [olda512_256]
theorem olda512_256_right (aL aR : Vec Ideal S1x144x256 .f32) (i : Fin 144) (j : Fin 256) : olda512_256 aL aR (ix2 i (⟨256 + j.val, by omega⟩ : Fin 512)) = aR (ix3 0 i j) := by
  pointwise [olda512_256]
def nx512_256 (v : FVec Ideal S144x512 .bf16) (s : FVec Ideal S512x512 .f32) (mL mR : Vec Ideal S1x1x256 .f32) (aL aR : Vec Ideal S1x144x256 .f32) : FVec Ideal S144x512 .f32 :=
  addf (mulf (broadcastTo S144x512 (exp2 (subf (old512_256 mL mR) (mn512_256 s mL mR)) : FVec Ideal S1x512 .f32) broadcasts_S1x512_S144x512) (olda512_256 aL aR))
    (sm512_256 v (wt512_256 s (mn512_256 s mL mR)))
theorem nx512_256_apply (v : FVec Ideal S144x512 .bf16) (s : FVec Ideal S512x512 .f32) (mL mR : Vec Ideal S1x1x256 .f32) (aL aR : Vec Ideal S1x144x256 .f32) (i : Fin 144) (j : Fin 512) :
    nx512_256 v s mL mR aL aR (ix2 i j) = stepA (old512_256 mL mR (ix2 0 j)) (olda512_256 aL aR (ix2 i j)) (fun r => s (ix2 r j)) (fun r => v (ix2 i r)) := by
  unfold stepA; rw [← mn512_256_apply, ← sm512_256_apply]
  pointwise [nx512_256]
  rfl
/-- The first map's columns, as stored. -/
def lfm256 (x : FVec Ideal S1x512 .f32) : FVec Ideal S1x1x256 .f32 :=
  shapeCast S1x1x256 (extractStridedSlice S1x256 ![0, 0] x slices_S1x512_o0_0_S1x256 : FVec Ideal S1x256 .f32) shapeCasts_S1x256_S1x1x256
theorem lfm256_apply (x : FVec Ideal S1x512 .f32) (j : Fin 256) : lfm256 x (ix3 0 0 j) = x (ix2 0 (⟨0 + j.val, by omega⟩ : Fin 512)) := by
  pointwise [lfm256]
def lfa256 (x : FVec Ideal S144x512 .f32) : FVec Ideal S1x144x256 .f32 :=
  shapeCast S1x144x256 (extractStridedSlice S144x256 ![0, 0] x slices_S144x512_o0_0_S144x256 : FVec Ideal S144x256 .f32) shapeCasts_S144x256_S1x144x256
theorem lfa256_apply (x : FVec Ideal S144x512 .f32) (i : Fin 144) (j : Fin 256) : lfa256 x (ix3 0 i j) = x (ix2 i (⟨0 + j.val, by omega⟩ : Fin 512)) := by
  pointwise [lfa256]
/-- The second map's columns, as stored. -/
def rtm256 (x : FVec Ideal S1x512 .f32) : FVec Ideal S1x1x256 .f32 :=
  shapeCast S1x1x256 (extractStridedSlice S1x256 ![0, 256] x slices_S1x512_o0_256_S1x256 : FVec Ideal S1x256 .f32) shapeCasts_S1x256_S1x1x256
theorem rtm256_apply (x : FVec Ideal S1x512 .f32) (j : Fin 256) : rtm256 x (ix3 0 0 j) = x (ix2 0 (⟨256 + j.val, by omega⟩ : Fin 512)) := by
  pointwise [rtm256]
def rta256 (x : FVec Ideal S144x512 .f32) : FVec Ideal S1x144x256 .f32 :=
  shapeCast S1x144x256 (extractStridedSlice S144x256 ![0, 256] x slices_S144x512_o0_256_S144x256 : FVec Ideal S144x256 .f32) shapeCasts_S144x256_S1x144x256
theorem rta256_apply (x : FVec Ideal S144x512 .f32) (i : Fin 144) (j : Fin 256) : rta256 x (ix3 0 i j) = x (ix2 i (⟨256 + j.val, by omega⟩ : Fin 512)) := by
  pointwise [rta256]
/-- The first map's columns, as stored. -/
def lfm1792 (x : FVec Ideal S1x3584 .f32) : FVec Ideal S1x1x1792 .f32 :=
  shapeCast S1x1x1792 (extractStridedSlice S1x1792 ![0, 0] x slices_S1x3584_o0_0_S1x1792 : FVec Ideal S1x1792 .f32) shapeCasts_S1x1792_S1x1x1792
theorem lfm1792_apply (x : FVec Ideal S1x3584 .f32) (j : Fin 1792) : lfm1792 x (ix3 0 0 j) = x (ix2 0 (⟨0 + j.val, by omega⟩ : Fin 3584)) := by
  pointwise [lfm1792]
def lfa1792 (x : FVec Ideal S144x3584 .f32) : FVec Ideal S1x144x1792 .f32 :=
  shapeCast S1x144x1792 (extractStridedSlice S144x1792 ![0, 0] x slices_S144x3584_o0_0_S144x1792 : FVec Ideal S144x1792 .f32) shapeCasts_S144x1792_S1x144x1792
theorem lfa1792_apply (x : FVec Ideal S144x3584 .f32) (i : Fin 144) (j : Fin 1792) : lfa1792 x (ix3 0 i j) = x (ix2 i (⟨0 + j.val, by omega⟩ : Fin 3584)) := by
  pointwise [lfa1792]
/-- The second map's columns, as stored. -/
def rtm1792 (x : FVec Ideal S1x3584 .f32) : FVec Ideal S1x1x1792 .f32 :=
  shapeCast S1x1x1792 (extractStridedSlice S1x1792 ![0, 1792] x slices_S1x3584_o0_1792_S1x1792 : FVec Ideal S1x1792 .f32) shapeCasts_S1x1792_S1x1x1792
theorem rtm1792_apply (x : FVec Ideal S1x3584 .f32) (j : Fin 1792) : rtm1792 x (ix3 0 0 j) = x (ix2 0 (⟨1792 + j.val, by omega⟩ : Fin 3584)) := by
  pointwise [rtm1792]
def rta1792 (x : FVec Ideal S144x3584 .f32) : FVec Ideal S1x144x1792 .f32 :=
  shapeCast S1x144x1792 (extractStridedSlice S144x1792 ![0, 1792] x slices_S144x3584_o0_1792_S144x1792 : FVec Ideal S144x1792 .f32) shapeCasts_S144x1792_S1x144x1792
theorem rta1792_apply (x : FVec Ideal S144x3584 .f32) (i : Fin 144) (j : Fin 1792) : rta1792 x (ix3 0 i j) = x (ix2 i (⟨1792 + j.val, by omega⟩ : Fin 3584)) := by
  pointwise [rta1792]
/-- The first map's columns, as stored. -/
def lfm1280 (x : FVec Ideal S1x2560 .f32) : FVec Ideal S1x1x1280 .f32 :=
  shapeCast S1x1x1280 (extractStridedSlice S1x1280 ![0, 0] x slices_S1x2560_o0_0_S1x1280 : FVec Ideal S1x1280 .f32) shapeCasts_S1x1280_S1x1x1280
theorem lfm1280_apply (x : FVec Ideal S1x2560 .f32) (j : Fin 1280) : lfm1280 x (ix3 0 0 j) = x (ix2 0 (⟨0 + j.val, by omega⟩ : Fin 2560)) := by
  pointwise [lfm1280]
def lfa1280 (x : FVec Ideal S144x2560 .f32) : FVec Ideal S1x144x1280 .f32 :=
  shapeCast S1x144x1280 (extractStridedSlice S144x1280 ![0, 0] x slices_S144x2560_o0_0_S144x1280 : FVec Ideal S144x1280 .f32) shapeCasts_S144x1280_S1x144x1280
theorem lfa1280_apply (x : FVec Ideal S144x2560 .f32) (i : Fin 144) (j : Fin 1280) : lfa1280 x (ix3 0 i j) = x (ix2 i (⟨0 + j.val, by omega⟩ : Fin 2560)) := by
  pointwise [lfa1280]
/-- The second map's columns, as stored. -/
def rtm1280 (x : FVec Ideal S1x2560 .f32) : FVec Ideal S1x1x1280 .f32 :=
  shapeCast S1x1x1280 (extractStridedSlice S1x1280 ![0, 1280] x slices_S1x2560_o0_1280_S1x1280 : FVec Ideal S1x1280 .f32) shapeCasts_S1x1280_S1x1x1280
theorem rtm1280_apply (x : FVec Ideal S1x2560 .f32) (j : Fin 1280) : rtm1280 x (ix3 0 0 j) = x (ix2 0 (⟨1280 + j.val, by omega⟩ : Fin 2560)) := by
  pointwise [rtm1280]
def rta1280 (x : FVec Ideal S144x2560 .f32) : FVec Ideal S1x144x1280 .f32 :=
  shapeCast S1x144x1280 (extractStridedSlice S144x1280 ![0, 1280] x slices_S144x2560_o0_1280_S144x1280 : FVec Ideal S144x1280 .f32) shapeCasts_S144x1280_S1x144x1280
theorem rta1280_apply (x : FVec Ideal S144x2560 .f32) (i : Fin 144) (j : Fin 1280) : rta1280 x (ix3 0 i j) = x (ix2 i (⟨1280 + j.val, by omega⟩ : Fin 2560)) := by
  pointwise [rta1280]
/-- The first map's columns, as stored. -/
def lfm768 (x : FVec Ideal S1x1536 .f32) : FVec Ideal S1x1x768 .f32 :=
  shapeCast S1x1x768 (extractStridedSlice S1x768 ![0, 0] x slices_S1x1536_o0_0_S1x768 : FVec Ideal S1x768 .f32) shapeCasts_S1x768_S1x1x768
theorem lfm768_apply (x : FVec Ideal S1x1536 .f32) (j : Fin 768) : lfm768 x (ix3 0 0 j) = x (ix2 0 (⟨0 + j.val, by omega⟩ : Fin 1536)) := by
  pointwise [lfm768]
def lfa768 (x : FVec Ideal S144x1536 .f32) : FVec Ideal S1x144x768 .f32 :=
  shapeCast S1x144x768 (extractStridedSlice S144x768 ![0, 0] x slices_S144x1536_o0_0_S144x768 : FVec Ideal S144x768 .f32) shapeCasts_S144x768_S1x144x768
theorem lfa768_apply (x : FVec Ideal S144x1536 .f32) (i : Fin 144) (j : Fin 768) : lfa768 x (ix3 0 i j) = x (ix2 i (⟨0 + j.val, by omega⟩ : Fin 1536)) := by
  pointwise [lfa768]
/-- The second map's columns, as stored. -/
def rtm768 (x : FVec Ideal S1x1536 .f32) : FVec Ideal S1x1x768 .f32 :=
  shapeCast S1x1x768 (extractStridedSlice S1x768 ![0, 768] x slices_S1x1536_o0_768_S1x768 : FVec Ideal S1x768 .f32) shapeCasts_S1x768_S1x1x768
theorem rtm768_apply (x : FVec Ideal S1x1536 .f32) (j : Fin 768) : rtm768 x (ix3 0 0 j) = x (ix2 0 (⟨768 + j.val, by omega⟩ : Fin 1536)) := by
  pointwise [rtm768]
def rta768 (x : FVec Ideal S144x1536 .f32) : FVec Ideal S1x144x768 .f32 :=
  shapeCast S1x144x768 (extractStridedSlice S144x768 ![0, 768] x slices_S144x1536_o0_768_S144x768 : FVec Ideal S144x768 .f32) shapeCasts_S144x768_S1x144x768
theorem rta768_apply (x : FVec Ideal S144x1536 .f32) (i : Fin 144) (j : Fin 768) : rta768 x (ix3 0 i j) = x (ix2 i (⟨768 + j.val, by omega⟩ : Fin 1536)) := by
  pointwise [rta768]

end Cert.AttnTiles
-- ==== Proof.AttnState.lean ====
module
public import proofs.«01_k».proof.Proof.AttnTiles
public import Idealize.ShloMosaic.Lib.Pipeline.FrameBody
/-! What the scratch buffers hold while a head's columns meet their keys: every column's running largest score and weighted
    sums are those of the keys it has met. Storing the two halves of a unit — the first map's columns and the second
    map's — moves exactly those columns on. -/
@[expose] public section
noncomputable section
open Idealize.ShloMosaic Idealize.ShloMosaic.TcCoe Idealize.SL.Sem
namespace Cert.AttnState
open Cert.AttnIdeal Cert.AttnIdeal.Gen Cert.AttnCol Cert.AttnTiles

/-- A scratch of `A` rows of both heads' columns. -/
abbrev Sc (A : Nat) : Shape := ⟨3, ![2, A, 4096]⟩
/-- `n` columns of one head. -/
abbrev Tl (A n : Nat) : Shape := ⟨3, ![1, A, n]⟩
/-- Stored pieces. -/
abbrev Pieces (A : Nat) := List (View.Piece (Elt Ideal) (Sc A) .f32)
/-- The place of a head's row and a map's column. -/
def place {A : Nat} (h : Fin 2) (i : Fin A) (p : Fin 2) (c : Fin 2048) : (Sc A).Idx :=
  ix3 h i (⟨2048 * p.val + c.val, by omega⟩ : Fin 4096)

/-- A place outside a stored piece keeps what was there. -/
theorem keep_of {A n : Nat} (off : Fin 3 → Nat) (inb : ∀ a, off a + (Tl A n).size a ≤ (Sc A).size a) (w : Vec Ideal (Tl A n) .f32)
    (L : Pieces A) (y : (Sc A).Idx) (a : Fin 3) (h : (y a).val < off a ∨ off a + (Tl A n).size a ≤ (y a).val) :
    View.canon (⟨Rect.unit (s := Sc A) off (Tl A n).size inb, w⟩ :: L) y = View.canon L y := by
  refine View.canon_cons_of_not_mem _ L fun hm => ?_
  have := (Rect.mem_set_unit (inb := inb)).1 hm a
  omega

/-- A place inside it holds the piece's own. -/
theorem hit_of {A n : Nat} (off : Fin 3 → Nat) (inb : ∀ a, off a + (Tl A n).size a ≤ (Sc A).size a) (w : Vec Ideal (Tl A n) .f32)
    (L : Pieces A) (y : (Sc A).Idx) (x : (Tl A n).Idx) (h : ∀ a : Fin 3, (y a).val = off a + (x a).val) :
    View.canon (⟨Rect.unit (s := Sc A) off (Tl A n).size inb, w⟩ :: L) y = w x := by
  have e : y = (Rect.unit (s := Sc A) off (Tl A n).size inb).emb x := by
    funext a; apply Fin.ext
    rw [Rect.emb_apply]
    simpa using h a
  rw [e]
  exact View.canon_cons_emb (Rect.unit (s := Sc A) off (Tl A n).size inb) w L x

section Put
variable {A n : Nat} (h0 c0 c1 : Nat) (i0 : ∀ a, (![h0, 0, c0] : Fin 3 → Nat) a + (Tl A n).size a ≤ (Sc A).size a)
  (i1 : ∀ a, (![h0, 0, c1] : Fin 3 → Nat) a + (Tl A n).size a ≤ (Sc A).size a) (hc1 : c1 = 2048 + c0) (hn : c0 + n ≤ 2048)
  (wL wR : Vec Ideal (Tl A n) .f32) (L : Pieces A)

/-- The pieces of a unit on top of the earlier ones. -/
abbrev put : Pieces A := ⟨Rect.unit (s := Sc A) ![h0, 0, c1] (Tl A n).size i1, wR⟩ :: ⟨Rect.unit (s := Sc A) ![h0, 0, c0] (Tl A n).size i0, wL⟩ :: L

include hc1 hn in
/-- A column of another head, or outside the unit's range, keeps what was there. -/
theorem put_keep (h : Fin 2) (i : Fin A) (p : Fin 2) (c : Fin 2048) (hx : ¬(h.val = h0 ∧ c0 ≤ c.val ∧ c.val < c0 + n)) :
    View.canon (put h0 c0 c1 i0 i1 wL wR L) (place h i p c) = View.canon L (place h i p c) := by
  by_cases hh : h.val = h0
  · rw [keep_of _ i1 wR _ _ 2, keep_of _ i0 wL _ _ 2]
    · show 2048 * p.val + c.val < c0 ∨ c0 + n ≤ 2048 * p.val + c.val
      omega
    · show 2048 * p.val + c.val < c1 ∨ c1 + n ≤ 2048 * p.val + c.val
      omega
  · rw [keep_of _ i1 wR _ _ 0, keep_of _ i0 wL _ _ 0]
    · show h.val < h0 ∨ h0 + 1 ≤ h.val
      omega
    · show h.val < h0 ∨ h0 + 1 ≤ h.val
      omega

include hc1 hn in
/-- A column of the first map in range. -/
theorem put_left (h : Fin 2) (i : Fin A) (c : Fin 2048) (hh : h.val = h0) (hl : c0 ≤ c.val) (hr : c.val < c0 + n) :
    View.canon (put h0 c0 c1 i0 i1 wL wR L) (place h i 0 c) = wL (ix3 0 i ⟨c.val - c0, by omega⟩) := by
  rw [keep_of _ i1 wR _ _ 2]
  · refine hit_of _ i0 wL _ _ _ fun a => ?_
    match a with
    | 0 => show h.val = h0 + 0; omega
    | 1 => show i.val = 0 + i.val; omega
    | 2 => show 2048 * 0 + c.val = c0 + (c.val - c0); omega
  · show 2048 * 0 + c.val < c1 ∨ c1 + n ≤ 2048 * 0 + c.val
    omega

include hc1 in
/-- A column of the second map in range. -/
theorem put_right (h : Fin 2) (i : Fin A) (c : Fin 2048) (hh : h.val = h0) (hl : c0 ≤ c.val) (hr : c.val < c0 + n) :
    View.canon (put h0 c0 c1 i0 i1 wL wR L) (place h i 1 c) = wR (ix3 0 i ⟨c.val - c0, by omega⟩) := by
  refine hit_of _ i1 wR _ _ _ fun a => ?_
  match a with
  | 0 => show h.val = h0 + 0; omega
  | 1 => show i.val = 0 + i.val; omega
  | 2 => show 2048 * 1 + c.val = c1 + (c.val - c0); omega

end Put

/-- The weights of the kept rows: the head's value channels, then ones. -/
def row (w : Nat → Nat → Nat → ℝ) (h : Nat) (i : Fin 144) (k : Nat) : ℝ := if i.val < 128 then w h i.val k else 1

/-- Every column that has met keys has met the first `K h c` of them. -/
def Inv (s : Nat → Nat → Nat → Nat → ℝ) (w : Nat → Nat → Nat → ℝ) (K : Nat → Nat → Nat) (L1 : Pieces 1) (L0 : Pieces 144) : Prop :=
  ∀ (h p : Fin 2) (c : Fin 2048), 0 < K h.val c.val →
    Kept c.val (K h.val c.val) (s h.val p.val c.val) (row w h.val) (View.canon L1 (place h 0 p c)) (fun i : Fin 144 => View.canon L0 (place h i p c))

/-- At first no column has met any. -/
theorem inv_nil (s : Nat → Nat → Nat → Nat → ℝ) (w : Nat → Nat → Nat → ℝ) : Inv s w (fun _ _ => 0) [] [] :=
  fun _ _ _ h => absurd h (Nat.lt_irrefl _)

/-- A unit's stores move its columns on, and leave the others. -/
theorem inv_put (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 n K' : Nat) (hc1 : c1 = 2048 + c0) (hn : c0 + n ≤ 2048)
    (i0 : ∀ a, (![h0, 0, c0] : Fin 3 → Nat) a + (Tl 1 n).size a ≤ (Sc 1).size a) (i1 : ∀ a, (![h0, 0, c1] : Fin 3 → Nat) a + (Tl 1 n).size a ≤ (Sc 1).size a)
    (j0 : ∀ a, (![h0, 0, c0] : Fin 3 → Nat) a + (Tl 144 n).size a ≤ (Sc 144).size a) (j1 : ∀ a, (![h0, 0, c1] : Fin 3 → Nat) a + (Tl 144 n).size a ≤ (Sc 144).size a)
    (mL mR : Vec Ideal (Tl 1 n) .f32) (aL aR : Vec Ideal (Tl 144 n) .f32)
    (eL : ∀ (c : Fin 2048) (hl : c0 ≤ c.val) (hr : c.val < c0 + n), Kept c.val K' (s h0 0 c.val) (row w h0) (mL (ix3 0 0 ⟨c.val - c0, by omega⟩)) (fun i => aL (ix3 0 i ⟨c.val - c0, by omega⟩)))
    (eR : ∀ (c : Fin 2048) (hl : c0 ≤ c.val) (hr : c.val < c0 + n), Kept c.val K' (s h0 1 c.val) (row w h0) (mR (ix3 0 0 ⟨c.val - c0, by omega⟩)) (fun i => aR (ix3 0 i ⟨c.val - c0, by omega⟩))) :
    Inv s w (fun h c => if h = h0 ∧ c0 ≤ c ∧ c < c0 + n then K' else K h c) (put h0 c0 c1 i0 i1 mL mR L1) (put h0 c0 c1 j0 j1 aL aR L0) := by
  intro h p c hK
  by_cases hx : h.val = h0 ∧ c0 ≤ c.val ∧ c.val < c0 + n
  · simp only [if_pos hx]
    obtain ⟨hh, hl, hr⟩ := hx
    match p with
    | 0 =>
      rw [put_left h0 c0 c1 i0 i1 hc1 hn mL mR L1 h 0 c hh hl hr]
      simp only [put_left h0 c0 c1 j0 j1 hc1 hn aL aR L0 h _ c hh hl hr, hh]
      exact eL c hl hr
    | 1 =>
      rw [put_right h0 c0 c1 i0 i1 hc1 mL mR L1 h 0 c hh hl hr]
      simp only [put_right h0 c0 c1 j0 j1 hc1 aL aR L0 h _ c hh hl hr, hh]
      exact eR c hl hr
  · simp only [if_neg hx] at hK ⊢
    rw [put_keep h0 c0 c1 i0 i1 hc1 hn mL mR L1 h 0 p c hx]
    simp only [put_keep h0 c0 c1 j0 j1 hc1 hn aL aR L0 h _ p c hx]
    exact inv h p c hK
end Cert.AttnState
-- ==== Proof.AttnUnits.lean ====
module
public import proofs.«01_k».proof.Proof.AttnState
/-! A unit — a block of keys against a range of both maps' columns of one head — moves the kept sums on by its keys. -/
@[expose] public section
noncomputable section
open Idealize.ShloMosaic Idealize.ShloMosaic.TcCoe Idealize.SL.Sem
namespace Cert.AttnUnits
open Cert.AttnIdeal Cert.AttnIdeal.Gen Cert.AttnCol Cert.AttnTiles Cert.AttnState

/-- Moving a key and a query on together changes nothing of the mask. -/
theorem masked_add (lo k q : Nat) (x : EReal) : masked (lo + k) (lo + q) x = masked k q x := by
  unfold masked
  by_cases h : k ≤ q
  · rw [if_pos h, if_pos (by omega)]
  · rw [if_neg h, if_neg (by omega)]

/-- The masked scores of the first map's columns. -/
theorem sc256_256_left (lo c0 : Nat) (hd : c0 = lo + 0) (x : Nat → Nat → ℝ) (Kb : Vec Ideal S1x256x128 .bf16) (Q : FVec Ideal S512x128 .bf16)
    (hs : ∀ (r : Fin 256) (j : Fin 256), ∑ d : Fin 128, Kb (ix3 0 r d) * Q (ix2 (⟨j.val, by omega⟩ : Fin 512) d) = (x (c0 + j.val) (lo + r.val) : EReal)) (r : Fin 256) (j : Fin 256) :
    msk256_256 (raw256_256 Kb Q) (ix2 r (⟨j.val, by omega⟩ : Fin 512)) = masked (lo + r.val) (c0 + j.val) (x (c0 + j.val) (lo + r.val) : EReal) := by
  rw [msk256_256_left, raw256_256_apply, hs, ← masked_add lo, hd]; congr 1; omega
/-- The masked scores of the second map's columns. -/
theorem sc256_256_right (lo c0 : Nat) (hd : c0 = lo + 0) (x : Nat → Nat → ℝ) (Kb : Vec Ideal S1x256x128 .bf16) (Q : FVec Ideal S512x128 .bf16)
    (hs : ∀ (r : Fin 256) (j : Fin 256), ∑ d : Fin 128, Kb (ix3 0 r d) * Q (ix2 (⟨256 + j.val, by omega⟩ : Fin 512) d) = (x (c0 + j.val) (lo + r.val) : EReal)) (r : Fin 256) (j : Fin 256) :
    msk256_256 (raw256_256 Kb Q) (ix2 r (⟨256 + j.val, by omega⟩ : Fin 512)) = masked (lo + r.val) (c0 + j.val) (x (c0 + j.val) (lo + r.val) : EReal) := by
  rw [msk256_256_right, raw256_256_apply, hs, ← masked_add lo, hd]; congr 1; omega
theorem lfmn256_256 (st : FVec Ideal S256x512 .f32) (mL mR : Vec Ideal S1x1x256 .f32) (j : Fin 256) :
    lfm256 (mn256_256 st mL mR) (ix3 0 0 j) = stepM (mL (ix3 0 0 j)) fun r => st (ix2 r (⟨j.val, by omega⟩ : Fin 512)) := by
  have e : (⟨0 + j.val, by omega⟩ : Fin 512) = ⟨j.val, by omega⟩ := Fin.ext (Nat.zero_add _)
  rw [lfm256_apply, e, mn256_256_apply, old256_256_left]
theorem lfnx256_256 (v : FVec Ideal S144x256 .bf16) (st : FVec Ideal S256x512 .f32) (mL mR : Vec Ideal S1x1x256 .f32) (aL aR : Vec Ideal S1x144x256 .f32) (i : Fin 144) (j : Fin 256) :
    lfa256 (nx256_256 v st mL mR aL aR) (ix3 0 i j) = stepA (mL (ix3 0 0 j)) (aL (ix3 0 i j)) (fun r => st (ix2 r (⟨j.val, by omega⟩ : Fin 512))) (fun r => v (ix2 i r)) := by
  have e : (⟨0 + j.val, by omega⟩ : Fin 512) = ⟨j.val, by omega⟩ := Fin.ext (Nat.zero_add _)
  rw [lfa256_apply, e, nx256_256_apply, old256_256_left, olda256_256_left]
theorem lfmx256_256 (st : FVec Ideal S256x512 .f32) (j : Fin 256) :
    lfm256 (mx256_256 st) (ix3 0 0 j) = colMax fun r => st (ix2 r (⟨j.val, by omega⟩ : Fin 512)) := by
  have e : (⟨0 + j.val, by omega⟩ : Fin 512) = ⟨j.val, by omega⟩ := Fin.ext (Nat.zero_add _)
  rw [lfm256_apply, e, mx256_256_apply]
theorem lfsm256_256 (v : FVec Ideal S144x256 .bf16) (st : FVec Ideal S256x512 .f32) (i : Fin 144) (j : Fin 256) :
    lfa256 (sm256_256 v (wt256_256 st (mx256_256 st))) (ix3 0 i j) = firstA (fun r => st (ix2 r (⟨j.val, by omega⟩ : Fin 512))) (fun r => v (ix2 i r)) := by
  have e : (⟨0 + j.val, by omega⟩ : Fin 512) = ⟨j.val, by omega⟩ := Fin.ext (Nat.zero_add _)
  rw [lfa256_apply, e, first256_256]
theorem rtmn256_256 (st : FVec Ideal S256x512 .f32) (mL mR : Vec Ideal S1x1x256 .f32) (j : Fin 256) :
    rtm256 (mn256_256 st mL mR) (ix3 0 0 j) = stepM (mR (ix3 0 0 j)) fun r => st (ix2 r (⟨256 + j.val, by omega⟩ : Fin 512)) := by
  rw [rtm256_apply, mn256_256_apply, old256_256_right]
theorem rtnx256_256 (v : FVec Ideal S144x256 .bf16) (st : FVec Ideal S256x512 .f32) (mL mR : Vec Ideal S1x1x256 .f32) (aL aR : Vec Ideal S1x144x256 .f32) (i : Fin 144) (j : Fin 256) :
    rta256 (nx256_256 v st mL mR aL aR) (ix3 0 i j) = stepA (mR (ix3 0 0 j)) (aR (ix3 0 i j)) (fun r => st (ix2 r (⟨256 + j.val, by omega⟩ : Fin 512))) (fun r => v (ix2 i r)) := by
  rw [rta256_apply, nx256_256_apply, old256_256_right, olda256_256_right]
theorem rtmx256_256 (st : FVec Ideal S256x512 .f32) (j : Fin 256) :
    rtm256 (mx256_256 st) (ix3 0 0 j) = colMax fun r => st (ix2 r (⟨256 + j.val, by omega⟩ : Fin 512)) := by
  rw [rtm256_apply, mx256_256_apply]
theorem rtsm256_256 (v : FVec Ideal S144x256 .bf16) (st : FVec Ideal S256x512 .f32) (i : Fin 144) (j : Fin 256) :
    rta256 (sm256_256 v (wt256_256 st (mx256_256 st))) (ix3 0 i j) = firstA (fun r => st (ix2 r (⟨256 + j.val, by omega⟩ : Fin 512))) (fun r => v (ix2 i r)) := by
  rw [rta256_apply, first256_256]
/-- A later unit moves its columns on by 256 keys. -/
theorem step256_256 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 256 ≤ 2048)
    (i0 : ∀ a, (![h0, 0, c0] : Fin 3 → Nat) a + (Tl 1 256).size a ≤ (Sc 1).size a) (i1 : ∀ a, (![h0, 0, c1] : Fin 3 → Nat) a + (Tl 1 256).size a ≤ (Sc 1).size a)
    (j0 : ∀ a, (![h0, 0, c0] : Fin 3 → Nat) a + (Tl 144 256).size a ≤ (Sc 144).size a) (j1 : ∀ a, (![h0, 0, c1] : Fin 3 → Nat) a + (Tl 144 256).size a ≤ (Sc 144).size a)
    (st : FVec Ideal S256x512 .f32) (v : FVec Ideal S144x256 .bf16)
    (sL : ∀ (r : Fin 256) (j : Fin 256), st (ix2 r (⟨j.val, by omega⟩ : Fin 512)) = masked (lo + r.val) (c0 + j.val) (s h0 0 (c0 + j.val) (lo + r.val) : EReal))
    (sR : ∀ (r : Fin 256) (j : Fin 256), st (ix2 r (⟨256 + j.val, by omega⟩ : Fin 512)) = masked (lo + r.val) (c0 + j.val) (s h0 1 (c0 + j.val) (lo + r.val) : EReal))
    (hv : ∀ (i : Fin 144) (r : Fin 256), v (ix2 i r) = (row w h0 i (lo + r.val) : EReal))
    (mL mR : Vec Ideal S1x1x256 .f32) (aL aR : Vec Ideal S1x144x256 .f32)
    (hmL : ∀ (c : Fin 2048) (hl : c0 ≤ c.val) (hr : c.val < c0 + 256), mL (ix3 0 0 ⟨c.val - c0, by omega⟩) = View.canon L1 (place ⟨h0, hh0⟩ 0 0 c))
    (haL : ∀ (i : Fin 144) (c : Fin 2048) (hl : c0 ≤ c.val) (hr : c.val < c0 + 256), aL (ix3 0 i ⟨c.val - c0, by omega⟩) = View.canon L0 (place ⟨h0, hh0⟩ i 0 c))
    (hmR : ∀ (c : Fin 2048) (hl : c0 ≤ c.val) (hr : c.val < c0 + 256), mR (ix3 0 0 ⟨c.val - c0, by omega⟩) = View.canon L1 (place ⟨h0, hh0⟩ 0 1 c))
    (haR : ∀ (i : Fin 144) (c : Fin 2048) (hl : c0 ≤ c.val) (hr : c.val < c0 + 256), aR (ix3 0 i ⟨c.val - c0, by omega⟩) = View.canon L0 (place ⟨h0, hh0⟩ i 1 c))
    (hK : ∀ c, c0 ≤ c → c < c0 + 256 → K h0 c = lo) (hlo : 0 < lo) :
    Inv s w (fun h c => if h = h0 ∧ c0 ≤ c ∧ c < c0 + 256 then lo + 256 else K h c)
      (put h0 c0 c1 i0 i1 (lfm256 (mn256_256 st mL mR)) (rtm256 (mn256_256 st mL mR)) L1)
      (put h0 c0 c1 j0 j1 (lfa256 (nx256_256 v st mL mR aL aR)) (rta256 (nx256_256 v st mL mR aL aR)) L0) := by
  refine inv_put s w K L1 L0 inv h0 hh0 c0 c1 256 (lo + 256) hc1 hn i0 i1 j0 j1 _ _ _ _ (fun c hl hr => ?_) (fun c hl hr => ?_)
  · have e : K (⟨h0, hh0⟩ : Fin 2).val c.val = lo := hK c.val hl hr
    have iv := inv ⟨h0, hh0⟩ 0 c (by rw [e]; exact hlo)
    rw [e] at iv
    simp only [lfmn256_256, lfnx256_256, hmL c hl hr, haL _ c hl hr]
    have ec : c0 + (c.val - c0) = c.val := by omega
    refine kept_step c.val lo _ _ _ _ iv _ _ (fun r => ?_) (fun i r => hv i r)
    rw [sL r ⟨c.val - c0, by omega⟩]
    simp only [ec]
    rfl
  · have e : K (⟨h0, hh0⟩ : Fin 2).val c.val = lo := hK c.val hl hr
    have iv := inv ⟨h0, hh0⟩ 1 c (by rw [e]; exact hlo)
    rw [e] at iv
    simp only [rtmn256_256, rtnx256_256, hmR c hl hr, haR _ c hl hr]
    have ec : c0 + (c.val - c0) = c.val := by omega
    refine kept_step c.val lo _ _ _ _ iv _ _ (fun r => ?_) (fun i r => hv i r)
    rw [sR r ⟨c.val - c0, by omega⟩]
    simp only [ec]
    rfl
/-- A first unit starts its columns with 256 keys. -/
theorem start256_256 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 256 ≤ 2048)
    (i0 : ∀ a, (![h0, 0, c0] : Fin 3 → Nat) a + (Tl 1 256).size a ≤ (Sc 1).size a) (i1 : ∀ a, (![h0, 0, c1] : Fin 3 → Nat) a + (Tl 1 256).size a ≤ (Sc 1).size a)
    (j0 : ∀ a, (![h0, 0, c0] : Fin 3 → Nat) a + (Tl 144 256).size a ≤ (Sc 144).size a) (j1 : ∀ a, (![h0, 0, c1] : Fin 3 → Nat) a + (Tl 144 256).size a ≤ (Sc 144).size a)
    (st : FVec Ideal S256x512 .f32) (v : FVec Ideal S144x256 .bf16)
    (sL : ∀ (r : Fin 256) (j : Fin 256), st (ix2 r (⟨j.val, by omega⟩ : Fin 512)) = masked (lo + r.val) (c0 + j.val) (s h0 0 (c0 + j.val) (lo + r.val) : EReal))
    (sR : ∀ (r : Fin 256) (j : Fin 256), st (ix2 r (⟨256 + j.val, by omega⟩ : Fin 512)) = masked (lo + r.val) (c0 + j.val) (s h0 1 (c0 + j.val) (lo + r.val) : EReal))
    (hv : ∀ (i : Fin 144) (r : Fin 256), v (ix2 i r) = (row w h0 i (lo + r.val) : EReal)) (hlo : lo = 0) :
    Inv s w (fun h c => if h = h0 ∧ c0 ≤ c ∧ c < c0 + 256 then 256 else K h c)
      (put h0 c0 c1 i0 i1 (lfm256 (mx256_256 st)) (rtm256 (mx256_256 st)) L1)
      (put h0 c0 c1 j0 j1 (lfa256 (sm256_256 v (wt256_256 st (mx256_256 st)))) (rta256 (sm256_256 v (wt256_256 st (mx256_256 st)))) L0) := by
  subst hlo
  refine inv_put s w K L1 L0 inv h0 hh0 c0 c1 256 256 hc1 hn i0 i1 j0 j1 _ _ _ _ (fun c hl hr => ?_) (fun c hl hr => ?_)
  · simp only [lfmx256_256, lfsm256_256]
    have ec : c0 + (c.val - c0) = c.val := by omega
    refine kept_first (by omega) c.val _ _ _ _ (fun r => ?_) (fun i r => by rw [hv, Nat.zero_add])
    rw [sL r ⟨c.val - c0, by omega⟩]
    simp only [ec, Nat.zero_add]
  · simp only [rtmx256_256, rtsm256_256]
    have ec : c0 + (c.val - c0) = c.val := by omega
    refine kept_first (by omega) c.val _ _ _ _ (fun r => ?_) (fun i r => by rw [hv, Nat.zero_add])
    rw [sR r ⟨c.val - c0, by omega⟩]
    simp only [ec, Nat.zero_add]
/-- The masked scores of the first map's columns. -/
theorem sc512_1792_left (lo c0 : Nat) (hd : c0 = lo + 256) (x : Nat → Nat → ℝ) (Kb : Vec Ideal S1x512x128 .bf16) (Q : FVec Ideal S3584x128 .bf16)
    (hs : ∀ (r : Fin 512) (j : Fin 1792), ∑ d : Fin 128, Kb (ix3 0 r d) * Q (ix2 (⟨j.val, by omega⟩ : Fin 3584) d) = (x (c0 + j.val) (lo + r.val) : EReal)) (r : Fin 512) (j : Fin 1792) :
    msk512_1792 (raw512_1792 Kb Q) (ix2 r (⟨j.val, by omega⟩ : Fin 3584)) = masked (lo + r.val) (c0 + j.val) (x (c0 + j.val) (lo + r.val) : EReal) := by
  rw [msk512_1792_left, raw512_1792_apply, hs, ← masked_add lo, hd]; congr 1; omega
/-- The masked scores of the second map's columns. -/
theorem sc512_1792_right (lo c0 : Nat) (hd : c0 = lo + 256) (x : Nat → Nat → ℝ) (Kb : Vec Ideal S1x512x128 .bf16) (Q : FVec Ideal S3584x128 .bf16)
    (hs : ∀ (r : Fin 512) (j : Fin 1792), ∑ d : Fin 128, Kb (ix3 0 r d) * Q (ix2 (⟨1792 + j.val, by omega⟩ : Fin 3584) d) = (x (c0 + j.val) (lo + r.val) : EReal)) (r : Fin 512) (j : Fin 1792) :
    msk512_1792 (raw512_1792 Kb Q) (ix2 r (⟨1792 + j.val, by omega⟩ : Fin 3584)) = masked (lo + r.val) (c0 + j.val) (x (c0 + j.val) (lo + r.val) : EReal) := by
  rw [msk512_1792_right, raw512_1792_apply, hs, ← masked_add lo, hd]; congr 1; omega
theorem lfmx512_1792 (st : FVec Ideal S512x3584 .f32) (j : Fin 1792) :
    lfm1792 (mx512_1792 st) (ix3 0 0 j) = colMax fun r => st (ix2 r (⟨j.val, by omega⟩ : Fin 3584)) := by
  have e : (⟨0 + j.val, by omega⟩ : Fin 3584) = ⟨j.val, by omega⟩ := Fin.ext (Nat.zero_add _)
  rw [lfm1792_apply, e, mx512_1792_apply]
theorem lfsm512_1792 (v : FVec Ideal S144x512 .bf16) (st : FVec Ideal S512x3584 .f32) (i : Fin 144) (j : Fin 1792) :
    lfa1792 (sm512_1792 v (wt512_1792 st (mx512_1792 st))) (ix3 0 i j) = firstA (fun r => st (ix2 r (⟨j.val, by omega⟩ : Fin 3584))) (fun r => v (ix2 i r)) := by
  have e : (⟨0 + j.val, by omega⟩ : Fin 3584) = ⟨j.val, by omega⟩ := Fin.ext (Nat.zero_add _)
  rw [lfa1792_apply, e, first512_1792]
theorem rtmx512_1792 (st : FVec Ideal S512x3584 .f32) (j : Fin 1792) :
    rtm1792 (mx512_1792 st) (ix3 0 0 j) = colMax fun r => st (ix2 r (⟨1792 + j.val, by omega⟩ : Fin 3584)) := by
  rw [rtm1792_apply, mx512_1792_apply]
theorem rtsm512_1792 (v : FVec Ideal S144x512 .bf16) (st : FVec Ideal S512x3584 .f32) (i : Fin 144) (j : Fin 1792) :
    rta1792 (sm512_1792 v (wt512_1792 st (mx512_1792 st))) (ix3 0 i j) = firstA (fun r => st (ix2 r (⟨1792 + j.val, by omega⟩ : Fin 3584))) (fun r => v (ix2 i r)) := by
  rw [rta1792_apply, first512_1792]
/-- A first unit starts its columns with 512 keys. -/
theorem start512_1792 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 1792 ≤ 2048)
    (i0 : ∀ a, (![h0, 0, c0] : Fin 3 → Nat) a + (Tl 1 1792).size a ≤ (Sc 1).size a) (i1 : ∀ a, (![h0, 0, c1] : Fin 3 → Nat) a + (Tl 1 1792).size a ≤ (Sc 1).size a)
    (j0 : ∀ a, (![h0, 0, c0] : Fin 3 → Nat) a + (Tl 144 1792).size a ≤ (Sc 144).size a) (j1 : ∀ a, (![h0, 0, c1] : Fin 3 → Nat) a + (Tl 144 1792).size a ≤ (Sc 144).size a)
    (st : FVec Ideal S512x3584 .f32) (v : FVec Ideal S144x512 .bf16)
    (sL : ∀ (r : Fin 512) (j : Fin 1792), st (ix2 r (⟨j.val, by omega⟩ : Fin 3584)) = masked (lo + r.val) (c0 + j.val) (s h0 0 (c0 + j.val) (lo + r.val) : EReal))
    (sR : ∀ (r : Fin 512) (j : Fin 1792), st (ix2 r (⟨1792 + j.val, by omega⟩ : Fin 3584)) = masked (lo + r.val) (c0 + j.val) (s h0 1 (c0 + j.val) (lo + r.val) : EReal))
    (hv : ∀ (i : Fin 144) (r : Fin 512), v (ix2 i r) = (row w h0 i (lo + r.val) : EReal)) (hlo : lo = 0) :
    Inv s w (fun h c => if h = h0 ∧ c0 ≤ c ∧ c < c0 + 1792 then 512 else K h c)
      (put h0 c0 c1 i0 i1 (lfm1792 (mx512_1792 st)) (rtm1792 (mx512_1792 st)) L1)
      (put h0 c0 c1 j0 j1 (lfa1792 (sm512_1792 v (wt512_1792 st (mx512_1792 st)))) (rta1792 (sm512_1792 v (wt512_1792 st (mx512_1792 st)))) L0) := by
  subst hlo
  refine inv_put s w K L1 L0 inv h0 hh0 c0 c1 1792 512 hc1 hn i0 i1 j0 j1 _ _ _ _ (fun c hl hr => ?_) (fun c hl hr => ?_)
  · simp only [lfmx512_1792, lfsm512_1792]
    have ec : c0 + (c.val - c0) = c.val := by omega
    refine kept_first (by omega) c.val _ _ _ _ (fun r => ?_) (fun i r => by rw [hv, Nat.zero_add])
    rw [sL r ⟨c.val - c0, by omega⟩]
    simp only [ec, Nat.zero_add]
  · simp only [rtmx512_1792, rtsm512_1792]
    have ec : c0 + (c.val - c0) = c.val := by omega
    refine kept_first (by omega) c.val _ _ _ _ (fun r => ?_) (fun i r => by rw [hv, Nat.zero_add])
    rw [sR r ⟨c.val - c0, by omega⟩]
    simp only [ec, Nat.zero_add]
/-- The masked scores of the first map's columns. -/
theorem sc512_1280_left (lo c0 : Nat) (hd : c0 = lo + 256) (x : Nat → Nat → ℝ) (Kb : Vec Ideal S1x512x128 .bf16) (Q : FVec Ideal S2560x128 .bf16)
    (hs : ∀ (r : Fin 512) (j : Fin 1280), ∑ d : Fin 128, Kb (ix3 0 r d) * Q (ix2 (⟨j.val, by omega⟩ : Fin 2560) d) = (x (c0 + j.val) (lo + r.val) : EReal)) (r : Fin 512) (j : Fin 1280) :
    msk512_1280 (raw512_1280 Kb Q) (ix2 r (⟨j.val, by omega⟩ : Fin 2560)) = masked (lo + r.val) (c0 + j.val) (x (c0 + j.val) (lo + r.val) : EReal) := by
  rw [msk512_1280_left, raw512_1280_apply, hs, ← masked_add lo, hd]; congr 1; omega
/-- The masked scores of the second map's columns. -/
theorem sc512_1280_right (lo c0 : Nat) (hd : c0 = lo + 256) (x : Nat → Nat → ℝ) (Kb : Vec Ideal S1x512x128 .bf16) (Q : FVec Ideal S2560x128 .bf16)
    (hs : ∀ (r : Fin 512) (j : Fin 1280), ∑ d : Fin 128, Kb (ix3 0 r d) * Q (ix2 (⟨1280 + j.val, by omega⟩ : Fin 2560) d) = (x (c0 + j.val) (lo + r.val) : EReal)) (r : Fin 512) (j : Fin 1280) :
    msk512_1280 (raw512_1280 Kb Q) (ix2 r (⟨1280 + j.val, by omega⟩ : Fin 2560)) = masked (lo + r.val) (c0 + j.val) (x (c0 + j.val) (lo + r.val) : EReal) := by
  rw [msk512_1280_right, raw512_1280_apply, hs, ← masked_add lo, hd]; congr 1; omega
theorem lfmn512_1280 (st : FVec Ideal S512x2560 .f32) (mL mR : Vec Ideal S1x1x1280 .f32) (j : Fin 1280) :
    lfm1280 (mn512_1280 st mL mR) (ix3 0 0 j) = stepM (mL (ix3 0 0 j)) fun r => st (ix2 r (⟨j.val, by omega⟩ : Fin 2560)) := by
  have e : (⟨0 + j.val, by omega⟩ : Fin 2560) = ⟨j.val, by omega⟩ := Fin.ext (Nat.zero_add _)
  rw [lfm1280_apply, e, mn512_1280_apply, old512_1280_left]
theorem lfnx512_1280 (v : FVec Ideal S144x512 .bf16) (st : FVec Ideal S512x2560 .f32) (mL mR : Vec Ideal S1x1x1280 .f32) (aL aR : Vec Ideal S1x144x1280 .f32) (i : Fin 144) (j : Fin 1280) :
    lfa1280 (nx512_1280 v st mL mR aL aR) (ix3 0 i j) = stepA (mL (ix3 0 0 j)) (aL (ix3 0 i j)) (fun r => st (ix2 r (⟨j.val, by omega⟩ : Fin 2560))) (fun r => v (ix2 i r)) := by
  have e : (⟨0 + j.val, by omega⟩ : Fin 2560) = ⟨j.val, by omega⟩ := Fin.ext (Nat.zero_add _)
  rw [lfa1280_apply, e, nx512_1280_apply, old512_1280_left, olda512_1280_left]
theorem rtmn512_1280 (st : FVec Ideal S512x2560 .f32) (mL mR : Vec Ideal S1x1x1280 .f32) (j : Fin 1280) :
    rtm1280 (mn512_1280 st mL mR) (ix3 0 0 j) = stepM (mR (ix3 0 0 j)) fun r => st (ix2 r (⟨1280 + j.val, by omega⟩ : Fin 2560)) := by
  rw [rtm1280_apply, mn512_1280_apply, old512_1280_right]
theorem rtnx512_1280 (v : FVec Ideal S144x512 .bf16) (st : FVec Ideal S512x2560 .f32) (mL mR : Vec Ideal S1x1x1280 .f32) (aL aR : Vec Ideal S1x144x1280 .f32) (i : Fin 144) (j : Fin 1280) :
    rta1280 (nx512_1280 v st mL mR aL aR) (ix3 0 i j) = stepA (mR (ix3 0 0 j)) (aR (ix3 0 i j)) (fun r => st (ix2 r (⟨1280 + j.val, by omega⟩ : Fin 2560))) (fun r => v (ix2 i r)) := by
  rw [rta1280_apply, nx512_1280_apply, old512_1280_right, olda512_1280_right]
/-- A later unit moves its columns on by 512 keys. -/
theorem step512_1280 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 1280 ≤ 2048)
    (i0 : ∀ a, (![h0, 0, c0] : Fin 3 → Nat) a + (Tl 1 1280).size a ≤ (Sc 1).size a) (i1 : ∀ a, (![h0, 0, c1] : Fin 3 → Nat) a + (Tl 1 1280).size a ≤ (Sc 1).size a)
    (j0 : ∀ a, (![h0, 0, c0] : Fin 3 → Nat) a + (Tl 144 1280).size a ≤ (Sc 144).size a) (j1 : ∀ a, (![h0, 0, c1] : Fin 3 → Nat) a + (Tl 144 1280).size a ≤ (Sc 144).size a)
    (st : FVec Ideal S512x2560 .f32) (v : FVec Ideal S144x512 .bf16)
    (sL : ∀ (r : Fin 512) (j : Fin 1280), st (ix2 r (⟨j.val, by omega⟩ : Fin 2560)) = masked (lo + r.val) (c0 + j.val) (s h0 0 (c0 + j.val) (lo + r.val) : EReal))
    (sR : ∀ (r : Fin 512) (j : Fin 1280), st (ix2 r (⟨1280 + j.val, by omega⟩ : Fin 2560)) = masked (lo + r.val) (c0 + j.val) (s h0 1 (c0 + j.val) (lo + r.val) : EReal))
    (hv : ∀ (i : Fin 144) (r : Fin 512), v (ix2 i r) = (row w h0 i (lo + r.val) : EReal))
    (mL mR : Vec Ideal S1x1x1280 .f32) (aL aR : Vec Ideal S1x144x1280 .f32)
    (hmL : ∀ (c : Fin 2048) (hl : c0 ≤ c.val) (hr : c.val < c0 + 1280), mL (ix3 0 0 ⟨c.val - c0, by omega⟩) = View.canon L1 (place ⟨h0, hh0⟩ 0 0 c))
    (haL : ∀ (i : Fin 144) (c : Fin 2048) (hl : c0 ≤ c.val) (hr : c.val < c0 + 1280), aL (ix3 0 i ⟨c.val - c0, by omega⟩) = View.canon L0 (place ⟨h0, hh0⟩ i 0 c))
    (hmR : ∀ (c : Fin 2048) (hl : c0 ≤ c.val) (hr : c.val < c0 + 1280), mR (ix3 0 0 ⟨c.val - c0, by omega⟩) = View.canon L1 (place ⟨h0, hh0⟩ 0 1 c))
    (haR : ∀ (i : Fin 144) (c : Fin 2048) (hl : c0 ≤ c.val) (hr : c.val < c0 + 1280), aR (ix3 0 i ⟨c.val - c0, by omega⟩) = View.canon L0 (place ⟨h0, hh0⟩ i 1 c))
    (hK : ∀ c, c0 ≤ c → c < c0 + 1280 → K h0 c = lo) (hlo : 0 < lo) :
    Inv s w (fun h c => if h = h0 ∧ c0 ≤ c ∧ c < c0 + 1280 then lo + 512 else K h c)
      (put h0 c0 c1 i0 i1 (lfm1280 (mn512_1280 st mL mR)) (rtm1280 (mn512_1280 st mL mR)) L1)
      (put h0 c0 c1 j0 j1 (lfa1280 (nx512_1280 v st mL mR aL aR)) (rta1280 (nx512_1280 v st mL mR aL aR)) L0) := by
  refine inv_put s w K L1 L0 inv h0 hh0 c0 c1 1280 (lo + 512) hc1 hn i0 i1 j0 j1 _ _ _ _ (fun c hl hr => ?_) (fun c hl hr => ?_)
  · have e : K (⟨h0, hh0⟩ : Fin 2).val c.val = lo := hK c.val hl hr
    have iv := inv ⟨h0, hh0⟩ 0 c (by rw [e]; exact hlo)
    rw [e] at iv
    simp only [lfmn512_1280, lfnx512_1280, hmL c hl hr, haL _ c hl hr]
    have ec : c0 + (c.val - c0) = c.val := by omega
    refine kept_step c.val lo _ _ _ _ iv _ _ (fun r => ?_) (fun i r => hv i r)
    rw [sL r ⟨c.val - c0, by omega⟩]
    simp only [ec]
    rfl
  · have e : K (⟨h0, hh0⟩ : Fin 2).val c.val = lo := hK c.val hl hr
    have iv := inv ⟨h0, hh0⟩ 1 c (by rw [e]; exact hlo)
    rw [e] at iv
    simp only [rtmn512_1280, rtnx512_1280, hmR c hl hr, haR _ c hl hr]
    have ec : c0 + (c.val - c0) = c.val := by omega
    refine kept_step c.val lo _ _ _ _ iv _ _ (fun r => ?_) (fun i r => hv i r)
    rw [sR r ⟨c.val - c0, by omega⟩]
    simp only [ec]
    rfl
/-- The masked scores of the first map's columns. -/
theorem sc512_768_left (lo c0 : Nat) (hd : c0 = lo + 256) (x : Nat → Nat → ℝ) (Kb : Vec Ideal S1x512x128 .bf16) (Q : FVec Ideal S1536x128 .bf16)
    (hs : ∀ (r : Fin 512) (j : Fin 768), ∑ d : Fin 128, Kb (ix3 0 r d) * Q (ix2 (⟨j.val, by omega⟩ : Fin 1536) d) = (x (c0 + j.val) (lo + r.val) : EReal)) (r : Fin 512) (j : Fin 768) :
    msk512_768 (raw512_768 Kb Q) (ix2 r (⟨j.val, by omega⟩ : Fin 1536)) = masked (lo + r.val) (c0 + j.val) (x (c0 + j.val) (lo + r.val) : EReal) := by
  rw [msk512_768_left, raw512_768_apply, hs, ← masked_add lo, hd]; congr 1; omega
/-- The masked scores of the second map's columns. -/
theorem sc512_768_right (lo c0 : Nat) (hd : c0 = lo + 256) (x : Nat → Nat → ℝ) (Kb : Vec Ideal S1x512x128 .bf16) (Q : FVec Ideal S1536x128 .bf16)
    (hs : ∀ (r : Fin 512) (j : Fin 768), ∑ d : Fin 128, Kb (ix3 0 r d) * Q (ix2 (⟨768 + j.val, by omega⟩ : Fin 1536) d) = (x (c0 + j.val) (lo + r.val) : EReal)) (r : Fin 512) (j : Fin 768) :
    msk512_768 (raw512_768 Kb Q) (ix2 r (⟨768 + j.val, by omega⟩ : Fin 1536)) = masked (lo + r.val) (c0 + j.val) (x (c0 + j.val) (lo + r.val) : EReal) := by
  rw [msk512_768_right, raw512_768_apply, hs, ← masked_add lo, hd]; congr 1; omega
theorem lfmn512_768 (st : FVec Ideal S512x1536 .f32) (mL mR : Vec Ideal S1x1x768 .f32) (j : Fin 768) :
    lfm768 (mn512_768 st mL mR) (ix3 0 0 j) = stepM (mL (ix3 0 0 j)) fun r => st (ix2 r (⟨j.val, by omega⟩ : Fin 1536)) := by
  have e : (⟨0 + j.val, by omega⟩ : Fin 1536) = ⟨j.val, by omega⟩ := Fin.ext (Nat.zero_add _)
  rw [lfm768_apply, e, mn512_768_apply, old512_768_left]
theorem lfnx512_768 (v : FVec Ideal S144x512 .bf16) (st : FVec Ideal S512x1536 .f32) (mL mR : Vec Ideal S1x1x768 .f32) (aL aR : Vec Ideal S1x144x768 .f32) (i : Fin 144) (j : Fin 768) :
    lfa768 (nx512_768 v st mL mR aL aR) (ix3 0 i j) = stepA (mL (ix3 0 0 j)) (aL (ix3 0 i j)) (fun r => st (ix2 r (⟨j.val, by omega⟩ : Fin 1536))) (fun r => v (ix2 i r)) := by
  have e : (⟨0 + j.val, by omega⟩ : Fin 1536) = ⟨j.val, by omega⟩ := Fin.ext (Nat.zero_add _)
  rw [lfa768_apply, e, nx512_768_apply, old512_768_left, olda512_768_left]
theorem rtmn512_768 (st : FVec Ideal S512x1536 .f32) (mL mR : Vec Ideal S1x1x768 .f32) (j : Fin 768) :
    rtm768 (mn512_768 st mL mR) (ix3 0 0 j) = stepM (mR (ix3 0 0 j)) fun r => st (ix2 r (⟨768 + j.val, by omega⟩ : Fin 1536)) := by
  rw [rtm768_apply, mn512_768_apply, old512_768_right]
theorem rtnx512_768 (v : FVec Ideal S144x512 .bf16) (st : FVec Ideal S512x1536 .f32) (mL mR : Vec Ideal S1x1x768 .f32) (aL aR : Vec Ideal S1x144x768 .f32) (i : Fin 144) (j : Fin 768) :
    rta768 (nx512_768 v st mL mR aL aR) (ix3 0 i j) = stepA (mR (ix3 0 0 j)) (aR (ix3 0 i j)) (fun r => st (ix2 r (⟨768 + j.val, by omega⟩ : Fin 1536))) (fun r => v (ix2 i r)) := by
  rw [rta768_apply, nx512_768_apply, old512_768_right, olda512_768_right]
/-- A later unit moves its columns on by 512 keys. -/
theorem step512_768 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 768 ≤ 2048)
    (i0 : ∀ a, (![h0, 0, c0] : Fin 3 → Nat) a + (Tl 1 768).size a ≤ (Sc 1).size a) (i1 : ∀ a, (![h0, 0, c1] : Fin 3 → Nat) a + (Tl 1 768).size a ≤ (Sc 1).size a)
    (j0 : ∀ a, (![h0, 0, c0] : Fin 3 → Nat) a + (Tl 144 768).size a ≤ (Sc 144).size a) (j1 : ∀ a, (![h0, 0, c1] : Fin 3 → Nat) a + (Tl 144 768).size a ≤ (Sc 144).size a)
    (st : FVec Ideal S512x1536 .f32) (v : FVec Ideal S144x512 .bf16)
    (sL : ∀ (r : Fin 512) (j : Fin 768), st (ix2 r (⟨j.val, by omega⟩ : Fin 1536)) = masked (lo + r.val) (c0 + j.val) (s h0 0 (c0 + j.val) (lo + r.val) : EReal))
    (sR : ∀ (r : Fin 512) (j : Fin 768), st (ix2 r (⟨768 + j.val, by omega⟩ : Fin 1536)) = masked (lo + r.val) (c0 + j.val) (s h0 1 (c0 + j.val) (lo + r.val) : EReal))
    (hv : ∀ (i : Fin 144) (r : Fin 512), v (ix2 i r) = (row w h0 i (lo + r.val) : EReal))
    (mL mR : Vec Ideal S1x1x768 .f32) (aL aR : Vec Ideal S1x144x768 .f32)
    (hmL : ∀ (c : Fin 2048) (hl : c0 ≤ c.val) (hr : c.val < c0 + 768), mL (ix3 0 0 ⟨c.val - c0, by omega⟩) = View.canon L1 (place ⟨h0, hh0⟩ 0 0 c))
    (haL : ∀ (i : Fin 144) (c : Fin 2048) (hl : c0 ≤ c.val) (hr : c.val < c0 + 768), aL (ix3 0 i ⟨c.val - c0, by omega⟩) = View.canon L0 (place ⟨h0, hh0⟩ i 0 c))
    (hmR : ∀ (c : Fin 2048) (hl : c0 ≤ c.val) (hr : c.val < c0 + 768), mR (ix3 0 0 ⟨c.val - c0, by omega⟩) = View.canon L1 (place ⟨h0, hh0⟩ 0 1 c))
    (haR : ∀ (i : Fin 144) (c : Fin 2048) (hl : c0 ≤ c.val) (hr : c.val < c0 + 768), aR (ix3 0 i ⟨c.val - c0, by omega⟩) = View.canon L0 (place ⟨h0, hh0⟩ i 1 c))
    (hK : ∀ c, c0 ≤ c → c < c0 + 768 → K h0 c = lo) (hlo : 0 < lo) :
    Inv s w (fun h c => if h = h0 ∧ c0 ≤ c ∧ c < c0 + 768 then lo + 512 else K h c)
      (put h0 c0 c1 i0 i1 (lfm768 (mn512_768 st mL mR)) (rtm768 (mn512_768 st mL mR)) L1)
      (put h0 c0 c1 j0 j1 (lfa768 (nx512_768 v st mL mR aL aR)) (rta768 (nx512_768 v st mL mR aL aR)) L0) := by
  refine inv_put s w K L1 L0 inv h0 hh0 c0 c1 768 (lo + 512) hc1 hn i0 i1 j0 j1 _ _ _ _ (fun c hl hr => ?_) (fun c hl hr => ?_)
  · have e : K (⟨h0, hh0⟩ : Fin 2).val c.val = lo := hK c.val hl hr
    have iv := inv ⟨h0, hh0⟩ 0 c (by rw [e]; exact hlo)
    rw [e] at iv
    simp only [lfmn512_768, lfnx512_768, hmL c hl hr, haL _ c hl hr]
    have ec : c0 + (c.val - c0) = c.val := by omega
    refine kept_step c.val lo _ _ _ _ iv _ _ (fun r => ?_) (fun i r => hv i r)
    rw [sL r ⟨c.val - c0, by omega⟩]
    simp only [ec]
    rfl
  · have e : K (⟨h0, hh0⟩ : Fin 2).val c.val = lo := hK c.val hl hr
    have iv := inv ⟨h0, hh0⟩ 1 c (by rw [e]; exact hlo)
    rw [e] at iv
    simp only [rtmn512_768, rtnx512_768, hmR c hl hr, haR _ c hl hr]
    have ec : c0 + (c.val - c0) = c.val := by omega
    refine kept_step c.val lo _ _ _ _ iv _ _ (fun r => ?_) (fun i r => hv i r)
    rw [sR r ⟨c.val - c0, by omega⟩]
    simp only [ec]
    rfl
/-- The masked scores of the first map's columns. -/
theorem sc512_256_left (lo c0 : Nat) (hd : c0 = lo + 256) (x : Nat → Nat → ℝ) (Kb : Vec Ideal S1x512x128 .bf16) (Q : FVec Ideal S512x128 .bf16)
    (hs : ∀ (r : Fin 512) (j : Fin 256), ∑ d : Fin 128, Kb (ix3 0 r d) * Q (ix2 (⟨j.val, by omega⟩ : Fin 512) d) = (x (c0 + j.val) (lo + r.val) : EReal)) (r : Fin 512) (j : Fin 256) :
    msk512_256 (raw512_256 Kb Q) (ix2 r (⟨j.val, by omega⟩ : Fin 512)) = masked (lo + r.val) (c0 + j.val) (x (c0 + j.val) (lo + r.val) : EReal) := by
  rw [msk512_256_left, raw512_256_apply, hs, ← masked_add lo, hd]; congr 1; omega
/-- The masked scores of the second map's columns. -/
theorem sc512_256_right (lo c0 : Nat) (hd : c0 = lo + 256) (x : Nat → Nat → ℝ) (Kb : Vec Ideal S1x512x128 .bf16) (Q : FVec Ideal S512x128 .bf16)
    (hs : ∀ (r : Fin 512) (j : Fin 256), ∑ d : Fin 128, Kb (ix3 0 r d) * Q (ix2 (⟨256 + j.val, by omega⟩ : Fin 512) d) = (x (c0 + j.val) (lo + r.val) : EReal)) (r : Fin 512) (j : Fin 256) :
    msk512_256 (raw512_256 Kb Q) (ix2 r (⟨256 + j.val, by omega⟩ : Fin 512)) = masked (lo + r.val) (c0 + j.val) (x (c0 + j.val) (lo + r.val) : EReal) := by
  rw [msk512_256_right, raw512_256_apply, hs, ← masked_add lo, hd]; congr 1; omega
theorem lfmn512_256 (st : FVec Ideal S512x512 .f32) (mL mR : Vec Ideal S1x1x256 .f32) (j : Fin 256) :
    lfm256 (mn512_256 st mL mR) (ix3 0 0 j) = stepM (mL (ix3 0 0 j)) fun r => st (ix2 r (⟨j.val, by omega⟩ : Fin 512)) := by
  have e : (⟨0 + j.val, by omega⟩ : Fin 512) = ⟨j.val, by omega⟩ := Fin.ext (Nat.zero_add _)
  rw [lfm256_apply, e, mn512_256_apply, old512_256_left]
theorem lfnx512_256 (v : FVec Ideal S144x512 .bf16) (st : FVec Ideal S512x512 .f32) (mL mR : Vec Ideal S1x1x256 .f32) (aL aR : Vec Ideal S1x144x256 .f32) (i : Fin 144) (j : Fin 256) :
    lfa256 (nx512_256 v st mL mR aL aR) (ix3 0 i j) = stepA (mL (ix3 0 0 j)) (aL (ix3 0 i j)) (fun r => st (ix2 r (⟨j.val, by omega⟩ : Fin 512))) (fun r => v (ix2 i r)) := by
  have e : (⟨0 + j.val, by omega⟩ : Fin 512) = ⟨j.val, by omega⟩ := Fin.ext (Nat.zero_add _)
  rw [lfa256_apply, e, nx512_256_apply, old512_256_left, olda512_256_left]
theorem rtmn512_256 (st : FVec Ideal S512x512 .f32) (mL mR : Vec Ideal S1x1x256 .f32) (j : Fin 256) :
    rtm256 (mn512_256 st mL mR) (ix3 0 0 j) = stepM (mR (ix3 0 0 j)) fun r => st (ix2 r (⟨256 + j.val, by omega⟩ : Fin 512)) := by
  rw [rtm256_apply, mn512_256_apply, old512_256_right]
theorem rtnx512_256 (v : FVec Ideal S144x512 .bf16) (st : FVec Ideal S512x512 .f32) (mL mR : Vec Ideal S1x1x256 .f32) (aL aR : Vec Ideal S1x144x256 .f32) (i : Fin 144) (j : Fin 256) :
    rta256 (nx512_256 v st mL mR aL aR) (ix3 0 i j) = stepA (mR (ix3 0 0 j)) (aR (ix3 0 i j)) (fun r => st (ix2 r (⟨256 + j.val, by omega⟩ : Fin 512))) (fun r => v (ix2 i r)) := by
  rw [rta256_apply, nx512_256_apply, old512_256_right, olda512_256_right]
/-- A later unit moves its columns on by 512 keys. -/
theorem step512_256 (s : Nat → Nat → Nat → Nat → ℝ) (w : Nat → Nat → Nat → ℝ) (K : Nat → Nat → Nat) (L1 : Pieces 1) (L0 : Pieces 144)
    (inv : Inv s w K L1 L0) (h0 : Nat) (hh0 : h0 < 2) (c0 c1 lo : Nat) (hc1 : c1 = 2048 + c0) (hn : c0 + 256 ≤ 2048)
    (i0 : ∀ a, (![h0, 0, c0] : Fin 3 → Nat) a + (Tl 1 256).size a ≤ (Sc 1).size a) (i1 : ∀ a, (![h0, 0, c1] : Fin 3 → Nat) a + (Tl 1 256).size a ≤ (Sc 1).size a)
    (j0 : ∀ a, (![h0, 0, c0] : Fin 3 → Nat) a + (Tl 144 256).size a ≤ (Sc 144).size a) (j1 : ∀ a, (![h0, 0, c1] : Fin 3 → Nat) a + (Tl 144 256).size a ≤ (Sc 144).size a)
    (st : FVec Ideal S512x512 .f32) (v : FVec Ideal S144x512 .bf16)
    (sL : ∀ (r : Fin 512) (j : Fin 256), st (ix2 r (⟨j.val, by omega⟩ : Fin 512)) = masked (lo + r.val) (c0 + j.val) (s h0 0 (c0 + j.val) (lo + r.val) : EReal))
    (sR : ∀ (r : Fin 512) (j : Fin 256), st (ix2 r (⟨256 + j.val, by omega⟩ : Fin 512)) = masked (lo + r.val) (c0 + j.val) (s h0 1 (c0 + j.val) (lo + r.val) : EReal))
    (hv : ∀ (i : Fin 144) (r : Fin 512), v (ix2 i r) = (row w h0 i (lo + r.val) : EReal))
    (mL mR : Vec Ideal S1x1x256 .f32) (aL aR : Vec Ideal S1x144x256 .f32)
    (hmL : ∀ (c : Fin 2048) (hl : c0 ≤ c.val) (hr : c.val < c0 + 256), mL (ix3 0 0 ⟨c.val - c0, by omega⟩) = View.canon L1 (place ⟨h0, hh0⟩ 0 0 c))
    (haL : ∀ (i : Fin 144) (c : Fin 2048) (hl : c0 ≤ c.val) (hr : c.val < c0 + 256), aL (ix3 0 i ⟨c.val - c0, by omega⟩) = View.canon L0 (place ⟨h0, hh0⟩ i 0 c))
    (hmR : ∀ (c : Fin 2048) (hl : c0 ≤ c.val) (hr : c.val < c0 + 256), mR (ix3 0 0 ⟨c.val - c0, by omega⟩) = View.canon L1 (place ⟨h0, hh0⟩ 0 1 c))
    (haR : ∀ (i : Fin 144) (c : Fin 2048) (hl : c0 ≤ c.val) (hr : c.val < c0 + 256), aR (ix3 0 i ⟨c.val - c0, by omega⟩) = View.canon L0 (place ⟨h0, hh0⟩ i 1 c))
    (hK : ∀ c, c0 ≤ c → c < c0 + 256 → K h0 c = lo) (hlo : 0 < lo) :
    Inv s w (fun h c => if h = h0 ∧ c0 ≤ c ∧ c < c0 + 256 then lo + 512 else K h c)
      (put h0 c0 c1 i0 i1 (lfm256 (mn512_256 st mL mR)) (rtm256 (mn512_256 st mL mR)) L1)
      (put h0 c0 c1 j0 j1 (lfa256 (nx512_256 v st mL mR aL aR)) (rta256 (nx512_256 v st mL mR aL aR)) L0) := by
  refine inv_put s w K L1 L0 inv h0 hh0 c0 c1 256 (lo + 512) hc1 hn i0 i1 j0 j1 _ _ _ _ (fun c hl hr => ?_) (fun c hl hr => ?_)
  · have e : K (⟨h0, hh0⟩ : Fin 2).val c.val = lo := hK c.val hl hr
    have iv := inv ⟨h0, hh0⟩ 0 c (by rw [e]; exact hlo)
    rw [e] at iv
    simp only [lfmn512_256, lfnx512_256, hmL c hl hr, haL _ c hl hr]
    have ec : c0 + (c.val - c0) = c.val := by omega
    refine kept_step c.val lo _ _ _ _ iv _ _ (fun r => ?_) (fun i r => hv i r)
    rw [sL r ⟨c.val - c0, by omega⟩]
    simp only [ec]
    rfl
  · have e : K (⟨h0, hh0⟩ : Fin 2).val c.val = lo := hK c.val hl hr
    have iv := inv ⟨h0, hh0⟩ 1 c (by rw [e]; exact hlo)
    rw [e] at iv
    simp only [rtmn512_256, rtnx512_256, hmR c hl hr, haR _ c hl hr]
    have ec : c0 + (c.val - c0) = c.val := by omega
    refine kept_step c.val lo _ _ _ _ iv _ _ (fun r => ?_) (fun i r => hv i r)
    rw [sR r ⟨c.val - c0, by omega⟩]
    simp only [ec]
    rfl
end Cert.AttnUnits
-- ==== Proof.AttnRun.lean ====
module
public import proofs.«01_k».proof.Proof.AttnUnits
public import proofs.«01_k».proof.Proof.Gen.AttnIdeal.Value
/-! The kernel's scores and stores are those of the units, in order. -/
@[expose] public section
noncomputable section
open Idealize.ShloMosaic Idealize.ShloMosaic.TcCoe Idealize.SL.Sem
namespace Cert.AttnRun
open Cert.AttnIdeal Cert.AttnIdeal.Gen Cert.AttnCol Cert.AttnTiles Cert.AttnState Cert.AttnUnits

variable (c : Dev nD) (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg8 : Memref sig .tc .vmem S2x144x4096 .f32) (arg9 : Memref sig .tc .vmem S2x1x4096 .f32)
  (x2 x3 x4 : Vec Ideal S1x2048x256 .bf16)
theorem st_0 : (kernelRun0_A.sl.r_6 (F := Ideal) c arg4 harg4 arg5 harg5 x2 x3) = msk256_256 (raw256_256 (View.readAt (Elt Ideal) arg5.view (Rect.unit (s := S1x2048x256) ![0, 0, 0] S1x256x128.size inb_S1x2048x256_S1x256x128_0_0_0).toLoadRect (harg5.unread x3)) (qc0_256 (kernelRun0_A.sl.r_1 (F := Ideal) c arg4 harg4 x2) (kernelRun0_A.sl.r_2 (F := Ideal) c arg4 harg4 x2))) := rfl
theorem st_1 : (kernelRun0_A.sl.r_7 (F := Ideal) c arg4 harg4 arg5 harg5 x2 x3) = msk256_256 (raw256_256 (View.readAt (Elt Ideal) arg5.view (Rect.unit (s := S1x2048x256) ![0, 0, 128] S1x256x128.size inb_S1x2048x256_S1x256x128_0_0_128).toLoadRect (harg5.unread x3)) (qc0_256 (kernelRun0_A.sl.r_4 (F := Ideal) c arg4 harg4 x2) (kernelRun0_A.sl.r_5 (F := Ideal) c arg4 harg4 x2))) := rfl
theorem st_2 : (kernelRun0_A.sl.r_10 (F := Ideal) c arg4 harg4 arg5 harg5 x2 x3) = msk512_1792 (raw512_1792 (View.readAt (Elt Ideal) arg5.view (Rect.unit (s := S1x2048x256) ![0, 0, 0] S1x512x128.size inb_S1x2048x256_S1x512x128_0_0_0).toLoadRect (harg5.unread x3)) (qc256_1792 (kernelRun0_A.sl.r_1 (F := Ideal) c arg4 harg4 x2) (kernelRun0_A.sl.r_2 (F := Ideal) c arg4 harg4 x2))) := rfl
theorem st_3 : (kernelRun0_A.sl.r_11 (F := Ideal) c arg4 harg4 arg5 harg5 x2 x3) = msk512_1792 (raw512_1792 (View.readAt (Elt Ideal) arg5.view (Rect.unit (s := S1x2048x256) ![0, 0, 128] S1x512x128.size inb_S1x2048x256_S1x512x128_0_0_128).toLoadRect (harg5.unread x3)) (qc256_1792 (kernelRun0_A.sl.r_4 (F := Ideal) c arg4 harg4 x2) (kernelRun0_A.sl.r_5 (F := Ideal) c arg4 harg4 x2))) := rfl
theorem st_4 : (kernelRun0_A.sl.r_13 (F := Ideal) c arg4 harg4 arg5 harg5 x2 x3) = msk256_256 (raw256_256 (View.readAt (Elt Ideal) arg5.view (Rect.unit (s := S1x2048x256) ![0, 512, 0] S1x256x128.size inb_S1x2048x256_S1x256x128_0_512_0).toLoadRect (harg5.unread x3)) (qc512_256 (kernelRun0_A.sl.r_1 (F := Ideal) c arg4 harg4 x2) (kernelRun0_A.sl.r_2 (F := Ideal) c arg4 harg4 x2))) := rfl
theorem st_5 : (kernelRun0_A.sl.r_18 (F := Ideal) c arg4 harg4 arg5 harg5 x2 x3) = msk256_256 (raw256_256 (View.readAt (Elt Ideal) arg5.view (Rect.unit (s := S1x2048x256) ![0, 512, 128] S1x256x128.size inb_S1x2048x256_S1x256x128_0_512_128).toLoadRect (harg5.unread x3)) (qc512_256 (kernelRun0_A.sl.r_4 (F := Ideal) c arg4 harg4 x2) (kernelRun0_A.sl.r_5 (F := Ideal) c arg4 harg4 x2))) := rfl
theorem st_6 : (kernelRun0_A.sl.r_25 (F := Ideal) c arg4 harg4 arg5 harg5 x2 x3) = msk512_1280 (raw512_1280 (View.readAt (Elt Ideal) arg5.view (Rect.unit (s := S1x2048x256) ![0, 512, 0] S1x512x128.size inb_S1x2048x256_S1x512x128_0_512_0).toLoadRect (harg5.unread x3)) (qc768_1280 (kernelRun0_A.sl.r_1 (F := Ideal) c arg4 harg4 x2) (kernelRun0_A.sl.r_2 (F := Ideal) c arg4 harg4 x2))) := rfl
theorem st_7 : (kernelRun0_A.sl.r_27 (F := Ideal) c arg4 harg4 arg5 harg5 x2 x3) = msk512_1280 (raw512_1280 (View.readAt (Elt Ideal) arg5.view (Rect.unit (s := S1x2048x256) ![0, 512, 128] S1x512x128.size inb_S1x2048x256_S1x512x128_0_512_128).toLoadRect (harg5.unread x3)) (qc768_1280 (kernelRun0_A.sl.r_4 (F := Ideal) c arg4 harg4 x2) (kernelRun0_A.sl.r_5 (F := Ideal) c arg4 harg4 x2))) := rfl
theorem st_8 : (kernelRun0_A.sl.r_30 (F := Ideal) c arg4 harg4 arg5 harg5 x2 x3) = msk256_256 (raw256_256 (View.readAt (Elt Ideal) arg5.view (Rect.unit (s := S1x2048x256) ![0, 1024, 0] S1x256x128.size inb_S1x2048x256_S1x256x128_0_1024_0).toLoadRect (harg5.unread x3)) (qc1024_256 (kernelRun0_A.sl.r_1 (F := Ideal) c arg4 harg4 x2) (kernelRun0_A.sl.r_2 (F := Ideal) c arg4 harg4 x2))) := rfl
theorem st_9 : (kernelRun0_A.sl.r_35 (F := Ideal) c arg4 harg4 arg5 harg5 x2 x3) = msk256_256 (raw256_256 (View.readAt (Elt Ideal) arg5.view (Rect.unit (s := S1x2048x256) ![0, 1024, 128] S1x256x128.size inb_S1x2048x256_S1x256x128_0_1024_128).toLoadRect (harg5.unread x3)) (qc1024_256 (kernelRun0_A.sl.r_4 (F := Ideal) c arg4 harg4 x2) (kernelRun0_A.sl.r_5 (F := Ideal) c arg4 harg4 x2))) := rfl
theorem st_10 : (kernelRun0_A.sl.r_41 (F := Ideal) c arg4 harg4 arg5 harg5 x2 x3) = msk512_768 (raw512_768 (View.readAt (Elt Ideal) arg5.view (Rect.unit (s := S1x2048x256) ![0, 1024, 0] S1x512x128.size inb_S1x2048x256_S1x512x128_0_1024_0).toLoadRect (harg5.unread x3)) (qc1280_768 (kernelRun0_A.sl.r_1 (F := Ideal) c arg4 harg4 x2) (kernelRun0_A.sl.r_2 (F := Ideal) c arg4 harg4 x2))) := rfl
theorem st_11 : (kernelRun0_A.sl.r_47 (F := Ideal) c arg4 harg4 arg5 harg5 x2 x3) = msk512_768 (raw512_768 (View.readAt (Elt Ideal) arg5.view (Rect.unit (s := S1x2048x256) ![0, 1024, 128] S1x512x128.size inb_S1x2048x256_S1x512x128_0_1024_128).toLoadRect (harg5.unread x3)) (qc1280_768 (kernelRun0_A.sl.r_4 (F := Ideal) c arg4 harg4 x2) (kernelRun0_A.sl.r_5 (F := Ideal) c arg4 harg4 x2))) := rfl
theorem st_12 : (kernelRun0_A.sl.r_52 (F := Ideal) c arg4 harg4 arg5 harg5 x2 x3) = msk256_256 (raw256_256 (View.readAt (Elt Ideal) arg5.view (Rect.unit (s := S1x2048x256) ![0, 1536, 0] S1x256x128.size inb_S1x2048x256_S1x256x128_0_1536_0).toLoadRect (harg5.unread x3)) (qc1536_256 (kernelRun0_A.sl.r_1 (F := Ideal) c arg4 harg4 x2) (kernelRun0_A.sl.r_2 (F := Ideal) c arg4 harg4 x2))) := rfl
theorem st_13 : (kernelRun0_A.sl.r_60 (F := Ideal) c arg4 harg4 arg5 harg5 x2 x3) = msk256_256 (raw256_256 (View.readAt (Elt Ideal) arg5.view (Rect.unit (s := S1x2048x256) ![0, 1536, 128] S1x256x128.size inb_S1x2048x256_S1x256x128_0_1536_128).toLoadRect (harg5.unread x3)) (qc1536_256 (kernelRun0_A.sl.r_4 (F := Ideal) c arg4 harg4 x2) (kernelRun0_A.sl.r_5 (F := Ideal) c arg4 harg4 x2))) := rfl
theorem st_14 : (kernelRun0_A.sl.r_68 (F := Ideal) c arg4 harg4 arg5 harg5 x2 x3) = msk512_256 (raw512_256 (View.readAt (Elt Ideal) arg5.view (Rect.unit (s := S1x2048x256) ![0, 1536, 0] S1x512x128.size inb_S1x2048x256_S1x512x128_0_1536_0).toLoadRect (harg5.unread x3)) (qc1792_256 (kernelRun0_A.sl.r_1 (F := Ideal) c arg4 harg4 x2) (kernelRun0_A.sl.r_2 (F := Ideal) c arg4 harg4 x2))) := rfl
theorem st_15 : (kernelRun0_A.sl.r_73 (F := Ideal) c arg4 harg4 arg5 harg5 x2 x3) = msk512_256 (raw512_256 (View.readAt (Elt Ideal) arg5.view (Rect.unit (s := S1x2048x256) ![0, 1536, 128] S1x512x128.size inb_S1x2048x256_S1x512x128_0_1536_128).toLoadRect (harg5.unread x3)) (qc1792_256 (kernelRun0_A.sl.r_4 (F := Ideal) c arg4 harg4 x2) (kernelRun0_A.sl.r_5 (F := Ideal) c arg4 harg4 x2))) := rfl
theorem m_3 : (kernelRun0_A.sl.HS1_8 (F := Ideal) c arg4 harg4 arg5 harg5 x2 x3) = put (A := 1) (n := 1792) 1 256 2304 inb_S2x1x4096_S1x1x1792_1_0_256 inb_S2x1x4096_S1x1x1792_1_0_2304 (lfm1792 (mx512_1792 (kernelRun0_A.sl.r_11 (F := Ideal) c arg4 harg4 arg5 harg5 x2 x3))) (rtm1792 (mx512_1792 (kernelRun0_A.sl.r_11 (F := Ideal) c arg4 harg4 arg5 harg5 x2 x3))) (put (A := 1) (n := 1792) 0 256 2304 inb_S2x1x4096_S1x1x1792_0_0_256 inb_S2x1x4096_S1x1x1792_0_0_2304 (lfm1792 (mx512_1792 (kernelRun0_A.sl.r_10 (F := Ideal) c arg4 harg4 arg5 harg5 x2 x3))) (rtm1792 (mx512_1792 (kernelRun0_A.sl.r_10 (F := Ideal) c arg4 harg4 arg5 harg5 x2 x3))) (put (A := 1) (n := 256) 1 0 2048 inb_S2x1x4096_S1x1x256_1_0_0 inb_S2x1x4096_S1x1x256_1_0_2048 (lfm256 (mx256_256 (kernelRun0_A.sl.r_7 (F := Ideal) c arg4 harg4 arg5 harg5 x2 x3))) (rtm256 (mx256_256 (kernelRun0_A.sl.r_7 (F := Ideal) c arg4 harg4 arg5 harg5 x2 x3))) (put (A := 1) (n := 256) 0 0 2048 inb_S2x1x4096_S1x1x256_0_0_0 inb_S2x1x4096_S1x1x256_0_0_2048 (lfm256 (mx256_256 (kernelRun0_A.sl.r_6 (F := Ideal) c arg4 harg4 arg5 harg5 x2 x3))) (rtm256 (mx256_256 (kernelRun0_A.sl.r_6 (F := Ideal) c arg4 harg4 arg5 harg5 x2 x3))) ([])))) := rfl
theorem a_3 : (kernelRun0_A.sl.HS0_8 (F := Ideal) c arg4 harg4 arg5 harg5 arg6 harg6 x2 x3 x4) = put (A := 144) (n := 1792) 1 256 2304 inb_S2x144x4096_S1x144x1792_1_0_256 inb_S2x144x4096_S1x144x1792_1_0_2304 (lfa1792 (sm512_1792 (vt512 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4)) (View.readAt (Elt Ideal) arg6.view (Rect.unit (s := S1x2048x256) ![0, 256, 128] S1x128x128.size inb_S1x2048x256_S1x128x128_0_256_128).toLoadRect (harg6.unread x4)) (View.readAt (Elt Ideal) arg6.view (Rect.unit (s := S1x2048x256) ![0, 384, 128] S1x128x128.size inb_S1x2048x256_S1x128x128_0_384_128).toLoadRect (harg6.unread x4))) (wt512_1792 (kernelRun0_A.sl.r_11 (F := Ideal) c arg4 harg4 arg5 harg5 x2 x3) (mx512_1792 (kernelRun0_A.sl.r_11 (F := Ideal) c arg4 harg4 arg5 harg5 x2 x3))))) (rta1792 (sm512_1792 (vt512 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4)) (View.readAt (Elt Ideal) arg6.view (Rect.unit (s := S1x2048x256) ![0, 256, 128] S1x128x128.size inb_S1x2048x256_S1x128x128_0_256_128).toLoadRect (harg6.unread x4)) (View.readAt (Elt Ideal) arg6.view (Rect.unit (s := S1x2048x256) ![0, 384, 128] S1x128x128.size inb_S1x2048x256_S1x128x128_0_384_128).toLoadRect (harg6.unread x4))) (wt512_1792 (kernelRun0_A.sl.r_11 (F := Ideal) c arg4 harg4 arg5 harg5 x2 x3) (mx512_1792 (kernelRun0_A.sl.r_11 (F := Ideal) c arg4 harg4 arg5 harg5 x2 x3))))) (put (A := 144) (n := 1792) 0 256 2304 inb_S2x144x4096_S1x144x1792_0_0_256 inb_S2x144x4096_S1x144x1792_0_0_2304 (lfa1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (rta1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (put (A := 144) (n := 256) 1 0 2048 inb_S2x144x4096_S1x144x256_1_0_0 inb_S2x144x4096_S1x144x256_1_0_2048 (lfa256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (rta256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (put (A := 144) (n := 256) 0 0 2048 inb_S2x144x4096_S1x144x256_0_0_0 inb_S2x144x4096_S1x144x256_0_0_2048 (lfa256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) (rta256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) ([])))) := rfl
theorem m_4 : (kernelRun0_A.sl.HS1_10 (F := Ideal) c arg4 harg4 arg5 harg5 arg9 x2 x3) = put (A := 1) (n := 256) 0 512 2560 inb_S2x1x4096_S1x1x256_0_0_512 inb_S2x1x4096_S1x1x256_0_0_2560 (lfm256 (mn256_256 (kernelRun0_A.sl.r_13 (F := Ideal) c arg4 harg4 arg5 harg5 x2 x3) (kernelRun0_A.sl.v360 (F := Ideal) c arg4 harg4 arg5 harg5 arg9 x2 x3) (kernelRun0_A.sl.v362 (F := Ideal) c arg4 harg4 arg5 harg5 arg9 x2 x3))) (rtm256 (mn256_256 (kernelRun0_A.sl.r_13 (F := Ideal) c arg4 harg4 arg5 harg5 x2 x3) (kernelRun0_A.sl.v360 (F := Ideal) c arg4 harg4 arg5 harg5 arg9 x2 x3) (kernelRun0_A.sl.v362 (F := Ideal) c arg4 harg4 arg5 harg5 arg9 x2 x3))) ((kernelRun0_A.sl.HS1_8 (F := Ideal) c arg4 harg4 arg5 harg5 x2 x3)) := rfl
theorem a_4 : (kernelRun0_A.sl.HS0_10 (F := Ideal) c arg4 harg4 arg5 harg5 arg6 harg6 arg8 arg9 x2 x3 x4) = put (A := 144) (n := 256) 0 512 2560 inb_S2x144x4096_S1x144x256_0_0_512 inb_S2x144x4096_S1x144x256_0_0_2560 (lfa256 (nx256_256 (vt256 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4))) (kernelRun0_A.sl.r_13 (F := Ideal) c arg4 harg4 arg5 harg5 x2 x3) (kernelRun0_A.sl.v360 (F := Ideal) c arg4 harg4 arg5 harg5 arg9 x2 x3) (kernelRun0_A.sl.v362 (F := Ideal) c arg4 harg4 arg5 harg5 arg9 x2 x3) (kernelRun0_A.sl.v380 (F := Ideal) c arg4 harg4 arg5 harg5 arg6 harg6 arg8 x2 x3 x4) (kernelRun0_A.sl.v382 (F := Ideal) c arg4 harg4 arg5 harg5 arg6 harg6 arg8 x2 x3 x4))) (rta256 (nx256_256 (vt256 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4))) (kernelRun0_A.sl.r_13 (F := Ideal) c arg4 harg4 arg5 harg5 x2 x3) (kernelRun0_A.sl.v360 (F := Ideal) c arg4 harg4 arg5 harg5 arg9 x2 x3) (kernelRun0_A.sl.v362 (F := Ideal) c arg4 harg4 arg5 harg5 arg9 x2 x3) (kernelRun0_A.sl.v380 (F := Ideal) c arg4 harg4 arg5 harg5 arg6 harg6 arg8 x2 x3 x4) (kernelRun0_A.sl.v382 (F := Ideal) c arg4 harg4 arg5 harg5 arg6 harg6 arg8 x2 x3 x4))) ((kernelRun0_A.sl.HS0_8 (F := Ideal) c arg4 harg4 arg5 harg5 arg6 harg6 x2 x3 x4)) := rfl
theorem m_5 : (kernelRun0_A.sl.HS1_12 (F := Ideal) c arg4 harg4 arg5 harg5 arg9 x2 x3) = put (A := 1) (n := 256) 1 512 2560 inb_S2x1x4096_S1x1x256_1_0_512 inb_S2x1x4096_S1x1x256_1_0_2560 (lfm256 (mn256_256 (kernelRun0_A.sl.r_18 (F := Ideal) c arg4 harg4 arg5 harg5 x2 x3) (kernelRun0_A.sl.v430 (F := Ideal) c arg4 harg4 arg5 harg5 arg9 x2 x3) (kernelRun0_A.sl.v432 (F := Ideal) c arg4 harg4 arg5 harg5 arg9 x2 x3))) (rtm256 (mn256_256 (kernelRun0_A.sl.r_18 (F := Ideal) c arg4 harg4 arg5 harg5 x2 x3) (kernelRun0_A.sl.v430 (F := Ideal) c arg4 harg4 arg5 harg5 arg9 x2 x3) (kernelRun0_A.sl.v432 (F := Ideal) c arg4 harg4 arg5 harg5 arg9 x2 x3))) ((kernelRun0_A.sl.HS1_10 (F := Ideal) c arg4 harg4 arg5 harg5 arg9 x2 x3)) := rfl
theorem a_5 : (kernelRun0_A.sl.HS0_12 (F := Ideal) c arg4 harg4 arg5 harg5 arg6 harg6 arg8 arg9 x2 x3 x4) = put (A := 144) (n := 256) 1 512 2560 inb_S2x144x4096_S1x144x256_1_0_512 inb_S2x144x4096_S1x144x256_1_0_2560 (lfa256 (nx256_256 (vt256 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4))) (kernelRun0_A.sl.r_18 (F := Ideal) c arg4 harg4 arg5 harg5 x2 x3) (kernelRun0_A.sl.v430 (F := Ideal) c arg4 harg4 arg5 harg5 arg9 x2 x3) (kernelRun0_A.sl.v432 (F := Ideal) c arg4 harg4 arg5 harg5 arg9 x2 x3) (kernelRun0_A.sl.v450 (F := Ideal) c arg4 harg4 arg5 harg5 arg6 harg6 arg8 arg9 x2 x3 x4) (kernelRun0_A.sl.v452 (F := Ideal) c arg4 harg4 arg5 harg5 arg6 harg6 arg8 arg9 x2 x3 x4))) (rta256 (nx256_256 (vt256 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4))) (kernelRun0_A.sl.r_18 (F := Ideal) c arg4 harg4 arg5 harg5 x2 x3) (kernelRun0_A.sl.v430 (F := Ideal) c arg4 harg4 arg5 harg5 arg9 x2 x3) (kernelRun0_A.sl.v432 (F := Ideal) c arg4 harg4 arg5 harg5 arg9 x2 x3) (kernelRun0_A.sl.v450 (F := Ideal) c arg4 harg4 arg5 harg5 arg6 harg6 arg8 arg9 x2 x3 x4) (kernelRun0_A.sl.v452 (F := Ideal) c arg4 harg4 arg5 harg5 arg6 harg6 arg8 arg9 x2 x3 x4))) ((kernelRun0_A.sl.HS0_10 (F := Ideal) c arg4 harg4 arg5 harg5 arg6 harg6 arg8 arg9 x2 x3 x4)) := rfl
theorem m_6 : (kernelRun0_A.sl.HS1_14 (F := Ideal) c arg4 harg4 arg5 harg5 arg9 x2 x3) = put (A := 1) (n := 1280) 0 768 2816 inb_S2x1x4096_S1x1x1280_0_0_768 inb_S2x1x4096_S1x1x1280_0_0_2816 (lfm1280 (mn512_1280 (kernelRun0_A.sl.r_25 (F := Ideal) c arg4 harg4 arg5 harg5 x2 x3) (kernelRun0_A.sl.v502 (F := Ideal) c arg4 harg4 arg5 harg5 arg9 x2 x3) (kernelRun0_A.sl.v504 (F := Ideal) c arg4 harg4 arg5 harg5 arg9 x2 x3))) (rtm1280 (mn512_1280 (kernelRun0_A.sl.r_25 (F := Ideal) c arg4 harg4 arg5 harg5 x2 x3) (kernelRun0_A.sl.v502 (F := Ideal) c arg4 harg4 arg5 harg5 arg9 x2 x3) (kernelRun0_A.sl.v504 (F := Ideal) c arg4 harg4 arg5 harg5 arg9 x2 x3))) ((kernelRun0_A.sl.HS1_12 (F := Ideal) c arg4 harg4 arg5 harg5 arg9 x2 x3)) := rfl
theorem a_6 : (kernelRun0_A.sl.HS0_14 (F := Ideal) c arg4 harg4 arg5 harg5 arg6 harg6 arg8 arg9 x2 x3 x4) = put (A := 144) (n := 1280) 0 768 2816 inb_S2x144x4096_S1x144x1280_0_0_768 inb_S2x144x4096_S1x144x1280_0_0_2816 (lfa1280 (nx512_1280 (vt512 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4)) (View.readAt (Elt Ideal) arg6.view (Rect.unit (s := S1x2048x256) ![0, 768, 0] S1x128x128.size inb_S1x2048x256_S1x128x128_0_768_0).toLoadRect (harg6.unread x4)) (View.readAt (Elt Ideal) arg6.view (Rect.unit (s := S1x2048x256) ![0, 896, 0] S1x128x128.size inb_S1x2048x256_S1x128x128_0_896_0).toLoadRect (harg6.unread x4))) (kernelRun0_A.sl.r_25 (F := Ideal) c arg4 harg4 arg5 harg5 x2 x3) (kernelRun0_A.sl.v502 (F := Ideal) c arg4 harg4 arg5 harg5 arg9 x2 x3) (kernelRun0_A.sl.v504 (F := Ideal) c arg4 harg4 arg5 harg5 arg9 x2 x3) (kernelRun0_A.sl.v522 (F := Ideal) c arg4 harg4 arg5 harg5 arg6 harg6 arg8 arg9 x2 x3 x4) (kernelRun0_A.sl.v524 (F := Ideal) c arg4 harg4 arg5 harg5 arg6 harg6 arg8 arg9 x2 x3 x4))) (rta1280 (nx512_1280 (vt512 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4)) (View.readAt (Elt Ideal) arg6.view (Rect.unit (s := S1x2048x256) ![0, 768, 0] S1x128x128.size inb_S1x2048x256_S1x128x128_0_768_0).toLoadRect (harg6.unread x4)) (View.readAt (Elt Ideal) arg6.view (Rect.unit (s := S1x2048x256) ![0, 896, 0] S1x128x128.size inb_S1x2048x256_S1x128x128_0_896_0).toLoadRect (harg6.unread x4))) (kernelRun0_A.sl.r_25 (F := Ideal) c arg4 harg4 arg5 harg5 x2 x3) (kernelRun0_A.sl.v502 (F := Ideal) c arg4 harg4 arg5 harg5 arg9 x2 x3) (kernelRun0_A.sl.v504 (F := Ideal) c arg4 harg4 arg5 harg5 arg9 x2 x3) (kernelRun0_A.sl.v522 (F := Ideal) c arg4 harg4 arg5 harg5 arg6 harg6 arg8 arg9 x2 x3 x4) (kernelRun0_A.sl.v524 (F := Ideal) c arg4 harg4 arg5 harg5 arg6 harg6 arg8 arg9 x2 x3 x4))) ((kernelRun0_A.sl.HS0_12 (F := Ideal) c arg4 harg4 arg5 harg5 arg6 harg6 arg8 arg9 x2 x3 x4)) := rfl
theorem m_7 : (kernelRun0_A.sl.HS1_16 (F := Ideal) c arg4 harg4 arg5 harg5 arg9 x2 x3) = put (A := 1) (n := 1280) 1 768 2816 inb_S2x1x4096_S1x1x1280_1_0_768 inb_S2x1x4096_S1x1x1280_1_0_2816 (lfm1280 (mn512_1280 (kernelRun0_A.sl.r_27 (F := Ideal) c arg4 harg4 arg5 harg5 x2 x3) (kernelRun0_A.sl.v574 (F := Ideal) c arg4 harg4 arg5 harg5 arg9 x2 x3) (kernelRun0_A.sl.v576 (F := Ideal) c arg4 harg4 arg5 harg5 arg9 x2 x3))) (rtm1280 (mn512_1280 (kernelRun0_A.sl.r_27 (F := Ideal) c arg4 harg4 arg5 harg5 x2 x3) (kernelRun0_A.sl.v574 (F := Ideal) c arg4 harg4 arg5 harg5 arg9 x2 x3) (kernelRun0_A.sl.v576 (F := Ideal) c arg4 harg4 arg5 harg5 arg9 x2 x3))) ((kernelRun0_A.sl.HS1_14 (F := Ideal) c arg4 harg4 arg5 harg5 arg9 x2 x3)) := rfl
theorem a_7 : (kernelRun0_A.sl.HS0_16 (F := Ideal) c arg4 harg4 arg5 harg5 arg6 harg6 arg8 arg9 x2 x3 x4) = put (A := 144) (n := 1280) 1 768 2816 inb_S2x144x4096_S1x144x1280_1_0_768 inb_S2x144x4096_S1x144x1280_1_0_2816 (lfa1280 (nx512_1280 (vt512 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4)) (View.readAt (Elt Ideal) arg6.view (Rect.unit (s := S1x2048x256) ![0, 768, 128] S1x128x128.size inb_S1x2048x256_S1x128x128_0_768_128).toLoadRect (harg6.unread x4)) (View.readAt (Elt Ideal) arg6.view (Rect.unit (s := S1x2048x256) ![0, 896, 128] S1x128x128.size inb_S1x2048x256_S1x128x128_0_896_128).toLoadRect (harg6.unread x4))) (kernelRun0_A.sl.r_27 (F := Ideal) c arg4 harg4 arg5 harg5 x2 x3) (kernelRun0_A.sl.v574 (F := Ideal) c arg4 harg4 arg5 harg5 arg9 x2 x3) (kernelRun0_A.sl.v576 (F := Ideal) c arg4 harg4 arg5 harg5 arg9 x2 x3) (kernelRun0_A.sl.v594 (F := Ideal) c arg4 harg4 arg5 harg5 arg6 harg6 arg8 arg9 x2 x3 x4) (kernelRun0_A.sl.v596 (F := Ideal) c arg4 harg4 arg5 harg5 arg6 harg6 arg8 arg9 x2 x3 x4))) (rta1280 (nx512_1280 (vt512 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4)) (View.readAt (Elt Ideal) arg6.view (Rect.unit (s := S1x2048x256) ![0, 768, 128] S1x128x128.size inb_S1x2048x256_S1x128x128_0_768_128).toLoadRect (harg6.unread x4)) (View.readAt (Elt Ideal) arg6.view (Rect.unit (s := S1x2048x256) ![0, 896, 128] S1x128x128.size inb_S1x2048x256_S1x128x128_0_896_128).toLoadRect (harg6.unread x4))) (kernelRun0_A.sl.r_27 (F := Ideal) c arg4 harg4 arg5 harg5 x2 x3) (kernelRun0_A.sl.v574 (F := Ideal) c arg4 harg4 arg5 harg5 arg9 x2 x3) (kernelRun0_A.sl.v576 (F := Ideal) c arg4 harg4 arg5 harg5 arg9 x2 x3) (kernelRun0_A.sl.v594 (F := Ideal) c arg4 harg4 arg5 harg5 arg6 harg6 arg8 arg9 x2 x3 x4) (kernelRun0_A.sl.v596 (F := Ideal) c arg4 harg4 arg5 harg5 arg6 harg6 arg8 arg9 x2 x3 x4))) ((kernelRun0_A.sl.HS0_14 (F := Ideal) c arg4 harg4 arg5 harg5 arg6 harg6 arg8 arg9 x2 x3 x4)) := rfl
theorem m_8 : (kernelRun0_A.sl.HS1_18 (F := Ideal) c arg4 harg4 arg5 harg5 arg9 x2 x3) = put (A := 1) (n := 256) 0 1024 3072 inb_S2x1x4096_S1x1x256_0_0_1024 inb_S2x1x4096_S1x1x256_0_0_3072 (lfm256 (mn256_256 (kernelRun0_A.sl.r_30 (F := Ideal) c arg4 harg4 arg5 harg5 x2 x3) (kernelRun0_A.sl.v644 (F := Ideal) c arg4 harg4 arg5 harg5 arg9 x2 x3) (kernelRun0_A.sl.v646 (F := Ideal) c arg4 harg4 arg5 harg5 arg9 x2 x3))) (rtm256 (mn256_256 (kernelRun0_A.sl.r_30 (F := Ideal) c arg4 harg4 arg5 harg5 x2 x3) (kernelRun0_A.sl.v644 (F := Ideal) c arg4 harg4 arg5 harg5 arg9 x2 x3) (kernelRun0_A.sl.v646 (F := Ideal) c arg4 harg4 arg5 harg5 arg9 x2 x3))) ((kernelRun0_A.sl.HS1_16 (F := Ideal) c arg4 harg4 arg5 harg5 arg9 x2 x3)) := rfl
theorem a_8 : (kernelRun0_A.sl.HS0_18 (F := Ideal) c arg4 harg4 arg5 harg5 arg6 harg6 arg8 arg9 x2 x3 x4) = put (A := 144) (n := 256) 0 1024 3072 inb_S2x144x4096_S1x144x256_0_0_1024 inb_S2x144x4096_S1x144x256_0_0_3072 (lfa256 (nx256_256 (vt256 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4))) (kernelRun0_A.sl.r_30 (F := Ideal) c arg4 harg4 arg5 harg5 x2 x3) (kernelRun0_A.sl.v644 (F := Ideal) c arg4 harg4 arg5 harg5 arg9 x2 x3) (kernelRun0_A.sl.v646 (F := Ideal) c arg4 harg4 arg5 harg5 arg9 x2 x3) (kernelRun0_A.sl.v664 (F := Ideal) c arg4 harg4 arg5 harg5 arg6 harg6 arg8 arg9 x2 x3 x4) (kernelRun0_A.sl.v666 (F := Ideal) c arg4 harg4 arg5 harg5 arg6 harg6 arg8 arg9 x2 x3 x4))) (rta256 (nx256_256 (vt256 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4))) (kernelRun0_A.sl.r_30 (F := Ideal) c arg4 harg4 arg5 harg5 x2 x3) (kernelRun0_A.sl.v644 (F := Ideal) c arg4 harg4 arg5 harg5 arg9 x2 x3) (kernelRun0_A.sl.v646 (F := Ideal) c arg4 harg4 arg5 harg5 arg9 x2 x3) (kernelRun0_A.sl.v664 (F := Ideal) c arg4 harg4 arg5 harg5 arg6 harg6 arg8 arg9 x2 x3 x4) (kernelRun0_A.sl.v666 (F := Ideal) c arg4 harg4 arg5 harg5 arg6 harg6 arg8 arg9 x2 x3 x4))) ((kernelRun0_A.sl.HS0_16 (F := Ideal) c arg4 harg4 arg5 harg5 arg6 harg6 arg8 arg9 x2 x3 x4)) := rfl
theorem m_9 : (kernelRun0_A.sl.HS1_20 (F := Ideal) c arg4 harg4 arg5 harg5 arg9 x2 x3) = put (A := 1) (n := 256) 1 1024 3072 inb_S2x1x4096_S1x1x256_1_0_1024 inb_S2x1x4096_S1x1x256_1_0_3072 (lfm256 (mn256_256 (kernelRun0_A.sl.r_35 (F := Ideal) c arg4 harg4 arg5 harg5 x2 x3) (kernelRun0_A.sl.v714 (F := Ideal) c arg4 harg4 arg5 harg5 arg9 x2 x3) (kernelRun0_A.sl.v716 (F := Ideal) c arg4 harg4 arg5 harg5 arg9 x2 x3))) (rtm256 (mn256_256 (kernelRun0_A.sl.r_35 (F := Ideal) c arg4 harg4 arg5 harg5 x2 x3) (kernelRun0_A.sl.v714 (F := Ideal) c arg4 harg4 arg5 harg5 arg9 x2 x3) (kernelRun0_A.sl.v716 (F := Ideal) c arg4 harg4 arg5 harg5 arg9 x2 x3))) ((kernelRun0_A.sl.HS1_18 (F := Ideal) c arg4 harg4 arg5 harg5 arg9 x2 x3)) := rfl
theorem a_9 : (kernelRun0_A.sl.HS0_20 (F := Ideal) c arg4 harg4 arg5 harg5 arg6 harg6 arg8 arg9 x2 x3 x4) = put (A := 144) (n := 256) 1 1024 3072 inb_S2x144x4096_S1x144x256_1_0_1024 inb_S2x144x4096_S1x144x256_1_0_3072 (lfa256 (nx256_256 (vt256 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4))) (kernelRun0_A.sl.r_35 (F := Ideal) c arg4 harg4 arg5 harg5 x2 x3) (kernelRun0_A.sl.v714 (F := Ideal) c arg4 harg4 arg5 harg5 arg9 x2 x3) (kernelRun0_A.sl.v716 (F := Ideal) c arg4 harg4 arg5 harg5 arg9 x2 x3) (kernelRun0_A.sl.v734 (F := Ideal) c arg4 harg4 arg5 harg5 arg6 harg6 arg8 arg9 x2 x3 x4) (kernelRun0_A.sl.v736 (F := Ideal) c arg4 harg4 arg5 harg5 arg6 harg6 arg8 arg9 x2 x3 x4))) (rta256 (nx256_256 (vt256 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4))) (kernelRun0_A.sl.r_35 (F := Ideal) c arg4 harg4 arg5 harg5 x2 x3) (kernelRun0_A.sl.v714 (F := Ideal) c arg4 harg4 arg5 harg5 arg9 x2 x3) (kernelRun0_A.sl.v716 (F := Ideal) c arg4 harg4 arg5 harg5 arg9 x2 x3) (kernelRun0_A.sl.v734 (F := Ideal) c arg4 harg4 arg5 harg5 arg6 harg6 arg8 arg9 x2 x3 x4) (kernelRun0_A.sl.v736 (F := Ideal) c arg4 harg4 arg5 harg5 arg6 harg6 arg8 arg9 x2 x3 x4))) ((kernelRun0_A.sl.HS0_18 (F := Ideal) c arg4 harg4 arg5 harg5 arg6 harg6 arg8 arg9 x2 x3 x4)) := rfl
theorem m_10 : (kernelRun0_A.sl.HS1_22 (F := Ideal) c arg4 harg4 arg5 harg5 arg9 x2 x3) = put (A := 1) (n := 768) 0 1280 3328 inb_S2x1x4096_S1x1x768_0_0_1280 inb_S2x1x4096_S1x1x768_0_0_3328 (lfm768 (mn512_768 (kernelRun0_A.sl.r_41 (F := Ideal) c arg4 harg4 arg5 harg5 x2 x3) (kernelRun0_A.sl.v784 (F := Ideal) c arg4 harg4 arg5 harg5 arg9 x2 x3) (kernelRun0_A.sl.v786 (F := Ideal) c arg4 harg4 arg5 harg5 arg9 x2 x3))) (rtm768 (mn512_768 (kernelRun0_A.sl.r_41 (F := Ideal) c arg4 harg4 arg5 harg5 x2 x3) (kernelRun0_A.sl.v784 (F := Ideal) c arg4 harg4 arg5 harg5 arg9 x2 x3) (kernelRun0_A.sl.v786 (F := Ideal) c arg4 harg4 arg5 harg5 arg9 x2 x3))) ((kernelRun0_A.sl.HS1_20 (F := Ideal) c arg4 harg4 arg5 harg5 arg9 x2 x3)) := rfl
theorem a_10 : (kernelRun0_A.sl.HS0_22 (F := Ideal) c arg4 harg4 arg5 harg5 arg6 harg6 arg8 arg9 x2 x3 x4) = put (A := 144) (n := 768) 0 1280 3328 inb_S2x144x4096_S1x144x768_0_0_1280 inb_S2x144x4096_S1x144x768_0_0_3328 (lfa768 (nx512_768 (vt512 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4)) (View.readAt (Elt Ideal) arg6.view (Rect.unit (s := S1x2048x256) ![0, 1280, 0] S1x128x128.size inb_S1x2048x256_S1x128x128_0_1280_0).toLoadRect (harg6.unread x4)) (View.readAt (Elt Ideal) arg6.view (Rect.unit (s := S1x2048x256) ![0, 1408, 0] S1x128x128.size inb_S1x2048x256_S1x128x128_0_1408_0).toLoadRect (harg6.unread x4))) (kernelRun0_A.sl.r_41 (F := Ideal) c arg4 harg4 arg5 harg5 x2 x3) (kernelRun0_A.sl.v784 (F := Ideal) c arg4 harg4 arg5 harg5 arg9 x2 x3) (kernelRun0_A.sl.v786 (F := Ideal) c arg4 harg4 arg5 harg5 arg9 x2 x3) (kernelRun0_A.sl.v804 (F := Ideal) c arg4 harg4 arg5 harg5 arg6 harg6 arg8 arg9 x2 x3 x4) (kernelRun0_A.sl.v806 (F := Ideal) c arg4 harg4 arg5 harg5 arg6 harg6 arg8 arg9 x2 x3 x4))) (rta768 (nx512_768 (vt512 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4)) (View.readAt (Elt Ideal) arg6.view (Rect.unit (s := S1x2048x256) ![0, 1280, 0] S1x128x128.size inb_S1x2048x256_S1x128x128_0_1280_0).toLoadRect (harg6.unread x4)) (View.readAt (Elt Ideal) arg6.view (Rect.unit (s := S1x2048x256) ![0, 1408, 0] S1x128x128.size inb_S1x2048x256_S1x128x128_0_1408_0).toLoadRect (harg6.unread x4))) (kernelRun0_A.sl.r_41 (F := Ideal) c arg4 harg4 arg5 harg5 x2 x3) (kernelRun0_A.sl.v784 (F := Ideal) c arg4 harg4 arg5 harg5 arg9 x2 x3) (kernelRun0_A.sl.v786 (F := Ideal) c arg4 harg4 arg5 harg5 arg9 x2 x3) (kernelRun0_A.sl.v804 (F := Ideal) c arg4 harg4 arg5 harg5 arg6 harg6 arg8 arg9 x2 x3 x4) (kernelRun0_A.sl.v806 (F := Ideal) c arg4 harg4 arg5 harg5 arg6 harg6 arg8 arg9 x2 x3 x4))) ((kernelRun0_A.sl.HS0_20 (F := Ideal) c arg4 harg4 arg5 harg5 arg6 harg6 arg8 arg9 x2 x3 x4)) := rfl
theorem m_11 : (kernelRun0_A.sl.HS1_24 (F := Ideal) c arg4 harg4 arg5 harg5 arg9 x2 x3) = put (A := 1) (n := 768) 1 1280 3328 inb_S2x1x4096_S1x1x768_1_0_1280 inb_S2x1x4096_S1x1x768_1_0_3328 (lfm768 (mn512_768 (kernelRun0_A.sl.r_47 (F := Ideal) c arg4 harg4 arg5 harg5 x2 x3) (kernelRun0_A.sl.v854 (F := Ideal) c arg4 harg4 arg5 harg5 arg9 x2 x3) (kernelRun0_A.sl.v856 (F := Ideal) c arg4 harg4 arg5 harg5 arg9 x2 x3))) (rtm768 (mn512_768 (kernelRun0_A.sl.r_47 (F := Ideal) c arg4 harg4 arg5 harg5 x2 x3) (kernelRun0_A.sl.v854 (F := Ideal) c arg4 harg4 arg5 harg5 arg9 x2 x3) (kernelRun0_A.sl.v856 (F := Ideal) c arg4 harg4 arg5 harg5 arg9 x2 x3))) ((kernelRun0_A.sl.HS1_22 (F := Ideal) c arg4 harg4 arg5 harg5 arg9 x2 x3)) := rfl
theorem a_11 : (kernelRun0_A.sl.HS0_24 (F := Ideal) c arg4 harg4 arg5 harg5 arg6 harg6 arg8 arg9 x2 x3 x4) = put (A := 144) (n := 768) 1 1280 3328 inb_S2x144x4096_S1x144x768_1_0_1280 inb_S2x144x4096_S1x144x768_1_0_3328 (lfa768 (nx512_768 (vt512 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4)) (View.readAt (Elt Ideal) arg6.view (Rect.unit (s := S1x2048x256) ![0, 1280, 128] S1x128x128.size inb_S1x2048x256_S1x128x128_0_1280_128).toLoadRect (harg6.unread x4)) (View.readAt (Elt Ideal) arg6.view (Rect.unit (s := S1x2048x256) ![0, 1408, 128] S1x128x128.size inb_S1x2048x256_S1x128x128_0_1408_128).toLoadRect (harg6.unread x4))) (kernelRun0_A.sl.r_47 (F := Ideal) c arg4 harg4 arg5 harg5 x2 x3) (kernelRun0_A.sl.v854 (F := Ideal) c arg4 harg4 arg5 harg5 arg9 x2 x3) (kernelRun0_A.sl.v856 (F := Ideal) c arg4 harg4 arg5 harg5 arg9 x2 x3) (kernelRun0_A.sl.v874 (F := Ideal) c arg4 harg4 arg5 harg5 arg6 harg6 arg8 arg9 x2 x3 x4) (kernelRun0_A.sl.v876 (F := Ideal) c arg4 harg4 arg5 harg5 arg6 harg6 arg8 arg9 x2 x3 x4))) (rta768 (nx512_768 (vt512 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4)) (View.readAt (Elt Ideal) arg6.view (Rect.unit (s := S1x2048x256) ![0, 1280, 128] S1x128x128.size inb_S1x2048x256_S1x128x128_0_1280_128).toLoadRect (harg6.unread x4)) (View.readAt (Elt Ideal) arg6.view (Rect.unit (s := S1x2048x256) ![0, 1408, 128] S1x128x128.size inb_S1x2048x256_S1x128x128_0_1408_128).toLoadRect (harg6.unread x4))) (kernelRun0_A.sl.r_47 (F := Ideal) c arg4 harg4 arg5 harg5 x2 x3) (kernelRun0_A.sl.v854 (F := Ideal) c arg4 harg4 arg5 harg5 arg9 x2 x3) (kernelRun0_A.sl.v856 (F := Ideal) c arg4 harg4 arg5 harg5 arg9 x2 x3) (kernelRun0_A.sl.v874 (F := Ideal) c arg4 harg4 arg5 harg5 arg6 harg6 arg8 arg9 x2 x3 x4) (kernelRun0_A.sl.v876 (F := Ideal) c arg4 harg4 arg5 harg5 arg6 harg6 arg8 arg9 x2 x3 x4))) ((kernelRun0_A.sl.HS0_22 (F := Ideal) c arg4 harg4 arg5 harg5 arg6 harg6 arg8 arg9 x2 x3 x4)) := rfl
theorem m_12 : (kernelRun0_A.sl.HS1_26 (F := Ideal) c arg4 harg4 arg5 harg5 arg9 x2 x3) = put (A := 1) (n := 256) 0 1536 3584 inb_S2x1x4096_S1x1x256_0_0_1536 inb_S2x1x4096_S1x1x256_0_0_3584 (lfm256 (mn256_256 (kernelRun0_A.sl.r_52 (F := Ideal) c arg4 harg4 arg5 harg5 x2 x3) (kernelRun0_A.sl.v906 (F := Ideal) c arg4 harg4 arg5 harg5 arg9 x2 x3) (kernelRun0_A.sl.v908 (F := Ideal) c arg4 harg4 arg5 harg5 arg9 x2 x3))) (rtm256 (mn256_256 (kernelRun0_A.sl.r_52 (F := Ideal) c arg4 harg4 arg5 harg5 x2 x3) (kernelRun0_A.sl.v906 (F := Ideal) c arg4 harg4 arg5 harg5 arg9 x2 x3) (kernelRun0_A.sl.v908 (F := Ideal) c arg4 harg4 arg5 harg5 arg9 x2 x3))) ((kernelRun0_A.sl.HS1_24 (F := Ideal) c arg4 harg4 arg5 harg5 arg9 x2 x3)) := rfl
theorem a_12 : (kernelRun0_A.sl.HS0_26 (F := Ideal) c arg4 harg4 arg5 harg5 arg6 harg6 arg8 arg9 x2 x3 x4) = put (A := 144) (n := 256) 0 1536 3584 inb_S2x144x4096_S1x144x256_0_0_1536 inb_S2x144x4096_S1x144x256_0_0_3584 (lfa256 (nx256_256 (vt256 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4))) (kernelRun0_A.sl.r_52 (F := Ideal) c arg4 harg4 arg5 harg5 x2 x3) (kernelRun0_A.sl.v906 (F := Ideal) c arg4 harg4 arg5 harg5 arg9 x2 x3) (kernelRun0_A.sl.v908 (F := Ideal) c arg4 harg4 arg5 harg5 arg9 x2 x3) (kernelRun0_A.sl.v926 (F := Ideal) c arg4 harg4 arg5 harg5 arg6 harg6 arg8 arg9 x2 x3 x4) (kernelRun0_A.sl.v928 (F := Ideal) c arg4 harg4 arg5 harg5 arg6 harg6 arg8 arg9 x2 x3 x4))) (rta256 (nx256_256 (vt256 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4))) (kernelRun0_A.sl.r_52 (F := Ideal) c arg4 harg4 arg5 harg5 x2 x3) (kernelRun0_A.sl.v906 (F := Ideal) c arg4 harg4 arg5 harg5 arg9 x2 x3) (kernelRun0_A.sl.v908 (F := Ideal) c arg4 harg4 arg5 harg5 arg9 x2 x3) (kernelRun0_A.sl.v926 (F := Ideal) c arg4 harg4 arg5 harg5 arg6 harg6 arg8 arg9 x2 x3 x4) (kernelRun0_A.sl.v928 (F := Ideal) c arg4 harg4 arg5 harg5 arg6 harg6 arg8 arg9 x2 x3 x4))) ((kernelRun0_A.sl.HS0_24 (F := Ideal) c arg4 harg4 arg5 harg5 arg6 harg6 arg8 arg9 x2 x3 x4)) := rfl
theorem m_13 : (kernelRun0_A.sl.HS1_28 (F := Ideal) c arg4 harg4 arg5 harg5 arg9 x2 x3) = put (A := 1) (n := 256) 1 1536 3584 inb_S2x1x4096_S1x1x256_1_0_1536 inb_S2x1x4096_S1x1x256_1_0_3584 (lfm256 (mn256_256 (kernelRun0_A.sl.r_60 (F := Ideal) c arg4 harg4 arg5 harg5 x2 x3) (kernelRun0_A.sl.v958 (F := Ideal) c arg4 harg4 arg5 harg5 arg9 x2 x3) (kernelRun0_A.sl.v960 (F := Ideal) c arg4 harg4 arg5 harg5 arg9 x2 x3))) (rtm256 (mn256_256 (kernelRun0_A.sl.r_60 (F := Ideal) c arg4 harg4 arg5 harg5 x2 x3) (kernelRun0_A.sl.v958 (F := Ideal) c arg4 harg4 arg5 harg5 arg9 x2 x3) (kernelRun0_A.sl.v960 (F := Ideal) c arg4 harg4 arg5 harg5 arg9 x2 x3))) ((kernelRun0_A.sl.HS1_26 (F := Ideal) c arg4 harg4 arg5 harg5 arg9 x2 x3)) := rfl
theorem a_13 : (kernelRun0_A.sl.HS0_28 (F := Ideal) c arg4 harg4 arg5 harg5 arg6 harg6 arg8 arg9 x2 x3 x4) = put (A := 144) (n := 256) 1 1536 3584 inb_S2x144x4096_S1x144x256_1_0_1536 inb_S2x144x4096_S1x144x256_1_0_3584 (lfa256 (nx256_256 (vt256 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4))) (kernelRun0_A.sl.r_60 (F := Ideal) c arg4 harg4 arg5 harg5 x2 x3) (kernelRun0_A.sl.v958 (F := Ideal) c arg4 harg4 arg5 harg5 arg9 x2 x3) (kernelRun0_A.sl.v960 (F := Ideal) c arg4 harg4 arg5 harg5 arg9 x2 x3) (kernelRun0_A.sl.v978 (F := Ideal) c arg4 harg4 arg5 harg5 arg6 harg6 arg8 arg9 x2 x3 x4) (kernelRun0_A.sl.v980 (F := Ideal) c arg4 harg4 arg5 harg5 arg6 harg6 arg8 arg9 x2 x3 x4))) (rta256 (nx256_256 (vt256 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4))) (kernelRun0_A.sl.r_60 (F := Ideal) c arg4 harg4 arg5 harg5 x2 x3) (kernelRun0_A.sl.v958 (F := Ideal) c arg4 harg4 arg5 harg5 arg9 x2 x3) (kernelRun0_A.sl.v960 (F := Ideal) c arg4 harg4 arg5 harg5 arg9 x2 x3) (kernelRun0_A.sl.v978 (F := Ideal) c arg4 harg4 arg5 harg5 arg6 harg6 arg8 arg9 x2 x3 x4) (kernelRun0_A.sl.v980 (F := Ideal) c arg4 harg4 arg5 harg5 arg6 harg6 arg8 arg9 x2 x3 x4))) ((kernelRun0_A.sl.HS0_26 (F := Ideal) c arg4 harg4 arg5 harg5 arg6 harg6 arg8 arg9 x2 x3 x4)) := rfl
theorem m_14 : (kernelRun0_A.sl.HS1_30 (F := Ideal) c arg4 harg4 arg5 harg5 arg9 x2 x3) = put (A := 1) (n := 256) 0 1792 3840 inb_S2x1x4096_S1x1x256_0_0_1792 inb_S2x1x4096_S1x1x256_0_0_3840 (lfm256 (mn512_256 (kernelRun0_A.sl.r_68 (F := Ideal) c arg4 harg4 arg5 harg5 x2 x3) (kernelRun0_A.sl.v1010 (F := Ideal) c arg4 harg4 arg5 harg5 arg9 x2 x3) (kernelRun0_A.sl.v1012 (F := Ideal) c arg4 harg4 arg5 harg5 arg9 x2 x3))) (rtm256 (mn512_256 (kernelRun0_A.sl.r_68 (F := Ideal) c arg4 harg4 arg5 harg5 x2 x3) (kernelRun0_A.sl.v1010 (F := Ideal) c arg4 harg4 arg5 harg5 arg9 x2 x3) (kernelRun0_A.sl.v1012 (F := Ideal) c arg4 harg4 arg5 harg5 arg9 x2 x3))) ((kernelRun0_A.sl.HS1_28 (F := Ideal) c arg4 harg4 arg5 harg5 arg9 x2 x3)) := rfl
theorem a_14 : (kernelRun0_A.sl.HS0_30 (F := Ideal) c arg4 harg4 arg5 harg5 arg6 harg6 arg8 arg9 x2 x3 x4) = put (A := 144) (n := 256) 0 1792 3840 inb_S2x144x4096_S1x144x256_0_0_1792 inb_S2x144x4096_S1x144x256_0_0_3840 (lfa256 (nx512_256 (vt512 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4)) (View.readAt (Elt Ideal) arg6.view (Rect.unit (s := S1x2048x256) ![0, 1792, 0] S1x128x128.size inb_S1x2048x256_S1x128x128_0_1792_0).toLoadRect (harg6.unread x4)) (View.readAt (Elt Ideal) arg6.view (Rect.unit (s := S1x2048x256) ![0, 1920, 0] S1x128x128.size inb_S1x2048x256_S1x128x128_0_1920_0).toLoadRect (harg6.unread x4))) (kernelRun0_A.sl.r_68 (F := Ideal) c arg4 harg4 arg5 harg5 x2 x3) (kernelRun0_A.sl.v1010 (F := Ideal) c arg4 harg4 arg5 harg5 arg9 x2 x3) (kernelRun0_A.sl.v1012 (F := Ideal) c arg4 harg4 arg5 harg5 arg9 x2 x3) (kernelRun0_A.sl.v1030 (F := Ideal) c arg4 harg4 arg5 harg5 arg6 harg6 arg8 arg9 x2 x3 x4) (kernelRun0_A.sl.v1032 (F := Ideal) c arg4 harg4 arg5 harg5 arg6 harg6 arg8 arg9 x2 x3 x4))) (rta256 (nx512_256 (vt512 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4)) (View.readAt (Elt Ideal) arg6.view (Rect.unit (s := S1x2048x256) ![0, 1792, 0] S1x128x128.size inb_S1x2048x256_S1x128x128_0_1792_0).toLoadRect (harg6.unread x4)) (View.readAt (Elt Ideal) arg6.view (Rect.unit (s := S1x2048x256) ![0, 1920, 0] S1x128x128.size inb_S1x2048x256_S1x128x128_0_1920_0).toLoadRect (harg6.unread x4))) (kernelRun0_A.sl.r_68 (F := Ideal) c arg4 harg4 arg5 harg5 x2 x3) (kernelRun0_A.sl.v1010 (F := Ideal) c arg4 harg4 arg5 harg5 arg9 x2 x3) (kernelRun0_A.sl.v1012 (F := Ideal) c arg4 harg4 arg5 harg5 arg9 x2 x3) (kernelRun0_A.sl.v1030 (F := Ideal) c arg4 harg4 arg5 harg5 arg6 harg6 arg8 arg9 x2 x3 x4) (kernelRun0_A.sl.v1032 (F := Ideal) c arg4 harg4 arg5 harg5 arg6 harg6 arg8 arg9 x2 x3 x4))) ((kernelRun0_A.sl.HS0_28 (F := Ideal) c arg4 harg4 arg5 harg5 arg6 harg6 arg8 arg9 x2 x3 x4)) := rfl
theorem a_15 : (kernelRun0_A.sl.HS0_32 (F := Ideal) c arg4 harg4 arg5 harg5 arg6 harg6 arg8 arg9 x2 x3 x4) = put (A := 144) (n := 256) 1 1792 3840 inb_S2x144x4096_S1x144x256_1_0_1792 inb_S2x144x4096_S1x144x256_1_0_3840 (lfa256 (nx512_256 (vt512 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4)) (View.readAt (Elt Ideal) arg6.view (Rect.unit (s := S1x2048x256) ![0, 1792, 128] S1x128x128.size inb_S1x2048x256_S1x128x128_0_1792_128).toLoadRect (harg6.unread x4)) (View.readAt (Elt Ideal) arg6.view (Rect.unit (s := S1x2048x256) ![0, 1920, 128] S1x128x128.size inb_S1x2048x256_S1x128x128_0_1920_128).toLoadRect (harg6.unread x4))) (kernelRun0_A.sl.r_73 (F := Ideal) c arg4 harg4 arg5 harg5 x2 x3) (kernelRun0_A.sl.v1062 (F := Ideal) c arg4 harg4 arg5 harg5 arg9 x2 x3) (kernelRun0_A.sl.v1064 (F := Ideal) c arg4 harg4 arg5 harg5 arg9 x2 x3) (kernelRun0_A.sl.v1082 (F := Ideal) c arg4 harg4 arg5 harg5 arg6 harg6 arg8 arg9 x2 x3 x4) (kernelRun0_A.sl.v1084 (F := Ideal) c arg4 harg4 arg5 harg5 arg6 harg6 arg8 arg9 x2 x3 x4))) (rta256 (nx512_256 (vt512 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4)) (View.readAt (Elt Ideal) arg6.view (Rect.unit (s := S1x2048x256) ![0, 1792, 128] S1x128x128.size inb_S1x2048x256_S1x128x128_0_1792_128).toLoadRect (harg6.unread x4)) (View.readAt (Elt Ideal) arg6.view (Rect.unit (s := S1x2048x256) ![0, 1920, 128] S1x128x128.size inb_S1x2048x256_S1x128x128_0_1920_128).toLoadRect (harg6.unread x4))) (kernelRun0_A.sl.r_73 (F := Ideal) c arg4 harg4 arg5 harg5 x2 x3) (kernelRun0_A.sl.v1062 (F := Ideal) c arg4 harg4 arg5 harg5 arg9 x2 x3) (kernelRun0_A.sl.v1064 (F := Ideal) c arg4 harg4 arg5 harg5 arg9 x2 x3) (kernelRun0_A.sl.v1082 (F := Ideal) c arg4 harg4 arg5 harg5 arg6 harg6 arg8 arg9 x2 x3 x4) (kernelRun0_A.sl.v1084 (F := Ideal) c arg4 harg4 arg5 harg5 arg6 harg6 arg8 arg9 x2 x3 x4))) ((kernelRun0_A.sl.HS0_30 (F := Ideal) c arg4 harg4 arg5 harg5 arg6 harg6 arg8 arg9 x2 x3 x4)) := rfl
end Cert.AttnRun
-- ==== Proof.AttnChain.lean ====
module
public import proofs.«01_k».proof.Proof.AttnRun
/-! Unit by unit, the scratch buffers hold every column's running largest score and weighted sums. -/
@[expose] public section
noncomputable section
open Idealize.ShloMosaic Idealize.ShloMosaic.TcCoe Idealize.SL.Sem
namespace Cert.AttnChain
open Cert.AttnIdeal Cert.AttnIdeal.Gen Cert.AttnCol Cert.AttnTiles Cert.AttnState Cert.AttnUnits Cert.AttnRun

/-- A block's entry at a row and a lane. -/
def at3 (x : Vec Ideal S1x2048x256 .bf16) (k d : Nat) : EReal := if h : k < 2048 ∧ d < 256 then x (ix3 0 ⟨k, h.1⟩ ⟨d, h.2⟩) else 0

/-- A tile of an input block. -/
theorem rd (n e o : Nat) (arg : Memref sig .tc .vmem S1x2048x256 .bf16) (harg : arg.IsWhole) (x : Vec Ideal S1x2048x256 .bf16)
    (inb : ∀ a, (![0, o, e] : Fin 3 → Nat) a + (Tl n 128).size a ≤ S1x2048x256.size a) (r : Fin n) (d : Fin 128) :
    View.readAt (Elt Ideal) arg.view (Rect.unit (s := S1x2048x256) ![0, o, e] (Tl n 128).size inb).toLoadRect (harg.unread x) (ix3 0 r d) = at3 x (o + r.val) (e + d.val) := by
  have h1 : o + n ≤ 2048 := inb 1
  have h2 : e + 128 ≤ 256 := inb 2
  rw [View.readAt_eq_ld, harg.read_unread, at3, dif_pos ⟨by omega, by omega⟩]
  refine congrArg x (funext fun a => Fin.ext ?_)
  match a with
  | 0 => rfl
  | 1 => show o + 1 * r.val = o + r.val; omega
  | 2 => show e + 1 * d.val = e + d.val; omega

/-- A tile of a scratch buffer, read back. -/
theorem rdc {A n : Nat} (v : View sig .tc .vmem (Sc A) .f32) (L : Pieces A) (h0 c0 o : Nat) (hh : h0 < 2) (p : Fin 2) (ho : o = 2048 * p.val + c0)
    (inb : ∀ a, (![h0, 0, o] : Fin 3 → Nat) a + (Tl A n).size a ≤ (Sc A).size a) (i : Fin A) (c : Fin 2048) (hl : c0 ≤ c.val) (hr : c.val < c0 + n) :
    v.readCov L (Rect.unit (s := Sc A) ![h0, 0, o] (Tl A n).size inb).toLoadRect (ix3 0 i ⟨c.val - c0, by omega⟩) = View.canon L (place ⟨h0, hh⟩ i p c) := by
  rw [View.readCov_eq_canon']
  refine congrArg (View.canon L) (funext fun a => Fin.ext ?_)
  match a with
  | 0 => show h0 + 1 * 0 = h0; omega
  | 1 => show 0 + 1 * i.val = i.val; omega
  | 2 => show o + 1 * (c.val - c0) = 2048 * p.val + c.val; omega

theorem row_coe (w : Nat → Nat → Nat → ℝ) (h : Nat) (i : Fin 144) (k : Nat) :
    (if i.val < 128 then ((w h i.val k : ℝ) : EReal) else 1) = (row w h i k : EReal) := by
  unfold row; split <;> rfl

variable (c : Dev nD) (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg8 : Memref sig .tc .vmem S2x144x4096 .f32) (arg9 : Memref sig .tc .vmem S2x1x4096 .f32)
  (x2 x3 x4 : Vec Ideal S1x2048x256 .bf16)
variable (s : Nat → Nat → Nat → Nat → ℝ) (w : Nat → Nat → Nat → ℝ)

/-- The scores the queries' and keys' products are. -/
structure Scores : Prop where
  s00 : ∀ (q k : Nat) (hq : q < 2048) (_ : k < 2048), ∑ d : Fin 128, at3 x3 k (0 + d.val) * (kernelRun0_A.sl.r_1 (F := Ideal) c arg4 harg4 x2) (ix2 ⟨q, hq⟩ d) = (s 0 0 q k : EReal)
  s01 : ∀ (q k : Nat) (hq : q < 2048) (_ : k < 2048), ∑ d : Fin 128, at3 x3 k (0 + d.val) * (kernelRun0_A.sl.r_2 (F := Ideal) c arg4 harg4 x2) (ix2 ⟨q, hq⟩ d) = (s 0 1 q k : EReal)
  s10 : ∀ (q k : Nat) (hq : q < 2048) (_ : k < 2048), ∑ d : Fin 128, at3 x3 k (128 + d.val) * (kernelRun0_A.sl.r_4 (F := Ideal) c arg4 harg4 x2) (ix2 ⟨q, hq⟩ d) = (s 1 0 q k : EReal)
  s11 : ∀ (q k : Nat) (hq : q < 2048) (_ : k < 2048), ∑ d : Fin 128, at3 x3 k (128 + d.val) * (kernelRun0_A.sl.r_5 (F := Ideal) c arg4 harg4 x2) (ix2 ⟨q, hq⟩ d) = (s 1 1 q k : EReal)
  v0 : ∀ (k i : Nat) (_ : k < 2048) (_ : i < 128), at3 x4 k (0 + i) = (w 0 i k : EReal)
  v1 : ∀ (k i : Nat) (_ : k < 2048) (_ : i < 128), at3 x4 k (128 + i) = (w 1 i k : EReal)
variable (H : Scores c arg4 harg4 x2 x3 x4 s w)

/-- How many keys each column has met, after each unit. -/
def K_none (_ _ : Nat) : Nat := 0
def K_0 (h c : Nat) : Nat := if h = 0 ∧ 0 ≤ c ∧ c < 0 + 256 then 256 else K_none h c
def K_1 (h c : Nat) : Nat := if h = 1 ∧ 0 ≤ c ∧ c < 0 + 256 then 256 else K_0 h c
def K_2 (h c : Nat) : Nat := if h = 0 ∧ 256 ≤ c ∧ c < 256 + 1792 then 512 else K_1 h c
def K_3 (h c : Nat) : Nat := if h = 1 ∧ 256 ≤ c ∧ c < 256 + 1792 then 512 else K_2 h c
def K_4 (h c : Nat) : Nat := if h = 0 ∧ 512 ≤ c ∧ c < 512 + 256 then 512 + 256 else K_3 h c
def K_5 (h c : Nat) : Nat := if h = 1 ∧ 512 ≤ c ∧ c < 512 + 256 then 512 + 256 else K_4 h c
def K_6 (h c : Nat) : Nat := if h = 0 ∧ 768 ≤ c ∧ c < 768 + 1280 then 512 + 512 else K_5 h c
def K_7 (h c : Nat) : Nat := if h = 1 ∧ 768 ≤ c ∧ c < 768 + 1280 then 512 + 512 else K_6 h c
def K_8 (h c : Nat) : Nat := if h = 0 ∧ 1024 ≤ c ∧ c < 1024 + 256 then 1024 + 256 else K_7 h c
def K_9 (h c : Nat) : Nat := if h = 1 ∧ 1024 ≤ c ∧ c < 1024 + 256 then 1024 + 256 else K_8 h c
def K_10 (h c : Nat) : Nat := if h = 0 ∧ 1280 ≤ c ∧ c < 1280 + 768 then 1024 + 512 else K_9 h c
def K_11 (h c : Nat) : Nat := if h = 1 ∧ 1280 ≤ c ∧ c < 1280 + 768 then 1024 + 512 else K_10 h c
def K_12 (h c : Nat) : Nat := if h = 0 ∧ 1536 ≤ c ∧ c < 1536 + 256 then 1536 + 256 else K_11 h c
def K_13 (h c : Nat) : Nat := if h = 1 ∧ 1536 ≤ c ∧ c < 1536 + 256 then 1536 + 256 else K_12 h c
def K_14 (h c : Nat) : Nat := if h = 0 ∧ 1792 ≤ c ∧ c < 1792 + 256 then 1536 + 512 else K_13 h c
def K_15 (h c : Nat) : Nat := if h = 1 ∧ 1792 ≤ c ∧ c < 1792 + 256 then 1536 + 512 else K_14 h c
include H in
theorem s0_left (r : Fin 256) (j : Fin 256) : (kernelRun0_A.sl.r_6 (F := Ideal) c arg4 harg4 arg5 harg5 x2 x3) (ix2 r (⟨j.val, by omega⟩ : Fin 512)) = masked (0 + r.val) (0 + j.val) (s 0 0 (0 + j.val) (0 + r.val) : EReal) := by
  rw [st_0]
  refine sc256_256_left 0 0 rfl (s 0 0) _ _ (fun r j => ?_) r j
  refine (Finset.sum_congr rfl fun d _ => ?_).trans (H.s00 (0 + j.val) (0 + r.val) (by omega) (by omega))
  rw [qc0_256_left]
  exact congrArg (· * _) (rd 256 0 0 arg5 harg5 x3 _ r d)
include H in
theorem s0_right (r : Fin 256) (j : Fin 256) : (kernelRun0_A.sl.r_6 (F := Ideal) c arg4 harg4 arg5 harg5 x2 x3) (ix2 r (⟨256 + j.val, by omega⟩ : Fin 512)) = masked (0 + r.val) (0 + j.val) (s 0 1 (0 + j.val) (0 + r.val) : EReal) := by
  rw [st_0]
  refine sc256_256_right 0 0 rfl (s 0 1) _ _ (fun r j => ?_) r j
  refine (Finset.sum_congr rfl fun d _ => ?_).trans (H.s01 (0 + j.val) (0 + r.val) (by omega) (by omega))
  rw [qc0_256_right]
  exact congrArg (· * _) (rd 256 0 0 arg5 harg5 x3 _ r d)
include H in
theorem v0 (i : Fin 144) (r : Fin 256) : (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (ix2 i r) = (row w 0 i (0 + r.val) : EReal) := by
  refine (vt256_apply _ _ (fun i k => ((w 0 i (0 + k) : ℝ) : EReal))
    (fun i r => (rd 128 0 0 arg6 harg6 x4 _ r i).trans ((H.v0 _ _ (by omega) i.isLt).trans (congrArg (fun k => ((w 0 i.val k : ℝ) : EReal)) (show 0 + r.val = 0 + (0 + r.val) by omega))))
    (fun i r => (rd 128 0 128 arg6 harg6 x4 _ r i).trans ((H.v0 _ _ (by omega) i.isLt).trans (congrArg (fun k => ((w 0 i.val k : ℝ) : EReal)) (show 128 + r.val = 0 + (128 + r.val) by omega)))) i r).trans ?_
  exact row_coe w 0 i (0 + r.val)
include H in
theorem s1_left (r : Fin 256) (j : Fin 256) : (kernelRun0_A.sl.r_7 (F := Ideal) c arg4 harg4 arg5 harg5 x2 x3) (ix2 r (⟨j.val, by omega⟩ : Fin 512)) = masked (0 + r.val) (0 + j.val) (s 1 0 (0 + j.val) (0 + r.val) : EReal) := by
  rw [st_1]
  refine sc256_256_left 0 0 rfl (s 1 0) _ _ (fun r j => ?_) r j
  refine (Finset.sum_congr rfl fun d _ => ?_).trans (H.s10 (0 + j.val) (0 + r.val) (by omega) (by omega))
  rw [qc0_256_left]
  exact congrArg (· * _) (rd 256 128 0 arg5 harg5 x3 _ r d)
include H in
theorem s1_right (r : Fin 256) (j : Fin 256) : (kernelRun0_A.sl.r_7 (F := Ideal) c arg4 harg4 arg5 harg5 x2 x3) (ix2 r (⟨256 + j.val, by omega⟩ : Fin 512)) = masked (0 + r.val) (0 + j.val) (s 1 1 (0 + j.val) (0 + r.val) : EReal) := by
  rw [st_1]
  refine sc256_256_right 0 0 rfl (s 1 1) _ _ (fun r j => ?_) r j
  refine (Finset.sum_congr rfl fun d _ => ?_).trans (H.s11 (0 + j.val) (0 + r.val) (by omega) (by omega))
  rw [qc0_256_right]
  exact congrArg (· * _) (rd 256 128 0 arg5 harg5 x3 _ r d)
include H in
theorem v1 (i : Fin 144) (r : Fin 256) : (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (ix2 i r) = (row w 1 i (0 + r.val) : EReal) := by
  refine (vt256_apply _ _ (fun i k => ((w 1 i (0 + k) : ℝ) : EReal))
    (fun i r => (rd 128 128 0 arg6 harg6 x4 _ r i).trans ((H.v1 _ _ (by omega) i.isLt).trans (congrArg (fun k => ((w 1 i.val k : ℝ) : EReal)) (show 0 + r.val = 0 + (0 + r.val) by omega))))
    (fun i r => (rd 128 128 128 arg6 harg6 x4 _ r i).trans ((H.v1 _ _ (by omega) i.isLt).trans (congrArg (fun k => ((w 1 i.val k : ℝ) : EReal)) (show 128 + r.val = 0 + (128 + r.val) by omega)))) i r).trans ?_
  exact row_coe w 1 i (0 + r.val)
include H in
theorem s2_left (r : Fin 512) (j : Fin 1792) : (kernelRun0_A.sl.r_10 (F := Ideal) c arg4 harg4 arg5 harg5 x2 x3) (ix2 r (⟨j.val, by omega⟩ : Fin 3584)) = masked (0 + r.val) (256 + j.val) (s 0 0 (256 + j.val) (0 + r.val) : EReal) := by
  rw [st_2]
  refine sc512_1792_left 0 256 rfl (s 0 0) _ _ (fun r j => ?_) r j
  refine (Finset.sum_congr rfl fun d _ => ?_).trans (H.s00 (256 + j.val) (0 + r.val) (by omega) (by omega))
  rw [qc256_1792_left]
  exact congrArg (· * _) (rd 512 0 0 arg5 harg5 x3 _ r d)
include H in
theorem s2_right (r : Fin 512) (j : Fin 1792) : (kernelRun0_A.sl.r_10 (F := Ideal) c arg4 harg4 arg5 harg5 x2 x3) (ix2 r (⟨1792 + j.val, by omega⟩ : Fin 3584)) = masked (0 + r.val) (256 + j.val) (s 0 1 (256 + j.val) (0 + r.val) : EReal) := by
  rw [st_2]
  refine sc512_1792_right 0 256 rfl (s 0 1) _ _ (fun r j => ?_) r j
  refine (Finset.sum_congr rfl fun d _ => ?_).trans (H.s01 (256 + j.val) (0 + r.val) (by omega) (by omega))
  rw [qc256_1792_right]
  exact congrArg (· * _) (rd 512 0 0 arg5 harg5 x3 _ r d)
include H in
theorem v2 (i : Fin 144) (r : Fin 512) : (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (ix2 i r) = (row w 0 i (0 + r.val) : EReal) := by
  refine (vt512_apply _ _ _ _ (fun i k => ((w 0 i (0 + k) : ℝ) : EReal))
    (fun i r => (rd 128 0 0 arg6 harg6 x4 _ r i).trans ((H.v0 _ _ (by omega) i.isLt).trans (congrArg (fun k => ((w 0 i.val k : ℝ) : EReal)) (show 0 + r.val = 0 + (0 + r.val) by omega))))
    (fun i r => (rd 128 0 128 arg6 harg6 x4 _ r i).trans ((H.v0 _ _ (by omega) i.isLt).trans (congrArg (fun k => ((w 0 i.val k : ℝ) : EReal)) (show 128 + r.val = 0 + (128 + r.val) by omega))))
    (fun i r => (rd 128 0 256 arg6 harg6 x4 _ r i).trans ((H.v0 _ _ (by omega) i.isLt).trans (congrArg (fun k => ((w 0 i.val k : ℝ) : EReal)) (show 256 + r.val = 0 + (256 + r.val) by omega))))
    (fun i r => (rd 128 0 384 arg6 harg6 x4 _ r i).trans ((H.v0 _ _ (by omega) i.isLt).trans (congrArg (fun k => ((w 0 i.val k : ℝ) : EReal)) (show 384 + r.val = 0 + (384 + r.val) by omega)))) i r).trans ?_
  exact row_coe w 0 i (0 + r.val)
include H in
theorem s3_left (r : Fin 512) (j : Fin 1792) : (kernelRun0_A.sl.r_11 (F := Ideal) c arg4 harg4 arg5 harg5 x2 x3) (ix2 r (⟨j.val, by omega⟩ : Fin 3584)) = masked (0 + r.val) (256 + j.val) (s 1 0 (256 + j.val) (0 + r.val) : EReal) := by
  rw [st_3]
  refine sc512_1792_left 0 256 rfl (s 1 0) _ _ (fun r j => ?_) r j
  refine (Finset.sum_congr rfl fun d _ => ?_).trans (H.s10 (256 + j.val) (0 + r.val) (by omega) (by omega))
  rw [qc256_1792_left]
  exact congrArg (· * _) (rd 512 128 0 arg5 harg5 x3 _ r d)
include H in
theorem s3_right (r : Fin 512) (j : Fin 1792) : (kernelRun0_A.sl.r_11 (F := Ideal) c arg4 harg4 arg5 harg5 x2 x3) (ix2 r (⟨1792 + j.val, by omega⟩ : Fin 3584)) = masked (0 + r.val) (256 + j.val) (s 1 1 (256 + j.val) (0 + r.val) : EReal) := by
  rw [st_3]
  refine sc512_1792_right 0 256 rfl (s 1 1) _ _ (fun r j => ?_) r j
  refine (Finset.sum_congr rfl fun d _ => ?_).trans (H.s11 (256 + j.val) (0 + r.val) (by omega) (by omega))
  rw [qc256_1792_right]
  exact congrArg (· * _) (rd 512 128 0 arg5 harg5 x3 _ r d)
include H in
theorem v3 (i : Fin 144) (r : Fin 512) : (vt512 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4)) (View.readAt (Elt Ideal) arg6.view (Rect.unit (s := S1x2048x256) ![0, 256, 128] S1x128x128.size inb_S1x2048x256_S1x128x128_0_256_128).toLoadRect (harg6.unread x4)) (View.readAt (Elt Ideal) arg6.view (Rect.unit (s := S1x2048x256) ![0, 384, 128] S1x128x128.size inb_S1x2048x256_S1x128x128_0_384_128).toLoadRect (harg6.unread x4))) (ix2 i r) = (row w 1 i (0 + r.val) : EReal) := by
  refine (vt512_apply _ _ _ _ (fun i k => ((w 1 i (0 + k) : ℝ) : EReal))
    (fun i r => (rd 128 128 0 arg6 harg6 x4 _ r i).trans ((H.v1 _ _ (by omega) i.isLt).trans (congrArg (fun k => ((w 1 i.val k : ℝ) : EReal)) (show 0 + r.val = 0 + (0 + r.val) by omega))))
    (fun i r => (rd 128 128 128 arg6 harg6 x4 _ r i).trans ((H.v1 _ _ (by omega) i.isLt).trans (congrArg (fun k => ((w 1 i.val k : ℝ) : EReal)) (show 128 + r.val = 0 + (128 + r.val) by omega))))
    (fun i r => (rd 128 128 256 arg6 harg6 x4 _ r i).trans ((H.v1 _ _ (by omega) i.isLt).trans (congrArg (fun k => ((w 1 i.val k : ℝ) : EReal)) (show 256 + r.val = 0 + (256 + r.val) by omega))))
    (fun i r => (rd 128 128 384 arg6 harg6 x4 _ r i).trans ((H.v1 _ _ (by omega) i.isLt).trans (congrArg (fun k => ((w 1 i.val k : ℝ) : EReal)) (show 384 + r.val = 0 + (384 + r.val) by omega)))) i r).trans ?_
  exact row_coe w 1 i (0 + r.val)
include H in
theorem s4_left (r : Fin 256) (j : Fin 256) : (kernelRun0_A.sl.r_13 (F := Ideal) c arg4 harg4 arg5 harg5 x2 x3) (ix2 r (⟨j.val, by omega⟩ : Fin 512)) = masked (512 + r.val) (512 + j.val) (s 0 0 (512 + j.val) (512 + r.val) : EReal) := by
  rw [st_4]
  refine sc256_256_left 512 512 rfl (s 0 0) _ _ (fun r j => ?_) r j
  refine (Finset.sum_congr rfl fun d _ => ?_).trans (H.s00 (512 + j.val) (512 + r.val) (by omega) (by omega))
  rw [qc512_256_left]
  exact congrArg (· * _) (rd 256 0 512 arg5 harg5 x3 _ r d)
include H in
theorem s4_right (r : Fin 256) (j : Fin 256) : (kernelRun0_A.sl.r_13 (F := Ideal) c arg4 harg4 arg5 harg5 x2 x3) (ix2 r (⟨256 + j.val, by omega⟩ : Fin 512)) = masked (512 + r.val) (512 + j.val) (s 0 1 (512 + j.val) (512 + r.val) : EReal) := by
  rw [st_4]
  refine sc256_256_right 512 512 rfl (s 0 1) _ _ (fun r j => ?_) r j
  refine (Finset.sum_congr rfl fun d _ => ?_).trans (H.s01 (512 + j.val) (512 + r.val) (by omega) (by omega))
  rw [qc512_256_right]
  exact congrArg (· * _) (rd 256 0 512 arg5 harg5 x3 _ r d)
include H in
theorem v4 (i : Fin 144) (r : Fin 256) : (vt256 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4))) (ix2 i r) = (row w 0 i (512 + r.val) : EReal) := by
  refine (vt256_apply _ _ (fun i k => ((w 0 i (512 + k) : ℝ) : EReal))
    (fun i r => (rd 128 0 512 arg6 harg6 x4 _ r i).trans ((H.v0 _ _ (by omega) i.isLt).trans (congrArg (fun k => ((w 0 i.val k : ℝ) : EReal)) (show 512 + r.val = 512 + (0 + r.val) by omega))))
    (fun i r => (rd 128 0 640 arg6 harg6 x4 _ r i).trans ((H.v0 _ _ (by omega) i.isLt).trans (congrArg (fun k => ((w 0 i.val k : ℝ) : EReal)) (show 640 + r.val = 512 + (128 + r.val) by omega)))) i r).trans ?_
  exact row_coe w 0 i (512 + r.val)
include H in
theorem s5_left (r : Fin 256) (j : Fin 256) : (kernelRun0_A.sl.r_18 (F := Ideal) c arg4 harg4 arg5 harg5 x2 x3) (ix2 r (⟨j.val, by omega⟩ : Fin 512)) = masked (512 + r.val) (512 + j.val) (s 1 0 (512 + j.val) (512 + r.val) : EReal) := by
  rw [st_5]
  refine sc256_256_left 512 512 rfl (s 1 0) _ _ (fun r j => ?_) r j
  refine (Finset.sum_congr rfl fun d _ => ?_).trans (H.s10 (512 + j.val) (512 + r.val) (by omega) (by omega))
  rw [qc512_256_left]
  exact congrArg (· * _) (rd 256 128 512 arg5 harg5 x3 _ r d)
include H in
theorem s5_right (r : Fin 256) (j : Fin 256) : (kernelRun0_A.sl.r_18 (F := Ideal) c arg4 harg4 arg5 harg5 x2 x3) (ix2 r (⟨256 + j.val, by omega⟩ : Fin 512)) = masked (512 + r.val) (512 + j.val) (s 1 1 (512 + j.val) (512 + r.val) : EReal) := by
  rw [st_5]
  refine sc256_256_right 512 512 rfl (s 1 1) _ _ (fun r j => ?_) r j
  refine (Finset.sum_congr rfl fun d _ => ?_).trans (H.s11 (512 + j.val) (512 + r.val) (by omega) (by omega))
  rw [qc512_256_right]
  exact congrArg (· * _) (rd 256 128 512 arg5 harg5 x3 _ r d)
include H in
theorem v5 (i : Fin 144) (r : Fin 256) : (vt256 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4))) (ix2 i r) = (row w 1 i (512 + r.val) : EReal) := by
  refine (vt256_apply _ _ (fun i k => ((w 1 i (512 + k) : ℝ) : EReal))
    (fun i r => (rd 128 128 512 arg6 harg6 x4 _ r i).trans ((H.v1 _ _ (by omega) i.isLt).trans (congrArg (fun k => ((w 1 i.val k : ℝ) : EReal)) (show 512 + r.val = 512 + (0 + r.val) by omega))))
    (fun i r => (rd 128 128 640 arg6 harg6 x4 _ r i).trans ((H.v1 _ _ (by omega) i.isLt).trans (congrArg (fun k => ((w 1 i.val k : ℝ) : EReal)) (show 640 + r.val = 512 + (128 + r.val) by omega)))) i r).trans ?_
  exact row_coe w 1 i (512 + r.val)
include H in
theorem s6_left (r : Fin 512) (j : Fin 1280) : (kernelRun0_A.sl.r_25 (F := Ideal) c arg4 harg4 arg5 harg5 x2 x3) (ix2 r (⟨j.val, by omega⟩ : Fin 2560)) = masked (512 + r.val) (768 + j.val) (s 0 0 (768 + j.val) (512 + r.val) : EReal) := by
  rw [st_6]
  refine sc512_1280_left 512 768 rfl (s 0 0) _ _ (fun r j => ?_) r j
  refine (Finset.sum_congr rfl fun d _ => ?_).trans (H.s00 (768 + j.val) (512 + r.val) (by omega) (by omega))
  rw [qc768_1280_left]
  exact congrArg (· * _) (rd 512 0 512 arg5 harg5 x3 _ r d)
include H in
theorem s6_right (r : Fin 512) (j : Fin 1280) : (kernelRun0_A.sl.r_25 (F := Ideal) c arg4 harg4 arg5 harg5 x2 x3) (ix2 r (⟨1280 + j.val, by omega⟩ : Fin 2560)) = masked (512 + r.val) (768 + j.val) (s 0 1 (768 + j.val) (512 + r.val) : EReal) := by
  rw [st_6]
  refine sc512_1280_right 512 768 rfl (s 0 1) _ _ (fun r j => ?_) r j
  refine (Finset.sum_congr rfl fun d _ => ?_).trans (H.s01 (768 + j.val) (512 + r.val) (by omega) (by omega))
  rw [qc768_1280_right]
  exact congrArg (· * _) (rd 512 0 512 arg5 harg5 x3 _ r d)
include H in
theorem v6 (i : Fin 144) (r : Fin 512) : (vt512 (View.readAt (Elt Ideal) arg6.view (Rect.unit (s := S1x2048x256) ![0, 512, 0] S1x128x128.size inb_S1x2048x256_S1x128x128_0_512_0).toLoadRect (harg6.unread x4)) (View.readAt (Elt Ideal) arg6.view (Rect.unit (s := S1x2048x256) ![0, 640, 0] S1x128x128.size inb_S1x2048x256_S1x128x128_0_640_0).toLoadRect (harg6.unread x4)) (View.readAt (Elt Ideal) arg6.view (Rect.unit (s := S1x2048x256) ![0, 768, 0] S1x128x128.size inb_S1x2048x256_S1x128x128_0_768_0).toLoadRect (harg6.unread x4)) (View.readAt (Elt Ideal) arg6.view (Rect.unit (s := S1x2048x256) ![0, 896, 0] S1x128x128.size inb_S1x2048x256_S1x128x128_0_896_0).toLoadRect (harg6.unread x4))) (ix2 i r) = (row w 0 i (512 + r.val) : EReal) := by
  refine (vt512_apply _ _ _ _ (fun i k => ((w 0 i (512 + k) : ℝ) : EReal))
    (fun i r => (rd 128 0 512 arg6 harg6 x4 _ r i).trans ((H.v0 _ _ (by omega) i.isLt).trans (congrArg (fun k => ((w 0 i.val k : ℝ) : EReal)) (show 512 + r.val = 512 + (0 + r.val) by omega))))
    (fun i r => (rd 128 0 640 arg6 harg6 x4 _ r i).trans ((H.v0 _ _ (by omega) i.isLt).trans (congrArg (fun k => ((w 0 i.val k : ℝ) : EReal)) (show 640 + r.val = 512 + (128 + r.val) by omega))))
    (fun i r => (rd 128 0 768 arg6 harg6 x4 _ r i).trans ((H.v0 _ _ (by omega) i.isLt).trans (congrArg (fun k => ((w 0 i.val k : ℝ) : EReal)) (show 768 + r.val = 512 + (256 + r.val) by omega))))
    (fun i r => (rd 128 0 896 arg6 harg6 x4 _ r i).trans ((H.v0 _ _ (by omega) i.isLt).trans (congrArg (fun k => ((w 0 i.val k : ℝ) : EReal)) (show 896 + r.val = 512 + (384 + r.val) by omega)))) i r).trans ?_
  exact row_coe w 0 i (512 + r.val)
include H in
theorem s7_left (r : Fin 512) (j : Fin 1280) : (kernelRun0_A.sl.r_27 (F := Ideal) c arg4 harg4 arg5 harg5 x2 x3) (ix2 r (⟨j.val, by omega⟩ : Fin 2560)) = masked (512 + r.val) (768 + j.val) (s 1 0 (768 + j.val) (512 + r.val) : EReal) := by
  rw [st_7]
  refine sc512_1280_left 512 768 rfl (s 1 0) _ _ (fun r j => ?_) r j
  refine (Finset.sum_congr rfl fun d _ => ?_).trans (H.s10 (768 + j.val) (512 + r.val) (by omega) (by omega))
  rw [qc768_1280_left]
  exact congrArg (· * _) (rd 512 128 512 arg5 harg5 x3 _ r d)
include H in
theorem s7_right (r : Fin 512) (j : Fin 1280) : (kernelRun0_A.sl.r_27 (F := Ideal) c arg4 harg4 arg5 harg5 x2 x3) (ix2 r (⟨1280 + j.val, by omega⟩ : Fin 2560)) = masked (512 + r.val) (768 + j.val) (s 1 1 (768 + j.val) (512 + r.val) : EReal) := by
  rw [st_7]
  refine sc512_1280_right 512 768 rfl (s 1 1) _ _ (fun r j => ?_) r j
  refine (Finset.sum_congr rfl fun d _ => ?_).trans (H.s11 (768 + j.val) (512 + r.val) (by omega) (by omega))
  rw [qc768_1280_right]
  exact congrArg (· * _) (rd 512 128 512 arg5 harg5 x3 _ r d)
include H in
theorem v7 (i : Fin 144) (r : Fin 512) : (vt512 (View.readAt (Elt Ideal) arg6.view (Rect.unit (s := S1x2048x256) ![0, 512, 128] S1x128x128.size inb_S1x2048x256_S1x128x128_0_512_128).toLoadRect (harg6.unread x4)) (View.readAt (Elt Ideal) arg6.view (Rect.unit (s := S1x2048x256) ![0, 640, 128] S1x128x128.size inb_S1x2048x256_S1x128x128_0_640_128).toLoadRect (harg6.unread x4)) (View.readAt (Elt Ideal) arg6.view (Rect.unit (s := S1x2048x256) ![0, 768, 128] S1x128x128.size inb_S1x2048x256_S1x128x128_0_768_128).toLoadRect (harg6.unread x4)) (View.readAt (Elt Ideal) arg6.view (Rect.unit (s := S1x2048x256) ![0, 896, 128] S1x128x128.size inb_S1x2048x256_S1x128x128_0_896_128).toLoadRect (harg6.unread x4))) (ix2 i r) = (row w 1 i (512 + r.val) : EReal) := by
  refine (vt512_apply _ _ _ _ (fun i k => ((w 1 i (512 + k) : ℝ) : EReal))
    (fun i r => (rd 128 128 512 arg6 harg6 x4 _ r i).trans ((H.v1 _ _ (by omega) i.isLt).trans (congrArg (fun k => ((w 1 i.val k : ℝ) : EReal)) (show 512 + r.val = 512 + (0 + r.val) by omega))))
    (fun i r => (rd 128 128 640 arg6 harg6 x4 _ r i).trans ((H.v1 _ _ (by omega) i.isLt).trans (congrArg (fun k => ((w 1 i.val k : ℝ) : EReal)) (show 640 + r.val = 512 + (128 + r.val) by omega))))
    (fun i r => (rd 128 128 768 arg6 harg6 x4 _ r i).trans ((H.v1 _ _ (by omega) i.isLt).trans (congrArg (fun k => ((w 1 i.val k : ℝ) : EReal)) (show 768 + r.val = 512 + (256 + r.val) by omega))))
    (fun i r => (rd 128 128 896 arg6 harg6 x4 _ r i).trans ((H.v1 _ _ (by omega) i.isLt).trans (congrArg (fun k => ((w 1 i.val k : ℝ) : EReal)) (show 896 + r.val = 512 + (384 + r.val) by omega)))) i r).trans ?_
  exact row_coe w 1 i (512 + r.val)
include H in
theorem s8_left (r : Fin 256) (j : Fin 256) : (kernelRun0_A.sl.r_30 (F := Ideal) c arg4 harg4 arg5 harg5 x2 x3) (ix2 r (⟨j.val, by omega⟩ : Fin 512)) = masked (1024 + r.val) (1024 + j.val) (s 0 0 (1024 + j.val) (1024 + r.val) : EReal) := by
  rw [st_8]
  refine sc256_256_left 1024 1024 rfl (s 0 0) _ _ (fun r j => ?_) r j
  refine (Finset.sum_congr rfl fun d _ => ?_).trans (H.s00 (1024 + j.val) (1024 + r.val) (by omega) (by omega))
  rw [qc1024_256_left]
  exact congrArg (· * _) (rd 256 0 1024 arg5 harg5 x3 _ r d)
include H in
theorem s8_right (r : Fin 256) (j : Fin 256) : (kernelRun0_A.sl.r_30 (F := Ideal) c arg4 harg4 arg5 harg5 x2 x3) (ix2 r (⟨256 + j.val, by omega⟩ : Fin 512)) = masked (1024 + r.val) (1024 + j.val) (s 0 1 (1024 + j.val) (1024 + r.val) : EReal) := by
  rw [st_8]
  refine sc256_256_right 1024 1024 rfl (s 0 1) _ _ (fun r j => ?_) r j
  refine (Finset.sum_congr rfl fun d _ => ?_).trans (H.s01 (1024 + j.val) (1024 + r.val) (by omega) (by omega))
  rw [qc1024_256_right]
  exact congrArg (· * _) (rd 256 0 1024 arg5 harg5 x3 _ r d)
include H in
theorem v8 (i : Fin 144) (r : Fin 256) : (vt256 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4))) (ix2 i r) = (row w 0 i (1024 + r.val) : EReal) := by
  refine (vt256_apply _ _ (fun i k => ((w 0 i (1024 + k) : ℝ) : EReal))
    (fun i r => (rd 128 0 1024 arg6 harg6 x4 _ r i).trans ((H.v0 _ _ (by omega) i.isLt).trans (congrArg (fun k => ((w 0 i.val k : ℝ) : EReal)) (show 1024 + r.val = 1024 + (0 + r.val) by omega))))
    (fun i r => (rd 128 0 1152 arg6 harg6 x4 _ r i).trans ((H.v0 _ _ (by omega) i.isLt).trans (congrArg (fun k => ((w 0 i.val k : ℝ) : EReal)) (show 1152 + r.val = 1024 + (128 + r.val) by omega)))) i r).trans ?_
  exact row_coe w 0 i (1024 + r.val)
include H in
theorem s9_left (r : Fin 256) (j : Fin 256) : (kernelRun0_A.sl.r_35 (F := Ideal) c arg4 harg4 arg5 harg5 x2 x3) (ix2 r (⟨j.val, by omega⟩ : Fin 512)) = masked (1024 + r.val) (1024 + j.val) (s 1 0 (1024 + j.val) (1024 + r.val) : EReal) := by
  rw [st_9]
  refine sc256_256_left 1024 1024 rfl (s 1 0) _ _ (fun r j => ?_) r j
  refine (Finset.sum_congr rfl fun d _ => ?_).trans (H.s10 (1024 + j.val) (1024 + r.val) (by omega) (by omega))
  rw [qc1024_256_left]
  exact congrArg (· * _) (rd 256 128 1024 arg5 harg5 x3 _ r d)
include H in
theorem s9_right (r : Fin 256) (j : Fin 256) : (kernelRun0_A.sl.r_35 (F := Ideal) c arg4 harg4 arg5 harg5 x2 x3) (ix2 r (⟨256 + j.val, by omega⟩ : Fin 512)) = masked (1024 + r.val) (1024 + j.val) (s 1 1 (1024 + j.val) (1024 + r.val) : EReal) := by
  rw [st_9]
  refine sc256_256_right 1024 1024 rfl (s 1 1) _ _ (fun r j => ?_) r j
  refine (Finset.sum_congr rfl fun d _ => ?_).trans (H.s11 (1024 + j.val) (1024 + r.val) (by omega) (by omega))
  rw [qc1024_256_right]
  exact congrArg (· * _) (rd 256 128 1024 arg5 harg5 x3 _ r d)
include H in
theorem v9 (i : Fin 144) (r : Fin 256) : (vt256 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4))) (ix2 i r) = (row w 1 i (1024 + r.val) : EReal) := by
  refine (vt256_apply _ _ (fun i k => ((w 1 i (1024 + k) : ℝ) : EReal))
    (fun i r => (rd 128 128 1024 arg6 harg6 x4 _ r i).trans ((H.v1 _ _ (by omega) i.isLt).trans (congrArg (fun k => ((w 1 i.val k : ℝ) : EReal)) (show 1024 + r.val = 1024 + (0 + r.val) by omega))))
    (fun i r => (rd 128 128 1152 arg6 harg6 x4 _ r i).trans ((H.v1 _ _ (by omega) i.isLt).trans (congrArg (fun k => ((w 1 i.val k : ℝ) : EReal)) (show 1152 + r.val = 1024 + (128 + r.val) by omega)))) i r).trans ?_
  exact row_coe w 1 i (1024 + r.val)
include H in
theorem s10_left (r : Fin 512) (j : Fin 768) : (kernelRun0_A.sl.r_41 (F := Ideal) c arg4 harg4 arg5 harg5 x2 x3) (ix2 r (⟨j.val, by omega⟩ : Fin 1536)) = masked (1024 + r.val) (1280 + j.val) (s 0 0 (1280 + j.val) (1024 + r.val) : EReal) := by
  rw [st_10]
  refine sc512_768_left 1024 1280 rfl (s 0 0) _ _ (fun r j => ?_) r j
  refine (Finset.sum_congr rfl fun d _ => ?_).trans (H.s00 (1280 + j.val) (1024 + r.val) (by omega) (by omega))
  rw [qc1280_768_left]
  exact congrArg (· * _) (rd 512 0 1024 arg5 harg5 x3 _ r d)
include H in
theorem s10_right (r : Fin 512) (j : Fin 768) : (kernelRun0_A.sl.r_41 (F := Ideal) c arg4 harg4 arg5 harg5 x2 x3) (ix2 r (⟨768 + j.val, by omega⟩ : Fin 1536)) = masked (1024 + r.val) (1280 + j.val) (s 0 1 (1280 + j.val) (1024 + r.val) : EReal) := by
  rw [st_10]
  refine sc512_768_right 1024 1280 rfl (s 0 1) _ _ (fun r j => ?_) r j
  refine (Finset.sum_congr rfl fun d _ => ?_).trans (H.s01 (1280 + j.val) (1024 + r.val) (by omega) (by omega))
  rw [qc1280_768_right]
  exact congrArg (· * _) (rd 512 0 1024 arg5 harg5 x3 _ r d)
include H in
theorem v10 (i : Fin 144) (r : Fin 512) : (vt512 (View.readAt (Elt Ideal) arg6.view (Rect.unit (s := S1x2048x256) ![0, 1024, 0] S1x128x128.size inb_S1x2048x256_S1x128x128_0_1024_0).toLoadRect (harg6.unread x4)) (View.readAt (Elt Ideal) arg6.view (Rect.unit (s := S1x2048x256) ![0, 1152, 0] S1x128x128.size inb_S1x2048x256_S1x128x128_0_1152_0).toLoadRect (harg6.unread x4)) (View.readAt (Elt Ideal) arg6.view (Rect.unit (s := S1x2048x256) ![0, 1280, 0] S1x128x128.size inb_S1x2048x256_S1x128x128_0_1280_0).toLoadRect (harg6.unread x4)) (View.readAt (Elt Ideal) arg6.view (Rect.unit (s := S1x2048x256) ![0, 1408, 0] S1x128x128.size inb_S1x2048x256_S1x128x128_0_1408_0).toLoadRect (harg6.unread x4))) (ix2 i r) = (row w 0 i (1024 + r.val) : EReal) := by
  refine (vt512_apply _ _ _ _ (fun i k => ((w 0 i (1024 + k) : ℝ) : EReal))
    (fun i r => (rd 128 0 1024 arg6 harg6 x4 _ r i).trans ((H.v0 _ _ (by omega) i.isLt).trans (congrArg (fun k => ((w 0 i.val k : ℝ) : EReal)) (show 1024 + r.val = 1024 + (0 + r.val) by omega))))
    (fun i r => (rd 128 0 1152 arg6 harg6 x4 _ r i).trans ((H.v0 _ _ (by omega) i.isLt).trans (congrArg (fun k => ((w 0 i.val k : ℝ) : EReal)) (show 1152 + r.val = 1024 + (128 + r.val) by omega))))
    (fun i r => (rd 128 0 1280 arg6 harg6 x4 _ r i).trans ((H.v0 _ _ (by omega) i.isLt).trans (congrArg (fun k => ((w 0 i.val k : ℝ) : EReal)) (show 1280 + r.val = 1024 + (256 + r.val) by omega))))
    (fun i r => (rd 128 0 1408 arg6 harg6 x4 _ r i).trans ((H.v0 _ _ (by omega) i.isLt).trans (congrArg (fun k => ((w 0 i.val k : ℝ) : EReal)) (show 1408 + r.val = 1024 + (384 + r.val) by omega)))) i r).trans ?_
  exact row_coe w 0 i (1024 + r.val)
include H in
theorem s11_left (r : Fin 512) (j : Fin 768) : (kernelRun0_A.sl.r_47 (F := Ideal) c arg4 harg4 arg5 harg5 x2 x3) (ix2 r (⟨j.val, by omega⟩ : Fin 1536)) = masked (1024 + r.val) (1280 + j.val) (s 1 0 (1280 + j.val) (1024 + r.val) : EReal) := by
  rw [st_11]
  refine sc512_768_left 1024 1280 rfl (s 1 0) _ _ (fun r j => ?_) r j
  refine (Finset.sum_congr rfl fun d _ => ?_).trans (H.s10 (1280 + j.val) (1024 + r.val) (by omega) (by omega))
  rw [qc1280_768_left]
  exact congrArg (· * _) (rd 512 128 1024 arg5 harg5 x3 _ r d)
include H in
theorem s11_right (r : Fin 512) (j : Fin 768) : (kernelRun0_A.sl.r_47 (F := Ideal) c arg4 harg4 arg5 harg5 x2 x3) (ix2 r (⟨768 + j.val, by omega⟩ : Fin 1536)) = masked (1024 + r.val) (1280 + j.val) (s 1 1 (1280 + j.val) (1024 + r.val) : EReal) := by
  rw [st_11]
  refine sc512_768_right 1024 1280 rfl (s 1 1) _ _ (fun r j => ?_) r j
  refine (Finset.sum_congr rfl fun d _ => ?_).trans (H.s11 (1280 + j.val) (1024 + r.val) (by omega) (by omega))
  rw [qc1280_768_right]
  exact congrArg (· * _) (rd 512 128 1024 arg5 harg5 x3 _ r d)
include H in
theorem v11 (i : Fin 144) (r : Fin 512) : (vt512 (View.readAt (Elt Ideal) arg6.view (Rect.unit (s := S1x2048x256) ![0, 1024, 128] S1x128x128.size inb_S1x2048x256_S1x128x128_0_1024_128).toLoadRect (harg6.unread x4)) (View.readAt (Elt Ideal) arg6.view (Rect.unit (s := S1x2048x256) ![0, 1152, 128] S1x128x128.size inb_S1x2048x256_S1x128x128_0_1152_128).toLoadRect (harg6.unread x4)) (View.readAt (Elt Ideal) arg6.view (Rect.unit (s := S1x2048x256) ![0, 1280, 128] S1x128x128.size inb_S1x2048x256_S1x128x128_0_1280_128).toLoadRect (harg6.unread x4)) (View.readAt (Elt Ideal) arg6.view (Rect.unit (s := S1x2048x256) ![0, 1408, 128] S1x128x128.size inb_S1x2048x256_S1x128x128_0_1408_128).toLoadRect (harg6.unread x4))) (ix2 i r) = (row w 1 i (1024 + r.val) : EReal) := by
  refine (vt512_apply _ _ _ _ (fun i k => ((w 1 i (1024 + k) : ℝ) : EReal))
    (fun i r => (rd 128 128 1024 arg6 harg6 x4 _ r i).trans ((H.v1 _ _ (by omega) i.isLt).trans (congrArg (fun k => ((w 1 i.val k : ℝ) : EReal)) (show 1024 + r.val = 1024 + (0 + r.val) by omega))))
    (fun i r => (rd 128 128 1152 arg6 harg6 x4 _ r i).trans ((H.v1 _ _ (by omega) i.isLt).trans (congrArg (fun k => ((w 1 i.val k : ℝ) : EReal)) (show 1152 + r.val = 1024 + (128 + r.val) by omega))))
    (fun i r => (rd 128 128 1280 arg6 harg6 x4 _ r i).trans ((H.v1 _ _ (by omega) i.isLt).trans (congrArg (fun k => ((w 1 i.val k : ℝ) : EReal)) (show 1280 + r.val = 1024 + (256 + r.val) by omega))))
    (fun i r => (rd 128 128 1408 arg6 harg6 x4 _ r i).trans ((H.v1 _ _ (by omega) i.isLt).trans (congrArg (fun k => ((w 1 i.val k : ℝ) : EReal)) (show 1408 + r.val = 1024 + (384 + r.val) by omega)))) i r).trans ?_
  exact row_coe w 1 i (1024 + r.val)
include H in
theorem s12_left (r : Fin 256) (j : Fin 256) : (kernelRun0_A.sl.r_52 (F := Ideal) c arg4 harg4 arg5 harg5 x2 x3) (ix2 r (⟨j.val, by omega⟩ : Fin 512)) = masked (1536 + r.val) (1536 + j.val) (s 0 0 (1536 + j.val) (1536 + r.val) : EReal) := by
  rw [st_12]
  refine sc256_256_left 1536 1536 rfl (s 0 0) _ _ (fun r j => ?_) r j
  refine (Finset.sum_congr rfl fun d _ => ?_).trans (H.s00 (1536 + j.val) (1536 + r.val) (by omega) (by omega))
  rw [qc1536_256_left]
  exact congrArg (· * _) (rd 256 0 1536 arg5 harg5 x3 _ r d)
include H in
theorem s12_right (r : Fin 256) (j : Fin 256) : (kernelRun0_A.sl.r_52 (F := Ideal) c arg4 harg4 arg5 harg5 x2 x3) (ix2 r (⟨256 + j.val, by omega⟩ : Fin 512)) = masked (1536 + r.val) (1536 + j.val) (s 0 1 (1536 + j.val) (1536 + r.val) : EReal) := by
  rw [st_12]
  refine sc256_256_right 1536 1536 rfl (s 0 1) _ _ (fun r j => ?_) r j
  refine (Finset.sum_congr rfl fun d _ => ?_).trans (H.s01 (1536 + j.val) (1536 + r.val) (by omega) (by omega))
  rw [qc1536_256_right]
  exact congrArg (· * _) (rd 256 0 1536 arg5 harg5 x3 _ r d)
include H in
theorem v12 (i : Fin 144) (r : Fin 256) : (vt256 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4))) (ix2 i r) = (row w 0 i (1536 + r.val) : EReal) := by
  refine (vt256_apply _ _ (fun i k => ((w 0 i (1536 + k) : ℝ) : EReal))
    (fun i r => (rd 128 0 1536 arg6 harg6 x4 _ r i).trans ((H.v0 _ _ (by omega) i.isLt).trans (congrArg (fun k => ((w 0 i.val k : ℝ) : EReal)) (show 1536 + r.val = 1536 + (0 + r.val) by omega))))
    (fun i r => (rd 128 0 1664 arg6 harg6 x4 _ r i).trans ((H.v0 _ _ (by omega) i.isLt).trans (congrArg (fun k => ((w 0 i.val k : ℝ) : EReal)) (show 1664 + r.val = 1536 + (128 + r.val) by omega)))) i r).trans ?_
  exact row_coe w 0 i (1536 + r.val)
include H in
theorem s13_left (r : Fin 256) (j : Fin 256) : (kernelRun0_A.sl.r_60 (F := Ideal) c arg4 harg4 arg5 harg5 x2 x3) (ix2 r (⟨j.val, by omega⟩ : Fin 512)) = masked (1536 + r.val) (1536 + j.val) (s 1 0 (1536 + j.val) (1536 + r.val) : EReal) := by
  rw [st_13]
  refine sc256_256_left 1536 1536 rfl (s 1 0) _ _ (fun r j => ?_) r j
  refine (Finset.sum_congr rfl fun d _ => ?_).trans (H.s10 (1536 + j.val) (1536 + r.val) (by omega) (by omega))
  rw [qc1536_256_left]
  exact congrArg (· * _) (rd 256 128 1536 arg5 harg5 x3 _ r d)
include H in
theorem s13_right (r : Fin 256) (j : Fin 256) : (kernelRun0_A.sl.r_60 (F := Ideal) c arg4 harg4 arg5 harg5 x2 x3) (ix2 r (⟨256 + j.val, by omega⟩ : Fin 512)) = masked (1536 + r.val) (1536 + j.val) (s 1 1 (1536 + j.val) (1536 + r.val) : EReal) := by
  rw [st_13]
  refine sc256_256_right 1536 1536 rfl (s 1 1) _ _ (fun r j => ?_) r j
  refine (Finset.sum_congr rfl fun d _ => ?_).trans (H.s11 (1536 + j.val) (1536 + r.val) (by omega) (by omega))
  rw [qc1536_256_right]
  exact congrArg (· * _) (rd 256 128 1536 arg5 harg5 x3 _ r d)
include H in
theorem v13 (i : Fin 144) (r : Fin 256) : (vt256 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4))) (ix2 i r) = (row w 1 i (1536 + r.val) : EReal) := by
  refine (vt256_apply _ _ (fun i k => ((w 1 i (1536 + k) : ℝ) : EReal))
    (fun i r => (rd 128 128 1536 arg6 harg6 x4 _ r i).trans ((H.v1 _ _ (by omega) i.isLt).trans (congrArg (fun k => ((w 1 i.val k : ℝ) : EReal)) (show 1536 + r.val = 1536 + (0 + r.val) by omega))))
    (fun i r => (rd 128 128 1664 arg6 harg6 x4 _ r i).trans ((H.v1 _ _ (by omega) i.isLt).trans (congrArg (fun k => ((w 1 i.val k : ℝ) : EReal)) (show 1664 + r.val = 1536 + (128 + r.val) by omega)))) i r).trans ?_
  exact row_coe w 1 i (1536 + r.val)
include H in
theorem s14_left (r : Fin 512) (j : Fin 256) : (kernelRun0_A.sl.r_68 (F := Ideal) c arg4 harg4 arg5 harg5 x2 x3) (ix2 r (⟨j.val, by omega⟩ : Fin 512)) = masked (1536 + r.val) (1792 + j.val) (s 0 0 (1792 + j.val) (1536 + r.val) : EReal) := by
  rw [st_14]
  refine sc512_256_left 1536 1792 rfl (s 0 0) _ _ (fun r j => ?_) r j
  refine (Finset.sum_congr rfl fun d _ => ?_).trans (H.s00 (1792 + j.val) (1536 + r.val) (by omega) (by omega))
  rw [qc1792_256_left]
  exact congrArg (· * _) (rd 512 0 1536 arg5 harg5 x3 _ r d)
include H in
theorem s14_right (r : Fin 512) (j : Fin 256) : (kernelRun0_A.sl.r_68 (F := Ideal) c arg4 harg4 arg5 harg5 x2 x3) (ix2 r (⟨256 + j.val, by omega⟩ : Fin 512)) = masked (1536 + r.val) (1792 + j.val) (s 0 1 (1792 + j.val) (1536 + r.val) : EReal) := by
  rw [st_14]
  refine sc512_256_right 1536 1792 rfl (s 0 1) _ _ (fun r j => ?_) r j
  refine (Finset.sum_congr rfl fun d _ => ?_).trans (H.s01 (1792 + j.val) (1536 + r.val) (by omega) (by omega))
  rw [qc1792_256_right]
  exact congrArg (· * _) (rd 512 0 1536 arg5 harg5 x3 _ r d)
include H in
theorem v14 (i : Fin 144) (r : Fin 512) : (vt512 (View.readAt (Elt Ideal) arg6.view (Rect.unit (s := S1x2048x256) ![0, 1536, 0] S1x128x128.size inb_S1x2048x256_S1x128x128_0_1536_0).toLoadRect (harg6.unread x4)) (View.readAt (Elt Ideal) arg6.view (Rect.unit (s := S1x2048x256) ![0, 1664, 0] S1x128x128.size inb_S1x2048x256_S1x128x128_0_1664_0).toLoadRect (harg6.unread x4)) (View.readAt (Elt Ideal) arg6.view (Rect.unit (s := S1x2048x256) ![0, 1792, 0] S1x128x128.size inb_S1x2048x256_S1x128x128_0_1792_0).toLoadRect (harg6.unread x4)) (View.readAt (Elt Ideal) arg6.view (Rect.unit (s := S1x2048x256) ![0, 1920, 0] S1x128x128.size inb_S1x2048x256_S1x128x128_0_1920_0).toLoadRect (harg6.unread x4))) (ix2 i r) = (row w 0 i (1536 + r.val) : EReal) := by
  refine (vt512_apply _ _ _ _ (fun i k => ((w 0 i (1536 + k) : ℝ) : EReal))
    (fun i r => (rd 128 0 1536 arg6 harg6 x4 _ r i).trans ((H.v0 _ _ (by omega) i.isLt).trans (congrArg (fun k => ((w 0 i.val k : ℝ) : EReal)) (show 1536 + r.val = 1536 + (0 + r.val) by omega))))
    (fun i r => (rd 128 0 1664 arg6 harg6 x4 _ r i).trans ((H.v0 _ _ (by omega) i.isLt).trans (congrArg (fun k => ((w 0 i.val k : ℝ) : EReal)) (show 1664 + r.val = 1536 + (128 + r.val) by omega))))
    (fun i r => (rd 128 0 1792 arg6 harg6 x4 _ r i).trans ((H.v0 _ _ (by omega) i.isLt).trans (congrArg (fun k => ((w 0 i.val k : ℝ) : EReal)) (show 1792 + r.val = 1536 + (256 + r.val) by omega))))
    (fun i r => (rd 128 0 1920 arg6 harg6 x4 _ r i).trans ((H.v0 _ _ (by omega) i.isLt).trans (congrArg (fun k => ((w 0 i.val k : ℝ) : EReal)) (show 1920 + r.val = 1536 + (384 + r.val) by omega)))) i r).trans ?_
  exact row_coe w 0 i (1536 + r.val)
include H in
theorem s15_left (r : Fin 512) (j : Fin 256) : (kernelRun0_A.sl.r_73 (F := Ideal) c arg4 harg4 arg5 harg5 x2 x3) (ix2 r (⟨j.val, by omega⟩ : Fin 512)) = masked (1536 + r.val) (1792 + j.val) (s 1 0 (1792 + j.val) (1536 + r.val) : EReal) := by
  rw [st_15]
  refine sc512_256_left 1536 1792 rfl (s 1 0) _ _ (fun r j => ?_) r j
  refine (Finset.sum_congr rfl fun d _ => ?_).trans (H.s10 (1792 + j.val) (1536 + r.val) (by omega) (by omega))
  rw [qc1792_256_left]
  exact congrArg (· * _) (rd 512 128 1536 arg5 harg5 x3 _ r d)
include H in
theorem s15_right (r : Fin 512) (j : Fin 256) : (kernelRun0_A.sl.r_73 (F := Ideal) c arg4 harg4 arg5 harg5 x2 x3) (ix2 r (⟨256 + j.val, by omega⟩ : Fin 512)) = masked (1536 + r.val) (1792 + j.val) (s 1 1 (1792 + j.val) (1536 + r.val) : EReal) := by
  rw [st_15]
  refine sc512_256_right 1536 1792 rfl (s 1 1) _ _ (fun r j => ?_) r j
  refine (Finset.sum_congr rfl fun d _ => ?_).trans (H.s11 (1792 + j.val) (1536 + r.val) (by omega) (by omega))
  rw [qc1792_256_right]
  exact congrArg (· * _) (rd 512 128 1536 arg5 harg5 x3 _ r d)
include H in
theorem v15 (i : Fin 144) (r : Fin 512) : (vt512 (View.readAt (Elt Ideal) arg6.view (Rect.unit (s := S1x2048x256) ![0, 1536, 128] S1x128x128.size inb_S1x2048x256_S1x128x128_0_1536_128).toLoadRect (harg6.unread x4)) (View.readAt (Elt Ideal) arg6.view (Rect.unit (s := S1x2048x256) ![0, 1664, 128] S1x128x128.size inb_S1x2048x256_S1x128x128_0_1664_128).toLoadRect (harg6.unread x4)) (View.readAt (Elt Ideal) arg6.view (Rect.unit (s := S1x2048x256) ![0, 1792, 128] S1x128x128.size inb_S1x2048x256_S1x128x128_0_1792_128).toLoadRect (harg6.unread x4)) (View.readAt (Elt Ideal) arg6.view (Rect.unit (s := S1x2048x256) ![0, 1920, 128] S1x128x128.size inb_S1x2048x256_S1x128x128_0_1920_128).toLoadRect (harg6.unread x4))) (ix2 i r) = (row w 1 i (1536 + r.val) : EReal) := by
  refine (vt512_apply _ _ _ _ (fun i k => ((w 1 i (1536 + k) : ℝ) : EReal))
    (fun i r => (rd 128 128 1536 arg6 harg6 x4 _ r i).trans ((H.v1 _ _ (by omega) i.isLt).trans (congrArg (fun k => ((w 1 i.val k : ℝ) : EReal)) (show 1536 + r.val = 1536 + (0 + r.val) by omega))))
    (fun i r => (rd 128 128 1664 arg6 harg6 x4 _ r i).trans ((H.v1 _ _ (by omega) i.isLt).trans (congrArg (fun k => ((w 1 i.val k : ℝ) : EReal)) (show 1664 + r.val = 1536 + (128 + r.val) by omega))))
    (fun i r => (rd 128 128 1792 arg6 harg6 x4 _ r i).trans ((H.v1 _ _ (by omega) i.isLt).trans (congrArg (fun k => ((w 1 i.val k : ℝ) : EReal)) (show 1792 + r.val = 1536 + (256 + r.val) by omega))))
    (fun i r => (rd 128 128 1920 arg6 harg6 x4 _ r i).trans ((H.v1 _ _ (by omega) i.isLt).trans (congrArg (fun k => ((w 1 i.val k : ℝ) : EReal)) (show 1920 + r.val = 1536 + (384 + r.val) by omega)))) i r).trans ?_
  exact row_coe w 1 i (1536 + r.val)
include H in
theorem inv_0 : Inv s w K_0 (put (A := 1) (n := 256) 0 0 2048 inb_S2x1x4096_S1x1x256_0_0_0 inb_S2x1x4096_S1x1x256_0_0_2048 (lfm256 (mx256_256 (kernelRun0_A.sl.r_6 (F := Ideal) c arg4 harg4 arg5 harg5 x2 x3))) (rtm256 (mx256_256 (kernelRun0_A.sl.r_6 (F := Ideal) c arg4 harg4 arg5 harg5 x2 x3))) ([])) (put (A := 144) (n := 256) 0 0 2048 inb_S2x144x4096_S1x144x256_0_0_0 inb_S2x144x4096_S1x144x256_0_0_2048 (lfa256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) (rta256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) ([])) :=
  start256_256 s w K_none _ _ (inv_nil s w) 0 (by omega) 0 2048 0 rfl (by omega) _ _ _ _ _ _ (s0_left c arg4 harg4 arg5 harg5 x2 x3 x4 s w H) (s0_right c arg4 harg4 arg5 harg5 x2 x3 x4 s w H) (v0 c arg4 harg4 arg6 harg6 x2 x3 x4 s w H) rfl
include H in
theorem inv_1 : Inv s w K_1 (put (A := 1) (n := 256) 1 0 2048 inb_S2x1x4096_S1x1x256_1_0_0 inb_S2x1x4096_S1x1x256_1_0_2048 (lfm256 (mx256_256 (kernelRun0_A.sl.r_7 (F := Ideal) c arg4 harg4 arg5 harg5 x2 x3))) (rtm256 (mx256_256 (kernelRun0_A.sl.r_7 (F := Ideal) c arg4 harg4 arg5 harg5 x2 x3))) (put (A := 1) (n := 256) 0 0 2048 inb_S2x1x4096_S1x1x256_0_0_0 inb_S2x1x4096_S1x1x256_0_0_2048 (lfm256 (mx256_256 (kernelRun0_A.sl.r_6 (F := Ideal) c arg4 harg4 arg5 harg5 x2 x3))) (rtm256 (mx256_256 (kernelRun0_A.sl.r_6 (F := Ideal) c arg4 harg4 arg5 harg5 x2 x3))) ([]))) (put (A := 144) (n := 256) 1 0 2048 inb_S2x144x4096_S1x144x256_1_0_0 inb_S2x144x4096_S1x144x256_1_0_2048 (lfa256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (rta256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (put (A := 144) (n := 256) 0 0 2048 inb_S2x144x4096_S1x144x256_0_0_0 inb_S2x144x4096_S1x144x256_0_0_2048 (lfa256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) (rta256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) ([]))) :=
  start256_256 s w K_0 _ _ (inv_0 c arg4 harg4 arg5 harg5 arg6 harg6 x2 x3 x4 s w H) 1 (by omega) 0 2048 0 rfl (by omega) _ _ _ _ _ _ (s1_left c arg4 harg4 arg5 harg5 x2 x3 x4 s w H) (s1_right c arg4 harg4 arg5 harg5 x2 x3 x4 s w H) (v1 c arg4 harg4 arg6 harg6 x2 x3 x4 s w H) rfl
include H in
theorem inv_2 : Inv s w K_2 (put (A := 1) (n := 1792) 0 256 2304 inb_S2x1x4096_S1x1x1792_0_0_256 inb_S2x1x4096_S1x1x1792_0_0_2304 (lfm1792 (mx512_1792 (kernelRun0_A.sl.r_10 (F := Ideal) c arg4 harg4 arg5 harg5 x2 x3))) (rtm1792 (mx512_1792 (kernelRun0_A.sl.r_10 (F := Ideal) c arg4 harg4 arg5 harg5 x2 x3))) (put (A := 1) (n := 256) 1 0 2048 inb_S2x1x4096_S1x1x256_1_0_0 inb_S2x1x4096_S1x1x256_1_0_2048 (lfm256 (mx256_256 (kernelRun0_A.sl.r_7 (F := Ideal) c arg4 harg4 arg5 harg5 x2 x3))) (rtm256 (mx256_256 (kernelRun0_A.sl.r_7 (F := Ideal) c arg4 harg4 arg5 harg5 x2 x3))) (put (A := 1) (n := 256) 0 0 2048 inb_S2x1x4096_S1x1x256_0_0_0 inb_S2x1x4096_S1x1x256_0_0_2048 (lfm256 (mx256_256 (kernelRun0_A.sl.r_6 (F := Ideal) c arg4 harg4 arg5 harg5 x2 x3))) (rtm256 (mx256_256 (kernelRun0_A.sl.r_6 (F := Ideal) c arg4 harg4 arg5 harg5 x2 x3))) ([])))) (put (A := 144) (n := 1792) 0 256 2304 inb_S2x144x4096_S1x144x1792_0_0_256 inb_S2x144x4096_S1x144x1792_0_0_2304 (lfa1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (rta1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (put (A := 144) (n := 256) 1 0 2048 inb_S2x144x4096_S1x144x256_1_0_0 inb_S2x144x4096_S1x144x256_1_0_2048 (lfa256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (rta256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (put (A := 144) (n := 256) 0 0 2048 inb_S2x144x4096_S1x144x256_0_0_0 inb_S2x144x4096_S1x144x256_0_0_2048 (lfa256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) (rta256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) ([])))) :=
  start512_1792 s w K_1 _ _ (inv_1 c arg4 harg4 arg5 harg5 arg6 harg6 x2 x3 x4 s w H) 0 (by omega) 256 2304 0 rfl (by omega) _ _ _ _ _ _ (s2_left c arg4 harg4 arg5 harg5 x2 x3 x4 s w H) (s2_right c arg4 harg4 arg5 harg5 x2 x3 x4 s w H) (v2 c arg4 harg4 arg6 harg6 x2 x3 x4 s w H) rfl
include H in
theorem inv_3 : Inv s w K_3 (put (A := 1) (n := 1792) 1 256 2304 inb_S2x1x4096_S1x1x1792_1_0_256 inb_S2x1x4096_S1x1x1792_1_0_2304 (lfm1792 (mx512_1792 (kernelRun0_A.sl.r_11 (F := Ideal) c arg4 harg4 arg5 harg5 x2 x3))) (rtm1792 (mx512_1792 (kernelRun0_A.sl.r_11 (F := Ideal) c arg4 harg4 arg5 harg5 x2 x3))) (put (A := 1) (n := 1792) 0 256 2304 inb_S2x1x4096_S1x1x1792_0_0_256 inb_S2x1x4096_S1x1x1792_0_0_2304 (lfm1792 (mx512_1792 (kernelRun0_A.sl.r_10 (F := Ideal) c arg4 harg4 arg5 harg5 x2 x3))) (rtm1792 (mx512_1792 (kernelRun0_A.sl.r_10 (F := Ideal) c arg4 harg4 arg5 harg5 x2 x3))) (put (A := 1) (n := 256) 1 0 2048 inb_S2x1x4096_S1x1x256_1_0_0 inb_S2x1x4096_S1x1x256_1_0_2048 (lfm256 (mx256_256 (kernelRun0_A.sl.r_7 (F := Ideal) c arg4 harg4 arg5 harg5 x2 x3))) (rtm256 (mx256_256 (kernelRun0_A.sl.r_7 (F := Ideal) c arg4 harg4 arg5 harg5 x2 x3))) (put (A := 1) (n := 256) 0 0 2048 inb_S2x1x4096_S1x1x256_0_0_0 inb_S2x1x4096_S1x1x256_0_0_2048 (lfm256 (mx256_256 (kernelRun0_A.sl.r_6 (F := Ideal) c arg4 harg4 arg5 harg5 x2 x3))) (rtm256 (mx256_256 (kernelRun0_A.sl.r_6 (F := Ideal) c arg4 harg4 arg5 harg5 x2 x3))) ([]))))) (put (A := 144) (n := 1792) 1 256 2304 inb_S2x144x4096_S1x144x1792_1_0_256 inb_S2x144x4096_S1x144x1792_1_0_2304 (lfa1792 (sm512_1792 (vt512 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4)) (View.readAt (Elt Ideal) arg6.view (Rect.unit (s := S1x2048x256) ![0, 256, 128] S1x128x128.size inb_S1x2048x256_S1x128x128_0_256_128).toLoadRect (harg6.unread x4)) (View.readAt (Elt Ideal) arg6.view (Rect.unit (s := S1x2048x256) ![0, 384, 128] S1x128x128.size inb_S1x2048x256_S1x128x128_0_384_128).toLoadRect (harg6.unread x4))) (wt512_1792 (kernelRun0_A.sl.r_11 (F := Ideal) c arg4 harg4 arg5 harg5 x2 x3) (mx512_1792 (kernelRun0_A.sl.r_11 (F := Ideal) c arg4 harg4 arg5 harg5 x2 x3))))) (rta1792 (sm512_1792 (vt512 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4)) (View.readAt (Elt Ideal) arg6.view (Rect.unit (s := S1x2048x256) ![0, 256, 128] S1x128x128.size inb_S1x2048x256_S1x128x128_0_256_128).toLoadRect (harg6.unread x4)) (View.readAt (Elt Ideal) arg6.view (Rect.unit (s := S1x2048x256) ![0, 384, 128] S1x128x128.size inb_S1x2048x256_S1x128x128_0_384_128).toLoadRect (harg6.unread x4))) (wt512_1792 (kernelRun0_A.sl.r_11 (F := Ideal) c arg4 harg4 arg5 harg5 x2 x3) (mx512_1792 (kernelRun0_A.sl.r_11 (F := Ideal) c arg4 harg4 arg5 harg5 x2 x3))))) (put (A := 144) (n := 1792) 0 256 2304 inb_S2x144x4096_S1x144x1792_0_0_256 inb_S2x144x4096_S1x144x1792_0_0_2304 (lfa1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (rta1792 (sm512_1792 (vt512 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4)) (View.readAt (Elt Ideal) arg6.view (Rect.unit (s := S1x2048x256) ![0, 256, 0] S1x128x128.size inb_S1x2048x256_S1x128x128_0_256_0).toLoadRect (harg6.unread x4)) (View.readAt (Elt Ideal) arg6.view (Rect.unit (s := S1x2048x256) ![0, 384, 0] S1x128x128.size inb_S1x2048x256_S1x128x128_0_384_0).toLoadRect (harg6.unread x4))) (wt512_1792 (kernelRun0_A.sl.r_10 (F := Ideal) c arg4 harg4 arg5 harg5 x2 x3) (mx512_1792 (kernelRun0_A.sl.r_10 (F := Ideal) c arg4 harg4 arg5 harg5 x2 x3))))) (put (A := 144) (n := 256) 1 0 2048 inb_S2x144x4096_S1x144x256_1_0_0 inb_S2x144x4096_S1x144x256_1_0_2048 (lfa256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (rta256 (sm256_256 (vt256 (View.readAt (Elt Ideal) arg6.view (Rect.unit (s := S1x2048x256) ![0, 0, 128] S1x128x128.size inb_S1x2048x256_S1x128x128_0_0_128).toLoadRect (harg6.unread x4)) (View.readAt (Elt Ideal) arg6.view (Rect.unit (s := S1x2048x256) ![0, 128, 128] S1x128x128.size inb_S1x2048x256_S1x128x128_0_128_128).toLoadRect (harg6.unread x4))) (wt256_256 (kernelRun0_A.sl.r_7 (F := Ideal) c arg4 harg4 arg5 harg5 x2 x3) (mx256_256 (kernelRun0_A.sl.r_7 (F := Ideal) c arg4 harg4 arg5 harg5 x2 x3))))) (put (A := 144) (n := 256) 0 0 2048 inb_S2x144x4096_S1x144x256_0_0_0 inb_S2x144x4096_S1x144x256_0_0_2048 (lfa256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) (rta256 (sm256_256 (vt256 (View.readAt (Elt Ideal) arg6.view (Rect.unit (s := S1x2048x256) ![0, 0, 0] S1x128x128.size inb_S1x2048x256_S1x128x128_0_0_0).toLoadRect (harg6.unread x4)) (View.readAt (Elt Ideal) arg6.view (Rect.unit (s := S1x2048x256) ![0, 128, 0] S1x128x128.size inb_S1x2048x256_S1x128x128_0_128_0).toLoadRect (harg6.unread x4))) (wt256_256 (kernelRun0_A.sl.r_6 (F := Ideal) c arg4 harg4 arg5 harg5 x2 x3) (mx256_256 (kernelRun0_A.sl.r_6 (F := Ideal) c arg4 harg4 arg5 harg5 x2 x3))))) ([]))))) :=
  start512_1792 s w K_2 _ _ (inv_2 c arg4 harg4 arg5 harg5 arg6 harg6 x2 x3 x4 s w H) 1 (by omega) 256 2304 0 rfl (by omega) _ _ _ _ _ _ (s3_left c arg4 harg4 arg5 harg5 x2 x3 x4 s w H) (s3_right c arg4 harg4 arg5 harg5 x2 x3 x4 s w H) (v3 c arg4 harg4 arg6 harg6 x2 x3 x4 s w H) rfl
include H in
theorem inv_4 : Inv s w K_4 (kernelRun0_A.sl.HS1_10 (F := Ideal) c arg4 harg4 arg5 harg5 arg9 x2 x3) (kernelRun0_A.sl.HS0_10 (F := Ideal) c arg4 harg4 arg5 harg5 arg6 harg6 arg8 arg9 x2 x3 x4) := by
  rw [m_4, a_4]
  exact step256_256 s w K_3 (kernelRun0_A.sl.HS1_8 (F := Ideal) c arg4 harg4 arg5 harg5 x2 x3) (kernelRun0_A.sl.HS0_8 (F := Ideal) c arg4 harg4 arg5 harg5 arg6 harg6 x2 x3 x4) (show Inv s w K_3 (kernelRun0_A.sl.HS1_8 (F := Ideal) c arg4 harg4 arg5 harg5 x2 x3) (kernelRun0_A.sl.HS0_8 (F := Ideal) c arg4 harg4 arg5 harg5 arg6 harg6 x2 x3 x4) from by rw [m_3, a_3]; exact inv_3 c arg4 harg4 arg5 harg5 arg6 harg6 x2 x3 x4 s w H) 0 (by omega) 512 2560 512 rfl (by omega) _ _ _ _ _ _ (s4_left c arg4 harg4 arg5 harg5 x2 x3 x4 s w H) (s4_right c arg4 harg4 arg5 harg5 x2 x3 x4 s w H) (v4 c arg4 harg4 arg6 harg6 x2 x3 x4 s w H)
    (kernelRun0_A.sl.v360 (F := Ideal) c arg4 harg4 arg5 harg5 arg9 x2 x3) (kernelRun0_A.sl.v362 (F := Ideal) c arg4 harg4 arg5 harg5 arg9 x2 x3) (kernelRun0_A.sl.v380 (F := Ideal) c arg4 harg4 arg5 harg5 arg6 harg6 arg8 x2 x3 x4) (kernelRun0_A.sl.v382 (F := Ideal) c arg4 harg4 arg5 harg5 arg6 harg6 arg8 x2 x3 x4)
    (fun q hl hr => rdc arg9.view _ 0 512 512 (by omega) 0 rfl _ 0 q hl hr) (fun i q hl hr => rdc arg8.view _ 0 512 512 (by omega) 0 rfl _ i q hl hr) (fun q hl hr => rdc arg9.view _ 0 512 2560 (by omega) 1 rfl _ 0 q hl hr) (fun i q hl hr => rdc arg8.view _ 0 512 2560 (by omega) 1 rfl _ i q hl hr)
    (fun q h1 h2 => by rw [K_3, if_neg (by omega), K_2, if_pos (by omega)]) (by omega)
include H in
theorem inv_5 : Inv s w K_5 (kernelRun0_A.sl.HS1_12 (F := Ideal) c arg4 harg4 arg5 harg5 arg9 x2 x3) (kernelRun0_A.sl.HS0_12 (F := Ideal) c arg4 harg4 arg5 harg5 arg6 harg6 arg8 arg9 x2 x3 x4) := by
  rw [m_5, a_5]
  exact step256_256 s w K_4 (kernelRun0_A.sl.HS1_10 (F := Ideal) c arg4 harg4 arg5 harg5 arg9 x2 x3) (kernelRun0_A.sl.HS0_10 (F := Ideal) c arg4 harg4 arg5 harg5 arg6 harg6 arg8 arg9 x2 x3 x4) (inv_4 c arg4 harg4 arg5 harg5 arg6 harg6 arg8 arg9 x2 x3 x4 s w H) 1 (by omega) 512 2560 512 rfl (by omega) _ _ _ _ _ _ (s5_left c arg4 harg4 arg5 harg5 x2 x3 x4 s w H) (s5_right c arg4 harg4 arg5 harg5 x2 x3 x4 s w H) (v5 c arg4 harg4 arg6 harg6 x2 x3 x4 s w H)
    (kernelRun0_A.sl.v430 (F := Ideal) c arg4 harg4 arg5 harg5 arg9 x2 x3) (kernelRun0_A.sl.v432 (F := Ideal) c arg4 harg4 arg5 harg5 arg9 x2 x3) (kernelRun0_A.sl.v450 (F := Ideal) c arg4 harg4 arg5 harg5 arg6 harg6 arg8 arg9 x2 x3 x4) (kernelRun0_A.sl.v452 (F := Ideal) c arg4 harg4 arg5 harg5 arg6 harg6 arg8 arg9 x2 x3 x4)
    (fun q hl hr => rdc arg9.view _ 1 512 512 (by omega) 0 rfl _ 0 q hl hr) (fun i q hl hr => rdc arg8.view _ 1 512 512 (by omega) 0 rfl _ i q hl hr) (fun q hl hr => rdc arg9.view _ 1 512 2560 (by omega) 1 rfl _ 0 q hl hr) (fun i q hl hr => rdc arg8.view _ 1 512 2560 (by omega) 1 rfl _ i q hl hr)
    (fun q h1 h2 => by rw [K_4, if_neg (by omega), K_3, if_pos (by omega)]) (by omega)
include H in
theorem inv_6 : Inv s w K_6 (kernelRun0_A.sl.HS1_14 (F := Ideal) c arg4 harg4 arg5 harg5 arg9 x2 x3) (kernelRun0_A.sl.HS0_14 (F := Ideal) c arg4 harg4 arg5 harg5 arg6 harg6 arg8 arg9 x2 x3 x4) := by
  rw [m_6, a_6]
  exact step512_1280 s w K_5 (kernelRun0_A.sl.HS1_12 (F := Ideal) c arg4 harg4 arg5 harg5 arg9 x2 x3) (kernelRun0_A.sl.HS0_12 (F := Ideal) c arg4 harg4 arg5 harg5 arg6 harg6 arg8 arg9 x2 x3 x4) (inv_5 c arg4 harg4 arg5 harg5 arg6 harg6 arg8 arg9 x2 x3 x4 s w H) 0 (by omega) 768 2816 512 rfl (by omega) _ _ _ _ _ _ (s6_left c arg4 harg4 arg5 harg5 x2 x3 x4 s w H) (s6_right c arg4 harg4 arg5 harg5 x2 x3 x4 s w H) (v6 c arg4 harg4 arg6 harg6 x2 x3 x4 s w H)
    (kernelRun0_A.sl.v502 (F := Ideal) c arg4 harg4 arg5 harg5 arg9 x2 x3) (kernelRun0_A.sl.v504 (F := Ideal) c arg4 harg4 arg5 harg5 arg9 x2 x3) (kernelRun0_A.sl.v522 (F := Ideal) c arg4 harg4 arg5 harg5 arg6 harg6 arg8 arg9 x2 x3 x4) (kernelRun0_A.sl.v524 (F := Ideal) c arg4 harg4 arg5 harg5 arg6 harg6 arg8 arg9 x2 x3 x4)
    (fun q hl hr => rdc arg9.view _ 0 768 768 (by omega) 0 rfl _ 0 q hl hr) (fun i q hl hr => rdc arg8.view _ 0 768 768 (by omega) 0 rfl _ i q hl hr) (fun q hl hr => rdc arg9.view _ 0 768 2816 (by omega) 1 rfl _ 0 q hl hr) (fun i q hl hr => rdc arg8.view _ 0 768 2816 (by omega) 1 rfl _ i q hl hr)
    (fun q h1 h2 => by rw [K_5, if_neg (by omega), K_4, if_neg (by omega), K_3, if_neg (by omega), K_2, if_pos (by omega)]) (by omega)
include H in
theorem inv_7 : Inv s w K_7 (kernelRun0_A.sl.HS1_16 (F := Ideal) c arg4 harg4 arg5 harg5 arg9 x2 x3) (kernelRun0_A.sl.HS0_16 (F := Ideal) c arg4 harg4 arg5 harg5 arg6 harg6 arg8 arg9 x2 x3 x4) := by
  rw [m_7, a_7]
  exact step512_1280 s w K_6 (kernelRun0_A.sl.HS1_14 (F := Ideal) c arg4 harg4 arg5 harg5 arg9 x2 x3) (kernelRun0_A.sl.HS0_14 (F := Ideal) c arg4 harg4 arg5 harg5 arg6 harg6 arg8 arg9 x2 x3 x4) (inv_6 c arg4 harg4 arg5 harg5 arg6 harg6 arg8 arg9 x2 x3 x4 s w H) 1 (by omega) 768 2816 512 rfl (by omega) _ _ _ _ _ _ (s7_left c arg4 harg4 arg5 harg5 x2 x3 x4 s w H) (s7_right c arg4 harg4 arg5 harg5 x2 x3 x4 s w H) (v7 c arg4 harg4 arg6 harg6 x2 x3 x4 s w H)
    (kernelRun0_A.sl.v574 (F := Ideal) c arg4 harg4 arg5 harg5 arg9 x2 x3) (kernelRun0_A.sl.v576 (F := Ideal) c arg4 harg4 arg5 harg5 arg9 x2 x3) (kernelRun0_A.sl.v594 (F := Ideal) c arg4 harg4 arg5 harg5 arg6 harg6 arg8 arg9 x2 x3 x4) (kernelRun0_A.sl.v596 (F := Ideal) c arg4 harg4 arg5 harg5 arg6 harg6 arg8 arg9 x2 x3 x4)
    (fun q hl hr => rdc arg9.view _ 1 768 768 (by omega) 0 rfl _ 0 q hl hr) (fun i q hl hr => rdc arg8.view _ 1 768 768 (by omega) 0 rfl _ i q hl hr) (fun q hl hr => rdc arg9.view _ 1 768 2816 (by omega) 1 rfl _ 0 q hl hr) (fun i q hl hr => rdc arg8.view _ 1 768 2816 (by omega) 1 rfl _ i q hl hr)
    (fun q h1 h2 => by rw [K_6, if_neg (by omega), K_5, if_neg (by omega), K_4, if_neg (by omega), K_3, if_pos (by omega)]) (by omega)
include H in
theorem inv_8 : Inv s w K_8 (kernelRun0_A.sl.HS1_18 (F := Ideal) c arg4 harg4 arg5 harg5 arg9 x2 x3) (kernelRun0_A.sl.HS0_18 (F := Ideal) c arg4 harg4 arg5 harg5 arg6 harg6 arg8 arg9 x2 x3 x4) := by
  rw [m_8, a_8]
  exact step256_256 s w K_7 (kernelRun0_A.sl.HS1_16 (F := Ideal) c arg4 harg4 arg5 harg5 arg9 x2 x3) (kernelRun0_A.sl.HS0_16 (F := Ideal) c arg4 harg4 arg5 harg5 arg6 harg6 arg8 arg9 x2 x3 x4) (inv_7 c arg4 harg4 arg5 harg5 arg6 harg6 arg8 arg9 x2 x3 x4 s w H) 0 (by omega) 1024 3072 1024 rfl (by omega) _ _ _ _ _ _ (s8_left c arg4 harg4 arg5 harg5 x2 x3 x4 s w H) (s8_right c arg4 harg4 arg5 harg5 x2 x3 x4 s w H) (v8 c arg4 harg4 arg6 harg6 x2 x3 x4 s w H)
    (kernelRun0_A.sl.v644 (F := Ideal) c arg4 harg4 arg5 harg5 arg9 x2 x3) (kernelRun0_A.sl.v646 (F := Ideal) c arg4 harg4 arg5 harg5 arg9 x2 x3) (kernelRun0_A.sl.v664 (F := Ideal) c arg4 harg4 arg5 harg5 arg6 harg6 arg8 arg9 x2 x3 x4) (kernelRun0_A.sl.v666 (F := Ideal) c arg4 harg4 arg5 harg5 arg6 harg6 arg8 arg9 x2 x3 x4)
    (fun q hl hr => rdc arg9.view _ 0 1024 1024 (by omega) 0 rfl _ 0 q hl hr) (fun i q hl hr => rdc arg8.view _ 0 1024 1024 (by omega) 0 rfl _ i q hl hr) (fun q hl hr => rdc arg9.view _ 0 1024 3072 (by omega) 1 rfl _ 0 q hl hr) (fun i q hl hr => rdc arg8.view _ 0 1024 3072 (by omega) 1 rfl _ i q hl hr)
    (fun q h1 h2 => by rw [K_7, if_neg (by omega), K_6, if_pos (by omega)]) (by omega)
include H in
theorem inv_9 : Inv s w K_9 (kernelRun0_A.sl.HS1_20 (F := Ideal) c arg4 harg4 arg5 harg5 arg9 x2 x3) (kernelRun0_A.sl.HS0_20 (F := Ideal) c arg4 harg4 arg5 harg5 arg6 harg6 arg8 arg9 x2 x3 x4) := by
  rw [m_9, a_9]
  exact step256_256 s w K_8 (kernelRun0_A.sl.HS1_18 (F := Ideal) c arg4 harg4 arg5 harg5 arg9 x2 x3) (kernelRun0_A.sl.HS0_18 (F := Ideal) c arg4 harg4 arg5 harg5 arg6 harg6 arg8 arg9 x2 x3 x4) (inv_8 c arg4 harg4 arg5 harg5 arg6 harg6 arg8 arg9 x2 x3 x4 s w H) 1 (by omega) 1024 3072 1024 rfl (by omega) _ _ _ _ _ _ (s9_left c arg4 harg4 arg5 harg5 x2 x3 x4 s w H) (s9_right c arg4 harg4 arg5 harg5 x2 x3 x4 s w H) (v9 c arg4 harg4 arg6 harg6 x2 x3 x4 s w H)
    (kernelRun0_A.sl.v714 (F := Ideal) c arg4 harg4 arg5 harg5 arg9 x2 x3) (kernelRun0_A.sl.v716 (F := Ideal) c arg4 harg4 arg5 harg5 arg9 x2 x3) (kernelRun0_A.sl.v734 (F := Ideal) c arg4 harg4 arg5 harg5 arg6 harg6 arg8 arg9 x2 x3 x4) (kernelRun0_A.sl.v736 (F := Ideal) c arg4 harg4 arg5 harg5 arg6 harg6 arg8 arg9 x2 x3 x4)
    (fun q hl hr => rdc arg9.view _ 1 1024 1024 (by omega) 0 rfl _ 0 q hl hr) (fun i q hl hr => rdc arg8.view _ 1 1024 1024 (by omega) 0 rfl _ i q hl hr) (fun q hl hr => rdc arg9.view _ 1 1024 3072 (by omega) 1 rfl _ 0 q hl hr) (fun i q hl hr => rdc arg8.view _ 1 1024 3072 (by omega) 1 rfl _ i q hl hr)
    (fun q h1 h2 => by rw [K_8, if_neg (by omega), K_7, if_pos (by omega)]) (by omega)
include H in
theorem inv_10 : Inv s w K_10 (kernelRun0_A.sl.HS1_22 (F := Ideal) c arg4 harg4 arg5 harg5 arg9 x2 x3) (kernelRun0_A.sl.HS0_22 (F := Ideal) c arg4 harg4 arg5 harg5 arg6 harg6 arg8 arg9 x2 x3 x4) := by
  rw [m_10, a_10]
  exact step512_768 s w K_9 (kernelRun0_A.sl.HS1_20 (F := Ideal) c arg4 harg4 arg5 harg5 arg9 x2 x3) (kernelRun0_A.sl.HS0_20 (F := Ideal) c arg4 harg4 arg5 harg5 arg6 harg6 arg8 arg9 x2 x3 x4) (inv_9 c arg4 harg4 arg5 harg5 arg6 harg6 arg8 arg9 x2 x3 x4 s w H) 0 (by omega) 1280 3328 1024 rfl (by omega) _ _ _ _ _ _ (s10_left c arg4 harg4 arg5 harg5 x2 x3 x4 s w H) (s10_right c arg4 harg4 arg5 harg5 x2 x3 x4 s w H) (v10 c arg4 harg4 arg6 harg6 x2 x3 x4 s w H)
    (kernelRun0_A.sl.v784 (F := Ideal) c arg4 harg4 arg5 harg5 arg9 x2 x3) (kernelRun0_A.sl.v786 (F := Ideal) c arg4 harg4 arg5 harg5 arg9 x2 x3) (kernelRun0_A.sl.v804 (F := Ideal) c arg4 harg4 arg5 harg5 arg6 harg6 arg8 arg9 x2 x3 x4) (kernelRun0_A.sl.v806 (F := Ideal) c arg4 harg4 arg5 harg5 arg6 harg6 arg8 arg9 x2 x3 x4)
    (fun q hl hr => rdc arg9.view _ 0 1280 1280 (by omega) 0 rfl _ 0 q hl hr) (fun i q hl hr => rdc arg8.view _ 0 1280 1280 (by omega) 0 rfl _ i q hl hr) (fun q hl hr => rdc arg9.view _ 0 1280 3328 (by omega) 1 rfl _ 0 q hl hr) (fun i q hl hr => rdc arg8.view _ 0 1280 3328 (by omega) 1 rfl _ i q hl hr)
    (fun q h1 h2 => by rw [K_9, if_neg (by omega), K_8, if_neg (by omega), K_7, if_neg (by omega), K_6, if_pos (by omega)]) (by omega)
include H in
theorem inv_11 : Inv s w K_11 (kernelRun0_A.sl.HS1_24 (F := Ideal) c arg4 harg4 arg5 harg5 arg9 x2 x3) (kernelRun0_A.sl.HS0_24 (F := Ideal) c arg4 harg4 arg5 harg5 arg6 harg6 arg8 arg9 x2 x3 x4) := by
  rw [m_11, a_11]
  exact step512_768 s w K_10 (kernelRun0_A.sl.HS1_22 (F := Ideal) c arg4 harg4 arg5 harg5 arg9 x2 x3) (kernelRun0_A.sl.HS0_22 (F := Ideal) c arg4 harg4 arg5 harg5 arg6 harg6 arg8 arg9 x2 x3 x4) (inv_10 c arg4 harg4 arg5 harg5 arg6 harg6 arg8 arg9 x2 x3 x4 s w H) 1 (by omega) 1280 3328 1024 rfl (by omega) _ _ _ _ _ _ (s11_left c arg4 harg4 arg5 harg5 x2 x3 x4 s w H) (s11_right c arg4 harg4 arg5 harg5 x2 x3 x4 s w H) (v11 c arg4 harg4 arg6 harg6 x2 x3 x4 s w H)
    (kernelRun0_A.sl.v854 (F := Ideal) c arg4 harg4 arg5 harg5 arg9 x2 x3) (kernelRun0_A.sl.v856 (F := Ideal) c arg4 harg4 arg5 harg5 arg9 x2 x3) (kernelRun0_A.sl.v874 (F := Ideal) c arg4 harg4 arg5 harg5 arg6 harg6 arg8 arg9 x2 x3 x4) (kernelRun0_A.sl.v876 (F := Ideal) c arg4 harg4 arg5 harg5 arg6 harg6 arg8 arg9 x2 x3 x4)
    (fun q hl hr => rdc arg9.view _ 1 1280 1280 (by omega) 0 rfl _ 0 q hl hr) (fun i q hl hr => rdc arg8.view _ 1 1280 1280 (by omega) 0 rfl _ i q hl hr) (fun q hl hr => rdc arg9.view _ 1 1280 3328 (by omega) 1 rfl _ 0 q hl hr) (fun i q hl hr => rdc arg8.view _ 1 1280 3328 (by omega) 1 rfl _ i q hl hr)
    (fun q h1 h2 => by rw [K_10, if_neg (by omega), K_9, if_neg (by omega), K_8, if_neg (by omega), K_7, if_pos (by omega)]) (by omega)
include H in
theorem inv_12 : Inv s w K_12 (kernelRun0_A.sl.HS1_26 (F := Ideal) c arg4 harg4 arg5 harg5 arg9 x2 x3) (kernelRun0_A.sl.HS0_26 (F := Ideal) c arg4 harg4 arg5 harg5 arg6 harg6 arg8 arg9 x2 x3 x4) := by
  rw [m_12, a_12]
  exact step256_256 s w K_11 (kernelRun0_A.sl.HS1_24 (F := Ideal) c arg4 harg4 arg5 harg5 arg9 x2 x3) (kernelRun0_A.sl.HS0_24 (F := Ideal) c arg4 harg4 arg5 harg5 arg6 harg6 arg8 arg9 x2 x3 x4) (inv_11 c arg4 harg4 arg5 harg5 arg6 harg6 arg8 arg9 x2 x3 x4 s w H) 0 (by omega) 1536 3584 1536 rfl (by omega) _ _ _ _ _ _ (s12_left c arg4 harg4 arg5 harg5 x2 x3 x4 s w H) (s12_right c arg4 harg4 arg5 harg5 x2 x3 x4 s w H) (v12 c arg4 harg4 arg6 harg6 x2 x3 x4 s w H)
    (kernelRun0_A.sl.v906 (F := Ideal) c arg4 harg4 arg5 harg5 arg9 x2 x3) (kernelRun0_A.sl.v908 (F := Ideal) c arg4 harg4 arg5 harg5 arg9 x2 x3) (kernelRun0_A.sl.v926 (F := Ideal) c arg4 harg4 arg5 harg5 arg6 harg6 arg8 arg9 x2 x3 x4) (kernelRun0_A.sl.v928 (F := Ideal) c arg4 harg4 arg5 harg5 arg6 harg6 arg8 arg9 x2 x3 x4)
    (fun q hl hr => rdc arg9.view _ 0 1536 1536 (by omega) 0 rfl _ 0 q hl hr) (fun i q hl hr => rdc arg8.view _ 0 1536 1536 (by omega) 0 rfl _ i q hl hr) (fun q hl hr => rdc arg9.view _ 0 1536 3584 (by omega) 1 rfl _ 0 q hl hr) (fun i q hl hr => rdc arg8.view _ 0 1536 3584 (by omega) 1 rfl _ i q hl hr)
    (fun q h1 h2 => by rw [K_11, if_neg (by omega), K_10, if_pos (by omega)]) (by omega)
include H in
theorem inv_13 : Inv s w K_13 (kernelRun0_A.sl.HS1_28 (F := Ideal) c arg4 harg4 arg5 harg5 arg9 x2 x3) (kernelRun0_A.sl.HS0_28 (F := Ideal) c arg4 harg4 arg5 harg5 arg6 harg6 arg8 arg9 x2 x3 x4) := by
  rw [m_13, a_13]
  exact step256_256 s w K_12 (kernelRun0_A.sl.HS1_26 (F := Ideal) c arg4 harg4 arg5 harg5 arg9 x2 x3) (kernelRun0_A.sl.HS0_26 (F := Ideal) c arg4 harg4 arg5 harg5 arg6 harg6 arg8 arg9 x2 x3 x4) (inv_12 c arg4 harg4 arg5 harg5 arg6 harg6 arg8 arg9 x2 x3 x4 s w H) 1 (by omega) 1536 3584 1536 rfl (by omega) _ _ _ _ _ _ (s13_left c arg4 harg4 arg5 harg5 x2 x3 x4 s w H) (s13_right c arg4 harg4 arg5 harg5 x2 x3 x4 s w H) (v13 c arg4 harg4 arg6 harg6 x2 x3 x4 s w H)
    (kernelRun0_A.sl.v958 (F := Ideal) c arg4 harg4 arg5 harg5 arg9 x2 x3) (kernelRun0_A.sl.v960 (F := Ideal) c arg4 harg4 arg5 harg5 arg9 x2 x3) (kernelRun0_A.sl.v978 (F := Ideal) c arg4 harg4 arg5 harg5 arg6 harg6 arg8 arg9 x2 x3 x4) (kernelRun0_A.sl.v980 (F := Ideal) c arg4 harg4 arg5 harg5 arg6 harg6 arg8 arg9 x2 x3 x4)
    (fun q hl hr => rdc arg9.view _ 1 1536 1536 (by omega) 0 rfl _ 0 q hl hr) (fun i q hl hr => rdc arg8.view _ 1 1536 1536 (by omega) 0 rfl _ i q hl hr) (fun q hl hr => rdc arg9.view _ 1 1536 3584 (by omega) 1 rfl _ 0 q hl hr) (fun i q hl hr => rdc arg8.view _ 1 1536 3584 (by omega) 1 rfl _ i q hl hr)
    (fun q h1 h2 => by rw [K_12, if_neg (by omega), K_11, if_pos (by omega)]) (by omega)
include H in
theorem inv_14 : Inv s w K_14 (kernelRun0_A.sl.HS1_30 (F := Ideal) c arg4 harg4 arg5 harg5 arg9 x2 x3) (kernelRun0_A.sl.HS0_30 (F := Ideal) c arg4 harg4 arg5 harg5 arg6 harg6 arg8 arg9 x2 x3 x4) := by
  rw [m_14, a_14]
  exact step512_256 s w K_13 (kernelRun0_A.sl.HS1_28 (F := Ideal) c arg4 harg4 arg5 harg5 arg9 x2 x3) (kernelRun0_A.sl.HS0_28 (F := Ideal) c arg4 harg4 arg5 harg5 arg6 harg6 arg8 arg9 x2 x3 x4) (inv_13 c arg4 harg4 arg5 harg5 arg6 harg6 arg8 arg9 x2 x3 x4 s w H) 0 (by omega) 1792 3840 1536 rfl (by omega) _ _ _ _ _ _ (s14_left c arg4 harg4 arg5 harg5 x2 x3 x4 s w H) (s14_right c arg4 harg4 arg5 harg5 x2 x3 x4 s w H) (v14 c arg4 harg4 arg6 harg6 x2 x3 x4 s w H)
    (kernelRun0_A.sl.v1010 (F := Ideal) c arg4 harg4 arg5 harg5 arg9 x2 x3) (kernelRun0_A.sl.v1012 (F := Ideal) c arg4 harg4 arg5 harg5 arg9 x2 x3) (kernelRun0_A.sl.v1030 (F := Ideal) c arg4 harg4 arg5 harg5 arg6 harg6 arg8 arg9 x2 x3 x4) (kernelRun0_A.sl.v1032 (F := Ideal) c arg4 harg4 arg5 harg5 arg6 harg6 arg8 arg9 x2 x3 x4)
    (fun q hl hr => rdc arg9.view _ 0 1792 1792 (by omega) 0 rfl _ 0 q hl hr) (fun i q hl hr => rdc arg8.view _ 0 1792 1792 (by omega) 0 rfl _ i q hl hr) (fun q hl hr => rdc arg9.view _ 0 1792 3840 (by omega) 1 rfl _ 0 q hl hr) (fun i q hl hr => rdc arg8.view _ 0 1792 3840 (by omega) 1 rfl _ i q hl hr)
    (fun q h1 h2 => by rw [K_13, if_neg (by omega), K_12, if_neg (by omega), K_11, if_neg (by omega), K_10, if_pos (by omega)]) (by omega)
include H in
theorem inv_15 : Inv s w K_15 (put (A := 1) (n := 256) 1 1792 3840 inb_S2x1x4096_S1x1x256_1_0_1792 inb_S2x1x4096_S1x1x256_1_0_3840 (lfm256 (mn512_256 (kernelRun0_A.sl.r_73 (F := Ideal) c arg4 harg4 arg5 harg5 x2 x3) (kernelRun0_A.sl.v1062 (F := Ideal) c arg4 harg4 arg5 harg5 arg9 x2 x3) (kernelRun0_A.sl.v1064 (F := Ideal) c arg4 harg4 arg5 harg5 arg9 x2 x3))) (rtm256 (mn512_256 (kernelRun0_A.sl.r_73 (F := Ideal) c arg4 harg4 arg5 harg5 x2 x3) (kernelRun0_A.sl.v1062 (F := Ideal) c arg4 harg4 arg5 harg5 arg9 x2 x3) (kernelRun0_A.sl.v1064 (F := Ideal) c arg4 harg4 arg5 harg5 arg9 x2 x3))) ((kernelRun0_A.sl.HS1_30 (F := Ideal) c arg4 harg4 arg5 harg5 arg9 x2 x3))) (kernelRun0_A.sl.HS0_32 (F := Ideal) c arg4 harg4 arg5 harg5 arg6 harg6 arg8 arg9 x2 x3 x4) := by
  rw [a_15]
  exact step512_256 s w K_14 (kernelRun0_A.sl.HS1_30 (F := Ideal) c arg4 harg4 arg5 harg5 arg9 x2 x3) (kernelRun0_A.sl.HS0_30 (F := Ideal) c arg4 harg4 arg5 harg5 arg6 harg6 arg8 arg9 x2 x3 x4) (inv_14 c arg4 harg4 arg5 harg5 arg6 harg6 arg8 arg9 x2 x3 x4 s w H) 1 (by omega) 1792 3840 1536 rfl (by omega) _ _ _ _ _ _ (s15_left c arg4 harg4 arg5 harg5 x2 x3 x4 s w H) (s15_right c arg4 harg4 arg5 harg5 x2 x3 x4 s w H) (v15 c arg4 harg4 arg6 harg6 x2 x3 x4 s w H)
    (kernelRun0_A.sl.v1062 (F := Ideal) c arg4 harg4 arg5 harg5 arg9 x2 x3) (kernelRun0_A.sl.v1064 (F := Ideal) c arg4 harg4 arg5 harg5 arg9 x2 x3) (kernelRun0_A.sl.v1082 (F := Ideal) c arg4 harg4 arg5 harg5 arg6 harg6 arg8 arg9 x2 x3 x4) (kernelRun0_A.sl.v1084 (F := Ideal) c arg4 harg4 arg5 harg5 arg6 harg6 arg8 arg9 x2 x3 x4)
    (fun q hl hr => rdc arg9.view _ 1 1792 1792 (by omega) 0 rfl _ 0 q hl hr) (fun i q hl hr => rdc arg8.view _ 1 1792 1792 (by omega) 0 rfl _ i q hl hr) (fun q hl hr => rdc arg9.view _ 1 1792 3840 (by omega) 1 rfl _ 0 q hl hr) (fun i q hl hr => rdc arg8.view _ 1 1792 3840 (by omega) 1 rfl _ i q hl hr)
    (fun q h1 h2 => by rw [K_14, if_neg (by omega), K_13, if_neg (by omega), K_12, if_neg (by omega), K_11, if_pos (by omega)]) (by omega)
/-- In the end every column has met all the keys it sees. -/
theorem seen (h q : Nat) (hh : h < 2) (hq : q < 2048) : q < K_15 h q := by
  have hc : (h = 0 ∧ 0 ≤ q ∧ q < 256) ∨ (h = 0 ∧ 256 ≤ q ∧ q < 512) ∨ (h = 0 ∧ 512 ≤ q ∧ q < 768) ∨ (h = 0 ∧ 768 ≤ q ∧ q < 1024) ∨ (h = 0 ∧ 1024 ≤ q ∧ q < 1280) ∨ (h = 0 ∧ 1280 ≤ q ∧ q < 1536) ∨ (h = 0 ∧ 1536 ≤ q ∧ q < 1792) ∨ (h = 0 ∧ 1792 ≤ q ∧ q < 2048) ∨ (h = 1 ∧ 0 ≤ q ∧ q < 256) ∨ (h = 1 ∧ 256 ≤ q ∧ q < 512) ∨ (h = 1 ∧ 512 ≤ q ∧ q < 768) ∨ (h = 1 ∧ 768 ≤ q ∧ q < 1024) ∨ (h = 1 ∧ 1024 ≤ q ∧ q < 1280) ∨ (h = 1 ∧ 1280 ≤ q ∧ q < 1536) ∨ (h = 1 ∧ 1536 ≤ q ∧ q < 1792) ∨ (h = 1 ∧ 1792 ≤ q ∧ q < 2048) := by omega
  rcases hc with ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩ | ⟨rfl, _, _⟩
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_neg (by omega), K_4, if_neg (by omega), K_3, if_neg (by omega), K_2, if_neg (by omega), K_1, if_neg (by omega), K_0, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_neg (by omega), K_4, if_neg (by omega), K_3, if_neg (by omega), K_2, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_neg (by omega), K_4, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_pos (by omega)]; omega
  · rw [K_15, if_neg (by omega), K_14, if_neg (by omega), K_13, if_neg (by omega), K_12, if_neg (by omega), K_11, if_neg (by omega), K_10, if_neg (by omega), K_9, if_neg (by omega), K_8, if_pos (by omega)]; omega
  · rw [K_15, if_neg (by omega), K_14, if_neg (by omega), K_13, if_neg (by omega), K_12, if_neg (by omega), K_11, if_neg (by omega), K_10, if_pos (by omega)]; omega
  · rw [K_15, if_neg (by omega), K_14, if_neg (by omega), K_13, if_neg (by omega), K_12, if_pos (by omega)]; omega
  · rw [K_15, if_neg (by omega), K_14, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_neg (by omega), K_4, if_neg (by omega), K_3, if_neg (by omega), K_2, if_neg (by omega), K_1, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_neg (by omega), K_4, if_neg (by omega), K_3, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_neg (by omega), K_6, if_neg (by omega), K_5, if_pos (by omega)]; omega
  · rw [K_15, if_neg (by omega), K_14, if_neg (by omega), K_13, if_neg (by omega), K_12, if_neg (by omega), K_11, if_neg (by omega), K_10, if_neg (by omega), K_9, if_neg (by omega), K_8, if_neg (by omega), K_7, if_pos (by omega)]; omega
  · rw [K_15, if_neg (by omega), K_14, if_neg (by omega), K_13, if_neg (by omega), K_12, if_neg (by omega), K_11, if_neg (by omega), K_10, if_neg (by omega), K_9, if_pos (by omega)]; omega
  · rw [K_15, if_neg (by omega), K_14, if_neg (by omega), K_13, if_neg (by omega), K_12, if_neg (by omega), K_11, if_pos (by omega)]; omega
  · rw [K_15, if_neg (by omega), K_14, if_neg (by omega), K_13, if_pos (by omega)]; omega
  · rw [K_15, if_pos (by omega)]; omega
/-- So the kept quotients are the averages. -/
theorem quot (L1 : Pieces 1) (L0 : Pieces 144) (inv : Inv s w K_15 L1 L0) (h p : Fin 2) (q : Fin 2048) (i : Fin 128) (l : Fin 144) (hl : 128 ≤ l.val) :
    Ideal.div (View.canon L0 (place h (⟨i.val, by omega⟩ : Fin 144) p q)) (View.canon L0 (place h l p q)) = (avg q.val (s h.val p.val q.val) (w h.val i.val) : EReal) := by
  have hs := seen h.val q.val h.isLt q.isLt
  have e := kept_div _ _ _ _ _ _ (inv h p q (by omega)) hs (⟨i.val, by omega⟩ : Fin 144) l (fun k => by unfold row; exact if_neg (by omega))
  rw [e]
  have e2 : row w h.val (⟨i.val, by omega⟩ : Fin 144) = w h.val i.val := by funext k; unfold row; exact if_pos i.isLt
  rw [e2]
end Cert.AttnChain
-- ==== Proof.AttnOut.lean ====
module
public import proofs.«01_k».proof.Proof.AttnChain
/-! The rows the kernel writes: the first map's average less lambda times the second's, normed over the head's channels. -/
@[expose] public section
noncomputable section
open Idealize.ShloMosaic Idealize.ShloMosaic.TcCoe Idealize.SL.Sem
namespace Cert.AttnOut
open Cert.AttnIdeal Cert.AttnIdeal.Gen Cert.AttnCol Cert.AttnTiles Cert.AttnState Cert.AttnUnits Cert.AttnRun Cert.AttnChain

/-- The two maps' difference, a channel a row. -/
def diff (lam : FVec Ideal S1x1 .f32) (a1 : Vec Ideal S1x128x256 .f32) (l1 : Vec Ideal S1x1x256 .f32) (a2 : Vec Ideal S1x128x256 .f32) (l2 : Vec Ideal S1x1x256 .f32) : FVec Ideal S128x256 .f32 :=
  subf (divf (shapeCast S128x256 a1 shapeCasts_S1x128x256_S128x256 : FVec Ideal S128x256 .f32) (broadcastTo S128x256 (shapeCast S1x256 l1 shapeCasts_S1x1x256_S1x256 : FVec Ideal S1x256 .f32) broadcasts_S1x256_S128x256))
    (mulf (broadcastTo S128x256 lam broadcasts_S1x1_S128x256)
      (divf (shapeCast S128x256 a2 shapeCasts_S1x128x256_S128x256 : FVec Ideal S128x256 .f32) (broadcastTo S128x256 (shapeCast S1x256 l2 shapeCasts_S1x1x256_S1x256 : FVec Ideal S1x256 .f32) broadcasts_S1x256_S128x256)))
theorem diff_apply (lam : FVec Ideal S1x1 .f32) (a1 : Vec Ideal S1x128x256 .f32) (l1 : Vec Ideal S1x1x256 .f32) (a2 : Vec Ideal S1x128x256 .f32) (l2 : Vec Ideal S1x1x256 .f32) (j : Fin 128) (q : Fin 256) :
    diff lam a1 l1 a2 l2 (ix2 j q) = Ideal.div (a1 (ix3 0 j q)) (l1 (ix3 0 0 q)) - lam (ix2 0 0) * Ideal.div (a2 (ix3 0 j q)) (l2 (ix3 0 0 q)) := by
  pointwise [diff]
/-- A channel's norm: over the root mean square of the head's channels, times the weight and the fixed factor. -/
def norm (o : FVec Ideal S128x256 .f32) (gn : Vec Ideal S128x1 .f32) : FVec Ideal S1x256x128 .bf16 :=
  shapeCast S1x256x128 (truncf .bf16 (transpose S256x128 [1, 0] (mulf (mulf (mulf o (broadcastTo S128x256 (rsqrt (addf (divf
    (shapeCast S1x256 (multiReduction .add [0] S256 (mulf o o) 0x00000000#32 reduces_S128x256_S256 (.inl rfl) rfl : FVec Ideal S256 .f32) shapeCasts_S256_S1x256 : FVec Ideal S1x256 .f32)
      (broadcast S1x256 (Scalar.ofBits .f32 0x43000000#32))) (broadcast S1x256 (Scalar.ofBits .f32 0x358637BD#32))) : FVec Ideal S1x256 .f32) broadcasts_S1x256_S128x256))
    (broadcastTo S128x256 (shapeCast S128x1 gn shapeCasts_S128x1_S128x1 : FVec Ideal S128x1 .f32) broadcasts_S128x1_S128x256)) (broadcast S128x256 (Scalar.ofBits .f32 0x3F4CCCCD#32))) transposes_S128x256_p1_0_S256x128 : FVec Ideal S256x128 .f32) bitsLt_bf16_f32 : FVec Ideal S256x128 .bf16)
    shapeCasts_S256x128_S1x256x128
theorem norm_apply (o : FVec Ideal S128x256 .f32) (gn : Vec Ideal S128x1 .f32) (q : Fin 256) (j : Fin 128) :
    norm o gn (ix3 0 q j) = o (ix2 j q) * Ideal.rsqrt (Ideal.div (∑ e : Fin 128, o (ix2 e q) * o (ix2 e q)) (Ideal.ofBits .f32 0x43000000#32) + Ideal.ofBits .f32 0x358637BD#32)
      * gn (ix2 j 0) * Ideal.ofBits .f32 0x3F4CCCCD#32 := by
  pointwise [norm]

/-- A tile of some of the kept rows, read back. -/
theorem rdo {A R : Nat} (v : View sig .tc .vmem (Sc A) .f32) (L : Pieces A) (h0 i0 T o : Nat) (hh : h0 < 2) (hT : T < 8) (p : Fin 2) (ho : o = 2048 * p.val + 256 * T) (hi : i0 + R ≤ A)
    (inb : ∀ a, (![h0, i0, o] : Fin 3 → Nat) a + (Tl R 256).size a ≤ (Sc A).size a) (i : Fin R) (q : Fin 256) :
    v.readCov L (Rect.unit (s := Sc A) ![h0, i0, o] (Tl R 256).size inb).toLoadRect (ix3 0 i q) = View.canon L (place ⟨h0, hh⟩ ⟨i0 + i.val, by omega⟩ p ⟨256 * T + q.val, by omega⟩) := by
  rw [View.readCov_eq_canon']
  refine congrArg (View.canon L) (funext fun a => Fin.ext ?_)
  match a with
  | 0 => show h0 + 1 * 0 = h0; omega
  | 1 => show i0 + 1 * i.val = i0 + i.val; omega
  | 2 => show o + 1 * q.val = 2048 * p.val + (256 * T + q.val); omega

/-- The difference of the two maps' averages at a query and a channel. -/
def ot (lam : EReal) (s : Nat → Nat → Nat → Nat → ℝ) (w : Nat → Nat → Nat → ℝ) (h q j : Nat) : EReal :=
  ((avg q (s h 0 q) (w h j) : ℝ) : EReal) - lam * ((avg q (s h 1 q) (w h j) : ℝ) : EReal)
/-- The head's output at a query and a channel. -/
def outAt (lam : EReal) (g : Fin 128 → EReal) (s : Nat → Nat → Nat → Nat → ℝ) (w : Nat → Nat → Nat → ℝ) (h q : Nat) (j : Fin 128) : EReal :=
  ot lam s w h q j.val * Ideal.rsqrt (Ideal.div (∑ e : Fin 128, ot lam s w h q e.val * ot lam s w h q e.val) (Ideal.ofBits .f32 0x43000000#32) + Ideal.ofBits .f32 0x358637BD#32)
    * g j * Ideal.ofBits .f32 0x3F4CCCCD#32
/-- The whole block. -/
def blockOut (lam : EReal) (g : Fin 128 → EReal) (s : Nat → Nat → Nat → Nat → ℝ) (w : Nat → Nat → Nat → ℝ) : Vec Ideal S1x2048x256 .bf16 := fun y =>
  outAt lam g s w ((y 2).val / 128) (y 1).val ⟨(y 2).val % 128, Nat.mod_lt _ (by norm_num)⟩

/-- A tile's difference. -/
theorem tile (lam : FVec Ideal S1x1 .f32) (s : Nat → Nat → Nat → Nat → ℝ) (w : Nat → Nat → Nat → ℝ) (v : View sig .tc .vmem (Sc 144) .f32) (L1 : Pieces 1) (L0 : Pieces 144) (inv : Inv s w K_15 L1 L0)
    (h T o : Nat) (hh : h < 2) (hT : T < 8) (ho : o = 2048 + 256 * T) (o' : Nat) (ho' : o' = 256 * T)
    (i1 : ∀ a, (![h, 0, o'] : Fin 3 → Nat) a + (Tl 128 256).size a ≤ (Sc 144).size a) (i2 : ∀ a, (![h, 128, o'] : Fin 3 → Nat) a + (Tl 1 256).size a ≤ (Sc 144).size a)
    (i3 : ∀ a, (![h, 0, o] : Fin 3 → Nat) a + (Tl 128 256).size a ≤ (Sc 144).size a) (i4 : ∀ a, (![h, 128, o] : Fin 3 → Nat) a + (Tl 1 256).size a ≤ (Sc 144).size a) (j : Fin 128) (q : Fin 256) :
    diff lam (v.readCov L0 (Rect.unit (s := Sc 144) ![h, 0, o'] (Tl 128 256).size i1).toLoadRect) (v.readCov L0 (Rect.unit (s := Sc 144) ![h, 128, o'] (Tl 1 256).size i2).toLoadRect)
      (v.readCov L0 (Rect.unit (s := Sc 144) ![h, 0, o] (Tl 128 256).size i3).toLoadRect) (v.readCov L0 (Rect.unit (s := Sc 144) ![h, 128, o] (Tl 1 256).size i4).toLoadRect) (ix2 j q)
      = ot (lam (ix2 0 0)) s w h (256 * T + q.val) j.val := by
  rw [diff_apply, rdo v L0 h 0 T o' hh hT 0 (by show o' = 2048 * 0 + 256 * T; omega) (by omega), rdo v L0 h 128 T o' hh hT 0 (by show o' = 2048 * 0 + 256 * T; omega) (by omega),
    rdo v L0 h 0 T o hh hT 1 (by show o = 2048 * 1 + 256 * T; omega) (by omega), rdo v L0 h 128 T o hh hT 1 (by show o = 2048 * 1 + 256 * T; omega) (by omega)]
  have e : ∀ (hx : 0 + j.val < 144), (⟨0 + j.val, hx⟩ : Fin 144) = ⟨j.val, by omega⟩ := fun _ => Fin.ext (Nat.zero_add _)
  simp only [e]
  rw [quot s w L1 L0 inv ⟨h, hh⟩ 0 _ j ⟨128 + (0 : Fin 1).val, by norm_num⟩ (by norm_num), quot s w L1 L0 inv ⟨h, hh⟩ 1 _ j ⟨128 + (0 : Fin 1).val, by norm_num⟩ (by norm_num)]
  rfl

theorem blockOut_at (lam : EReal) (g : Fin 128 → EReal) (s : Nat → Nat → Nat → Nat → ℝ) (w : Nat → Nat → Nat → ℝ) (y : S1x2048x256.Idx) (h q j : Nat) (hj : j < 128)
    (hq : (y 1).val = q) (hy : (y 2).val = 128 * h + j) : blockOut lam g s w y = outAt lam g s w h q ⟨j, hj⟩ := by
  unfold blockOut
  have e1 : (y 2).val / 128 = h := by omega
  have e2 : (⟨(y 2).val % 128, Nat.mod_lt _ (by norm_num)⟩ : Fin 128) = ⟨j, hj⟩ := Fin.ext (by show (y 2).val % 128 = j; omega)
  rw [e1, e2, hq]

/-- A tile's piece is the block's part. -/
theorem piece (lam : EReal) (g : Fin 128 → EReal) (s : Nat → Nat → Nat → Nat → ℝ) (w : Nat → Nat → Nat → ℝ) (h T o e : Nat) (hh : h < 2) (hT : T < 8) (ho : o = 256 * T) (he : e = 128 * h)
    (inb : ∀ a, (![0, o, e] : Fin 3 → Nat) a + S1x256x128.size a ≤ S1x2048x256.size a) (d : FVec Ideal S128x256 .f32) (gn : Vec Ideal S128x1 .f32)
    (hd : ∀ (j : Fin 128) (q : Fin 256), d (ix2 j q) = ot lam s w h (256 * T + q.val) j.val) (hg : ∀ j, gn (ix2 j 0) = g j) (x : S1x256x128.Idx) :
    norm d gn x = blockOut lam g s w ((Rect.unit (s := S1x2048x256) ![0, o, e] S1x256x128.size inb).emb x) := by
  have hq : ((Rect.unit (s := S1x2048x256) ![0, o, e] S1x256x128.size inb).emb x 1).val = 256 * T + (x 1).val := by
    show o + 1 * (x 1).val = _; omega
  have hj : ((Rect.unit (s := S1x2048x256) ![0, o, e] S1x256x128.size inb).emb x 2).val = 128 * h + (x 2).val := by
    show e + 1 * (x 2).val = _; omega
  have hx2 : (x 2).val < 128 := (x 2).isLt
  rw [blockOut_at lam g s w _ h (256 * T + (x 1).val) (x 2).val hx2 hq hj]
  have ex : x = ix3 0 (x 1) (x 2) := by
    refine (funext fun a => ?_)
    match a with
    | 0 => exact Subsingleton.elim (α := Fin 1) _ _
    | 1 => rfl
    | 2 => rfl
  have key : ∀ (q : Fin 256) (j : Fin 128), norm d gn (ix3 0 q j) = outAt lam g s w h (256 * T + q.val) j := fun q j => by
    rw [norm_apply]; simp only [hd, hg]; rfl
  exact (congrArg (norm d gn) ex).trans (key (x 1) (x 2))

variable (c : Dev nD) (i : grid0.Coords) (arg2 : Memref sig .tc .vmem S4x64 .f32) (harg2 : arg2.IsWhole) (arg3 : Memref sig .tc .vmem S128x1 .f32) (harg3 : arg3.IsWhole) (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x2048x256 .bf16) (harg7 : arg7.IsWhole) (arg8 : Memref sig .tc .vmem S2x144x4096 .f32) (harg8 : arg8.IsWhole) (arg9 : Memref sig .tc .vmem S2x1x4096 .f32) (harg9 : arg9.IsWhole)
  (x0 : Vec Ideal S4x64 .f32) (x1 : Vec Ideal S128x1 .f32) (x2 x3 x4 : Vec Ideal S1x2048x256 .bf16)
theorem pieces : (kernelRun0_A (F := Ideal) c i arg2 harg2 arg3 harg3 arg4 harg4 arg5 harg5 arg6 harg6 arg7 harg7 arg8 harg8 arg9 harg9 x0 x1 x2 x3 x4).1 =
    [⟨Rect.unit (s := S1x2048x256) ![0, 1792, 128] S1x256x128.size inb_S1x2048x256_S1x256x128_0_1792_128, norm (diff (kernelRun0_A.sl.r (F := Ideal) c arg2 harg2 x0) (kernelRun0_A.sl.v1652 (F := Ideal) c arg4 harg4 arg5 harg5 arg6 harg6 arg8 arg9 x2 x3 x4) (kernelRun0_A.sl.v1654 (F := Ideal) c arg4 harg4 arg5 harg5 arg6 harg6 arg8 arg9 x2 x3 x4) (kernelRun0_A.sl.v1658 (F := Ideal) c arg4 harg4 arg5 harg5 arg6 harg6 arg8 arg9 x2 x3 x4) (kernelRun0_A.sl.v1660 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1536, 128] S1x256x128.size inb_S1x2048x256_S1x256x128_0_1536_128, norm (diff (kernelRun0_A.sl.r (F := Ideal) c arg2 harg2 x0) (kernelRun0_A.sl.v1616 (F := Ideal) c arg4 harg4 arg5 harg5 arg6 harg6 arg8 arg9 x2 x3 x4) (kernelRun0_A.sl.v1618 (F := Ideal) c arg4 harg4 arg5 harg5 arg6 harg6 arg8 arg9 x2 x3 x4) (kernelRun0_A.sl.v1622 (F := Ideal) c arg4 harg4 arg5 harg5 arg6 harg6 arg8 arg9 x2 x3 x4) (kernelRun0_A.sl.v1624 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1280, 128] S1x256x128.size inb_S1x2048x256_S1x256x128_0_1280_128, norm (diff (kernelRun0_A.sl.r (F := Ideal) c arg2 harg2 x0) (kernelRun0_A.sl.v1580 (F := Ideal) c arg4 harg4 arg5 harg5 arg6 harg6 arg8 arg9 x2 x3 x4) (kernelRun0_A.sl.v1582 (F := Ideal) c arg4 harg4 arg5 harg5 arg6 harg6 arg8 arg9 x2 x3 x4) (kernelRun0_A.sl.v1586 (F := Ideal) c arg4 harg4 arg5 harg5 arg6 harg6 arg8 arg9 x2 x3 x4) (kernelRun0_A.sl.v1588 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1024, 128] S1x256x128.size inb_S1x2048x256_S1x256x128_0_1024_128, norm (diff (kernelRun0_A.sl.r (F := Ideal) c arg2 harg2 x0) (kernelRun0_A.sl.v1544 (F := Ideal) c arg4 harg4 arg5 harg5 arg6 harg6 arg8 arg9 x2 x3 x4) (kernelRun0_A.sl.v1546 (F := Ideal) c arg4 harg4 arg5 harg5 arg6 harg6 arg8 arg9 x2 x3 x4) (kernelRun0_A.sl.v1550 (F := Ideal) c arg4 harg4 arg5 harg5 arg6 harg6 arg8 arg9 x2 x3 x4) (kernelRun0_A.sl.v1552 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 768, 128] S1x256x128.size inb_S1x2048x256_S1x256x128_0_768_128, norm (diff (kernelRun0_A.sl.r (F := Ideal) c arg2 harg2 x0) (kernelRun0_A.sl.v1508 (F := Ideal) c arg4 harg4 arg5 harg5 arg6 harg6 arg8 arg9 x2 x3 x4) (kernelRun0_A.sl.v1510 (F := Ideal) c arg4 harg4 arg5 harg5 arg6 harg6 arg8 arg9 x2 x3 x4) (kernelRun0_A.sl.v1514 (F := Ideal) c arg4 harg4 arg5 harg5 arg6 harg6 arg8 arg9 x2 x3 x4) (kernelRun0_A.sl.v1516 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 512, 128] S1x256x128.size inb_S1x2048x256_S1x256x128_0_512_128, norm (diff (kernelRun0_A.sl.r (F := Ideal) c arg2 harg2 x0) (kernelRun0_A.sl.v1472 (F := Ideal) c arg4 harg4 arg5 harg5 arg6 harg6 arg8 arg9 x2 x3 x4) (kernelRun0_A.sl.v1474 (F := Ideal) c arg4 harg4 arg5 harg5 arg6 harg6 arg8 arg9 x2 x3 x4) (kernelRun0_A.sl.v1478 (F := Ideal) c arg4 harg4 arg5 harg5 arg6 harg6 arg8 arg9 x2 x3 x4) (kernelRun0_A.sl.v1480 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 256, 128] S1x256x128.size inb_S1x2048x256_S1x256x128_0_256_128, norm (diff (kernelRun0_A.sl.r (F := Ideal) c arg2 harg2 x0) (kernelRun0_A.sl.v1436 (F := Ideal) c arg4 harg4 arg5 harg5 arg6 harg6 arg8 arg9 x2 x3 x4) (kernelRun0_A.sl.v1438 (F := Ideal) c arg4 harg4 arg5 harg5 arg6 harg6 arg8 arg9 x2 x3 x4) (kernelRun0_A.sl.v1442 (F := Ideal) c arg4 harg4 arg5 harg5 arg6 harg6 arg8 arg9 x2 x3 x4) (kernelRun0_A.sl.v1444 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 0, 128] S1x256x128.size inb_S1x2048x256_S1x256x128_0_0_128, norm (diff (kernelRun0_A.sl.r (F := Ideal) c arg2 harg2 x0) (kernelRun0_A.sl.v1400 (F := Ideal) c arg4 harg4 arg5 harg5 arg6 harg6 arg8 arg9 x2 x3 x4) (kernelRun0_A.sl.v1402 (F := Ideal) c arg4 harg4 arg5 harg5 arg6 harg6 arg8 arg9 x2 x3 x4) (kernelRun0_A.sl.v1406 (F := Ideal) c arg4 harg4 arg5 harg5 arg6 harg6 arg8 arg9 x2 x3 x4) (kernelRun0_A.sl.v1408 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1792, 0] S1x256x128.size inb_S1x2048x256_S1x256x128_0_1792_0, norm (diff (kernelRun0_A.sl.r (F := Ideal) c arg2 harg2 x0) (kernelRun0_A.sl.v1364 (F := Ideal) c arg4 harg4 arg5 harg5 arg6 harg6 arg8 arg9 x2 x3 x4) (kernelRun0_A.sl.v1366 (F := Ideal) c arg4 harg4 arg5 harg5 arg6 harg6 arg8 arg9 x2 x3 x4) (kernelRun0_A.sl.v1370 (F := Ideal) c arg4 harg4 arg5 harg5 arg6 harg6 arg8 arg9 x2 x3 x4) (kernelRun0_A.sl.v1372 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1536, 0] S1x256x128.size inb_S1x2048x256_S1x256x128_0_1536_0, norm (diff (kernelRun0_A.sl.r (F := Ideal) c arg2 harg2 x0) (kernelRun0_A.sl.v1328 (F := Ideal) c arg4 harg4 arg5 harg5 arg6 harg6 arg8 arg9 x2 x3 x4) (kernelRun0_A.sl.v1330 (F := Ideal) c arg4 harg4 arg5 harg5 arg6 harg6 arg8 arg9 x2 x3 x4) (kernelRun0_A.sl.v1334 (F := Ideal) c arg4 harg4 arg5 harg5 arg6 harg6 arg8 arg9 x2 x3 x4) (kernelRun0_A.sl.v1336 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1280, 0] S1x256x128.size inb_S1x2048x256_S1x256x128_0_1280_0, norm (diff (kernelRun0_A.sl.r (F := Ideal) c arg2 harg2 x0) (kernelRun0_A.sl.v1292 (F := Ideal) c arg4 harg4 arg5 harg5 arg6 harg6 arg8 arg9 x2 x3 x4) (kernelRun0_A.sl.v1294 (F := Ideal) c arg4 harg4 arg5 harg5 arg6 harg6 arg8 arg9 x2 x3 x4) (kernelRun0_A.sl.v1298 (F := Ideal) c arg4 harg4 arg5 harg5 arg6 harg6 arg8 arg9 x2 x3 x4) (kernelRun0_A.sl.v1300 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 1024, 0] S1x256x128.size inb_S1x2048x256_S1x256x128_0_1024_0, norm (diff (kernelRun0_A.sl.r (F := Ideal) c arg2 harg2 x0) (kernelRun0_A.sl.v1256 (F := Ideal) c arg4 harg4 arg5 harg5 arg6 harg6 arg8 arg9 x2 x3 x4) (kernelRun0_A.sl.v1258 (F := Ideal) c arg4 harg4 arg5 harg5 arg6 harg6 arg8 arg9 x2 x3 x4) (kernelRun0_A.sl.v1262 (F := Ideal) c arg4 harg4 arg5 harg5 arg6 harg6 arg8 arg9 x2 x3 x4) (kernelRun0_A.sl.v1264 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 768, 0] S1x256x128.size inb_S1x2048x256_S1x256x128_0_768_0, norm (diff (kernelRun0_A.sl.r (F := Ideal) c arg2 harg2 x0) (kernelRun0_A.sl.v1220 (F := Ideal) c arg4 harg4 arg5 harg5 arg6 harg6 arg8 arg9 x2 x3 x4) (kernelRun0_A.sl.v1222 (F := Ideal) c arg4 harg4 arg5 harg5 arg6 harg6 arg8 arg9 x2 x3 x4) (kernelRun0_A.sl.v1226 (F := Ideal) c arg4 harg4 arg5 harg5 arg6 harg6 arg8 arg9 x2 x3 x4) (kernelRun0_A.sl.v1228 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 512, 0] S1x256x128.size inb_S1x2048x256_S1x256x128_0_512_0, norm (diff (kernelRun0_A.sl.r (F := Ideal) c arg2 harg2 x0) (kernelRun0_A.sl.v1184 (F := Ideal) c arg4 harg4 arg5 harg5 arg6 harg6 arg8 arg9 x2 x3 x4) (kernelRun0_A.sl.v1186 (F := Ideal) c arg4 harg4 arg5 harg5 arg6 harg6 arg8 arg9 x2 x3 x4) (kernelRun0_A.sl.v1190 (F := Ideal) c arg4 harg4 arg5 harg5 arg6 harg6 arg8 arg9 x2 x3 x4) (kernelRun0_A.sl.v1192 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 256, 0] S1x256x128.size inb_S1x2048x256_S1x256x128_0_256_0, norm (diff (kernelRun0_A.sl.r (F := Ideal) c arg2 harg2 x0) (kernelRun0_A.sl.v1148 (F := Ideal) c arg4 harg4 arg5 harg5 arg6 harg6 arg8 arg9 x2 x3 x4) (kernelRun0_A.sl.v1150 (F := Ideal) c arg4 harg4 arg5 harg5 arg6 harg6 arg8 arg9 x2 x3 x4) (kernelRun0_A.sl.v1154 (F := Ideal) c arg4 harg4 arg5 harg5 arg6 harg6 arg8 arg9 x2 x3 x4) (kernelRun0_A.sl.v1156 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩,
    ⟨Rect.unit (s := S1x2048x256) ![0, 0, 0] S1x256x128.size inb_S1x2048x256_S1x256x128_0_0_0, norm (diff (kernelRun0_A.sl.r (F := Ideal) c arg2 harg2 x0) (kernelRun0_A.sl.v1112 (F := Ideal) c arg4 harg4 arg5 harg5 arg6 harg6 arg8 arg9 x2 x3 x4) (kernelRun0_A.sl.v1114 (F := Ideal) c arg4 harg4 arg5 harg5 arg6 harg6 arg8 arg9 x2 x3 x4) (kernelRun0_A.sl.v1118 (F := Ideal) c arg4 harg4 arg5 harg5 arg6 harg6 arg8 arg9 x2 x3 x4) (kernelRun0_A.sl.v1120 (F := Ideal) c arg4 harg4 arg5 harg5 arg6 harg6 arg8 arg9 x2 x3 x4)) (View.readAt (Elt Ideal) arg3.view (Rect.unit (s := S128x1) ![0, 0] S128x1.size inb_S128x1_S128x1_0_0).toLoadRect (harg3.unread x1))⟩] := rfl
variable (s : Nat → Nat → Nat → Nat → ℝ) (w : Nat → Nat → Nat → ℝ) (H : Scores c arg4 harg4 x2 x3 x4 s w)

/-- Lambda. -/
def lamOf (x0 : Vec Ideal S4x64 .f32) : EReal :=
  Ideal.exp (∑ e : Fin 64, x0 (ix2 0 e) * x0 (ix2 1 e)) - Ideal.exp (∑ e : Fin 64, x0 (ix2 2 e) * x0 (ix2 3 e)) + Ideal.ofBits .f32 0x3E4CCCCD#32
theorem lam_eq (V : Vec Ideal S4x64 .f32) : k0_pay1 V (ix2 0 0) = lamOf V := by
  pointwise [k0_pay1]
  rfl
theorem r_eq : (kernelRun0_A.sl.r (F := Ideal) c arg2 harg2 x0) (ix2 0 0) = lamOf x0 := by
  have e : (View.readAt (Elt Ideal) arg2.view (Rect.unit (s := S4x64) ![0, 0] S4x64.size inb_S4x64_S4x64_0_0).toLoadRect (harg2.unread x0)) = x0 := by
    funext y
    rw [View.readAt_eq_ld, harg2.read_unread]
    refine congrArg x0 (funext fun a => Fin.ext ?_)
    match a with
    | 0 => show 0 + 1 * (y 0).val = (y 0).val; omega
    | 1 => show 0 + 1 * (y 1).val = (y 1).val; omega
  refine (lam_eq _).trans ?_
  rw [e]
theorem gn_eq (j : Fin 128) : (View.readAt (Elt Ideal) arg3.view (Rect.unit (s := S128x1) ![0, 0] S128x1.size inb_S128x1_S128x1_0_0).toLoadRect (harg3.unread x1)) (ix2 j 0) = x1 (ix2 j 0) := by
  rw [View.readAt_eq_ld, harg3.read_unread]
  refine congrArg x1 (funext fun a => Fin.ext ?_)
  match a with
  | 0 => show 0 + 1 * j.val = j.val; omega
  | 1 => rfl
include H in
/-- What the kernel leaves in the output block. -/
theorem block : out0_A_5 (F := Ideal) c i arg2 harg2 arg3 harg3 arg4 harg4 arg5 harg5 arg6 harg6 arg7 harg7 arg8 harg8 arg9 harg9 x0 x1 x2 x3 x4 = blockOut (lamOf x0) (fun j => x1 (ix2 j 0)) s w := by
  funext y
  unfold out0_A_5
  rw [View.read_writes_junk_eq_canon, pieces]
  have inv := inv_15 c arg4 harg4 arg5 harg5 arg6 harg6 arg8 arg9 x2 x3 x4 s w H
  refine View.canon_apply_of_pieces (blockOut (lamOf x0) (fun j => x1 (ix2 j 0)) s w) _ (fun p hp => ?_) y ?_
  · simp only [List.mem_cons, List.not_mem_nil, or_false] at hp
    rcases hp with rfl | rfl | rfl | rfl | rfl | rfl | rfl | rfl | rfl | rfl | rfl | rfl | rfl | rfl | rfl | rfl
    · exact piece (lamOf x0) _ s w 1 7 1792 128 (by omega) (by omega) rfl rfl inb_S1x2048x256_S1x256x128_0_1792_128 _ _ (fun j q => (tile (kernelRun0_A.sl.r (F := Ideal) c arg2 harg2 x0) s w arg8.view _ _ inv 1 7 3840 (by omega) (by omega) rfl 1792 rfl _ _ _ _ j q).trans (by rw [r_eq])) (fun j => gn_eq arg3 harg3 x1 j)
    · exact piece (lamOf x0) _ s w 1 6 1536 128 (by omega) (by omega) rfl rfl inb_S1x2048x256_S1x256x128_0_1536_128 _ _ (fun j q => (tile (kernelRun0_A.sl.r (F := Ideal) c arg2 harg2 x0) s w arg8.view _ _ inv 1 6 3584 (by omega) (by omega) rfl 1536 rfl _ _ _ _ j q).trans (by rw [r_eq])) (fun j => gn_eq arg3 harg3 x1 j)
    · exact piece (lamOf x0) _ s w 1 5 1280 128 (by omega) (by omega) rfl rfl inb_S1x2048x256_S1x256x128_0_1280_128 _ _ (fun j q => (tile (kernelRun0_A.sl.r (F := Ideal) c arg2 harg2 x0) s w arg8.view _ _ inv 1 5 3328 (by omega) (by omega) rfl 1280 rfl _ _ _ _ j q).trans (by rw [r_eq])) (fun j => gn_eq arg3 harg3 x1 j)
    · exact piece (lamOf x0) _ s w 1 4 1024 128 (by omega) (by omega) rfl rfl inb_S1x2048x256_S1x256x128_0_1024_128 _ _ (fun j q => (tile (kernelRun0_A.sl.r (F := Ideal) c arg2 harg2 x0) s w arg8.view _ _ inv 1 4 3072 (by omega) (by omega) rfl 1024 rfl _ _ _ _ j q).trans (by rw [r_eq])) (fun j => gn_eq arg3 harg3 x1 j)
    · exact piece (lamOf x0) _ s w 1 3 768 128 (by omega) (by omega) rfl rfl inb_S1x2048x256_S1x256x128_0_768_128 _ _ (fun j q => (tile (kernelRun0_A.sl.r (F := Ideal) c arg2 harg2 x0) s w arg8.view _ _ inv 1 3 2816 (by omega) (by omega) rfl 768 rfl _ _ _ _ j q).trans (by rw [r_eq])) (fun j => gn_eq arg3 harg3 x1 j)
    · exact piece (lamOf x0) _ s w 1 2 512 128 (by omega) (by omega) rfl rfl inb_S1x2048x256_S1x256x128_0_512_128 _ _ (fun j q => (tile (kernelRun0_A.sl.r (F := Ideal) c arg2 harg2 x0) s w arg8.view _ _ inv 1 2 2560 (by omega) (by omega) rfl 512 rfl _ _ _ _ j q).trans (by rw [r_eq])) (fun j => gn_eq arg3 harg3 x1 j)
    · exact piece (lamOf x0) _ s w 1 1 256 128 (by omega) (by omega) rfl rfl inb_S1x2048x256_S1x256x128_0_256_128 _ _ (fun j q => (tile (kernelRun0_A.sl.r (F := Ideal) c arg2 harg2 x0) s w arg8.view _ _ inv 1 1 2304 (by omega) (by omega) rfl 256 rfl _ _ _ _ j q).trans (by rw [r_eq])) (fun j => gn_eq arg3 harg3 x1 j)
    · exact piece (lamOf x0) _ s w 1 0 0 128 (by omega) (by omega) rfl rfl inb_S1x2048x256_S1x256x128_0_0_128 _ _ (fun j q => (tile (kernelRun0_A.sl.r (F := Ideal) c arg2 harg2 x0) s w arg8.view _ _ inv 1 0 2048 (by omega) (by omega) rfl 0 rfl _ _ _ _ j q).trans (by rw [r_eq])) (fun j => gn_eq arg3 harg3 x1 j)
    · exact piece (lamOf x0) _ s w 0 7 1792 0 (by omega) (by omega) rfl rfl inb_S1x2048x256_S1x256x128_0_1792_0 _ _ (fun j q => (tile (kernelRun0_A.sl.r (F := Ideal) c arg2 harg2 x0) s w arg8.view _ _ inv 0 7 3840 (by omega) (by omega) rfl 1792 rfl _ _ _ _ j q).trans (by rw [r_eq])) (fun j => gn_eq arg3 harg3 x1 j)
    · exact piece (lamOf x0) _ s w 0 6 1536 0 (by omega) (by omega) rfl rfl inb_S1x2048x256_S1x256x128_0_1536_0 _ _ (fun j q => (tile (kernelRun0_A.sl.r (F := Ideal) c arg2 harg2 x0) s w arg8.view _ _ inv 0 6 3584 (by omega) (by omega) rfl 1536 rfl _ _ _ _ j q).trans (by rw [r_eq])) (fun j => gn_eq arg3 harg3 x1 j)
    · exact piece (lamOf x0) _ s w 0 5 1280 0 (by omega) (by omega) rfl rfl inb_S1x2048x256_S1x256x128_0_1280_0 _ _ (fun j q => (tile (kernelRun0_A.sl.r (F := Ideal) c arg2 harg2 x0) s w arg8.view _ _ inv 0 5 3328 (by omega) (by omega) rfl 1280 rfl _ _ _ _ j q).trans (by rw [r_eq])) (fun j => gn_eq arg3 harg3 x1 j)
    · exact piece (lamOf x0) _ s w 0 4 1024 0 (by omega) (by omega) rfl rfl inb_S1x2048x256_S1x256x128_0_1024_0 _ _ (fun j q => (tile (kernelRun0_A.sl.r (F := Ideal) c arg2 harg2 x0) s w arg8.view _ _ inv 0 4 3072 (by omega) (by omega) rfl 1024 rfl _ _ _ _ j q).trans (by rw [r_eq])) (fun j => gn_eq arg3 harg3 x1 j)
    · exact piece (lamOf x0) _ s w 0 3 768 0 (by omega) (by omega) rfl rfl inb_S1x2048x256_S1x256x128_0_768_0 _ _ (fun j q => (tile (kernelRun0_A.sl.r (F := Ideal) c arg2 harg2 x0) s w arg8.view _ _ inv 0 3 2816 (by omega) (by omega) rfl 768 rfl _ _ _ _ j q).trans (by rw [r_eq])) (fun j => gn_eq arg3 harg3 x1 j)
    · exact piece (lamOf x0) _ s w 0 2 512 0 (by omega) (by omega) rfl rfl inb_S1x2048x256_S1x256x128_0_512_0 _ _ (fun j q => (tile (kernelRun0_A.sl.r (F := Ideal) c arg2 harg2 x0) s w arg8.view _ _ inv 0 2 2560 (by omega) (by omega) rfl 512 rfl _ _ _ _ j q).trans (by rw [r_eq])) (fun j => gn_eq arg3 harg3 x1 j)
    · exact piece (lamOf x0) _ s w 0 1 256 0 (by omega) (by omega) rfl rfl inb_S1x2048x256_S1x256x128_0_256_0 _ _ (fun j q => (tile (kernelRun0_A.sl.r (F := Ideal) c arg2 harg2 x0) s w arg8.view _ _ inv 0 1 2304 (by omega) (by omega) rfl 256 rfl _ _ _ _ j q).trans (by rw [r_eq])) (fun j => gn_eq arg3 harg3 x1 j)
    · exact piece (lamOf x0) _ s w 0 0 0 0 (by omega) (by omega) rfl rfl inb_S1x2048x256_S1x256x128_0_0_0 _ _ (fun j q => (tile (kernelRun0_A.sl.r (F := Ideal) c arg2 harg2 x0) s w arg8.view _ _ inv 0 0 2048 (by omega) (by omega) rfl 0 rfl _ _ _ _ j q).trans (by rw [r_eq])) (fun j => gn_eq arg3 harg3 x1 j)
  · have h1 : (y 1).val < 2048 := (y 1).isLt
    have h2 : (y 2).val < 256 := (y 2).isLt
    have hc : (128 ≤ (y 2).val ∧ (y 2).val < 256 ∧ 1792 ≤ (y 1).val ∧ (y 1).val < 2048) ∨ (128 ≤ (y 2).val ∧ (y 2).val < 256 ∧ 1536 ≤ (y 1).val ∧ (y 1).val < 1792) ∨ (128 ≤ (y 2).val ∧ (y 2).val < 256 ∧ 1280 ≤ (y 1).val ∧ (y 1).val < 1536) ∨ (128 ≤ (y 2).val ∧ (y 2).val < 256 ∧ 1024 ≤ (y 1).val ∧ (y 1).val < 1280) ∨ (128 ≤ (y 2).val ∧ (y 2).val < 256 ∧ 768 ≤ (y 1).val ∧ (y 1).val < 1024) ∨ (128 ≤ (y 2).val ∧ (y 2).val < 256 ∧ 512 ≤ (y 1).val ∧ (y 1).val < 768) ∨ (128 ≤ (y 2).val ∧ (y 2).val < 256 ∧ 256 ≤ (y 1).val ∧ (y 1).val < 512) ∨ (128 ≤ (y 2).val ∧ (y 2).val < 256 ∧ 0 ≤ (y 1).val ∧ (y 1).val < 256) ∨ (0 ≤ (y 2).val ∧ (y 2).val < 128 ∧ 1792 ≤ (y 1).val ∧ (y 1).val < 2048) ∨ (0 ≤ (y 2).val ∧ (y 2).val < 128 ∧ 1536 ≤ (y 1).val ∧ (y 1).val < 1792) ∨ (0 ≤ (y 2).val ∧ (y 2).val < 128 ∧ 1280 ≤ (y 1).val ∧ (y 1).val < 1536) ∨ (0 ≤ (y 2).val ∧ (y 2).val < 128 ∧ 1024 ≤ (y 1).val ∧ (y 1).val < 1280) ∨ (0 ≤ (y 2).val ∧ (y 2).val < 128 ∧ 768 ≤ (y 1).val ∧ (y 1).val < 1024) ∨ (0 ≤ (y 2).val ∧ (y 2).val < 128 ∧ 512 ≤ (y 1).val ∧ (y 1).val < 768) ∨ (0 ≤ (y 2).val ∧ (y 2).val < 128 ∧ 256 ≤ (y 1).val ∧ (y 1).val < 512) ∨ (0 ≤ (y 2).val ∧ (y 2).val < 128 ∧ 0 ≤ (y 1).val ∧ (y 1).val < 256) := by omega
    have go : ∀ (o e : Nat) (inb : ∀ a, (![0, o, e] : Fin 3 → Nat) a + S1x256x128.size a ≤ S1x2048x256.size a), e ≤ (y 2).val → (y 2).val < e + 128 → o ≤ (y 1).val → (y 1).val < o + 256 →
        y ∈ (Rect.unit (s := S1x2048x256) ![0, o, e] S1x256x128.size inb).set := fun o e inb a b c d => (Rect.mem_set_unit (inb := inb)).2 fun z => by
      match z with
      | 0 => exact ⟨Nat.zero_le _, (y 0).isLt⟩
      | 1 => exact ⟨c, d⟩
      | 2 => exact ⟨a, b⟩
    rcases hc with ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩ | ⟨a, b, c, d⟩
    · exact ⟨_, List.mem_cons_self, go 1792 128 inb_S1x2048x256_S1x256x128_0_1792_128 a b c d⟩
    · exact ⟨_, List.mem_cons_of_mem _ (List.mem_cons_self), go 1536 128 inb_S1x2048x256_S1x256x128_0_1536_128 a b c d⟩
    · exact ⟨_, List.mem_cons_of_mem _ (List.mem_cons_of_mem _ (List.mem_cons_self)), go 1280 128 inb_S1x2048x256_S1x256x128_0_1280_128 a b c d⟩
    · exact ⟨_, List.mem_cons_of_mem _ (List.mem_cons_of_mem _ (List.mem_cons_of_mem _ (List.mem_cons_self))), go 1024 128 inb_S1x2048x256_S1x256x128_0_1024_128 a b c d⟩
    · exact ⟨_, List.mem_cons_of_mem _ (List.mem_cons_of_mem _ (List.mem_cons_of_mem _ (List.mem_cons_of_mem _ (List.mem_cons_self)))), go 768 128 inb_S1x2048x256_S1x256x128_0_768_128 a b c d⟩
    · exact ⟨_, List.mem_cons_of_mem _ (List.mem_cons_of_mem _ (List.mem_cons_of_mem _ (List.mem_cons_of_mem _ (List.mem_cons_of_mem _ (List.mem_cons_self))))), go 512 128 inb_S1x2048x256_S1x256x128_0_512_128 a b c d⟩
    · exact ⟨_, List.mem_cons_of_mem _ (List.mem_cons_of_mem _ (List.mem_cons_of_mem _ (List.mem_cons_of_mem _ (List.mem_cons_of_mem _ (List.mem_cons_of_mem _ (List.mem_cons_self)))))), go 256 128 inb_S1x2048x256_S1x256x128_0_256_128 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), go 0 128 inb_S1x2048x256_S1x256x128_0_0_128 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), go 1792 0 inb_S1x2048x256_S1x256x128_0_1792_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), go 1536 0 inb_S1x2048x256_S1x256x128_0_1536_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), go 1280 0 inb_S1x2048x256_S1x256x128_0_1280_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), go 1024 0 inb_S1x2048x256_S1x256x128_0_1024_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), go 768 0 inb_S1x2048x256_S1x256x128_0_768_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), go 512 0 inb_S1x2048x256_S1x256x128_0_512_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), go 256 0 inb_S1x2048x256_S1x256x128_0_256_0 a b c d⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), go 0 0 inb_S1x2048x256_S1x256x128_0_0_0 a b c d⟩
end Cert.AttnOut
-- ==== Proof.AttnScores.lean ====
module
public import proofs.«01_k».proof.Proof.AttnOut
/-! The scores of real queries and keys: each of a head's two maps takes its own half of the lanes. -/
@[expose] public section
noncomputable section
open Idealize.ShloMosaic Idealize.ShloMosaic.TcCoe Idealize.SL.Sem
namespace Cert.AttnScores
open Cert.AttnIdeal Cert.AttnIdeal.Gen Cert.AttnCol Cert.AttnTiles Cert.AttnState Cert.AttnChain

theorem lane_lt (d : Nat) (h : d < 128) (x y : EReal) : Scalar.select (IntOp.cmpi .slt (BitVec.ofNat 32 d) 64#32) x y = if d < 64 then x else y := by
  have e : (BitVec.ofNat 32 d).slt 64#32 = decide (d < 64) := by
    rw [BitVec.slt_eq_decide, BitVec.toInt_eq_toNat_of_lt (by simp [BitVec.toNat_ofNat]; omega)]
    simp only [BitVec.toNat_ofNat, Nat.mod_eq_of_lt (show d < 2 ^ 32 by omega)]
    congr 1
    show ((d : Int) < 64) = (d < 64)
    simp
  unfold Scalar.select IntOp.cmpi
  simp only [e]
  by_cases hd : d < 64 <;> simp [hd]

theorem lane_ge (d : Nat) (h : d < 128) (x y : EReal) : Scalar.select (IntOp.cmpi .sge (BitVec.ofNat 32 d) 64#32) x y = if 64 ≤ d then x else y := by
  have e : (64#32).sle (BitVec.ofNat 32 d) = decide (64 ≤ d) := by
    rw [BitVec.sle_eq_decide, BitVec.toInt_eq_toNat_of_lt (x := BitVec.ofNat 32 d) (by simp [BitVec.toNat_ofNat]; omega)]
    simp only [BitVec.toNat_ofNat, Nat.mod_eq_of_lt (show d < 2 ^ 32 by omega)]
    congr 1
    show ((64 : Int) ≤ d) = (64 ≤ d)
    simp
  unfold Scalar.select IntOp.cmpi
  simp only [e]
  by_cases hd : 64 ≤ d <;> simp [hd]

/-- A sum over the lower half of the lanes. -/
theorem sum_lo (f : Nat → EReal) : (∑ d : Fin 128, if d.val < 64 then f d.val else 0) = ∑ d : Fin 64, f d.val := by
  have e := Fin.sum_univ_add (a := 64) (b := 64) (fun d : Fin (64 + 64) => if d.val < 64 then f d.val else 0)
  refine e.trans ?_
  rw [Finset.sum_congr rfl fun d _ => if_pos (show (Fin.castAdd 64 d : Fin (64 + 64)).val < 64 from d.isLt),
    Finset.sum_eq_zero (s := Finset.univ) (f := fun d : Fin 64 => if (Fin.natAdd 64 d).val < 64 then f (Fin.natAdd 64 d).val else 0)
      (fun d _ => if_neg (by rw [Fin.val_natAdd]; omega)), add_zero]
  rfl

/-- A sum over the upper half. -/
theorem sum_hi (f : Nat → EReal) : (∑ d : Fin 128, if 64 ≤ d.val then f d.val else 0) = ∑ d : Fin 64, f (64 + d.val) := by
  have e := Fin.sum_univ_add (a := 64) (b := 64) (fun d : Fin (64 + 64) => if 64 ≤ d.val then f d.val else 0)
  refine e.trans ?_
  rw [Finset.sum_congr rfl fun d _ => if_pos (show 64 ≤ (Fin.natAdd 64 d : Fin (64 + 64)).val by rw [Fin.val_natAdd]; omega),
    Finset.sum_eq_zero (s := Finset.univ) (f := fun d : Fin 64 => if 64 ≤ (Fin.castAdd 64 d).val then f (Fin.castAdd 64 d).val else 0)
      (fun d _ => if_neg (by rw [Fin.val_castAdd]; omega)), zero_add]
  rfl

theorem pay4_at (A : Vec Ideal S1x2048x128 .bf16) (q : Fin 2048) (d : Fin 128) : k0_pay4 (F := Ideal) A (ix2 q d) = if d.val < 64 then A (ix3 0 q d) else 0 := by
  refine Eq.trans ?_ (lane_lt d.val d.isLt _ _)
  pointwise [k0_pay4, k0_pay2, k0_pay3]

theorem pay5_at (A : Vec Ideal S1x2048x128 .bf16) (q : Fin 2048) (d : Fin 128) : k0_pay5 (F := Ideal) A (ix2 q d) = if 64 ≤ d.val then A (ix3 0 q d) else 0 := by
  refine Eq.trans ?_ (lane_ge d.val d.isLt _ _)
  pointwise [k0_pay5, k0_pay2, k0_pay3]

theorem pay8_at (A : Vec Ideal S1x2048x128 .bf16) (q : Fin 2048) (d : Fin 128) : k0_pay8 (F := Ideal) A (ix2 q d) = if d.val < 64 then A (ix3 0 q d) else 0 := by
  refine Eq.trans ?_ (lane_lt d.val d.isLt _ _)
  pointwise [k0_pay8, k0_pay6, k0_pay7]

theorem pay10_at (A : Vec Ideal S1x2048x128 .bf16) (q : Fin 2048) (d : Fin 128) : k0_pay10 (F := Ideal) (k0_pay6 A) k0_pay7 k0_pay9 (ix2 q d) = if 64 ≤ d.val then A (ix3 0 q d) else 0 := by
  refine Eq.trans ?_ (lane_ge d.val d.isLt _ _)
  pointwise [k0_pay10, k0_pay6, k0_pay7, k0_pay9]

/-- One map's product with the keys, over the lower half. -/
theorem dot_lo (K A : Nat → ℝ) : (∑ d : Fin 128, (K d.val : EReal) * (if d.val < 64 then (A d.val : EReal) else 0)) = ((∑ d : Fin 64, K d.val * A d.val : ℝ) : EReal) := by
  rw [coe_sum, ← Finset.sum_congr rfl fun d _ => (EReal.coe_mul _ _).symm, ← sum_lo (fun d => (K d : EReal) * (A d : EReal))]
  refine Finset.sum_congr rfl fun d _ => ?_
  split
  · rfl
  · exact mul_zero _

/-- Over the upper half. -/
theorem dot_hi (K A : Nat → ℝ) : (∑ d : Fin 128, (K d.val : EReal) * (if 64 ≤ d.val then (A d.val : EReal) else 0)) = ((∑ d : Fin 64, K (64 + d.val) * A (64 + d.val) : ℝ) : EReal) := by
  rw [coe_sum, ← Finset.sum_congr rfl fun d _ => (EReal.coe_mul _ _).symm, ← sum_hi (fun d => (K d : EReal) * (A d : EReal))]
  refine Finset.sum_congr rfl fun d _ => ?_
  split
  · rfl
  · exact mul_zero _

/-- Real blocks have real scores. -/
theorem scores (c : Dev nD) (arg4 : Memref sig .tc .vmem S1x2048x256 .bf16) (harg4 : arg4.IsWhole) (x2 x3 x4 : Vec Ideal S1x2048x256 .bf16) (Q K U : Nat → Nat → ℝ)
    (hq : ∀ k d, k < 2048 → d < 256 → at3 x2 k d = (Q k d : EReal)) (hk : ∀ k d, k < 2048 → d < 256 → at3 x3 k d = (K k d : EReal))
    (hu : ∀ k d, k < 2048 → d < 256 → at3 x4 k d = (U k d : EReal)) :
    Scores c arg4 harg4 x2 x3 x4 (fun h p q k => ∑ d : Fin 64, K k (128 * h + (64 * p + d.val)) * Q q (128 * h + (64 * p + d.val))) (fun h i k => U k (128 * h + i)) where
  s00 q k hq' hk' := by
    refine (Finset.sum_congr rfl fun d _ => ?_).trans ((dot_lo (fun d => K k (0 + d)) (fun d => Q q (0 + d))).trans ?_)
    · refine congr (congrArg (HMul.hMul (α := EReal)) (hk k (0 + d.val) hk' (by omega))) ?_
      refine (pay4_at _ ⟨q, hq'⟩ d).trans ?_
      refine if_congr Iff.rfl ?_ rfl
      exact (rd 2048 0 0 arg4 harg4 x2 _ ⟨q, hq'⟩ d).trans ((congrArg (fun n => at3 x2 n (0 + d.val)) (Nat.zero_add q)).trans (hq q (0 + d.val) hq' (by omega)))
    · refine congrArg (fun r : ℝ => (r : EReal)) (Finset.sum_congr rfl fun d _ => ?_)
      simp only [Nat.mul_zero, Nat.mul_one, Nat.zero_add]
  s01 q k hq' hk' := by
    refine (Finset.sum_congr rfl fun d _ => ?_).trans ((dot_hi (fun d => K k (0 + d)) (fun d => Q q (0 + d))).trans ?_)
    · refine congr (congrArg (HMul.hMul (α := EReal)) (hk k (0 + d.val) hk' (by omega))) ?_
      refine (pay5_at _ ⟨q, hq'⟩ d).trans ?_
      refine if_congr Iff.rfl ?_ rfl
      exact (rd 2048 0 0 arg4 harg4 x2 _ ⟨q, hq'⟩ d).trans ((congrArg (fun n => at3 x2 n (0 + d.val)) (Nat.zero_add q)).trans (hq q (0 + d.val) hq' (by omega)))
    · refine congrArg (fun r : ℝ => (r : EReal)) (Finset.sum_congr rfl fun d _ => ?_)
      simp only [Nat.mul_zero, Nat.mul_one, Nat.zero_add]
  s10 q k hq' hk' := by
    refine (Finset.sum_congr rfl fun d _ => ?_).trans ((dot_lo (fun d => K k (128 + d)) (fun d => Q q (128 + d))).trans ?_)
    · refine congr (congrArg (HMul.hMul (α := EReal)) (hk k (128 + d.val) hk' (by omega))) ?_
      refine (pay8_at _ ⟨q, hq'⟩ d).trans ?_
      refine if_congr Iff.rfl ?_ rfl
      exact (rd 2048 128 0 arg4 harg4 x2 _ ⟨q, hq'⟩ d).trans ((congrArg (fun n => at3 x2 n (128 + d.val)) (Nat.zero_add q)).trans (hq q (128 + d.val) hq' (by omega)))
    · refine congrArg (fun r : ℝ => (r : EReal)) (Finset.sum_congr rfl fun d _ => ?_)
      simp only [Nat.mul_zero, Nat.mul_one, Nat.zero_add]
  s11 q k hq' hk' := by
    refine (Finset.sum_congr rfl fun d _ => ?_).trans ((dot_hi (fun d => K k (128 + d)) (fun d => Q q (128 + d))).trans ?_)
    · refine congr (congrArg (HMul.hMul (α := EReal)) (hk k (128 + d.val) hk' (by omega))) ?_
      refine (pay10_at _ ⟨q, hq'⟩ d).trans ?_
      refine if_congr Iff.rfl ?_ rfl
      exact (rd 2048 128 0 arg4 harg4 x2 _ ⟨q, hq'⟩ d).trans ((congrArg (fun n => at3 x2 n (128 + d.val)) (Nat.zero_add q)).trans (hq q (128 + d.val) hq' (by omega)))
    · refine congrArg (fun r : ℝ => (r : EReal)) (Finset.sum_congr rfl fun d _ => ?_)
      simp only [Nat.mul_zero, Nat.mul_one, Nat.zero_add]
  v0 k i hk' hi' := (hu k (0 + i) hk' (by omega)).trans (by simp only [Nat.mul_zero])
  v1 k i hk' hi' := (hu k (128 + i) hk' (by omega)).trans (by simp only [Nat.mul_one])

end Cert.AttnScores
-- ==== Proof.AttnArray.lean ====
module
public import proofs.«01_k».proof.Proof.AttnScores
public import Idealize.ShloMosaic.Lib.Claim
public import Idealize.ShloMosaic.Lib.Tactic
/-! The attention call: what its result array ends holding, as a function of the arguments, when those are numbers. -/
@[expose] public section
noncomputable section
open Idealize.ShloMosaic Idealize.ShloMosaic.TcCoe Idealize.SL.Sem
open Idealize.ShloMosaic.Pipeline (Dat)

namespace Cert.AttnReal
open Cert.AttnIdeal Cert.AttnCol Cert.AttnOut

/-- An argument's entry as a real. -/
def rl (a : Vec Ideal S32x2048x512 .f32) (b : Fin 32) (k e : Nat) : ℝ := if h : k < 2048 ∧ e < 512 then EReal.toReal (a (ix3 b ⟨k, h.1⟩ ⟨e, h.2⟩)) else 0
/-- What the queries are scaled by: the softmax's scale, and the change of the exponential's base to two. -/
def qscale : ℝ := 1 / 8 * (1 / Real.log 2)
/-- The base-two score of query `q` and key `k`: map `p` of head `h`. -/
def score (a0 a1 : Vec Ideal S32x2048x512 .f32) (b : Fin 32) (h p q k : Nat) : ℝ :=
  ∑ d : Fin 64, rl a1 b k (128 * h + (64 * p + d.val)) * (rl a0 b q (128 * h + (64 * p + d.val)) * qscale)
/-- The weight of the second map. -/
def lam (a3 a4 a5 a6 : Vec Ideal S1x64 .f32) : EReal :=
  Ideal.exp (∑ e : Fin 64, a3 (ix2 0 e) * a4 (ix2 0 e)) - Ideal.exp (∑ e : Fin 64, a5 (ix2 0 e) * a6 (ix2 0 e)) + Ideal.ofBits .f32 0x3E4CCCCD#32
/-- One head's output at a query and a channel. -/
def headOut (a0 a1 a2 : Vec Ideal S32x2048x512 .f32) (a3 a4 a5 a6 : Vec Ideal S1x64 .f32) (a7 : Vec Ideal S1x128 .f32) (b : Fin 32) (h q : Nat) (j : Fin 128) : EReal :=
  outAt (lam a3 a4 a5 a6) (fun j => a7 (ix2 0 j)) (fun _ p q k => score a0 a1 b h p q k) (fun _ i k => rl a2 b k (128 * h + i)) 0 q j
/-- The result array. -/
def result (a0 a1 a2 : Vec Ideal S32x2048x512 .f32) (a3 a4 a5 a6 : Vec Ideal S1x64 .f32) (a7 : Vec Ideal S1x128 .f32) : Vec Ideal S32x2048x512 .bf16 :=
  fun i => headOut a0 a1 a2 a3 a4 a5 a6 a7 (i 0) ((i 2).val / 128) (i 1).val ⟨(i 2).val % 128, Nat.mod_lt _ (by norm_num)⟩

theorem rl_eq (a : Vec Ideal S32x2048x512 .f32) (ha : ∀ i, ∃ r : ℝ, a i = (r : EReal)) (b : Fin 32) (k e : Nat) (hk : k < 2048) (he : e < 512) :
    a (ix3 b ⟨k, hk⟩ ⟨e, he⟩) = (rl a b k e : EReal) := by
  obtain ⟨r, hr⟩ := ha (ix3 b ⟨k, hk⟩ ⟨e, he⟩)
  rw [rl, dif_pos ⟨hk, he⟩, hr]
  rfl

theorem outAt_congr {l l' : EReal} {g g' : Fin 128 → EReal} {s s' : Nat → Nat → Nat → Nat → ℝ} {w w' : Nat → Nat → Nat → ℝ} {h h' q : Nat} {j : Fin 128}
    (hl : l = l') (hg : ∀ e, g e = g' e) (hs : ∀ p q k, s h p q k = s' h' p q k) (hw : ∀ i k, w h i k = w' h' i k) : outAt l g s w h q j = outAt l' g' s' w' h' q j := by
  have es : s h = s' h' := funext fun p => funext fun q => funext fun k => hs p q k
  have ew : w h = w' h' := funext fun i => funext fun k => hw i k
  unfold outAt ot
  rw [hl, hg, es, ew]

theorem two_f32 : Ideal.ofBits .f32 0x40000000#32 = ((2 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

theorem qscale_eq : Ideal.div (Ideal.ofBits .f32 0x3E000000#32) (Ideal.log (Ideal.ofBits .f32 0x40000000#32)) = (qscale : EReal) := by
  rw [two_f32, eighth_f32, Ideal.log_coe, if_neg (by norm_num), Ideal.div_coe (Real.log_pos (by norm_num)).ne', ← EReal.coe_mul]
  rfl

end Cert.AttnReal

namespace Cert.AttnIdeal.Value
open Cert.AttnIdeal Cert.AttnIdeal.Gen Cert.AttnReal Cert.AttnChain Cert.AttnOut

variable (m : (ℓ : Loc nD τ sig) → Buf (Elt Ideal) ℓ)

/-! ## The arrays the call reads, from the arguments -/

theorem V4 (c : Dev nD) (b : Fin 32) (s : Fin 2048) (j : Fin 512) : (V m c main_v4 : FVec Ideal S32x2048x512 .bf16) (ix3 b s j)
    = HMul.hMul (α := EReal) (β := EReal) (γ := EReal) (m ((c : Thread nD τ).loc main_arg0) (ix3 b s j)) (qscale : EReal) := by
  have e : (V m c main_v4 : FVec Ideal S32x2048x512 .bf16)
      = (truncf .bf16 (mulf (m ((c : Thread nD τ).loc main_arg0) : FVec Ideal S32x2048x512 .f32) (broadcastInDim S32x2048x512 ![] bcast_S_S32x2048x512 (Host.divf (constant S_ .f32 0x3E000000#32) (Host.log (constant S_ .f32 0x40000000#32))))) bitsLt_bf16_f32 : FVec Ideal S32x2048x512 .bf16) := by
    unfold_abbrev_sides
    after_results
  rw [e, ← qscale_eq]
  pointwise

theorem V5 (c : Dev nD) : (V m c main_v5 : FVec Ideal S32x2048x512 .bf16) = (m ((c : Thread nD τ).loc main_arg1) : FVec Ideal S32x2048x512 .f32) := by
  unfold_abbrev_sides
  after_results
  rfl

theorem V6 (c : Dev nD) : (V m c main_v6 : FVec Ideal S32x2048x512 .bf16) = (m ((c : Thread nD τ).loc main_arg2) : FVec Ideal S32x2048x512 .f32) := by
  unfold_abbrev_sides
  after_results
  rfl

theorem V17 (c : Dev nD) (j : Fin 128) : (V m c main_v17 : Vec Ideal S128x1 .f32) (ix2 j 0) = (m ((c : Thread nD τ).loc main_arg7) : Vec Ideal S1x128 .f32) (ix2 0 j) := by
  have e : (V m c main_v17 : FVec Ideal S128x1 .f32) = broadcastInDim S128x1 ![0] bcast_S128_S128x1_0 (shapeCast S128 (m ((c : Thread nD τ).loc main_arg7) : FVec Ideal S1x128 .f32) shapeCasts_S1x128_S128) := by
    unfold_abbrev_sides
    after_results
    rfl
  rw [e]
  pointwise

/-- A lambda's row as the call stacks it. -/
abbrev lrow (x : FVec Ideal S1x64 .f32) : FVec Ideal S1x64 .f32 := broadcastInDim S1x64 ![1] bcast_S64_S1x64_1 (shapeCast S64 x shapeCasts_S1x64_S64)

/-- The stacked rows at an index. -/
theorem stack_at (a b c d : FVec Ideal S1x64 .f32) (e : Fin 64) :
    (concatenate S4x64 0 [⟨S1x64, lrow a⟩, ⟨S1x64, lrow b⟩, ⟨S1x64, lrow c⟩, ⟨S1x64, lrow d⟩] concatenates_S1x64_S1x64_S1x64_S1x64_S4x64_d0 : FVec Ideal S4x64 .f32) (ix2 0 e) = a (ix2 0 e)
    ∧ (concatenate S4x64 0 [⟨S1x64, lrow a⟩, ⟨S1x64, lrow b⟩, ⟨S1x64, lrow c⟩, ⟨S1x64, lrow d⟩] concatenates_S1x64_S1x64_S1x64_S1x64_S4x64_d0 : FVec Ideal S4x64 .f32) (ix2 1 e) = b (ix2 0 e)
    ∧ (concatenate S4x64 0 [⟨S1x64, lrow a⟩, ⟨S1x64, lrow b⟩, ⟨S1x64, lrow c⟩, ⟨S1x64, lrow d⟩] concatenates_S1x64_S1x64_S1x64_S1x64_S4x64_d0 : FVec Ideal S4x64 .f32) (ix2 2 e) = c (ix2 0 e)
    ∧ (concatenate S4x64 0 [⟨S1x64, lrow a⟩, ⟨S1x64, lrow b⟩, ⟨S1x64, lrow c⟩, ⟨S1x64, lrow d⟩] concatenates_S1x64_S1x64_S1x64_S1x64_S4x64_d0 : FVec Ideal S4x64 .f32) (ix2 3 e) = d (ix2 0 e) := by
  refine ⟨?_, ?_, ?_, ?_⟩ <;> pointwise

theorem V15 (c : Dev nD) : (V m c main_v15 : FVec Ideal S4x64 .f32) = concatenate S4x64 0 [⟨S1x64, lrow (m ((c : Thread nD τ).loc main_arg3))⟩, ⟨S1x64, lrow (m ((c : Thread nD τ).loc main_arg4))⟩,
    ⟨S1x64, lrow (m ((c : Thread nD τ).loc main_arg5))⟩, ⟨S1x64, lrow (m ((c : Thread nD τ).loc main_arg6))⟩] concatenates_S1x64_S1x64_S1x64_S1x64_S4x64_d0 := by
  unfold_abbrev_sides
  after_results
  rfl

/-! ## The blocks the body loads at point `t` -/

/-- The sequence of point `t`. -/
abbrev bt (t : Fin cfg0.N) : Fin 32 := ⟨t.val / 2, by have : t.val < 64 := t.isLt; omega⟩
/-- Lane `e` of point `t`'s pair of heads. -/
abbrev ln (t : Fin cfg0.N) (e : Fin 256) : Fin 512 := ⟨256 * (t.val % 2) + e.val, by omega⟩

theorem e0 : ∀ t : Fin cfg0.N, win0_0.index t = ![0, 0] := (by decide +kernel : ∀ t : Fin grid0.N, _)
theorem rd0 (c : Dev nD) (t : Fin cfg0.N) (i : Fin 4) (j : Fin 64) : (iblk m c 0 t : Vec Ideal S4x64 .f32) (ix2 i j)
    = (V m c main_v15 : Vec Ideal S4x64 .f32) (ix2 i j) := by
  blk_simp [iblk]
  refine congrArg (V m c main_v15) ?_
  funext a; apply Fin.ext
  match a with
  | ⟨0, _⟩ => blk_simp [e0]
  | ⟨1, _⟩ => blk_simp [e0]

theorem e1 : ∀ t : Fin cfg0.N, win0_1.index t = ![0, 0] := (by decide +kernel : ∀ t : Fin grid0.N, _)
theorem rd1 (c : Dev nD) (t : Fin cfg0.N) (i : Fin 128) (j : Fin 1) : (iblk m c 1 t : Vec Ideal S128x1 .f32) (ix2 i j)
    = (V m c main_v17 : Vec Ideal S128x1 .f32) (ix2 i j) := by
  blk_simp [iblk]
  refine congrArg (V m c main_v17) ?_
  funext a; apply Fin.ext
  match a with
  | ⟨0, _⟩ => blk_simp [e1]
  | ⟨1, _⟩ => blk_simp [e1]

theorem e2 : ∀ t : Fin cfg0.N, win0_2.index t = ![t.val / 2, 0, t.val % 2] := (by decide +kernel : ∀ t : Fin grid0.N, _)
theorem rd2 (c : Dev nD) (t : Fin cfg0.N) (i : Fin 2048) (j : Fin 256) : (iblk m c 2 t : Vec Ideal S1x2048x256 .bf16) (ix3 0 i j)
    = (V m c main_v4 : Vec Ideal S32x2048x512 .bf16) (ix3 (bt t) i (ln t j)) := by
  blk_simp [iblk]
  refine congrArg (V m c main_v4) ?_
  funext a; apply Fin.ext
  match a with
  | ⟨0, _⟩ => blk_simp [e2]; rfl
  | ⟨1, _⟩ => blk_simp [e2]
  | ⟨2, _⟩ => blk_simp [e2]; show t.val % 2 * 256 + j.val = 256 * (t.val % 2) + j.val; omega

theorem e3 : ∀ t : Fin cfg0.N, win0_3.index t = ![t.val / 2, 0, t.val % 2] := (by decide +kernel : ∀ t : Fin grid0.N, _)
theorem rd3 (c : Dev nD) (t : Fin cfg0.N) (i : Fin 2048) (j : Fin 256) : (iblk m c 3 t : Vec Ideal S1x2048x256 .bf16) (ix3 0 i j)
    = (V m c main_v5 : Vec Ideal S32x2048x512 .bf16) (ix3 (bt t) i (ln t j)) := by
  blk_simp [iblk]
  refine congrArg (V m c main_v5) ?_
  funext a; apply Fin.ext
  match a with
  | ⟨0, _⟩ => blk_simp [e3]; rfl
  | ⟨1, _⟩ => blk_simp [e3]
  | ⟨2, _⟩ => blk_simp [e3]; show t.val % 2 * 256 + j.val = 256 * (t.val % 2) + j.val; omega

theorem e4 : ∀ t : Fin cfg0.N, win0_4.index t = ![t.val / 2, 0, t.val % 2] := (by decide +kernel : ∀ t : Fin grid0.N, _)
theorem rd4 (c : Dev nD) (t : Fin cfg0.N) (i : Fin 2048) (j : Fin 256) : (iblk m c 4 t : Vec Ideal S1x2048x256 .bf16) (ix3 0 i j)
    = (V m c main_v6 : Vec Ideal S32x2048x512 .bf16) (ix3 (bt t) i (ln t j)) := by
  blk_simp [iblk]
  refine congrArg (V m c main_v6) ?_
  funext a; apply Fin.ext
  match a with
  | ⟨0, _⟩ => blk_simp [e4]; rfl
  | ⟨1, _⟩ => blk_simp [e4]
  | ⟨2, _⟩ => blk_simp [e4]; show t.val % 2 * 256 + j.val = 256 * (t.val % 2) + j.val; omega

theorem e5 : ∀ t : Fin cfg0.N, win0_5.index t = ![t.val / 2, 0, t.val % 2] := (by decide +kernel : ∀ t : Fin grid0.N, _)

/-! ## The result -/

theorem lam_eq (c : Dev nD) (t : Fin cfg0.N) : lamOf (iblk m c 0 t) = lam (m ((c : Thread nD τ).loc main_arg3)) (m ((c : Thread nD τ).loc main_arg4))
    (m ((c : Thread nD τ).loc main_arg5)) (m ((c : Thread nD τ).loc main_arg6)) := by
  have h (i : Fin 4) (e : Fin 64) := (rd0 m c t i e).trans (congrFun (V15 m c) (ix2 i e))
  have st (e : Fin 64) := stack_at (m ((c : Thread nD τ).loc main_arg3)) (m ((c : Thread nD τ).loc main_arg4)) (m ((c : Thread nD τ).loc main_arg5)) (m ((c : Thread nD τ).loc main_arg6)) e
  unfold lamOf lam
  refine congrArg (· + _) (congr (congrArg HSub.hSub (congrArg Ideal.exp (Finset.sum_congr rfl fun e _ => ?_))) (congrArg Ideal.exp (Finset.sum_congr rfl fun e _ => ?_)))
  · exact congr (congrArg HMul.hMul ((h 0 e).trans (st e).1)) ((h 1 e).trans (st e).2.1)
  · exact congr (congrArg HMul.hMul ((h 2 e).trans (st e).2.2.1)) ((h 3 e).trans (st e).2.2.2)

/-- The scores of point `t`'s two heads. -/
theorem scores_t (c : Dev nD) (t : Fin cfg0.N) (arg4 : Memref sig .tc .vmem S1x2048x256 .bf16) (harg4 : arg4.IsWhole)
    (h0 : ∀ i, ∃ r : ℝ, (m ((c : Thread nD τ).loc main_arg0) : Vec Ideal S32x2048x512 .f32) i = (r : EReal))
    (h1 : ∀ i, ∃ r : ℝ, (m ((c : Thread nD τ).loc main_arg1) : Vec Ideal S32x2048x512 .f32) i = (r : EReal))
    (h2 : ∀ i, ∃ r : ℝ, (m ((c : Thread nD τ).loc main_arg2) : Vec Ideal S32x2048x512 .f32) i = (r : EReal)) :
    Scores c arg4 harg4 (iblk m c 2 t) (iblk m c 3 t) (iblk m c 4 t)
      (fun h p q k => ∑ d : Fin 64, rl (m ((c : Thread nD τ).loc main_arg1)) (bt t) k (256 * (t.val % 2) + (128 * h + (64 * p + d.val)))
        * (rl (m ((c : Thread nD τ).loc main_arg0)) (bt t) q (256 * (t.val % 2) + (128 * h + (64 * p + d.val))) * qscale))
      (fun h i k => rl (m ((c : Thread nD τ).loc main_arg2)) (bt t) k (256 * (t.val % 2) + (128 * h + i))) := by
  refine Cert.AttnScores.scores c arg4 harg4 (iblk m c 2 t) (iblk m c 3 t) (iblk m c 4 t)
    (fun k d => rl (m ((c : Thread nD τ).loc main_arg0)) (bt t) k (256 * (t.val % 2) + d) * qscale) (fun k d => rl (m ((c : Thread nD τ).loc main_arg1)) (bt t) k (256 * (t.val % 2) + d))
    (fun k d => rl (m ((c : Thread nD τ).loc main_arg2)) (bt t) k (256 * (t.val % 2) + d)) (fun k d hk hd => ?_) (fun k d hk hd => ?_) (fun k d hk hd => ?_)
  · rw [at3, dif_pos ⟨hk, hd⟩, EReal.coe_mul, ← rl_eq _ h0 (bt t) k _ hk (ln t ⟨d, hd⟩).isLt]
    exact (rd2 m c t ⟨k, hk⟩ ⟨d, hd⟩).trans (V4 m c (bt t) ⟨k, hk⟩ (ln t ⟨d, hd⟩))
  · rw [at3, dif_pos ⟨hk, hd⟩, ← rl_eq _ h1 (bt t) k _ hk (ln t ⟨d, hd⟩).isLt]
    exact (rd3 m c t ⟨k, hk⟩ ⟨d, hd⟩).trans (congrFun (V5 m c) _)
  · rw [at3, dif_pos ⟨hk, hd⟩, ← rl_eq _ h2 (bt t) k _ hk (ln t ⟨d, hd⟩).isLt]
    exact (rd4 m c t ⟨k, hk⟩ ⟨d, hd⟩).trans (congrFun (V6 m c) _)

theorem final5 (c : Dev nD)
    (h0 : ∀ i, ∃ r : ℝ, (m ((c : Thread nD τ).loc main_arg0) : Vec Ideal S32x2048x512 .f32) i = (r : EReal))
    (h1 : ∀ i, ∃ r : ℝ, (m ((c : Thread nD τ).loc main_arg1) : Vec Ideal S32x2048x512 .f32) i = (r : EReal))
    (h2 : ∀ i, ∃ r : ℝ, (m ((c : Thread nD τ).loc main_arg2) : Vec Ideal S32x2048x512 .f32) i = (r : EReal)) :
    (dats m 0 c).arrAt 5 cfg0.N
    = (result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) : Vec Ideal S32x2048x512 .bf16) := by
  refine (dats m 0 c).arrAt_eq_of_covers 5 _ (by decide +kernel) fun t hf y => ?_
  obtain ⟨z, i, j, rfl⟩ : ∃ (z : Fin 1) (i : Fin 2048) (j : Fin 256), y = ix3 z i j := ⟨y 0, y 1, y 2, ValueIdx.eq_ix3 y⟩
  obtain rfl : z = 0 := by omega
  have e : ((cfg0.win 5).blk t).view.emb (ix3 0 i j) = (ix3 (bt t) i (ln t j) : S32x2048x512.Idx) := by
    funext a; apply Fin.ext
    match a with
    | ⟨0, _⟩ => blk_simp [e5]; rfl
    | ⟨1, _⟩ => blk_simp [e5]
    | ⟨2, _⟩ => blk_simp [e5]; show t.val % 2 * 256 + j.val = 256 * (t.val % 2) + j.val; omega
  rw [e]
  blk_simp
  rw [after0_5]
  unfold outsAt0
  rw [block _ _ _ _ _ _ _ _ _ _ _ _ _ _ _ _ _ _ _ _ _ _ _ _ _ (scores_t m c t (ms0_2 t) (hs0_2 t) h0 h1 h2)]
  have hj : (256 * (t.val % 2) + j.val) / 128 = 2 * (t.val % 2) + j.val / 128 := by omega
  have hj' : (⟨(256 * (t.val % 2) + j.val) % 128, Nat.mod_lt _ (by norm_num)⟩ : Fin 128) = ⟨j.val % 128, Nat.mod_lt _ (by norm_num)⟩ := Fin.ext (by dsimp only; omega)
  show outAt _ _ _ _ (j.val / 128) i.val ⟨j.val % 128, _⟩ = headOut _ _ _ _ _ _ _ _ (bt t) ((256 * (t.val % 2) + j.val) / 128) i.val ⟨(256 * (t.val % 2) + j.val) % 128, _⟩
  rw [hj, hj']
  refine outAt_congr (lam_eq m c t) (fun e => (rd1 m c t e 0).trans (V17 m c e)) (fun p q k => ?_) (fun i k => ?_)
  · refine Finset.sum_congr rfl fun d _ => ?_
    rw [show 256 * (t.val % 2) + (128 * (j.val / 128) + (64 * p + d.val)) = 128 * (2 * (t.val % 2) + j.val / 128) + (64 * p + d.val) by omega]
  · rw [show 256 * (t.val % 2) + (128 * (j.val / 128) + i) = 128 * (2 * (t.val % 2) + j.val / 128) + i by omega]

end Cert.AttnIdeal.Value
-- ==== Proof.AttnSoft.lean ====
module
public import proofs.«01_k».proof.Proof.AttnCol
/-! The causal softmax of a row of real scores, and the differential average it gives, in the extended reals. -/
@[expose] public section
noncomputable section
open Idealize.ShloMosaic
namespace Cert.AttnSoft
open Cert.AttnCol

/-- The weight of key `k` for query `q`, the scores in base two. -/
def prob (q : Nat) (s : Nat → ℝ) (k : Nat) : ℝ := if k ≤ q then (2 : ℝ) ^ (s k) / (∑ k ∈ Finset.range (q + 1), (2 : ℝ) ^ (s k)) else 0

/-- A sum over the keys no later than the query. -/
theorem sum_le (n q : Nat) (hq : q < n) (f : Nat → ℝ) : (∑ k : Fin n, if k.val ≤ q then f k.val else 0) = ∑ k ∈ Finset.range (q + 1), f k := by
  rw [← Finset.sum_range (fun k => if k ≤ q then f k else 0), ← Finset.sum_filter]
  refine Finset.sum_congr ?_ fun _ _ => rfl
  ext k
  simp only [Finset.mem_filter, Finset.mem_range]
  omega

/-- The exponential of a masked score less a real. -/
theorem exp_masked (k q : Nat) (x μ : ℝ) : Ideal.exp (masked k q x - (μ : EReal)) = ((if k ≤ q then Real.exp (x - μ) else 0 : ℝ) : EReal) := by
  unfold masked
  split
  · rw [← EReal.coe_sub, Ideal.exp_coe]
  · rw [EReal.bot_sub, Ideal.exp_bot, EReal.coe_zero]

/-- The softmax of a masked row. -/
theorem softmax (n q : Nat) (hq : q < n) (y s : Nat → ℝ) (h : ∀ k, k < n → Real.exp (y k) = (2 : ℝ) ^ (s k)) (X : Fin n → EReal)
    (hX : ∀ k : Fin n, X k = masked k.val q (y k.val)) (k : Fin n) :
    Ideal.div (Ideal.exp (X k - max ⊥ (Finset.univ.fold max ⊥ X))) (0 + ∑ j, Ideal.exp (X j - max ⊥ (Finset.univ.fold max ⊥ X))) = (prob q s k.val : EReal) := by
  obtain ⟨μ, hμ⟩ := colMax_real' X (fun r => by rw [hX]; exact masked_real _ _ _) ⟨q, hq⟩ (y q) (by rw [hX]; simp [masked])
  have e : max (⊥ : EReal) (Finset.univ.fold max ⊥ X) = (μ : EReal) := by rw [← hμ]; exact bot_sup_eq _
  have hS : (∑ j, Ideal.exp (X j - (μ : EReal))) = ((∑ k ∈ Finset.range (q + 1), Real.exp (y k - μ) : ℝ) : EReal) := by
    rw [← sum_le n q hq (fun k => Real.exp (y k - μ)), coe_sum]
    exact Finset.sum_congr rfl fun j _ => by rw [hX, exp_masked]
  have hp : 0 < ∑ k ∈ Finset.range (q + 1), Real.exp (y k - μ) := Finset.sum_pos (fun _ _ => Real.exp_pos _) ⟨0, by simp⟩
  have ht : ∑ k ∈ Finset.range (q + 1), Real.exp (y k - μ) = (∑ k ∈ Finset.range (q + 1), (2 : ℝ) ^ (s k)) * Real.exp (-μ) := by
    rw [Finset.sum_mul]
    refine Finset.sum_congr rfl fun k hk => ?_
    rw [← h k (by have := Finset.mem_range.mp hk; omega), ← Real.exp_add]; rfl
  rw [e, zero_add, hS, hX, exp_masked, Ideal.div_coe hp.ne', ← EReal.coe_mul]
  congr 1
  unfold prob
  split
  · rw [ht, show y k.val - μ = y k.val + -μ from rfl, Real.exp_add, h k.val k.isLt, mul_one_div, mul_div_mul_right _ _ (Real.exp_pos _).ne']
  · exact zero_mul _

/-- The weights' average of the values is the quotient of sums. -/
theorem prob_avg (n q : Nat) (hq : q < n) (s v : Nat → ℝ) : ∑ k : Fin n, prob q s k.val * v k.val = avg q s v := by
  have e : ∀ k : Fin n, prob q s k.val * v k.val = if k.val ≤ q then (2 : ℝ) ^ (s k.val) * v k.val / (∑ k ∈ Finset.range (q + 1), (2 : ℝ) ^ (s k)) else 0 := fun k => by
    unfold prob
    split
    · rw [div_mul_eq_mul_div]
    · exact zero_mul _
  rw [Finset.sum_congr rfl fun k _ => e k, sum_le n q hq (fun k => (2 : ℝ) ^ (s k) * v k / (∑ k ∈ Finset.range (q + 1), (2 : ℝ) ^ (s k))), ← Finset.sum_div]
  rfl

/-- The differential average, weighting first or averaging first. -/
theorem average (n q : Nat) (hq : q < n) (s0 s1 v : Nat → ℝ) (lam : ℝ) :
    (∑ k : Fin n, ((prob q s0 k.val : EReal) - (lam : EReal) * (prob q s1 k.val : EReal)) * (v k.val : EReal)) = (avg q s0 v : EReal) - (lam : EReal) * (avg q s1 v : EReal) := by
  rw [← EReal.coe_mul, ← EReal.coe_sub, ← prob_avg n q hq s0 v, ← prob_avg n q hq s1 v, Finset.mul_sum, ← Finset.sum_sub_distrib, coe_sum]
  refine Finset.sum_congr rfl fun k _ => ?_
  rw [← EReal.coe_mul, ← EReal.coe_sub, ← EReal.coe_mul]
  congr 1
  ring

end Cert.AttnSoft
-- ==== Proof.AttnRefRows.lean ====
module
public import proofs.«01_k».proof.Proof.Gen.AttnRefIdeal.Read
public import proofs.«01_k».proof.Proof.AttnArray
public import proofs.«01_k».proof.Proof.AttnSoft
public import Idealize.ShloMosaic.Lib.Pointwise
/-! The attention reference, read at an index: the differential average of the values, normed over a head's channels. -/
@[expose] public section
noncomputable section
open Idealize.ShloMosaic Idealize.ShloMosaic.TcCoe Idealize.SL.Sem
namespace Cert.AttnRefIdeal.Rows
open Cert.AttnRefIdeal Cert.AttnRefIdeal.Gen Cert.AttnRefIdeal.Read Cert.AttnReal Cert.AttnCol Cert.AttnOut

/-! ## The operations, read at an index -/

theorem squares (y : FVec Ideal S32x4x2048x128 .f32) (b : Fin 32) (h : Fin 4) (q : Fin 2048) :
    (Host.reduceAdd (mulf y y) (constant S_ .f32 0x00000000#32) reducesTo_S32x4x2048x128_S32x4x2048_d3 h_S_ : FVec Ideal S32x4x2048 .f32) (ix3 b h q)
    = ∑ e : Fin 128, y (ix4 b h q e) * y (ix4 b h q e) := by
  pointwise
theorem weighted (y z : FVec Ideal S32x4x2048x128 .f32) (x7 : FVec Ideal S1x128 .f32) (b : Fin 32) (h : Fin 4) (q : Fin 2048) (j : Fin 128) :
    (mulf (mulf (mulf y z) (broadcastInDim S32x4x2048x128 ![0, 1, 2, 3] bcast_S1x1x1x128_S32x4x2048x128_0_1_2_3 (broadcastInDim S1x1x1x128 ![3] bcast_S128_S1x1x1x128_3 (shapeCast S128 x7 shapeCasts_S1x128_S128 : FVec Ideal S128 .f32) : FVec Ideal S1x1x1x128 .f32)))
      (broadcastInDim S32x4x2048x128 ![] bcast_S_S32x4x2048x128 (constant S_ .f32 0x3F4CCCCD#32)) : FVec Ideal S32x4x2048x128 .f32) (ix4 b h q j)
    = y (ix4 b h q j) * z (ix4 b h q j) * x7 (ix2 0 j) * Ideal.ofBits .f32 0x3F4CCCCD#32 := by
  pointwise
theorem differ (y : FVec Ideal S32x4x2x2048x2048 .f32) (z : FVec Ideal S_ .f32) (b : Fin 32) (h : Fin 4) (q k : Fin 2048) :
    (subf (shapeCast S32x4x2048x2048 (extractStridedSlice S32x4x1x2048x2048 ![0, 0, 0, 0, 0] y slices_S32x4x2x2048x2048_S32x4x1x2048x2048_0_0_0_0_0 : FVec Ideal S32x4x1x2048x2048 .f32) shapeCasts_S32x4x1x2048x2048_S32x4x2048x2048)
      (mulf (broadcastInDim S32x4x2048x2048 ![] bcast_S_S32x4x2048x2048 z) (shapeCast S32x4x2048x2048 (extractStridedSlice S32x4x1x2048x2048 ![0, 0, 1, 0, 0] y slices_S32x4x2x2048x2048_S32x4x1x2048x2048_0_0_1_0_0 : FVec Ideal S32x4x1x2048x2048 .f32) shapeCasts_S32x4x1x2048x2048_S32x4x2048x2048)) : FVec Ideal S32x4x2048x2048 .f32) (ix4 b h q k)
    = y (ix5 b h 0 q k) - z ix0 * y (ix5 b h 1 q k) := by
  pointwise
theorem largest (y : FVec Ideal S32x4x2x2048x2048 .f32) (b : Fin 32) (h : Fin 4) (p : Fin 2) (q : Fin 2048) :
    (Host.reduce FloatOps.maximumf y (constant S_ .f32 0xFF800000#32) reducesTo_S32x4x2x2048x2048_S32x4x2x2048_d4 h_S_ : FVec Ideal S32x4x2x2048 .f32) (ix4 b h p q)
    = Finset.fold max (Ideal.ofBits .f32 0xFF800000#32) (fun x => y (ix5 b h p q x)) Finset.univ := by
  pointwise
theorem lowered (y : FVec Ideal S32x4x2x2048x2048 .f32) (z : FVec Ideal S32x4x2x2048 .f32) (b : Fin 32) (h : Fin 4) (p : Fin 2) (q k : Fin 2048) :
    (Host.exp (subf y (broadcastInDim S32x4x2x2048x2048 ![0, 1, 2, 3, 4] bcast_S32x4x2x2048x1_S32x4x2x2048x2048_0_1_2_3_4 (broadcastInDim S32x4x2x2048x1 ![0, 1, 2, 3] bcast_S32x4x2x2048_S32x4x2x2048x1_0_1_2_3
      (maximumf (broadcastInDim S32x4x2x2048 ![] bcast_S_S32x4x2x2048 (constant S_ .f32 0xFF800000#32)) z : FVec Ideal S32x4x2x2048 .f32) : FVec Ideal S32x4x2x2048x1 .f32))) : FVec Ideal S32x4x2x2048x2048 .f32) (ix5 b h p q k)
    = Ideal.exp (y (ix5 b h p q k) - max (Ideal.ofBits .f32 0xFF800000#32) (z (ix4 b h p q))) := by
  pointwise
theorem shared (y : FVec Ideal S32x4x2x2048x2048 .f32) (b : Fin 32) (h : Fin 4) (p : Fin 2) (q k : Fin 2048) :
    (Host.divf y (broadcastInDim S32x4x2x2048x2048 ![0, 1, 2, 3, 4] bcast_S32x4x2x2048x1_S32x4x2x2048x2048_0_1_2_3_4 (broadcastInDim S32x4x2x2048x1 ![0, 1, 2, 3] bcast_S32x4x2x2048_S32x4x2x2048x1_0_1_2_3
      (Host.reduceAdd y (constant S_ .f32 0x00000000#32) reducesTo_S32x4x2x2048x2048_S32x4x2x2048_d4 h_S_ : FVec Ideal S32x4x2x2048 .f32) : FVec Ideal S32x4x2x2048x1 .f32)) : FVec Ideal S32x4x2x2048x2048 .f32) (ix5 b h p q k)
    = Ideal.div (y (ix5 b h p q k)) (∑ x, y (ix5 b h p q x)) := by
  pointwise

/-! ## The reference's stages -/

variable (x0 x1 x2 : Vec Ideal S32x2048x512 .f32) (x3 x4 x5 x6 : Vec Ideal S1x64 .f32) (x7 : Vec Ideal S1x128 .f32) (b : Fin 32) (h : Fin 4) (p : Fin 2) (q k : Fin 2048)

/-- A channel of a map of a head. -/
theorem qk_apply (d : Fin 64) : val_main_v1 (F := Ideal) x0 (ix5 b h p q d) = x0 (ix3 b q ⟨128 * h.val + (64 * p.val + d.val), by omega⟩) := by
  have e : val_main_v1 (F := Ideal) x0 (ix5 b h p q d) = x0 (ix3 b q ⟨h.val * 128 + p.val * 64 + d.val, by omega⟩) := by
    pointwise [val_main_v1, val_main_v0]
  rw [e]
  exact congrArg x0 (congrArg (ix3 b q) (Fin.ext (by show h.val * 128 + p.val * 64 + d.val = 128 * h.val + (64 * p.val + d.val); omega)))
theorem kk_apply (d : Fin 64) : val_main_v3 (F := Ideal) x1 (ix5 b h p q d) = x1 (ix3 b q ⟨128 * h.val + (64 * p.val + d.val), by omega⟩) := qk_apply x1 b h p q d
theorem v_apply (j : Fin 128) : val_main_v5 (F := Ideal) x2 (ix4 b h q j) = x2 (ix3 b q ⟨128 * h.val + j.val, by omega⟩) := by
  have e : val_main_v5 (F := Ideal) x2 (ix4 b h q j) = x2 (ix3 b q ⟨h.val * 128 + j.val, by omega⟩) := by
    pointwise [val_main_v5, val_main_v4]
  rw [e]
  exact congrArg x2 (congrArg (ix3 b q) (Fin.ext (by show h.val * 128 + j.val = 128 * h.val + j.val; omega)))
/-- The weight of the second map. -/
theorem lam_apply : val_main_v17 (F := Ideal) x3 x4 x5 x6 ix0 = lam x3 x4 x5 x6 := by
  unfold lam
  pointwise [val_main_v17, val_main_v16, val_main_v15, val_main_v14, val_main_v13, val_main_v12, val_main_v11, val_main_v10, val_main_v9, val_main_v8, val_main_v7, val_main_v6, val_main_cst, val_main_cst_0, val_main_cst_1]
/-- A masked score. -/
theorem masked_apply : val_main_v28 (F := Ideal) x0 x1 (ix5 b h p q k)
    = masked k.val q.val ((∑ x, val_main_v1 (F := Ideal) x0 (ix5 b h p q x) * val_main_v3 (F := Ideal) x1 (ix5 b h p k x)) * Ideal.ofBits .f32 0x3E000000#32) := by
  have e : val_main_v28 (F := Ideal) x0 x1 (ix5 b h p q k) = Scalar.select (IntOp.cmpi .sge (BitVec.ofNat 32 q.val) (BitVec.ofNat 32 k.val))
      ((∑ x, val_main_v1 (F := Ideal) x0 (ix5 b h p q x) * val_main_v3 (F := Ideal) x1 (ix5 b h p k x)) * Ideal.ofBits .f32 0x3E000000#32) (id (constant (F := Ideal) S_ .f32 0xFF800000#32) ix0) := by
    pointwise [val_main_v28, val_main_v20, val_main_v19, val_main_v21, val_main_v22, val_main_v23, val_main_v24, val_main_v25, val_main_v26, val_main_v27, val_main_cst_2, val_main_cst_3, val_main_call0_v0, val_main_call0_v1, val_main_call0_v2, val_main_v18]
  have s := Cert.AttnTiles.sel 0 k.val q.val (by norm_num) (by omega) (by omega) ((∑ x, val_main_v1 (F := Ideal) x0 (ix5 b h p q x) * val_main_v3 (F := Ideal) x1 (ix5 b h p k x)) * Ideal.ofBits .f32 0x3E000000#32)
  rw [show IntOp.addi (BitVec.ofNat 32 0) (BitVec.ofNat 32 q.val) = BitVec.ofNat 32 q.val by simp [IntOp.addi]] at s
  exact e.trans s

/-- The real score of a query and a key. -/
def real (a0 a1 : Vec Ideal S32x2048x512 .f32) (b : Fin 32) (h p q k : Nat) : ℝ :=
  (∑ d : Fin 64, rl a0 b q (128 * h + (64 * p + d.val)) * rl a1 b k (128 * h + (64 * p + d.val))) * (1 / 8)
/-- Its exponential is two to the base-two score. -/
theorem exp_real (a0 a1 : Vec Ideal S32x2048x512 .f32) (b : Fin 32) (h p q k : Nat) : Real.exp (real a0 a1 b h p q k) = (2 : ℝ) ^ score a0 a1 b h p q k := by
  rw [Real.rpow_def_of_pos (by norm_num)]
  congr 1
  unfold real score qscale
  rw [Finset.sum_mul, Finset.mul_sum]
  refine Finset.sum_congr rfl fun d _ => ?_
  have := (Real.log_pos (show (1 : ℝ) < 2 by norm_num)).ne'
  field_simp
/-- A masked score is its real. -/
theorem masked_real (h0 : ∀ i, ∃ r : ℝ, x0 i = (r : EReal)) (h1 : ∀ i, ∃ r : ℝ, x1 i = (r : EReal)) :
    val_main_v28 (F := Ideal) x0 x1 (ix5 b h p q k) = masked k.val q.val ((real x0 x1 b h.val p.val q.val k.val : ℝ) : EReal) := by
  rw [masked_apply]
  congr 1
  unfold real
  rw [EReal.coe_mul, coe_sum, eighth_f32]
  congr 1
  refine Finset.sum_congr rfl fun d _ => ?_
  rw [qk_apply, kk_apply, EReal.coe_mul, ← rl_eq x0 h0 b q.val _ q.isLt, ← rl_eq x1 h1 b k.val _ k.isLt]
/-- A weight of a map. -/
theorem prob_apply (h0 : ∀ i, ∃ r : ℝ, x0 i = (r : EReal)) (h1 : ∀ i, ∃ r : ℝ, x1 i = (r : EReal)) :
    val_main_v39 (F := Ideal) x0 x1 (ix5 b h p q k) = (Cert.AttnSoft.prob q.val (score x0 x1 b h.val p.val q.val) k.val : EReal) := by
  have e35 (k : Fin 2048) : val_main_v35 (F := Ideal) x0 x1 (ix5 b h p q k) = Ideal.exp (val_main_v28 (F := Ideal) x0 x1 (ix5 b h p q k)
      - max ⊥ (Finset.univ.fold max ⊥ fun x => val_main_v28 (F := Ideal) x0 x1 (ix5 b h p q x))) := by
    refine (lowered (val_main_v28 (F := Ideal) x0 x1) (val_main_v29 (F := Ideal) x0 x1) b h p q k).trans ?_
    rw [show val_main_v29 (F := Ideal) x0 x1 (ix4 b h p q) = _ from largest (val_main_v28 (F := Ideal) x0 x1) b h p q, Cert.AttnTiles.ninf]
  refine (shared (val_main_v35 (F := Ideal) x0 x1) b h p q k).trans ?_
  rw [e35, Finset.sum_congr rfl fun x _ => e35 x]
  have s := Cert.AttnSoft.softmax 2048 q.val q.isLt (real x0 x1 b h.val p.val q.val) (score x0 x1 b h.val p.val q.val) (fun k _ => exp_real x0 x1 b h.val p.val q.val k)
    (fun x => val_main_v28 (F := Ideal) x0 x1 (ix5 b h p q x)) (fun x => masked_real x0 x1 b h p q x h0 h1) k
  rw [zero_add] at s
  exact s
/-- The weight of the second map is a real. -/
theorem lam_real (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) :
    ∃ r : ℝ, lam x3 x4 x5 x6 = (r : EReal) := by
  have s (x y : Vec Ideal S1x64 .f32) (hx : ∀ i, ∃ r : ℝ, x i = (r : EReal)) (hy : ∀ i, ∃ r : ℝ, y i = (r : EReal)) : ∃ r : ℝ, (∑ e : Fin 64, x (ix2 0 e) * y (ix2 0 e)) = (r : EReal) := by
    choose f hf using hx
    choose g hg using hy
    refine ⟨∑ e : Fin 64, f (ix2 0 e) * g (ix2 0 e), ?_⟩
    rw [coe_sum]
    exact Finset.sum_congr rfl fun e _ => by rw [hf, hg, EReal.coe_mul]
  obtain ⟨r, hr⟩ := s x3 x4 h3 h4
  obtain ⟨t, ht⟩ := s x5 x6 h5 h6
  have hc : ∃ u : ℝ, Ideal.ofBits .f32 0x3E4CCCCD#32 = (u : EReal) := ⟨(1 + 5033165 / 8388608) / 8, by simp [Ideal.ofBits, Ideal.ieee, -EReal.coe_mul]; norm_num⟩
  obtain ⟨u, hu⟩ := hc
  refine ⟨Real.exp r - Real.exp t + u, ?_⟩
  unfold lam
  rw [hr, ht, hu, Ideal.exp_coe, Ideal.exp_coe, ← EReal.coe_sub, ← EReal.coe_add]
/-- The differential average of the values. -/
theorem average_apply (h0 : ∀ i, ∃ r : ℝ, x0 i = (r : EReal)) (h1 : ∀ i, ∃ r : ℝ, x1 i = (r : EReal)) (h2 : ∀ i, ∃ r : ℝ, x2 i = (r : EReal))
    (l : ℝ) (hl : lam x3 x4 x5 x6 = (l : EReal)) (j : Fin 128) :
    val_main_v47 (F := Ideal) x0 x1 x2 x3 x4 x5 x6 (ix4 b h q j)
      = ot (lam x3 x4 x5 x6) (fun _ p q k => score x0 x1 b h.val p q k) (fun _ i k => rl x2 b k (128 * h.val + i)) 0 q.val j.val := by
  have e : val_main_v47 (F := Ideal) x0 x1 x2 x3 x4 x5 x6 (ix4 b h q j) = ∑ k : Fin 2048, val_main_v46 (F := Ideal) x0 x1 x3 x4 x5 x6 (ix4 b h q k) * val_main_v5 (F := Ideal) x2 (ix4 b h k j) := by
    unfold val_main_v47
    generalize val_main_v46 (F := Ideal) x0 x1 x3 x4 x5 x6 = y
    generalize val_main_v5 (F := Ideal) x2 = z
    pointwise
  rw [e]
  have e46 (k : Fin 2048) : val_main_v46 (F := Ideal) x0 x1 x3 x4 x5 x6 (ix4 b h q k)
      = (Cert.AttnSoft.prob q.val (score x0 x1 b h.val 0 q.val) k.val : EReal) - (l : EReal) * (Cert.AttnSoft.prob q.val (score x0 x1 b h.val 1 q.val) k.val : EReal) := by
    refine (differ (val_main_v39 (F := Ideal) x0 x1) (val_main_v17 (F := Ideal) x3 x4 x5 x6) b h q k).trans ?_
    rw [prob_apply x0 x1 b h 0 q k h0 h1, prob_apply x0 x1 b h 1 q k h0 h1, lam_apply, hl]
    rfl
  rw [Finset.sum_congr rfl fun k _ => by rw [e46 k, v_apply, rl_eq x2 h2 b k.val _ k.isLt]]
  rw [Cert.AttnSoft.average 2048 q.val q.isLt (score x0 x1 b h.val 0 q.val) (score x0 x1 b h.val 1 q.val) (fun k => rl x2 b k (128 * h.val + j.val)) l]
  unfold ot
  rw [hl]
/-- The normed output of a head. -/
theorem norm_apply (h0 : ∀ i, ∃ r : ℝ, x0 i = (r : EReal)) (h1 : ∀ i, ∃ r : ℝ, x1 i = (r : EReal)) (h2 : ∀ i, ∃ r : ℝ, x2 i = (r : EReal))
    (l : ℝ) (hl : lam x3 x4 x5 x6 = (l : EReal)) (j : Fin 128) :
    val_main_v63 (F := Ideal) x0 x1 x2 x3 x4 x5 x6 x7 (ix4 b h q j) = headOut x0 x1 x2 x3 x4 x5 x6 x7 b h.val q.val j := by
  have e57 : val_main_v57 (F := Ideal) x0 x1 x2 x3 x4 x5 x6 (ix4 b h q j)
      = Ideal.rsqrt (Ideal.div (val_main_v50 (F := Ideal) x0 x1 x2 x3 x4 x5 x6 (ix3 b h q)) (Ideal.ofBits .f32 0x43000000#32) + Ideal.ofBits .f32 0x358637BD#32) := by
    unfold val_main_v57 val_main_v56 val_main_v55 val_main_v54 val_main_v53 val_main_v52 val_main_v51
    generalize val_main_v50 (F := Ideal) x0 x1 x2 x3 x4 x5 x6 = y
    pointwise [val_main_cst_8, val_main_cst_9]
  have a (e : Fin 128) := average_apply x0 x1 x2 x3 x4 x5 x6 b h q h0 h1 h2 l hl e
  refine (weighted (val_main_v47 (F := Ideal) x0 x1 x2 x3 x4 x5 x6) (val_main_v57 (F := Ideal) x0 x1 x2 x3 x4 x5 x6) x7 b h q j).trans ?_
  rw [e57, show val_main_v50 (F := Ideal) x0 x1 x2 x3 x4 x5 x6 (ix3 b h q) = _ from squares (val_main_v47 (F := Ideal) x0 x1 x2 x3 x4 x5 x6) b h q,
    Finset.sum_congr rfl fun e _ => by rw [a e], a j]
  rfl

/-- The reference's result. -/
theorem result_eq (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) :
    val_main_v66 (F := Ideal) x0 x1 x2 x3 x4 x5 x6 x7 = result x0 x1 x2 x3 x4 x5 x6 x7 := by
  obtain ⟨l, hl⟩ := lam_real x3 x4 x5 x6 h3 h4 h5 h6
  funext i
  obtain ⟨b, s, j, rfl⟩ : ∃ (b : Fin 32) (s : Fin 2048) (j : Fin 512), i = ix3 b s j := ⟨i 0, i 1, i 2, eq_ix3 i⟩
  have hh : j.val / 128 < 4 := by omega
  refine (val_main_v66_apply (F := Ideal) x0 x1 x2 x3 x4 x5 x6 x7 (ix3 b s j)).trans ?_
  show val_main_v65 (F := Ideal) x0 x1 x2 x3 x4 x5 x6 x7 (ix3 b s j) = headOut x0 x1 x2 x3 x4 x5 x6 x7 b (j.val / 128) s.val ⟨j.val % 128, Nat.mod_lt _ (by norm_num)⟩
  rw [val_main_v65_apply, val_main_v64_apply]
  refine Eq.trans (congrArg (val_main_v63 (F := Ideal) x0 x1 x2 x3 x4 x5 x6 x7) ?_) (norm_apply x0 x1 x2 x3 x4 x5 x6 x7 b ⟨j.val / 128, hh⟩ s h0 h1 h2 l hl ⟨j.val % 128, Nat.mod_lt _ (by norm_num)⟩)
  funext a
  apply Fin.ext
  match a with
  | ⟨0, _⟩ => show ((b.val * 2048 + s.val) * 512 + j.val) / 1048576 = b.val; omega
  | ⟨1, _⟩ => show ((b.val * 2048 + s.val) * 512 + j.val) / 128 % 4 = j.val / 128; omega
  | ⟨2, _⟩ => show ((b.val * 2048 + s.val) * 512 + j.val) / 512 % 2048 = s.val; omega
  | ⟨3, _⟩ => show ((b.val * 2048 + s.val) * 512 + j.val) % 128 = j.val % 128; omega

end Cert.AttnRefIdeal.Rows
-- ==== Proof.AttnFinite.lean ====
module
public import proofs.«01_k».proof.Defs
public import proofs.«01_k».proof.Proof.Gen.Pre_finite
public import Idealize.ShloMosaic.Lib.ReduceAll
public import Idealize.ShloMosaic.Lib.Pointwise
/-! What the precondition says: every entry of the queries, the keys, the values and the four lambda vectors is a real. -/
@[expose] public section
noncomputable section
open Idealize.ShloMosaic Idealize.ShloMosaic.TcCoe
namespace Cert.AttnFinite
open Cert.Pre_finite Cert.Pre_finite.Gen

theorem infinity : Ideal.ofBits .f32 0x7F800000#32 = ⊤ := by
  simp [Ideal.ofBits, Ideal.ieee]

/-- An entry whose absolute value is below infinity is a real. -/
theorem real_of_lt (x : EReal) (h : Ideal.cmp .olt (max x (-x)) (Ideal.ofBits .f32 0x7F800000#32) = 1#1) : ∃ r : ℝ, x = (r : EReal) := by
  rw [infinity] at h
  induction x using EReal.rec with
  | bot => simp [Ideal.cmp] at h
  | top => simp [Ideal.cmp] at h
  | coe r => exact ⟨r, rfl⟩

instance : Subsingleton S_.Idx := ⟨fun a b => funext fun i => i.elim0⟩

theorem wide (x : FVec Ideal S32x2048x512 .f32)
    (h : (Host.reduce IntOp.andi (cmpf .olt (Host.absf x) (broadcastInDim S32x2048x512 ![] bcast_S_S32x2048x512 (constant S_ .f32 0x7F800000#32) : FVec Ideal S32x2048x512 .f32)) (constantI S_ 1 1#1) reducesTo_S32x2048x512_S_d0_1_2 h_S_ : IVec S_ 1) ix0 = 1#1) :
    ∀ i, ∃ r : ℝ, x i = (r : EReal) := fun i =>
  real_of_lt (x i) (Host.reduce_andi_all _ _ _ _ ix0 h i)
theorem thin (x : FVec Ideal S1x64 .f32)
    (h : (Host.reduce IntOp.andi (cmpf .olt (Host.absf x) (broadcastInDim S1x64 ![] bcast_S_S1x64 (constant S_ .f32 0x7F800000#32) : FVec Ideal S1x64 .f32)) (constantI S_ 1 1#1) reducesTo_S1x64_S_d0_1 h_S_ : IVec S_ 1) ix0 = 1#1) :
    ∀ i, ∃ r : ℝ, x i = (r : EReal) := fun i =>
  real_of_lt (x i) (Host.reduce_andi_all _ _ _ _ ix0 h i)

/-- The precondition, read back. -/
theorem reals (a0 a1 a2 : FVec Ideal S32x2048x512 .f32) (a3 a4 a5 a6 : FVec Ideal S1x64 .f32) (a7 : FVec Ideal S1x128 .f32)
    (h : Cert.Pre_finite.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨wide a0 e0, wide a1 e1, wide a2 e2, thin a3 e3, thin a4 e4, thin a5 e5, thin a6 e6⟩

end Cert.AttnFinite
-- ==== Proof.AttnClaim.lean ====
module
public import proofs.«01_k».proof.Defs
public import proofs.«01_k».proof.Proof.AttnRefRows
public import proofs.«01_k».proof.Proof.AttnFinite
public import proofs.«01_k».proof.Proof.Gen.AttnRefIdeal.Run
/-! The attention call computes what its reference computes, on real queries, keys, values and lambda vectors. -/
@[expose] public section
noncomputable section
open Idealize.ShloMosaic Idealize.ShloMosaic.TcCoe Idealize.SL.Sem
namespace Cert.AttnClaim

theorem algebraic : Cert.algebraic_AttnIdeal_AttnRefIdeal_pre_finite (hAttnIdeal := Cert.AttnIdeal.Gen.facts) (hAttnRefIdeal := Cert.AttnRefIdeal.Gen.facts) (hPre_finite := Cert.Pre_finite.Gen.facts) := by
  intro m g m' g' hpre hargs
  refine ⟨fun c => Cert.AttnReal.result (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)), ?_, ?_⟩
  · refine (θ_run Cert.AttnIdeal.defs _ _).mono (fun r h c => ?_) (Cert.AttnIdeal.Value.run_blocks (F := Ideal) m g)
    obtain ⟨r0, r1, r2, -⟩ := Cert.AttnFinite.reals _ _ _ _ _ _ _ _ (hpre c)
    exact ⟨(h c).1.trans (Cert.AttnIdeal.Value.final5 m c r0 r1 r2), (h c).2⟩
  · refine (θ_run Cert.AttnRefIdeal.defs _ _).mono (fun r h c => ?_) (Cert.AttnRefIdeal.Value.run (F := Ideal) m' g')
    refine ⟨(h c).1.trans ?_, (h c).2⟩
    obtain ⟨r0, r1, r2, r3, r4, r5, r6⟩ := Cert.AttnFinite.reals _ _ _ _ _ _ _ _ (hpre c)
    obtain ⟨h0, h1, h2, h3, h4, h5, h6, h7⟩ := hargs c
    rw [Cert.AttnRefIdeal.Read.val_main_v66_eq, h0, h1, h2, h3, h4, h5, h6, h7]
    exact Cert.AttnRefIdeal.Rows.result_eq _ _ _ _ _ _ _ _ r0 r1 r2 r3 r4 r5 r6

end Cert.AttnClaim
-- ==== Proof.ProjRow.lean ====
module
public import proofs.«01_k».proof.Proof.MlpRow
/-! One row of the input projection, over the extended reals: the projected row, the rotary turn of a pair of heads, the
    four-tap convolution, and what follows it. Rows and columns are natural numbers here; an array's entry off its end is zero. -/
@[expose] public section
noncomputable section
open Idealize.ShloMosaic
namespace Cert.ProjRow

/-- An entry of a rank-two array, zero off its end. -/
def at2 {a b : Nat} (x : (⟨2, ![a, b]⟩ : Shape).Idx → EReal) (r c : Nat) : EReal := if h : r < a ∧ c < b then x (ix2 ⟨r, h.1⟩ ⟨c, h.2⟩) else 0
theorem at2_of {a b : Nat} (x : (⟨2, ![a, b]⟩ : Shape).Idx → EReal) (i : Fin a) (j : Fin b) : x (ix2 i j) = at2 x i.val j.val := by
  rw [at2, dif_pos ⟨i.isLt, j.isLt⟩]

/-- A normed row against column `c` of the weights. -/
def proj (x g : Fin 1024 → EReal) (w : Nat → Nat → EReal) (c : Nat) : EReal := ∑ k : Fin 1024, MlpRow.rms x g k * w k.val c

/-- The lane `l` of a row's 128-lane group holding column `c`. -/
def lane (c l : Nat) : Nat := 128 * (c / 128) + l % 128

/-- The rotary turn: a lane by the cosine, the lane 32 up by one sine table, the lane 32 down by the other. -/
def rope (d cos up dn : Nat → EReal) (c : Nat) : EReal :=
  d c * cos (c % 128) + d (lane c (c + 32)) * up (c % 128) + d (lane c (c + 96)) * dn (c % 128)

/-- A tap `d` rows back: in this stretch of rows, or in the eight before it. -/
def tap (p t : Nat → EReal) (r d : Nat) : EReal := if r < d then t (8 + r - d) else p (r - d)

/-- The four taps of the convolution, and the bias. -/
def conv (b w0 w1 w2 w3 : EReal) (x : Nat → EReal) : EReal := b + w3 * x 0 + w2 * x 1 + w1 * x 2 + w0 * x 3

def silu (y : EReal) : EReal := y * Ideal.logistic y

theorem rope_congr {d d' cos cos' up up' dn dn' : Nat → EReal} {c c' : Nat} (hc : c = c') (h : ∀ c, d c = d' c) (h1 : ∀ l, cos l = cos' l) (h2 : ∀ l, up l = up' l) (h3 : ∀ l, dn l = dn' l) :
    rope d cos up dn c = rope d' cos' up' dn' c' := by
  obtain rfl := hc
  obtain rfl := funext h
  obtain rfl := funext h1
  obtain rfl := funext h2
  obtain rfl := funext h3
  rfl

end Cert.ProjRow
-- ==== Proof.ProjBody.lean ====
module
public import proofs.«01_k».proof.Proof.Gen.ProjIdeal.Skeleton
public import proofs.«01_k».proof.Proof.ProjRow
public import Idealize.ShloMosaic.Lib.Pointwise
/-! The input projection's kernel body: each stored piece, read at an index. -/
@[expose] public section
noncomputable section
open Idealize.ShloMosaic Idealize.ShloMosaic.TcCoe Idealize.SL.Sem
namespace Cert.ProjIdeal.Body
open Cert.ProjIdeal Cert.ProjIdeal.Gen Cert.ProjRow

/-- The row numbers of an eight-row stretch. -/
abbrev io : IVec S8x1 32 := iota Kind.tc S8x1 32 [0] iota_S8x1_d0_w32

/-! ## The normed rows and their products -/

theorem rms1 (x : Vec Ideal S512x1024 .f32) (g : Vec Ideal S1x1024 .f32) (r : Fin 512) (k : Fin 1024) :
    (k0_pay3 x g : FVec Ideal S512x1024 .bf16) (ix2 r k) = MlpRow.rms (fun k => x (ix2 r k)) (fun k => g (ix2 0 k)) k := by
  pointwise [k0_pay3]
  rfl
theorem rms2 (x : Vec Ideal S512x1024 .f32) (g : Vec Ideal S1x1024 .f32) (r : Fin 512) (k : Fin 1024) :
    (k0_pay6 (k0_pay4 x) (k0_pay5 g) : FVec Ideal S512x1024 .bf16) (ix2 r k) = MlpRow.rms (fun k => x (ix2 r k)) (fun k => g (ix2 0 k)) k := rms1 x g r k

variable (h : FVec Ideal S512x1024 .bf16) (w : Vec Ideal S1024x512 .bf16)

theorem dot9 (r c : Fin 512) : (k0_pay7 h w : FVec Ideal S512x512 .f32) (ix2 r c) = ∑ k : Fin 1024, h (ix2 r k) * w (ix2 k c) := by
  pointwise [k0_pay7]
theorem dot29 (r c : Fin 512) : (k0_pay29 h w : FVec Ideal S512x512 .f32) (ix2 r c) = ∑ k : Fin 1024, h (ix2 r k) * w (ix2 k c) := dot9 h w r c
theorem dot27 (r c : Fin 512) : (k0_pay27 h w : FVec Ideal S512x512 .bf16) (ix2 r c) = ∑ k : Fin 1024, h (ix2 r k) * w (ix2 k c) := by
  pointwise [k0_pay27]
theorem dot1 (r c : Fin 512) : (k0_pay57 h w : FVec Ideal S512x512 .bf16) (ix2 r c) = ∑ k : Fin 1024, h (ix2 r k) * w (ix2 k c) := by
  pointwise [k0_pay57]
theorem sig23 (r c : Fin 512) : (k0_pay21 h w : FVec Ideal S512x512 .bf16) (ix2 r c) = Ideal.logistic (∑ k : Fin 1024, h (ix2 r k) * w (ix2 k c)) := by
  pointwise [k0_pay21]
theorem sig41 (r c : Fin 512) : (k0_pay43 h w : FVec Ideal S512x512 .bf16) (ix2 r c) = Ideal.logistic (∑ k : Fin 1024, h (ix2 r k) * w (ix2 k c)) := sig23 h w r c
theorem gate22 (w : Vec Ideal S1024x128 .bf16) (r : Fin 512) (c : Fin 8) : (k0_pay20 h w : FVec Ideal S1x8x512 .f32) (ix3 0 c r) = ∑ k : Fin 1024, h (ix2 r k) * w (ix2 k ⟨c.val, by omega⟩) := by
  pointwise [k0_pay20]
theorem gate40 (w : Vec Ideal S1024x128 .bf16) (r : Fin 512) (c : Fin 8) : (k0_pay42 h w : FVec Ideal S1x8x512 .f32) (ix3 0 c r) = ∑ k : Fin 1024, h (ix2 r k) * w (ix2 k ⟨c.val, by omega⟩) := gate22 h w r c
theorem mv20 (c : Fin 512) (r : Fin 256) : (k0_pay18 h (k0_pay16 w) : FVec Ideal S1x1x512x256 .bf16) (ix4 0 0 c r) = ∑ k : Fin 1024, h (ix2 ⟨r.val, by omega⟩ k) * w (ix2 k c) := by
  pointwise [k0_pay18, k0_pay17, k0_pay16]
theorem mv21 (c : Fin 512) (r : Fin 256) : (k0_pay19 h (k0_pay16 w) : FVec Ideal S1x1x512x256 .bf16) (ix4 0 0 c r) = ∑ k : Fin 1024, h (ix2 ⟨256 + r.val, by omega⟩ k) * w (ix2 k c) := by
  pointwise [k0_pay19, k0_pay17, k0_pay16]
theorem mv38 (c : Fin 512) (r : Fin 256) : (k0_pay39 h w : FVec Ideal S1x1x512x256 .bf16) (ix4 0 0 c r) = ∑ k : Fin 1024, h (ix2 ⟨r.val, by omega⟩ k) * w (ix2 k c) := mv20 h w c r
theorem mv39 (c : Fin 512) (r : Fin 256) : (k0_pay41 (k0_pay40 h w) : FVec Ideal S1x1x512x256 .bf16) (ix4 0 0 c r) = ∑ k : Fin 1024, h (ix2 ⟨256 + r.val, by omega⟩ k) * w (ix2 k c) := mv21 h w c r

/-! ## The rotary turn -/

/-- The four groups' turns are `rope`. -/
theorem turn (d : Nat → EReal) (a u v : Nat → EReal) (c : Nat) (hc : c < 512) :
    (if c < 128 then d c * a c + d ((c + 128 - 96) % 128) * u c + d ((c + 128 - 32) % 128) * v c
      else if c - 128 < 128 then d (128 + (c - 128)) * a (c - 128) + d (128 + (c - 128 + 128 - 96) % 128) * u (c - 128) + d (128 + (c - 128 + 128 - 32) % 128) * v (c - 128)
      else if c - 128 - 128 < 128 then d (256 + (c - 128 - 128)) * a (c - 128 - 128) + d (256 + (c - 128 - 128 + 128 - 96) % 128) * u (c - 128 - 128) + d (256 + (c - 128 - 128 + 128 - 32) % 128) * v (c - 128 - 128)
      else d (384 + (c - 128 - 128 - 128)) * a (c - 128 - 128 - 128) + d (384 + (c - 128 - 128 - 128 + 128 - 96) % 128) * u (c - 128 - 128 - 128) + d (384 + (c - 128 - 128 - 128 + 128 - 32) % 128) * v (c - 128 - 128 - 128))
    = rope d a u v c := by
  have k (q l : Nat) (h : c = 128 * q + l) (hl : l < 128) : rope d a u v c = d (128 * q + l) * a l + d (128 * q + (l + 32) % 128) * u l + d (128 * q + (l + 96) % 128) * v l := by
    subst h
    unfold rope lane
    rw [show (128 * q + l) % 128 = l by omega, show (128 * q + l) / 128 = q by omega, show (128 * q + l + 32) % 128 = (l + 32) % 128 by omega, show (128 * q + l + 96) % 128 = (l + 96) % 128 by omega]
  split_ifs with h0 h1 h2
  · rw [k 0 c (by omega) h0, show (c + 128 - 96) % 128 = (c + 32) % 128 by omega, show (c + 128 - 32) % 128 = (c + 96) % 128 by omega]
    simp only [Nat.mul_zero, Nat.zero_add]
  · rw [k 1 (c - 128) (by omega) h1, show (c - 128 + 128 - 96) % 128 = (c - 128 + 32) % 128 by omega, show (c - 128 + 128 - 32) % 128 = (c - 128 + 96) % 128 by omega]
  · rw [k 2 (c - 128 - 128) (by omega) h2, show (c - 128 - 128 + 128 - 96) % 128 = (c - 128 - 128 + 32) % 128 by omega, show (c - 128 - 128 + 128 - 32) % 128 = (c - 128 - 128 + 96) % 128 by omega]
  · rw [k 3 (c - 128 - 128 - 128) (by omega) (by omega), show (c - 128 - 128 - 128 + 128 - 96) % 128 = (c - 128 - 128 - 128 + 32) % 128 by omega, show (c - 128 - 128 - 128 + 128 - 32) % 128 = (c - 128 - 128 - 128 + 96) % 128 by omega]

variable (a u v : Vec Ideal S512x128 .f32)

/-- One group of 128 lanes, turned by the three tables. -/
abbrev group (d a u v : FVec Ideal S512x128 .f32) : FVec Ideal S512x128 .f32 :=
  addf (addf (mulf d a) (mulf (dynamicRotate 1 96#32 none d rotates_S512x128_d1) u)) (mulf (dynamicRotate 1 32#32 none d rotates_S512x128_d1) v)
/-- A product of 512 lanes, its four groups turned. -/
def ropeV (p : FVec Ideal S512x512 .f32) (a u v : FVec Ideal S512x128 .f32) : FVec Ideal S512x512 .f32 :=
  concatenate S512x512 1 [⟨S512x128, group (extractStridedSlice S512x128 ![0, 0] p slices_S512x512_o0_0_S512x128) a u v⟩,
    ⟨S512x128, group (extractStridedSlice S512x128 ![0, 128] p slices_S512x512_o0_128_S512x128) a u v⟩,
    ⟨S512x128, group (extractStridedSlice S512x128 ![0, 256] p slices_S512x512_o0_256_S512x128) a u v⟩,
    ⟨S512x128, group (extractStridedSlice S512x128 ![0, 384] p slices_S512x512_o0_384_S512x128) a u v⟩] concatenates_S512x128_S512x128_S512x128_S512x128_S512x512_d1
theorem ropeV_apply (p : FVec Ideal S512x512 .f32) (r c : Fin 512) : ropeV p (k0_pay22 a) (k0_pay23 u) (k0_pay24 v) (ix2 r c)
    = rope (at2 p r.val) (at2 a r.val) (at2 u r.val) (at2 v r.val) c.val := by
  rw [← turn _ _ _ _ c.val c.isLt]
  pointwise [ropeV, k0_pay22, k0_pay23, k0_pay24]
  simp only [at2_of p, at2_of a, at2_of u, at2_of v]
  split_ifs <;> rfl
theorem rope25 (r c : Fin 512) : (k0_pay25 h (k0_pay22 a) (k0_pay23 u) v w : FVec Ideal S512x512 .bf16) (ix2 r c)
    = rope (at2 (k0_pay7 h w) r.val) (at2 a r.val) (at2 u r.val) (at2 v r.val) c.val * Named.named (F := Ideal) κ "query_scale" (φ := .f32) 0x3E38AA3B#32 := by
  have e : k0_pay25 h (k0_pay22 a) (k0_pay23 u) v w = truncf .bf16 (mulf (ropeV (k0_pay7 h w) (k0_pay22 a) (k0_pay23 u) (k0_pay24 v)) (broadcast S512x512 (Named.named κ "query_scale" 0x3E38AA3B#32))) bitsLt_bf16_f32 := rfl
  rw [e, ← ropeV_apply]
  rfl
theorem rope26 (r c : Fin 512) : (k0_pay26 h (k0_pay22 a) (k0_pay23 u) (k0_pay24 v) w : FVec Ideal S512x512 .bf16) (ix2 r c)
    = rope (at2 (k0_pay7 h w) r.val) (at2 a r.val) (at2 u r.val) (at2 v r.val) c.val := by
  have e : k0_pay26 h (k0_pay22 a) (k0_pay23 u) (k0_pay24 v) w = truncf .bf16 (ropeV (k0_pay7 h w) (k0_pay22 a) (k0_pay23 u) (k0_pay24 v)) bitsLt_bf16_f32 := rfl
  rw [e, ← ropeV_apply]
  rfl
theorem rope51 (r c : Fin 512) : (k0_pay51 (k0_pay44 a) (k0_pay45 u) (k0_pay46 v) (k0_pay47 h w) (k0_pay49 h a u w) (k0_pay50 h w) : FVec Ideal S512x512 .bf16) (ix2 r c)
    = rope (at2 (k0_pay7 h w) r.val) (at2 a r.val) (at2 u r.val) (at2 v r.val) c.val * Named.named (F := Ideal) κ "query_scale" (φ := .f32) 0x3E38AA3B#32 :=
  (congrFun (show k0_pay51 (k0_pay44 a) (k0_pay45 u) (k0_pay46 v) (k0_pay47 h w) (k0_pay49 h a u w) (k0_pay50 h w) = k0_pay25 h (k0_pay22 a) (k0_pay23 u) v w from rfl) _).trans (rope25 h w a u v r c)
theorem rope56 (r c : Fin 512) : (k0_pay56 (k0_pay44 a) (k0_pay45 u) (k0_pay46 v) (k0_pay52 h w) (k0_pay53 h (k0_pay44 a) (k0_pay45 u) (k0_pay46 v) w) (k0_pay54 h w) (k0_pay55 h (k0_pay44 a) w) 96#32 : FVec Ideal S512x512 .bf16) (ix2 r c)
    = rope (at2 (k0_pay7 h w) r.val) (at2 a r.val) (at2 u r.val) (at2 v r.val) c.val :=
  (congrFun (show k0_pay56 (k0_pay44 a) (k0_pay45 u) (k0_pay46 v) (k0_pay52 h w) (k0_pay53 h (k0_pay44 a) (k0_pay45 u) (k0_pay46 v) w) (k0_pay54 h w) (k0_pay55 h (k0_pay44 a) w) 96#32 = k0_pay26 h (k0_pay22 a) (k0_pay23 u) (k0_pay24 v) w from rfl) _).trans (rope26 h w a u v r c)

/-! ## The convolution -/

/-- Rows moved down by `d`: the first come from the tail. -/
abbrev shifted (d : BitVec 32) (p : FVec Ideal S512x512 .f32) (t : FVec Ideal S8x512 .f32) : FVec Ideal S512x512 .f32 :=
  concatenate S512x512 0 [⟨S8x512, select (broadcastTo S8x512 (shapeCast S8x1 (cmpi .slt io (broadcast S8x1 d)) shapeCasts_S8x1_S8x1) broadcasts_S8x1_S8x512) (dynamicRotate 0 d none t rotates_S8x512_d0) (extractStridedSlice S8x512 ![0, 0] (dynamicRotate 0 d none p rotates_S512x512_d0) slices_S512x512_o0_0_S8x512)⟩,
    ⟨S504x512, extractStridedSlice S504x512 ![8, 0] (dynamicRotate 0 d none p rotates_S512x512_d0) slices_S512x512_o8_0_S504x512⟩] concatenates_S8x512_S504x512_S512x512_d0

theorem sel (r d : Nat) (hr : r < 8) (hd : d < 8) (x y : EReal) : Scalar.select (IntOp.cmpi .slt (BitVec.ofNat 32 r) (BitVec.ofNat 32 d)) x y = if r < d then x else y := by
  interval_cases r <;> interval_cases d <;> rfl

/-- The moved rows, entry by entry. -/
theorem moved (p t : Nat → EReal) (r d : Nat) (hr : r < 512) (hd : d < 8) :
    (if r < 8 then Scalar.select (IntOp.cmpi .slt (BitVec.ofNat 32 r) (BitVec.ofNat 32 d)) (t ((r + 8 - d) % 8)) (p ((r + 512 - d) % 512)) else p ((8 + (r - 8) + 512 - d) % 512)) = tap p t r d := by
  unfold tap
  split_ifs with h0 h1 h1
  · rw [sel r d h0 hd, if_pos h1, show (r + 8 - d) % 8 = 8 + r - d by omega]
  · rw [sel r d h0 hd, if_neg h1, show (r + 512 - d) % 512 = r - d by omega]
  · omega
  · rw [show (8 + (r - 8) + 512 - d) % 512 = r - d by omega]

variable (p : FVec Ideal S512x512 .f32) (t : FVec Ideal S8x512 .f32)

theorem shift1 (r c : Fin 512) : shifted 1#32 p t (ix2 r c) = tap (fun q => at2 p q c.val) (fun q => at2 t q c.val) r.val 1 := by
  rw [← moved _ _ r.val 1 r.isLt (by norm_num)]
  pointwise
  simp only [at2_of p, at2_of t]
  split_ifs <;> rfl
theorem shift2 (r c : Fin 512) : shifted 2#32 p t (ix2 r c) = tap (fun q => at2 p q c.val) (fun q => at2 t q c.val) r.val 2 := by
  rw [← moved _ _ r.val 2 r.isLt (by norm_num)]
  pointwise
  simp only [at2_of p, at2_of t]
  split_ifs <;> rfl
theorem shift3 (r c : Fin 512) : shifted 3#32 p t (ix2 r c) = tap (fun q => at2 p q c.val) (fun q => at2 t q c.val) r.val 3 := by
  rw [← moved _ _ r.val 3 r.isLt (by norm_num)]
  pointwise
  simp only [at2_of p, at2_of t]
  split_ifs <;> rfl

variable (cw : Vec Ideal S4x512 .f32) (cb : Vec Ideal S1x512 .f32)

/-- The body's convolution and its activation, over vectors. -/
def convV (s0 s1 s2 s3 : FVec Ideal S512x512 .f32) (cw : Vec Ideal S4x512 .f32) (cb : Vec Ideal S1x512 .f32) : FVec Ideal S512x512 .f32 :=
  addf (addf (addf (addf (broadcastTo S512x512 (shapeCast S1x512 cb shapeCasts_S1x512_S1x512 : FVec Ideal S1x512 .f32) broadcasts_S1x512_S512x512)
    (mulf (broadcastTo S512x512 (extractStridedSlice S1x512 ![3, 0] (k0_pay2 cw) slices_S4x512_o3_0_S1x512 : FVec Ideal S1x512 .f32) broadcasts_S1x512_S512x512) s0))
    (mulf (broadcastTo S512x512 (extractStridedSlice S1x512 ![2, 0] (k0_pay2 cw) slices_S4x512_o2_0_S1x512 : FVec Ideal S1x512 .f32) broadcasts_S1x512_S512x512) s1))
    (mulf (broadcastTo S512x512 (extractStridedSlice S1x512 ![1, 0] (k0_pay2 cw) slices_S4x512_o1_0_S1x512 : FVec Ideal S1x512 .f32) broadcasts_S1x512_S512x512) s2))
    (mulf (broadcastTo S512x512 (extractStridedSlice S1x512 ![0, 0] (k0_pay2 cw) slices_S4x512_o0_0_S1x512 : FVec Ideal S1x512 .f32) broadcasts_S1x512_S512x512) s3)
theorem convV_apply (s0 s1 s2 s3 : FVec Ideal S512x512 .f32) (r c : Fin 512) : (mulf (convV s0 s1 s2 s3 cw cb) (logistic (convV s0 s1 s2 s3 cw cb)) : FVec Ideal S512x512 .f32) (ix2 r c)
    = silu (cb (ix2 0 c) + cw (ix2 3 c) * s0 (ix2 r c) + cw (ix2 2 c) * s1 (ix2 r c) + cw (ix2 1 c) * s2 (ix2 r c) + cw (ix2 0 c) * s3 (ix2 r c)) := by
  unfold silu
  pointwise [convV, k0_pay2]

/-- What the convolution and its activation leave at row `r` and column `c`. -/
def act (cw : Vec Ideal S4x512 .f32) (cb : Vec Ideal S1x512 .f32) (p : FVec Ideal S512x512 .f32) (t : FVec Ideal S8x512 .f32) (r c : Nat) : EReal :=
  silu (conv (at2 cb 0 c) (at2 cw 0 c) (at2 cw 1 c) (at2 cw 2 c) (at2 cw 3 c) (tap (fun q => at2 p q c) (fun q => at2 t q c) r))

/-- The first half's convolution. -/
abbrev act1 : FVec Ideal S512x512 .f32 :=
  k0_pay13 io (k0_pay2 cw) t (k0_pay7 h w) (k0_pay8 io (k0_pay2 cw) h t w cb) (k0_pay9 h w) (k0_pay10 t) (k0_pay11 h w) (k0_pay12 io)
theorem act1_apply (r c : Fin 512) : act1 h w t cw cb (ix2 r c) = act cw cb (k0_pay7 h w) t r.val c.val := by
  have e : act1 h w t cw cb = mulf (convV (k0_pay7 h w) (shifted 1#32 (k0_pay7 h w) t) (shifted 2#32 (k0_pay7 h w) t) (shifted 3#32 (k0_pay7 h w) t) cw cb)
      (logistic (convV (k0_pay7 h w) (shifted 1#32 (k0_pay7 h w) t) (shifted 2#32 (k0_pay7 h w) t) (shifted 3#32 (k0_pay7 h w) t) cw cb)) := rfl
  rw [e]
  generalize k0_pay7 h w = p
  rw [convV_apply, shift1, shift2, shift3]
  simp only [at2_of p, at2_of cw, at2_of cb]
  rfl
/-- The second half's convolution: its tail is the first half's last rows. -/
abbrev act2 : FVec Ideal S512x512 .f32 :=
  k0_pay35 (k0_pay2 cw) (k0_pay30 io (k0_pay2 cw) h p w cb) (k0_pay31 h w) (k0_pay32 p) (k0_pay33 h w) (k0_pay34 io)
theorem act2_apply (r c : Fin 512) : act2 h w p cw cb (ix2 r c) = act cw cb (k0_pay29 h w) (k0_pay28 p) r.val c.val :=
  (congrFun (show act2 h w p cw cb = act1 h w (k0_pay28 p) cw cb from rfl) _).trans (act1_apply h w (k0_pay28 p) cw cb r c)

theorem tail28 (r : Fin 8) (c : Fin 512) : (k0_pay28 p : FVec Ideal S8x512 .f32) (ix2 r c) = p (ix2 ⟨504 + r.val, by omega⟩ c) := by
  pointwise [k0_pay28]
theorem tail2 (r : Fin 8) (c : Fin 512) : (k0_pay58 p : FVec Ideal S8x512 .f32) (ix2 r c) = p (ix2 ⟨504 + r.val, by omega⟩ c) := by
  pointwise [k0_pay58]
theorem tail3 (r : Fin 8) (c : Fin 512) : (k0_pay1 (F := Ideal)) (ix2 r c) = 0 := by
  pointwise [k0_pay1]

/-- The queries: the activation by the queries' scale. -/
theorem qm16 (q : Vec Ideal S1x512 .f32) (r c : Fin 512) :
    (k0_pay14 io (k0_pay2 cw) t (k0_pay7 h w) (k0_pay8 io (k0_pay2 cw) h t w cb) (k0_pay9 h w) (k0_pay10 t) (k0_pay11 h w) (k0_pay12 io) q : FVec Ideal S512x512 .bf16) (ix2 r c)
      = act cw cb (k0_pay7 h w) t r.val c.val * q (ix2 0 c) := by
  rw [← act1_apply h w t cw cb r c]
  have e : k0_pay14 io (k0_pay2 cw) t (k0_pay7 h w) (k0_pay8 io (k0_pay2 cw) h t w cb) (k0_pay9 h w) (k0_pay10 t) (k0_pay11 h w) (k0_pay12 io) q
    = truncf .bf16 (mulf (act1 h w t cw cb) (broadcastTo S512x512 (shapeCast S1x512 q shapeCasts_S1x512_S1x512 : FVec Ideal S1x512 .f32) broadcasts_S1x512_S512x512)) bitsLt_bf16_f32 := rfl
  rw [e]
  generalize act1 h w t cw cb = y
  pointwise
theorem qm34 (q : Vec Ideal S1x512 .f32) (r c : Fin 512) :
    (k0_pay36 (k0_pay2 cw) (k0_pay30 io (k0_pay2 cw) h p w cb) (k0_pay31 h w) (k0_pay32 p) (k0_pay33 h w) (k0_pay34 io) q : FVec Ideal S512x512 .bf16) (ix2 r c)
      = act cw cb (k0_pay29 h w) (k0_pay28 p) r.val c.val * q (ix2 0 c) :=
  qm16 h w (k0_pay28 p) cw cb q r c

/-- The keys beside the queries: the two halves of each 128-lane group change places. -/
def swapV (y : FVec Ideal S512x512 .f32) : FVec Ideal S512x512 .bf16 :=
  truncf .bf16 (concatenate S512x512 1 [⟨S512x128, dynamicRotate 1 64#32 none (extractStridedSlice S512x128 ![0, 0] y slices_S512x512_o0_0_S512x128) rotates_S512x128_d1⟩,
    ⟨S512x128, dynamicRotate 1 64#32 none (extractStridedSlice S512x128 ![0, 128] y slices_S512x512_o0_128_S512x128) rotates_S512x128_d1⟩,
    ⟨S512x128, dynamicRotate 1 64#32 none (extractStridedSlice S512x128 ![0, 256] y slices_S512x512_o0_256_S512x128) rotates_S512x128_d1⟩,
    ⟨S512x128, dynamicRotate 1 64#32 none (extractStridedSlice S512x128 ![0, 384] y slices_S512x512_o0_384_S512x128) rotates_S512x128_d1⟩] concatenates_S512x128_S512x128_S512x128_S512x128_S512x512_d1) bitsLt_bf16_f32
theorem swapV_apply (y : FVec Ideal S512x512 .f32) (r c : Fin 512) : swapV y (ix2 r c) = at2 y r.val (lane c.val (c.val + 64)) := by
  pointwise [swapV]
  simp only [at2_of y]
  unfold lane
  split_ifs with h0 h1 h2 <;> refine congrArg (at2 y r.val) ?_ <;> omega
theorem kq17 (r c : Fin 512) :
    (k0_pay15 io (k0_pay2 cw) t (k0_pay7 h w) (k0_pay8 io (k0_pay2 cw) h t w cb) (k0_pay9 h w) (k0_pay10 t) (k0_pay11 h w) (k0_pay12 io) : FVec Ideal S512x512 .bf16) (ix2 r c)
      = act cw cb (k0_pay7 h w) t r.val (lane c.val (c.val + 64)) := by
  refine (swapV_apply (act1 h w t cw cb) r c).trans ?_
  have hl : lane c.val (c.val + 64) < 512 := by unfold lane; omega
  rw [← act1_apply h w t cw cb r ⟨_, hl⟩]
  exact (at2_of (act1 h w t cw cb) r ⟨_, hl⟩).symm
theorem kq35 (r c : Fin 512) :
    (k0_pay37 (k0_pay2 cw) (k0_pay30 io (k0_pay2 cw) h p w cb) (k0_pay31 h w) (k0_pay32 p) (k0_pay33 h w) (k0_pay34 io) : FVec Ideal S512x512 .bf16) (ix2 r c)
      = act cw cb (k0_pay29 h w) (k0_pay28 p) r.val (lane c.val (c.val + 64)) :=
  kq17 h w (k0_pay28 p) cw cb r c

end Cert.ProjIdeal.Body
-- ==== Proof.ProjHalf.lean ====
module
public import proofs.«01_k».proof.Proof.ProjBody
public import Idealize.ShloMosaic.Lib.Pipeline.ValueKit.Acc
/-! The input projection's stored pieces as functions of the blocks the body loads. -/
@[expose] public section
noncomputable section
open Idealize.ShloMosaic Idealize.ShloMosaic.TcCoe Idealize.SL.Sem
namespace Cert.ProjIdeal.Body
open Cert.ProjIdeal Cert.ProjIdeal.Gen Cert.ProjRow

/-- `w` is the part of `x` whose corner is row `o` and column `q`. -/
def At {A B n m : Nat} (x : (⟨2, ![A, B]⟩ : Shape).Idx → EReal) (o q : Nat) (w : (⟨2, ![n, m]⟩ : Shape).Idx → EReal) : Prop :=
  ∀ (i : Fin n) (j : Fin m), w (ix2 i j) = at2 x (o + i.val) (q + j.val)
theorem At.nat {A B n m : Nat} {x : (⟨2, ![A, B]⟩ : Shape).Idx → EReal} {o q : Nat} {w : (⟨2, ![n, m]⟩ : Shape).Idx → EReal} (h : At x o q w) {i j : Nat} (hi : i < n) (hj : j < m) :
    at2 w i j = at2 x (o + i) (q + j) := (at2_of w ⟨i, hi⟩ ⟨j, hj⟩).symm.trans (h ⟨i, hi⟩ ⟨j, hj⟩)

/-- What a load of a rank-two block's part reads. -/
theorem ld32 {A B n m : Nat} {o q : Nat} (arg : Memref sig .tc .vmem ⟨2, ![A, B]⟩ .f32) (harg : arg.IsWhole) (x : Vec Ideal ⟨2, ![A, B]⟩ .f32)
    (inb : ∀ a, (![o, q] : Fin 2 → Nat) a + (⟨2, ![n, m]⟩ : Shape).size a ≤ (⟨2, ![A, B]⟩ : Shape).size a) :
    At x o q (View.readAt (Elt Ideal) arg.view (Rect.unit (s := ⟨2, ![A, B]⟩) ![o, q] (⟨2, ![n, m]⟩ : Shape).size inb).toLoadRect (harg.unread x)) := fun i j => by
  have h0 : o + n ≤ A := inb 0
  have h1 : q + m ≤ B := inb 1
  rw [View.readAt_eq_ld, harg.read_unread, at2, dif_pos ⟨by omega, by omega⟩]
  refine congrArg x (funext fun a => Fin.ext ?_)
  match a with
  | 0 => show o + 1 * i.val = o + i.val; omega
  | 1 => show q + 1 * j.val = q + j.val; omega
theorem ld16 {A B n m : Nat} {o q : Nat} (arg : Memref sig .tc .vmem ⟨2, ![A, B]⟩ .bf16) (harg : arg.IsWhole) (x : Vec Ideal ⟨2, ![A, B]⟩ .bf16)
    (inb : ∀ a, (![o, q] : Fin 2 → Nat) a + (⟨2, ![n, m]⟩ : Shape).size a ≤ (⟨2, ![A, B]⟩ : Shape).size a) :
    At x o q (View.readAt (Elt Ideal) arg.view (Rect.unit (s := ⟨2, ![A, B]⟩) ![o, q] (⟨2, ![n, m]⟩ : Shape).size inb).toLoadRect (harg.unread x)) := fun i j => by
  have h0 : o + n ≤ A := inb 0
  have h1 : q + m ≤ B := inb 1
  rw [View.readAt_eq_ld, harg.read_unread, at2, dif_pos ⟨by omega, by omega⟩]
  refine congrArg x (funext fun a => Fin.ext ?_)
  match a with
  | 0 => show o + 1 * i.val = o + i.val; omega
  | 1 => show q + 1 * j.val = q + j.val; omega

/-- Row `r`, column `c` of the projected block. -/
def pb (x0 : Vec Ideal S1024x1024 .f32) (x1 : Vec Ideal S1x1024 .f32) (x2 : Vec Ideal S1024x3200 .bf16) (r c : Nat) : EReal :=
  proj (fun k => at2 x0 r k.val) (fun k => at2 x1 0 k.val) (at2 x2) c
/-- What the convolution and its activation leave there, the eight rows before the block being `T`. -/
def ab (x0 : Vec Ideal S1024x1024 .f32) (x1 : Vec Ideal S1x1024 .f32) (x2 : Vec Ideal S1024x3200 .bf16) (x6 : Vec Ideal S4x512 .f32) (x7 : Vec Ideal S1x512 .f32) (T : Nat → Nat → EReal) (r c : Nat) : EReal :=
  silu (conv (at2 x7 0 c) (at2 x6 0 c) (at2 x6 1 c) (at2 x6 2 c) (at2 x6 3 c) (tap (fun q => pb x0 x1 x2 q (1536 + c)) (fun q => T q c) r))

variable (x0 : Vec Ideal S1024x1024 .f32) (x1 : Vec Ideal S1x1024 .f32) (x2 : Vec Ideal S1024x3200 .bf16) (x3 x4 x5 : Vec Ideal S1024x128 .f32) (x6 : Vec Ideal S4x512 .f32) (x7 x8 : Vec Ideal S1x512 .f32) (T : Nat → Nat → EReal)

/-! ## The blocks the body stores -/

def b9 : S1024x512.Idx → EReal := fun y => rope (pb x0 x1 x2 (y 0).val) (at2 x3 (y 0).val) (at2 x4 (y 0).val) (at2 x5 (y 0).val) (y 1).val * Named.named (F := Ideal) κ "query_scale" (φ := .f32) 0x3E38AA3B#32
def b10 : S1024x512.Idx → EReal := fun y => rope (fun c => pb x0 x1 x2 (y 0).val (512 + c)) (at2 x3 (y 0).val) (at2 x4 (y 0).val) (at2 x5 (y 0).val) (y 1).val
def b11 : S1024x512.Idx → EReal := fun y => pb x0 x1 x2 (y 0).val (1024 + (y 1).val)
def b12 : S1024x512.Idx → EReal := fun y => HMul.hMul (α := EReal) (β := EReal) (γ := EReal) (ab x0 x1 x2 x6 x7 T (y 0).val (y 1).val) (at2 x8 0 (y 1).val)
def b13 : S1024x512.Idx → EReal := fun y => ab x0 x1 x2 x6 x7 T (y 0).val (lane (y 1).val ((y 1).val + 64))
def b14 : S1x4x512x256.Idx → EReal := fun y => pb x0 x1 x2 (256 * (y 1).val + (y 3).val) (2048 + (y 2).val)
def b15 : S1024x512.Idx → EReal := fun y => Ideal.logistic (pb x0 x1 x2 (y 0).val (2560 + (y 1).val))
def b16 : S1x8x1024.Idx → EReal := fun y => pb x0 x1 x2 (y 2).val (3072 + (y 1).val)
def bs : S8x512.Idx → EReal := fun y => pb x0 x1 x2 (1016 + (y 0).val) (1536 + (y 1).val)

/-! ## The pieces -/

/-- The normed rows from row `o`. -/
def Nm (o : Nat) (h : FVec Ideal S512x1024 .bf16) : Prop := ∀ (r : Fin 512) (k : Fin 1024), h (ix2 r k) = MlpRow.rms (fun k => at2 x0 (o + r.val) k.val) (fun k => at2 x1 0 k.val) k

variable {x0 x1 x2 x3 x4 x5 x6 x7 x8 T}

theorem nm5 {o : Nat} {x : Vec Ideal S512x1024 .f32} {g : Vec Ideal S1x1024 .f32} (hx : At (n := 512) (m := 1024) x0 o 0 x) (hg : At (n := 1) (m := 1024) x1 0 0 g) : Nm x0 x1 o (k0_pay3 x g) := fun r k => by
  rw [rms1]
  congr 1
  · funext k; rw [hx r k, Nat.zero_add]
  · funext k; exact (hg 0 k).trans (by simp only [Nat.zero_add, Fin.val_zero])
theorem nm8 {o : Nat} {x : Vec Ideal S512x1024 .f32} {g : Vec Ideal S1x1024 .f32} (hx : At (n := 512) (m := 1024) x0 o 0 x) (hg : At (n := 1) (m := 1024) x1 0 0 g) : Nm x0 x1 o (k0_pay6 (k0_pay4 x) (k0_pay5 g)) := nm5 hx hg

theorem dotb {o q M : Nat} {h : FVec Ideal S512x1024 .bf16} {w : (⟨2, ![1024, M]⟩ : Shape).Idx → EReal} (hh : Nm x0 x1 o h) (hw : At (n := 1024) (m := M) x2 0 q w) (r : Fin 512) (c : Fin M) :
    (∑ k : Fin 1024, h (ix2 r k) * w (ix2 k c)) = pb x0 x1 x2 (o + r.val) (q + c.val) := by
  unfold pb proj
  refine Finset.sum_congr rfl fun k _ => ?_
  rw [hh r k, hw k c, Nat.zero_add]

/-- The projected entries by natural numbers. -/
theorem pbn {o q : Nat} {h : FVec Ideal S512x1024 .bf16} {w : Vec Ideal S1024x512 .bf16} (hh : Nm x0 x1 o h) (hw : At (n := 1024) (m := 512) x2 0 q w) {r c : Nat} (hr : r < 512) (hc : c < 512) :
    at2 (k0_pay7 h w) r c = pb x0 x1 x2 (o + r) (q + c) := by
  rw [← at2_of (k0_pay7 h w) ⟨r, hr⟩ ⟨c, hc⟩, dot9, dotb hh hw]

theorem ropeb {o q : Nat} {h : FVec Ideal S512x1024 .bf16} {w : Vec Ideal S1024x512 .bf16} {a u v : Vec Ideal S512x128 .f32} (hh : Nm x0 x1 o h) (hw : At (n := 1024) (m := 512) x2 0 q w)
    (ha : At (n := 512) (m := 128) x3 o 0 a) (hu : At (n := 512) (m := 128) x4 o 0 u) (hv : At (n := 512) (m := 128) x5 o 0 v) (r c : Fin 512) :
    rope (at2 (k0_pay7 h w) r.val) (at2 a r.val) (at2 u r.val) (at2 v r.val) c.val = rope (fun c => pb x0 x1 x2 (o + r.val) (q + c)) (at2 x3 (o + r.val)) (at2 x4 (o + r.val)) (at2 x5 (o + r.val)) c.val := by
  have hm : c.val % 128 < 128 := Nat.mod_lt _ (by norm_num)
  have hl (l : Nat) : lane c.val l < 512 := by unfold lane; omega
  unfold rope
  rw [pbn hh hw r.isLt c.isLt, pbn hh hw r.isLt (hl _), pbn hh hw r.isLt (hl _), ha.nat r.isLt hm, hu.nat r.isLt hm, hv.nat r.isLt hm]
  simp only [Nat.zero_add]

theorem lo9 {o : Nat} {h : FVec Ideal S512x1024 .bf16} {w : Vec Ideal S1024x512 .bf16} {a u v : Vec Ideal S512x128 .f32} (hh : Nm x0 x1 o h) (hw : At (n := 1024) (m := 512) x2 0 0 w)
    (ha : At (n := 512) (m := 128) x3 o 0 a) (hu : At (n := 512) (m := 128) x4 o 0 u) (hv : At (n := 512) (m := 128) x5 o 0 v) (r c : Fin 512) (z : Fin 1024) (hz : z.val = o + r.val) :
    (k0_pay25 h (k0_pay22 a) (k0_pay23 u) v w : FVec Ideal S512x512 .bf16) (ix2 r c) = b9 x0 x1 x2 x3 x4 x5 (ix2 z c) := by
  rw [rope25, ropeb hh hw ha hu hv]
  show _ = rope (pb x0 x1 x2 z.val) (at2 x3 z.val) (at2 x4 z.val) (at2 x5 z.val) c.val * _
  rw [hz]
  simp only [Nat.zero_add]
theorem hi9 {o : Nat} {h : FVec Ideal S512x1024 .bf16} {w : Vec Ideal S1024x512 .bf16} {a u v : Vec Ideal S512x128 .f32} (hh : Nm x0 x1 o h) (hw : At (n := 1024) (m := 512) x2 0 0 w)
    (ha : At (n := 512) (m := 128) x3 o 0 a) (hu : At (n := 512) (m := 128) x4 o 0 u) (hv : At (n := 512) (m := 128) x5 o 0 v) (r c : Fin 512) (z : Fin 1024) (hz : z.val = o + r.val) :
    (k0_pay51 (k0_pay44 a) (k0_pay45 u) (k0_pay46 v) (k0_pay47 h w) (k0_pay49 h a u w) (k0_pay50 h w) : FVec Ideal S512x512 .bf16) (ix2 r c) = b9 x0 x1 x2 x3 x4 x5 (ix2 z c) := lo9 hh hw ha hu hv r c z hz
theorem lo10 {o : Nat} {h : FVec Ideal S512x1024 .bf16} {w : Vec Ideal S1024x512 .bf16} {a u v : Vec Ideal S512x128 .f32} (hh : Nm x0 x1 o h) (hw : At (n := 1024) (m := 512) x2 0 512 w)
    (ha : At (n := 512) (m := 128) x3 o 0 a) (hu : At (n := 512) (m := 128) x4 o 0 u) (hv : At (n := 512) (m := 128) x5 o 0 v) (r c : Fin 512) (z : Fin 1024) (hz : z.val = o + r.val) :
    (k0_pay26 h (k0_pay22 a) (k0_pay23 u) (k0_pay24 v) w : FVec Ideal S512x512 .bf16) (ix2 r c) = b10 x0 x1 x2 x3 x4 x5 (ix2 z c) := by
  rw [rope26, ropeb hh hw ha hu hv]
  show _ = rope (fun c => pb x0 x1 x2 z.val (512 + c)) (at2 x3 z.val) (at2 x4 z.val) (at2 x5 z.val) c.val
  rw [hz]
theorem hi10 {o : Nat} {h : FVec Ideal S512x1024 .bf16} {w : Vec Ideal S1024x512 .bf16} {a u v : Vec Ideal S512x128 .f32} (hh : Nm x0 x1 o h) (hw : At (n := 1024) (m := 512) x2 0 512 w)
    (ha : At (n := 512) (m := 128) x3 o 0 a) (hu : At (n := 512) (m := 128) x4 o 0 u) (hv : At (n := 512) (m := 128) x5 o 0 v) (r c : Fin 512) (z : Fin 1024) (hz : z.val = o + r.val) :
    (k0_pay56 (k0_pay44 a) (k0_pay45 u) (k0_pay46 v) (k0_pay52 h w) (k0_pay53 h (k0_pay44 a) (k0_pay45 u) (k0_pay46 v) w) (k0_pay54 h w) (k0_pay55 h (k0_pay44 a) w) 96#32 : FVec Ideal S512x512 .bf16) (ix2 r c) = b10 x0 x1 x2 x3 x4 x5 (ix2 z c) := lo10 hh hw ha hu hv r c z hz
theorem lo11 {o : Nat} {h : FVec Ideal S512x1024 .bf16} {w : Vec Ideal S1024x512 .bf16} (hh : Nm x0 x1 o h) (hw : At (n := 1024) (m := 512) x2 0 1024 w) (r c : Fin 512) (z : Fin 1024) (hz : z.val = o + r.val) :
    (k0_pay27 h w : FVec Ideal S512x512 .bf16) (ix2 r c) = b11 x0 x1 x2 (ix2 z c) := by
  rw [dot27, dotb hh hw]
  show _ = pb x0 x1 x2 z.val (1024 + c.val)
  rw [hz]
theorem hi11 {o : Nat} {h : FVec Ideal S512x1024 .bf16} {w : Vec Ideal S1024x512 .bf16} (hh : Nm x0 x1 o h) (hw : At (n := 1024) (m := 512) x2 0 1024 w) (r c : Fin 512) (z : Fin 1024) (hz : z.val = o + r.val) :
    (k0_pay57 h w : FVec Ideal S512x512 .bf16) (ix2 r c) = b11 x0 x1 x2 (ix2 z c) := lo11 hh hw r c z hz
theorem lo15 {o : Nat} {h : FVec Ideal S512x1024 .bf16} {w : Vec Ideal S1024x512 .bf16} (hh : Nm x0 x1 o h) (hw : At (n := 1024) (m := 512) x2 0 2560 w) (r c : Fin 512) (z : Fin 1024) (hz : z.val = o + r.val) :
    (k0_pay21 h w : FVec Ideal S512x512 .bf16) (ix2 r c) = b15 x0 x1 x2 (ix2 z c) := by
  rw [sig23, dotb hh hw]
  show _ = Ideal.logistic (pb x0 x1 x2 z.val (2560 + c.val))
  rw [hz]
theorem hi15 {o : Nat} {h : FVec Ideal S512x1024 .bf16} {w : Vec Ideal S1024x512 .bf16} (hh : Nm x0 x1 o h) (hw : At (n := 1024) (m := 512) x2 0 2560 w) (r c : Fin 512) (z : Fin 1024) (hz : z.val = o + r.val) :
    (k0_pay43 h w : FVec Ideal S512x512 .bf16) (ix2 r c) = b15 x0 x1 x2 (ix2 z c) := lo15 hh hw r c z hz
theorem lo16 {o : Nat} {h : FVec Ideal S512x1024 .bf16} {w : Vec Ideal S1024x128 .bf16} (hh : Nm x0 x1 o h) (hw : At (n := 1024) (m := 128) x2 0 3072 w) (r : Fin 512) (c : Fin 8) (z : Fin 1024) (hz : z.val = o + r.val) :
    (k0_pay20 h w : FVec Ideal S1x8x512 .f32) (ix3 0 c r) = b16 x0 x1 x2 (ix3 0 c z) := by
  rw [gate22, dotb hh hw]
  show _ = pb x0 x1 x2 z.val (3072 + c.val)
  rw [hz]
theorem hi16 {o : Nat} {h : FVec Ideal S512x1024 .bf16} {w : Vec Ideal S1024x128 .bf16} (hh : Nm x0 x1 o h) (hw : At (n := 1024) (m := 128) x2 0 3072 w) (r : Fin 512) (c : Fin 8) (z : Fin 1024) (hz : z.val = o + r.val) :
    (k0_pay42 h w : FVec Ideal S1x8x512 .f32) (ix3 0 c r) = b16 x0 x1 x2 (ix3 0 c z) := lo16 hh hw r c z hz
theorem p0_14 {o : Nat} {h : FVec Ideal S512x1024 .bf16} {w : Vec Ideal S1024x512 .bf16} (hh : Nm x0 x1 o h) (hw : At (n := 1024) (m := 512) x2 0 2048 w) (c : Fin 512) (r : Fin 256) (z : Fin 4) (hz : 256 * z.val = o) :
    (k0_pay18 h (k0_pay16 w) : FVec Ideal S1x1x512x256 .bf16) (ix4 0 0 c r) = b14 x0 x1 x2 (ix4 0 z c r) := by
  rw [mv20, dotb hh hw ⟨r.val, by omega⟩ c]
  show pb x0 x1 x2 (o + r.val) _ = pb x0 x1 x2 (256 * z.val + r.val) (2048 + c.val)
  rw [hz]
theorem p1_14 {o : Nat} {h : FVec Ideal S512x1024 .bf16} {w : Vec Ideal S1024x512 .bf16} (hh : Nm x0 x1 o h) (hw : At (n := 1024) (m := 512) x2 0 2048 w) (c : Fin 512) (r : Fin 256) (z : Fin 4) (hz : 256 * z.val = o + 256) :
    (k0_pay19 h (k0_pay16 w) : FVec Ideal S1x1x512x256 .bf16) (ix4 0 0 c r) = b14 x0 x1 x2 (ix4 0 z c r) := by
  rw [mv21, dotb hh hw ⟨256 + r.val, by omega⟩ c]
  show pb x0 x1 x2 (o + (256 + r.val)) _ = pb x0 x1 x2 (256 * z.val + r.val) (2048 + c.val)
  rw [hz, Nat.add_assoc]
theorem p2_14 {o : Nat} {h : FVec Ideal S512x1024 .bf16} {w : Vec Ideal S1024x512 .bf16} (hh : Nm x0 x1 o h) (hw : At (n := 1024) (m := 512) x2 0 2048 w) (c : Fin 512) (r : Fin 256) (z : Fin 4) (hz : 256 * z.val = o) :
    (k0_pay39 h w : FVec Ideal S1x1x512x256 .bf16) (ix4 0 0 c r) = b14 x0 x1 x2 (ix4 0 z c r) := p0_14 hh hw c r z hz
theorem p3_14 {o : Nat} {h : FVec Ideal S512x1024 .bf16} {w : Vec Ideal S1024x512 .bf16} (hh : Nm x0 x1 o h) (hw : At (n := 1024) (m := 512) x2 0 2048 w) (c : Fin 512) (r : Fin 256) (z : Fin 4) (hz : 256 * z.val = o + 256) :
    (k0_pay41 (k0_pay40 h w) : FVec Ideal S1x1x512x256 .bf16) (ix4 0 0 c r) = b14 x0 x1 x2 (ix4 0 z c r) := p1_14 hh hw c r z hz

/-! ## The convolution's pieces -/

theorem conv_congr {b w0 w1 w2 w3 : EReal} {x x' : Nat → EReal} (h : ∀ d, d < 4 → x d = x' d) : conv b w0 w1 w2 w3 x = conv b w0 w1 w2 w3 x' := by
  unfold conv
  rw [h 0 (by norm_num), h 1 (by norm_num), h 2 (by norm_num), h 3 (by norm_num)]

/-- The first half's convolution. -/
theorem actLo {h : FVec Ideal S512x1024 .bf16} {w : Vec Ideal S1024x512 .bf16} {cw : Vec Ideal S4x512 .f32} {cb : Vec Ideal S1x512 .f32} {t : FVec Ideal S8x512 .f32}
    (hh : Nm x0 x1 0 h) (hw : At (n := 1024) (m := 512) x2 0 1536 w) (hcw : At (n := 4) (m := 512) x6 0 0 cw) (hcb : At (n := 1) (m := 512) x7 0 0 cb) (ht : ∀ (q : Fin 8) (j : Fin 512), t (ix2 q j) = T q.val j.val)
    {r c : Nat} (hr : r < 512) (hc : c < 512) : act cw cb (k0_pay7 h w) t r c = ab x0 x1 x2 x6 x7 T r c := by
  unfold act ab
  rw [hcb.nat (by norm_num) hc, hcw.nat (by norm_num) hc, hcw.nat (by norm_num) hc, hcw.nat (by norm_num) hc, hcw.nat (by norm_num) hc]
  simp only [Nat.zero_add]
  refine congrArg silu (conv_congr fun d hd => ?_)
  unfold tap
  by_cases h0 : r < d
  · rw [if_pos h0, if_pos h0]
    exact (at2_of t ⟨8 + r - d, by omega⟩ ⟨c, hc⟩).symm.trans (ht _ _)
  · rw [if_neg h0, if_neg h0]
    exact (pbn hh hw (by omega) hc).trans (by simp only [Nat.zero_add])
/-- The second half's: its tail is the first half's last eight rows. -/
theorem actHi {h h' : FVec Ideal S512x1024 .bf16} {w : Vec Ideal S1024x512 .bf16} {cw : Vec Ideal S4x512 .f32} {cb : Vec Ideal S1x512 .f32}
    (hh : Nm x0 x1 0 h) (hh' : Nm x0 x1 512 h') (hw : At (n := 1024) (m := 512) x2 0 1536 w) (hcw : At (n := 4) (m := 512) x6 0 0 cw) (hcb : At (n := 1) (m := 512) x7 0 0 cb)
    {r c : Nat} (hr : r < 512) (hc : c < 512) : act cw cb (k0_pay7 h' w) (k0_pay28 (k0_pay7 h w)) r c = ab x0 x1 x2 x6 x7 T (512 + r) c := by
  unfold act ab
  rw [hcb.nat (by norm_num) hc, hcw.nat (by norm_num) hc, hcw.nat (by norm_num) hc, hcw.nat (by norm_num) hc, hcw.nat (by norm_num) hc]
  simp only [Nat.zero_add]
  refine congrArg silu (conv_congr fun d hd => ?_)
  unfold tap
  rw [if_neg (show ¬ 512 + r < d by omega)]
  by_cases h0 : r < d
  · rw [if_pos h0]
    refine (at2_of (k0_pay28 (k0_pay7 h w)) ⟨8 + r - d, by omega⟩ ⟨c, hc⟩).symm.trans ?_
    rw [tail28, dot9, dotb hh hw]
    show pb x0 x1 x2 (0 + (504 + (8 + r - d))) (1536 + c) = _
    rw [show 0 + (504 + (8 + r - d)) = 512 + r - d by omega]
  · rw [if_neg h0]
    exact (pbn hh' hw (by omega) hc).trans (by rw [show 512 + (r - d) = 512 + r - d by omega])

theorem lo12 {h : FVec Ideal S512x1024 .bf16} {w : Vec Ideal S1024x512 .bf16} {cw : Vec Ideal S4x512 .f32} {cb q : Vec Ideal S1x512 .f32} {t : FVec Ideal S8x512 .f32}
    (hh : Nm x0 x1 0 h) (hw : At (n := 1024) (m := 512) x2 0 1536 w) (hcw : At (n := 4) (m := 512) x6 0 0 cw) (hcb : At (n := 1) (m := 512) x7 0 0 cb) (hq : At (n := 1) (m := 512) x8 0 0 q) (ht : ∀ (q : Fin 8) (j : Fin 512), t (ix2 q j) = T q.val j.val)
    (r c : Fin 512) (z : Fin 1024) (hz : z.val = 0 + r.val) :
    (k0_pay14 io (k0_pay2 cw) t (k0_pay7 h w) (k0_pay8 io (k0_pay2 cw) h t w cb) (k0_pay9 h w) (k0_pay10 t) (k0_pay11 h w) (k0_pay12 io) q : FVec Ideal S512x512 .bf16) (ix2 r c)
      = b12 x0 x1 x2 x6 x7 x8 T (ix2 z c) := by
  rw [qm16, actLo hh hw hcw hcb ht r.isLt c.isLt, hq 0 c]
  show _ = HMul.hMul (α := EReal) (β := EReal) (γ := EReal) (ab x0 x1 x2 x6 x7 T z.val c.val) (at2 x8 0 c.val)
  simp only [hz, Nat.zero_add, Fin.val_zero]
theorem hi12 {h h' : FVec Ideal S512x1024 .bf16} {w : Vec Ideal S1024x512 .bf16} {cw : Vec Ideal S4x512 .f32} {cb q : Vec Ideal S1x512 .f32}
    (hh : Nm x0 x1 0 h) (hh' : Nm x0 x1 512 h') (hw : At (n := 1024) (m := 512) x2 0 1536 w) (hcw : At (n := 4) (m := 512) x6 0 0 cw) (hcb : At (n := 1) (m := 512) x7 0 0 cb) (hq : At (n := 1) (m := 512) x8 0 0 q)
    (r c : Fin 512) (z : Fin 1024) (hz : z.val = 512 + r.val) :
    (k0_pay36 (k0_pay2 cw) (k0_pay30 io (k0_pay2 cw) h' (k0_pay7 h w) w cb) (k0_pay31 h' w) (k0_pay32 (k0_pay7 h w)) (k0_pay33 h' w) (k0_pay34 io) q : FVec Ideal S512x512 .bf16) (ix2 r c)
      = b12 x0 x1 x2 x6 x7 x8 T (ix2 z c) := by
  rw [qm34, show k0_pay29 h' w = k0_pay7 h' w from rfl, actHi (T := T) hh hh' hw hcw hcb r.isLt c.isLt, hq 0 c]
  show _ = HMul.hMul (α := EReal) (β := EReal) (γ := EReal) (ab x0 x1 x2 x6 x7 T z.val c.val) (at2 x8 0 c.val)
  simp only [hz, Nat.zero_add, Fin.val_zero]
theorem lo13 {h : FVec Ideal S512x1024 .bf16} {w : Vec Ideal S1024x512 .bf16} {cw : Vec Ideal S4x512 .f32} {cb : Vec Ideal S1x512 .f32} {t : FVec Ideal S8x512 .f32}
    (hh : Nm x0 x1 0 h) (hw : At (n := 1024) (m := 512) x2 0 1536 w) (hcw : At (n := 4) (m := 512) x6 0 0 cw) (hcb : At (n := 1) (m := 512) x7 0 0 cb) (ht : ∀ (q : Fin 8) (j : Fin 512), t (ix2 q j) = T q.val j.val)
    (r c : Fin 512) (z : Fin 1024) (hz : z.val = 0 + r.val) :
    (k0_pay15 io (k0_pay2 cw) t (k0_pay7 h w) (k0_pay8 io (k0_pay2 cw) h t w cb) (k0_pay9 h w) (k0_pay10 t) (k0_pay11 h w) (k0_pay12 io) : FVec Ideal S512x512 .bf16) (ix2 r c)
      = b13 x0 x1 x2 x6 x7 T (ix2 z c) := by
  rw [kq17, actLo hh hw hcw hcb ht r.isLt (show lane c.val (c.val + 64) < 512 by unfold lane; omega)]
  show _ = ab x0 x1 x2 x6 x7 T z.val (lane c.val (c.val + 64))
  rw [hz, Nat.zero_add]
theorem hi13 {h h' : FVec Ideal S512x1024 .bf16} {w : Vec Ideal S1024x512 .bf16} {cw : Vec Ideal S4x512 .f32} {cb : Vec Ideal S1x512 .f32}
    (hh : Nm x0 x1 0 h) (hh' : Nm x0 x1 512 h') (hw : At (n := 1024) (m := 512) x2 0 1536 w) (hcw : At (n := 4) (m := 512) x6 0 0 cw) (hcb : At (n := 1) (m := 512) x7 0 0 cb)
    (r c : Fin 512) (z : Fin 1024) (hz : z.val = 512 + r.val) :
    (k0_pay37 (k0_pay2 cw) (k0_pay30 io (k0_pay2 cw) h' (k0_pay7 h w) w cb) (k0_pay31 h' w) (k0_pay32 (k0_pay7 h w)) (k0_pay33 h' w) (k0_pay34 io) : FVec Ideal S512x512 .bf16) (ix2 r c)
      = b13 x0 x1 x2 x6 x7 T (ix2 z c) := by
  rw [kq35, show k0_pay29 h' w = k0_pay7 h' w from rfl, actHi (T := T) hh hh' hw hcw hcb r.isLt (show lane c.val (c.val + 64) < 512 by unfold lane; omega)]
  show _ = ab x0 x1 x2 x6 x7 T z.val (lane c.val (c.val + 64))
  rw [hz]
theorem scr {h : FVec Ideal S512x1024 .bf16} {w : Vec Ideal S1024x512 .bf16} (hh : Nm x0 x1 512 h) (hw : At (n := 1024) (m := 512) x2 0 1536 w) (r : Fin 8) (c : Fin 512) :
    (k0_pay58 (k0_pay29 h w) : FVec Ideal S8x512 .f32) (ix2 r c) = bs x0 x1 x2 (ix2 r c) := by
  rw [tail2, dot29, dotb hh hw]
  show pb x0 x1 x2 (512 + (504 + r.val)) (1536 + c.val) = pb x0 x1 x2 (1016 + r.val) (1536 + c.val)
  rw [show 512 + (504 + r.val) = 1016 + r.val by omega]

/-! ## Blocks from their pieces -/

theorem halves (f : S1024x512.Idx → EReal) (hi lo : FVec Ideal S512x512 .bf16)
    (h1 : ∀ (r c : Fin 512) (z : Fin 1024), z.val = 512 + r.val → hi (ix2 r c) = f (ix2 z c)) (h0 : ∀ (r c : Fin 512) (z : Fin 1024), z.val = 0 + r.val → lo (ix2 r c) = f (ix2 z c)) :
    (View.canon (Val := Elt Ideal) (e := .bf16) [⟨Rect.unit (s := S1024x512) ![512, 0] S512x512.size inb_S1024x512_S512x512_512_0, hi⟩, ⟨Rect.unit (s := S1024x512) ![0, 0] S512x512.size inb_S1024x512_S512x512_0_0, lo⟩] : Vec Ideal S1024x512 .bf16) = f := by
  funext y
  refine View.canon_apply_of_pieces (Val := Elt Ideal) (e := .bf16) f _ (fun p hp => ?_) y ?_
  · simp only [List.mem_cons, List.not_mem_nil, or_false] at hp
    rcases hp with rfl | rfl
    · intro x
      obtain ⟨r, c, rfl⟩ : ∃ (r c : Fin 512), x = ix2 r c := ⟨x 0, x 1, ValueIdx.eq_ix2 x⟩
      refine (h1 r c ⟨512 + r.val, by omega⟩ rfl).trans (congrArg f (funext fun a => Fin.ext ?_))
      match a with
      | 0 => show 512 + r.val = 512 + 1 * r.val; omega
      | 1 => show c.val = 0 + 1 * c.val; omega
    · intro x
      obtain ⟨r, c, rfl⟩ : ∃ (r c : Fin 512), x = ix2 r c := ⟨x 0, x 1, ValueIdx.eq_ix2 x⟩
      refine (h0 r c ⟨0 + r.val, by omega⟩ rfl).trans (congrArg f (funext fun a => Fin.ext ?_))
      match a with
      | 0 => show 0 + r.val = 0 + 1 * r.val; omega
      | 1 => show c.val = 0 + 1 * c.val; omega
  · have hy0 : (y 0).val < 1024 := (y 0).isLt
    have hy1 : (y 1).val < 512 := (y 1).isLt
    by_cases h : (y 0).val < 512
    · refine ⟨_, List.mem_cons_of_mem _ (List.mem_cons_self ..), (Rect.mem_set_unit (inb := inb_S1024x512_S512x512_0_0)).2 fun a => ?_⟩
      match a with
      | 0 => exact ⟨Nat.zero_le _, h⟩
      | 1 => exact ⟨Nat.zero_le _, hy1⟩
    · refine ⟨_, List.mem_cons_self .., (Rect.mem_set_unit (inb := inb_S1024x512_S512x512_512_0)).2 fun a => ?_⟩
      match a with
      | 0 => exact ⟨by show 512 ≤ (y 0).val; omega, hy0⟩
      | 1 => exact ⟨Nat.zero_le _, hy1⟩

theorem halves3 (f : S1x8x1024.Idx → EReal) (hi lo : FVec Ideal S1x8x512 .f32)
    (h1 : ∀ (r : Fin 512) (c : Fin 8) (z : Fin 1024), z.val = 512 + r.val → hi (ix3 0 c r) = f (ix3 0 c z)) (h0 : ∀ (r : Fin 512) (c : Fin 8) (z : Fin 1024), z.val = 0 + r.val → lo (ix3 0 c r) = f (ix3 0 c z)) :
    (View.canon (Val := Elt Ideal) (e := .f32) [⟨Rect.unit (s := S1x8x1024) ![0, 0, 512] S1x8x512.size inb_S1x8x1024_S1x8x512_0_0_512, hi⟩, ⟨Rect.unit (s := S1x8x1024) ![0, 0, 0] S1x8x512.size inb_S1x8x1024_S1x8x512_0_0_0, lo⟩] : Vec Ideal S1x8x1024 .f32) = f := by
  funext y
  refine View.canon_apply_of_pieces (Val := Elt Ideal) (e := .f32) f _ (fun p hp => ?_) y ?_
  · simp only [List.mem_cons, List.not_mem_nil, or_false] at hp
    rcases hp with rfl | rfl
    · intro x
      obtain ⟨b, c, r, rfl⟩ : ∃ (b : Fin 1) (c : Fin 8) (r : Fin 512), x = ix3 b c r := ⟨x 0, x 1, x 2, ValueIdx.eq_ix3 x⟩
      obtain rfl : b = 0 := Subsingleton.elim _ _
      refine (h1 r c ⟨512 + r.val, by omega⟩ rfl).trans (congrArg f (funext fun a => Fin.ext ?_))
      match a with
      | 0 => rfl
      | 1 => show c.val = 0 + 1 * c.val; omega
      | 2 => show 512 + r.val = 512 + 1 * r.val; omega
    · intro x
      obtain ⟨b, c, r, rfl⟩ : ∃ (b : Fin 1) (c : Fin 8) (r : Fin 512), x = ix3 b c r := ⟨x 0, x 1, x 2, ValueIdx.eq_ix3 x⟩
      obtain rfl : b = 0 := Subsingleton.elim _ _
      refine (h0 r c ⟨0 + r.val, by omega⟩ rfl).trans (congrArg f (funext fun a => Fin.ext ?_))
      match a with
      | 0 => rfl
      | 1 => show c.val = 0 + 1 * c.val; omega
      | 2 => show 0 + r.val = 0 + 1 * r.val; omega
  · have hy1 : (y 1).val < 8 := (y 1).isLt
    have hy2 : (y 2).val < 1024 := (y 2).isLt
    by_cases h : (y 2).val < 512
    · refine ⟨_, List.mem_cons_of_mem _ (List.mem_cons_self ..), (Rect.mem_set_unit (inb := inb_S1x8x1024_S1x8x512_0_0_0)).2 fun a => ?_⟩
      match a with
      | 0 => exact ⟨Nat.zero_le _, (y 0).isLt⟩
      | 1 => exact ⟨Nat.zero_le _, hy1⟩
      | 2 => exact ⟨Nat.zero_le _, h⟩
    · refine ⟨_, List.mem_cons_self .., (Rect.mem_set_unit (inb := inb_S1x8x1024_S1x8x512_0_0_512)).2 fun a => ?_⟩
      match a with
      | 0 => exact ⟨Nat.zero_le _, (y 0).isLt⟩
      | 1 => exact ⟨Nat.zero_le _, hy1⟩
      | 2 => exact ⟨by show 512 ≤ (y 2).val; omega, hy2⟩

theorem quarter (f : S1x4x512x256.Idx → EReal) (n : Nat) (hn : n < 4) (inb : ∀ a, (![0, n, 0, 0] : Fin 4 → Nat) a + S1x1x512x256.size a ≤ S1x4x512x256.size a) (p : FVec Ideal S1x1x512x256 .bf16)
    (h : ∀ (c : Fin 512) (r : Fin 256) (z : Fin 4), z.val = n → p (ix4 0 0 c r) = f (ix4 0 z c r)) (x : S1x1x512x256.Idx) : p x = f ((Rect.unit (s := S1x4x512x256) ![0, n, 0, 0] S1x1x512x256.size inb).emb x) := by
  obtain ⟨b, d, c, r, rfl⟩ : ∃ (b d : Fin 1) (c : Fin 512) (r : Fin 256), x = ix4 b d c r := ⟨x 0, x 1, x 2, x 3, ValueIdx.eq_ix4 x⟩
  obtain rfl : b = 0 := Subsingleton.elim _ _
  obtain rfl : d = 0 := Subsingleton.elim _ _
  refine (h c r ⟨n, hn⟩ rfl).trans (congrArg f (funext fun a => Fin.ext ?_))
  match a with
  | 0 => rfl
  | 1 => show n = n + 1 * 0; omega
  | 2 => show c.val = 0 + 1 * c.val; omega
  | 3 => show r.val = 0 + 1 * r.val; omega
theorem quarters (f : S1x4x512x256.Idx → EReal) (p3 p2 p1 p0 : FVec Ideal S1x1x512x256 .bf16)
    (h3 : ∀ (c : Fin 512) (r : Fin 256) (z : Fin 4), z.val = 3 → p3 (ix4 0 0 c r) = f (ix4 0 z c r)) (h2 : ∀ (c : Fin 512) (r : Fin 256) (z : Fin 4), z.val = 2 → p2 (ix4 0 0 c r) = f (ix4 0 z c r))
    (h1 : ∀ (c : Fin 512) (r : Fin 256) (z : Fin 4), z.val = 1 → p1 (ix4 0 0 c r) = f (ix4 0 z c r)) (h0 : ∀ (c : Fin 512) (r : Fin 256) (z : Fin 4), z.val = 0 → p0 (ix4 0 0 c r) = f (ix4 0 z c r)) :
    (View.canon (Val := Elt Ideal) (e := .bf16) [⟨Rect.unit (s := S1x4x512x256) ![0, 3, 0, 0] S1x1x512x256.size inb_S1x4x512x256_S1x1x512x256_0_3_0_0, p3⟩, ⟨Rect.unit (s := S1x4x512x256) ![0, 2, 0, 0] S1x1x512x256.size inb_S1x4x512x256_S1x1x512x256_0_2_0_0, p2⟩,
      ⟨Rect.unit (s := S1x4x512x256) ![0, 1, 0, 0] S1x1x512x256.size inb_S1x4x512x256_S1x1x512x256_0_1_0_0, p1⟩, ⟨Rect.unit (s := S1x4x512x256) ![0, 0, 0, 0] S1x1x512x256.size inb_S1x4x512x256_S1x1x512x256_0_0_0_0, p0⟩] : Vec Ideal S1x4x512x256 .bf16) = f := by
  funext y
  refine View.canon_apply_of_pieces (Val := Elt Ideal) (e := .bf16) f _ (fun p hp => ?_) y ?_
  · simp only [List.mem_cons, List.not_mem_nil, or_false] at hp
    rcases hp with rfl | rfl | rfl | rfl
    · exact quarter f 3 (by norm_num) inb_S1x4x512x256_S1x1x512x256_0_3_0_0 p3 h3
    · exact quarter f 2 (by norm_num) inb_S1x4x512x256_S1x1x512x256_0_2_0_0 p2 h2
    · exact quarter f 1 (by norm_num) inb_S1x4x512x256_S1x1x512x256_0_1_0_0 p1 h1
    · exact quarter f 0 (by norm_num) inb_S1x4x512x256_S1x1x512x256_0_0_0_0 p0 h0
  · have hy1 : (y 1).val < 4 := (y 1).isLt
    have go : ∀ (n : Nat) (inb : ∀ a, (![0, n, 0, 0] : Fin 4 → Nat) a + S1x1x512x256.size a ≤ S1x4x512x256.size a), (y 1).val = n → y ∈ (Rect.unit (s := S1x4x512x256) ![0, n, 0, 0] S1x1x512x256.size inb).set :=
      fun n inb e => (Rect.mem_set_unit (inb := inb)).2 fun z => by
        match z with
        | 0 => exact ⟨Nat.zero_le _, (y 0).isLt⟩
        | 1 => exact ⟨by show n ≤ (y 1).val; omega, by show (y 1).val < n + 1; omega⟩
        | 2 => exact ⟨Nat.zero_le _, (y 2).isLt⟩
        | 3 => exact ⟨Nat.zero_le _, (y 3).isLt⟩
    have hc : (y 1).val = 3 ∨ (y 1).val = 2 ∨ (y 1).val = 1 ∨ (y 1).val = 0 := by omega
    rcases hc with e | e | e | e
    · exact ⟨_, List.mem_cons_self .., go 3 inb_S1x4x512x256_S1x1x512x256_0_3_0_0 e⟩
    · exact ⟨_, List.mem_cons_of_mem _ (List.mem_cons_self ..), go 2 inb_S1x4x512x256_S1x1x512x256_0_2_0_0 e⟩
    · exact ⟨_, List.mem_cons_of_mem _ (List.mem_cons_of_mem _ (List.mem_cons_self ..)), go 1 inb_S1x4x512x256_S1x1x512x256_0_1_0_0 e⟩
    · exact ⟨_, List.mem_cons_of_mem _ (List.mem_cons_of_mem _ (List.mem_cons_of_mem _ (List.mem_cons_self ..))), go 0 inb_S1x4x512x256_S1x1x512x256_0_0_0_0 e⟩

/-- The carried rows: the last whole store is what is left. -/
theorem whole8 (f : S8x512.Idx → EReal) (p : FVec Ideal S8x512 .f32) (Ls : List (View.Piece (Elt Ideal) S8x512 .f32)) (h : ∀ (r : Fin 8) (c : Fin 512), p (ix2 r c) = f (ix2 r c)) :
    (View.canon (Val := Elt Ideal) (e := .f32) (⟨Rect.unit (s := S8x512) ![0, 0] S8x512.size inb_S8x512_S8x512_0_0, p⟩ :: Ls) : Vec Ideal S8x512 .f32) = f := by
  rw [View.canon_cons_unit_lit' _ _ _ (by decide)]
  funext y
  obtain ⟨r, c, rfl⟩ : ∃ (r : Fin 8) (c : Fin 512), y = ix2 r c := ⟨y 0, y 1, ValueIdx.eq_ix2 y⟩
  exact h r c

end Cert.ProjIdeal.Body
-- ==== Proof.ProjOut.lean ====
module
public import proofs.«01_k».proof.Proof.Gen.ProjIdeal.Value
public import proofs.«01_k».proof.Proof.ProjHalf
/-! What one run of the input projection's body leaves in each block: `A` at a sequence's first point, `B` elsewhere. -/
@[expose] public section
noncomputable section
open Idealize.ShloMosaic Idealize.ShloMosaic.TcCoe Idealize.SL.Sem
namespace Cert.ProjIdeal.Body
open Cert.ProjIdeal Cert.ProjIdeal.Gen Cert.ProjRow

/-- The zeros stored at a sequence's start, read back. -/
theorem tailA (c : Dev nD) (arg18 : Memref sig .tc .vmem S8x512 .f32) (q : Fin 8) (j : Fin 512) : (kernelRun0_A.sl.v50 (F := Ideal) c arg18 : FVec Ideal S8x512 .f32) (ix2 q j) = 0 := by
  have e : (kernelRun0_A.sl.v50 (F := Ideal) c arg18 : FVec Ideal S8x512 .f32) = k0_pay1 (F := Ideal) := by
    unfold kernelRun0_A.sl.v50 kernelRun0_A.sl.HS0_1
    exact View.readCov_unit_lit' (Val := Elt Ideal) (S := S8x512) (e := .f32) arg18.view inb_S8x512_S8x512_0_0 (k0_pay1 (F := Ideal)) (by decide)
  rw [e]
  exact tail3 q j

theorem oA9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b9 x0 x1 x2 x3 x4 x5) := by
  unfold out0_A_9
  rw [View.read_writes_junk_eq_canon]
  exact halves _ _ _ (fun r j z hz => hi9 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 0) arg3 harg3 x2 inb_S1024x3200_S1024x512_0_0) (ld32 (A := 1024) (B := 128) (n := 512) (m := 128) (o := 512) (q := 0) arg4 harg4 x3 inb_S1024x128_S512x128_512_0) (ld32 (A := 1024) (B := 128) (n := 512) (m := 128) (o := 512) (q := 0) arg5 harg5 x4 inb_S1024x128_S512x128_512_0) (ld32 (A := 1024) (B := 128) (n := 512) (m := 128) (o := 512) (q := 0) arg6 harg6 x5 inb_S1024x128_S512x128_512_0) r j z hz) (fun r j z hz => lo9 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 0) arg3 harg3 x2 inb_S1024x3200_S1024x512_0_0) (ld32 (A := 1024) (B := 128) (n := 512) (m := 128) (o := 0) (q := 0) arg4 harg4 x3 inb_S1024x128_S512x128_0_0) (ld32 (A := 1024) (B := 128) (n := 512) (m := 128) (o := 0) (q := 0) arg5 harg5 x4 inb_S1024x128_S512x128_0_0) (ld32 (A := 1024) (B := 128) (n := 512) (m := 128) (o := 0) (q := 0) arg6 harg6 x5 inb_S1024x128_S512x128_0_0) r j z hz)

theorem oA10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b10 x0 x1 x2 x3 x4 x5) := by
  unfold out0_A_10
  rw [View.read_writes_junk_eq_canon]
  exact halves _ _ _ (fun r j z hz => hi10 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 512) arg3 harg3 x2 inb_S1024x3200_S1024x512_0_512) (ld32 (A := 1024) (B := 128) (n := 512) (m := 128) (o := 512) (q := 0) arg4 harg4 x3 inb_S1024x128_S512x128_512_0) (ld32 (A := 1024) (B := 128) (n := 512) (m := 128) (o := 512) (q := 0) arg5 harg5 x4 inb_S1024x128_S512x128_512_0) (ld32 (A := 1024) (B := 128) (n := 512) (m := 128) (o := 512) (q := 0) arg6 harg6 x5 inb_S1024x128_S512x128_512_0) r j z hz) (fun r j z hz => lo10 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 512) arg3 harg3 x2 inb_S1024x3200_S1024x512_0_512) (ld32 (A := 1024) (B := 128) (n := 512) (m := 128) (o := 0) (q := 0) arg4 harg4 x3 inb_S1024x128_S512x128_0_0) (ld32 (A := 1024) (B := 128) (n := 512) (m := 128) (o := 0) (q := 0) arg5 harg5 x4 inb_S1024x128_S512x128_0_0) (ld32 (A := 1024) (B := 128) (n := 512) (m := 128) (o := 0) (q := 0) arg6 harg6 x5 inb_S1024x128_S512x128_0_0) r j z hz)

theorem oA11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b11 x0 x1 x2) := by
  unfold out0_A_11
  rw [View.read_writes_junk_eq_canon]
  exact halves _ _ _ (fun r j z hz => hi11 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1024) arg3 harg3 x2 inb_S1024x3200_S1024x512_0_1024) r j z hz) (fun r j z hz => lo11 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1024) arg3 harg3 x2 inb_S1024x3200_S1024x512_0_1024) r j z hz)

theorem oA12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b12 x0 x1 x2 x6 x7 x8 (fun _ _ => 0)) := by
  unfold out0_A_12
  rw [View.read_writes_junk_eq_canon]
  exact halves _ _ _ (fun r j z hz => hi12 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (ld32 (A := 1) (B := 512) (n := 1) (m := 512) (o := 0) (q := 0) arg9 harg9 x8 inb_S1x512_S1x512_0_0) r j z hz) (fun r j z hz => lo12 (T := fun _ _ => 0) (t := kernelRun0_A.sl.v50 (F := Ideal) c arg18) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (ld32 (A := 1) (B := 512) (n := 1) (m := 512) (o := 0) (q := 0) arg9 harg9 x8 inb_S1x512_S1x512_0_0) (tailA c arg18) r j z hz)

theorem oA13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b13 x0 x1 x2 x6 x7 (fun _ _ => 0)) := by
  unfold out0_A_13
  rw [View.read_writes_junk_eq_canon]
  exact halves _ _ _ (fun r j z hz => hi13 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) r j z hz) (fun r j z hz => lo13 (T := fun _ _ => 0) (t := kernelRun0_A.sl.v50 (F := Ideal) c arg18) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (tailA c arg18) r j z hz)

theorem oA14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1x4x512x256 .bf16) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b14 x0 x1 x2) := by
  unfold out0_A_14
  rw [View.read_writes_junk_eq_canon]
  exact quarters _ _ _ _ _ (fun c r z hz => p3_14 (o := 512) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p2_14 (o := 512) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p1_14 (o := 0) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p0_14 (o := 0) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega))

theorem oA15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1024x512 .bf16) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b15 x0 x1 x2) := by
  unfold out0_A_15
  rw [View.read_writes_junk_eq_canon]
  exact halves _ _ _ (fun r j z hz => hi15 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2560) arg3 harg3 x2 inb_S1024x3200_S1024x512_0_2560) r j z hz) (fun r j z hz => lo15 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2560) arg3 harg3 x2 inb_S1024x3200_S1024x512_0_2560) r j z hz)

theorem oA16 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S1x8x1024 .f32) (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (b16 x0 x1 x2) := by
  unfold out0_A_16
  rw [View.read_writes_junk_eq_canon]
  exact halves3 _ _ _ (fun r j z hz => hi16 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 128) (o := 0) (q := 3072) arg3 harg3 x2 inb_S1024x3200_S1024x128_0_3072) r j z hz) (fun r j z hz => lo16 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 128) (o := 0) (q := 3072) arg3 harg3 x2 inb_S1024x3200_S1024x128_0_3072) r j z hz)

theorem oAs (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) :
    @Eq (Vec Ideal S8x512 .f32) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8) (bs x0 x1 x2) := by
  unfold sout0_A_0
  rw [View.read_writes_junk_eq_canon]
  exact whole8 _ _ _ (fun r c => scr (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) r c)

theorem oB9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b9 x0 x1 x2 x3 x4 x5) := by
  unfold out0_B_9
  rw [View.read_writes_junk_eq_canon]
  exact halves _ _ _ (fun r j z hz => hi9 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 0) arg3 harg3 x2 inb_S1024x3200_S1024x512_0_0) (ld32 (A := 1024) (B := 128) (n := 512) (m := 128) (o := 512) (q := 0) arg4 harg4 x3 inb_S1024x128_S512x128_512_0) (ld32 (A := 1024) (B := 128) (n := 512) (m := 128) (o := 512) (q := 0) arg5 harg5 x4 inb_S1024x128_S512x128_512_0) (ld32 (A := 1024) (B := 128) (n := 512) (m := 128) (o := 512) (q := 0) arg6 harg6 x5 inb_S1024x128_S512x128_512_0) r j z hz) (fun r j z hz => lo9 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 0) arg3 harg3 x2 inb_S1024x3200_S1024x512_0_0) (ld32 (A := 1024) (B := 128) (n := 512) (m := 128) (o := 0) (q := 0) arg4 harg4 x3 inb_S1024x128_S512x128_0_0) (ld32 (A := 1024) (B := 128) (n := 512) (m := 128) (o := 0) (q := 0) arg5 harg5 x4 inb_S1024x128_S512x128_0_0) (ld32 (A := 1024) (B := 128) (n := 512) (m := 128) (o := 0) (q := 0) arg6 harg6 x5 inb_S1024x128_S512x128_0_0) r j z hz)

theorem oB10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b10 x0 x1 x2 x3 x4 x5) := by
  unfold out0_B_10
  rw [View.read_writes_junk_eq_canon]
  exact halves _ _ _ (fun r j z hz => hi10 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 512) arg3 harg3 x2 inb_S1024x3200_S1024x512_0_512) (ld32 (A := 1024) (B := 128) (n := 512) (m := 128) (o := 512) (q := 0) arg4 harg4 x3 inb_S1024x128_S512x128_512_0) (ld32 (A := 1024) (B := 128) (n := 512) (m := 128) (o := 512) (q := 0) arg5 harg5 x4 inb_S1024x128_S512x128_512_0) (ld32 (A := 1024) (B := 128) (n := 512) (m := 128) (o := 512) (q := 0) arg6 harg6 x5 inb_S1024x128_S512x128_512_0) r j z hz) (fun r j z hz => lo10 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 512) arg3 harg3 x2 inb_S1024x3200_S1024x512_0_512) (ld32 (A := 1024) (B := 128) (n := 512) (m := 128) (o := 0) (q := 0) arg4 harg4 x3 inb_S1024x128_S512x128_0_0) (ld32 (A := 1024) (B := 128) (n := 512) (m := 128) (o := 0) (q := 0) arg5 harg5 x4 inb_S1024x128_S512x128_0_0) (ld32 (A := 1024) (B := 128) (n := 512) (m := 128) (o := 0) (q := 0) arg6 harg6 x5 inb_S1024x128_S512x128_0_0) r j z hz)

theorem oB11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b11 x0 x1 x2) := by
  unfold out0_B_11
  rw [View.read_writes_junk_eq_canon]
  exact halves _ _ _ (fun r j z hz => hi11 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1024) arg3 harg3 x2 inb_S1024x3200_S1024x512_0_1024) r j z hz) (fun r j z hz => lo11 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1024) arg3 harg3 x2 inb_S1024x3200_S1024x512_0_1024) r j z hz)

theorem oB12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b12 x0 x1 x2 x6 x7 x8 (at2 xs0)) := by
  unfold out0_B_12
  rw [View.read_writes_junk_eq_canon]
  exact halves _ _ _ (fun r j z hz => hi12 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (ld32 (A := 1) (B := 512) (n := 1) (m := 512) (o := 0) (q := 0) arg9 harg9 x8 inb_S1x512_S1x512_0_0) r j z hz) (fun r j z hz => lo12 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (ld32 (A := 1) (B := 512) (n := 1) (m := 512) (o := 0) (q := 0) arg9 harg9 x8 inb_S1x512_S1x512_0_0) (fun q j => (ld32 (A := 8) (B := 512) (n := 8) (m := 512) (o := 0) (q := 0) arg18 harg18 xs0 inb_S8x512_S8x512_0_0 q j).trans (by simp only [Nat.zero_add])) r j z hz)

theorem oB13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b13 x0 x1 x2 x6 x7 (at2 xs0)) := by
  unfold out0_B_13
  rw [View.read_writes_junk_eq_canon]
  exact halves _ _ _ (fun r j z hz => hi13 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) r j z hz) (fun r j z hz => lo13 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) (ld32 (A := 4) (B := 512) (n := 4) (m := 512) (o := 0) (q := 0) arg7 harg7 x6 inb_S4x512_S4x512_0_0) (ld32 (A := 1) (B := 512) (n := 1) (m := 512) (o := 0) (q := 0) arg8 harg8 x7 inb_S1x512_S1x512_0_0) (fun q j => (ld32 (A := 8) (B := 512) (n := 8) (m := 512) (o := 0) (q := 0) arg18 harg18 xs0 inb_S8x512_S8x512_0_0 q j).trans (by simp only [Nat.zero_add])) r j z hz)

theorem oB14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1x4x512x256 .bf16) (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b14 x0 x1 x2) := by
  unfold out0_B_14
  rw [View.read_writes_junk_eq_canon]
  exact quarters _ _ _ _ _ (fun c r z hz => p3_14 (o := 512) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p2_14 (o := 512) (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p1_14 (o := 0) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega)) (fun c r z hz => p0_14 (o := 0) (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2048) arg3 harg3 x2 inb_S1024x3200_S1024x512_0_2048) c r z (by omega))

theorem oB15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1024x512 .bf16) (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b15 x0 x1 x2) := by
  unfold out0_B_15
  rw [View.read_writes_junk_eq_canon]
  exact halves _ _ _ (fun r j z hz => hi15 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 2560) arg3 harg3 x2 inb_S1024x3200_S1024x512_0_2560) r j z hz) (fun r j z hz => lo15 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 512) (o := 0) (q := 2560) arg3 harg3 x2 inb_S1024x3200_S1024x512_0_2560) r j z hz)

theorem oB16 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S1x8x1024 .f32) (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (b16 x0 x1 x2) := by
  unfold out0_B_16
  rw [View.read_writes_junk_eq_canon]
  exact halves3 _ _ _ (fun r j z hz => hi16 (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 128) (o := 0) (q := 3072) arg3 harg3 x2 inb_S1024x3200_S1024x128_0_3072) r j z hz) (fun r j z hz => lo16 (nm5 (ld32 (A := 1024) (B := 1024) (n := 512) (m := 1024) (o := 0) (q := 0) arg1 harg1 x0 inb_S1024x1024_S512x1024_0_0) (ld32 (A := 1) (B := 1024) (n := 1) (m := 1024) (o := 0) (q := 0) arg2 harg2 x1 inb_S1x1024_S1x1024_0_0)) (ld16 (A := 1024) (B := 3200) (n := 1024) (m := 128) (o := 0) (q := 3072) arg3 harg3 x2 inb_S1024x3200_S1024x128_0_3072) r j z hz)

theorem oBs (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1x4x512x256 .bf16) (harg15 : arg15.IsWhole) (arg16 : Memref sig .tc .vmem S1024x512 .bf16) (harg16 : arg16.IsWhole) (arg17 : Memref sig .tc .vmem S1x8x1024 .f32) (harg17 : arg17.IsWhole) (arg18 : Memref sig .tc .vmem S8x512 .f32) (harg18 : arg18.IsWhole) (hc0 : ¬cond0_0 i)
    (x0 : Vec Ideal S1024x1024 .f32) (x1 : Vec Ideal S1x1024 .f32) (x2 : Vec Ideal S1024x3200 .bf16) (x3 : Vec Ideal S1024x128 .f32) (x4 : Vec Ideal S1024x128 .f32) (x5 : Vec Ideal S1024x128 .f32) (x6 : Vec Ideal S4x512 .f32) (x7 : Vec Ideal S1x512 .f32) (x8 : Vec Ideal S1x512 .f32) (xs0 : Vec Ideal S8x512 .f32) :
    @Eq (Vec Ideal S8x512 .f32) (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0) (bs x0 x1 x2) := by
  unfold sout0_B_0
  rw [View.read_writes_junk_eq_canon]
  exact whole8 _ _ _ (fun r c => scr (nm8 (ld32 (A := 1024) (B := 1024) (n := 512) (m := 1024) (o := 512) (q := 0) arg1 harg1 x0 inb_S1024x1024_S512x1024_512_0) (ld32 (A := 1) (B := 1024) (n := 1) (m := 1024) (o := 0) (q := 0) arg2 harg2 x1 inb_S1x1024_S1x1024_0_0)) (ld16 (A := 1024) (B := 3200) (n := 1024) (m := 512) (o := 0) (q := 1536) arg3 harg3 x2 inb_S1024x3200_S1024x512_0_1536) r c)

end Cert.ProjIdeal.Body
-- ==== Proof.ProjMath.lean ====
module
public import proofs.«01_k».proof.Proof.ProjRow
/-! The input projection's results as functions of its arguments, entry by entry. -/
@[expose] public section
noncomputable section
open Idealize.ShloMosaic
namespace Cert.ProjRow

/-- A rank-three entry by natural numbers; zero off the end. -/
def at3 {A B C : Nat} (x : (⟨3, ![A, B, C]⟩ : Shape).Idx → EReal) (a b c : Nat) : EReal := if h : a < A ∧ b < B ∧ c < C then x (ix3 ⟨a, h.1⟩ ⟨b, h.2.1⟩ ⟨c, h.2.2⟩) else 0
theorem at3_of {A B C : Nat} (x : (⟨3, ![A, B, C]⟩ : Shape).Idx → EReal) (a : Fin A) (b : Fin B) (c : Fin C) : x (ix3 a b c) = at3 x a.val b.val c.val := by
  rw [at3, dif_pos ⟨a.isLt, b.isLt, c.isLt⟩]
/-- The channel a head's lane holds when its query and its key stand side by side. -/
def src (u : Nat) : Nat := if u % 128 < 64 then 64 * (u / 128) + u % 128 else 256 + (64 * (u / 128) + (u % 128 - 64))
/-- The weight's column at which the call's column `c` stands. -/
def colOf (c : Nat) : Nat := if c < 1536 then c else if c < 2048 then 1536 + src (c - 1536) else c
theorem src_lt {u : Nat} (h : u < 512) : src u < 512 := by unfold src; split <;> omega

variable (a0 : (⟨3, ![32, 2048, 1024]⟩ : Shape).Idx → EReal) (a1 : (⟨2, ![1, 1024]⟩ : Shape).Idx → EReal) (a2 : (⟨3, ![1, 1024, 3080]⟩ : Shape).Idx → EReal)
  (a3 : (⟨3, ![1, 4, 512]⟩ : Shape).Idx → EReal) (a4 : (⟨2, ![1, 512]⟩ : Shape).Idx → EReal) (cs sn : Nat → Nat → EReal)

/-- Row `i` of the flattened batch, projected to column `c`. -/
def prj (i c : Nat) : EReal := proj (fun k => at3 a0 (i / 2048) (i % 2048) k.val) (fun k => at2 a1 0 k.val) (at3 a2 0) c
/-- Two halves of 64 columns turned by the position's angles. -/
def turned (d : Nat → EReal) (cs sn : Nat → EReal) (c : Nat) : EReal :=
  if c % 64 < 32 then d c * cs (c % 64) - d (c + 32) * sn (c % 64) else d c * cs (c % 64 - 32) + d (c - 32) * sn (c % 64 - 32)
/-- The queries' scale: the softmax's, and the change of the exponential's base to two. -/
def qk2 : EReal := (((1 / 8) * (Real.log 2)⁻¹ : ℝ) : EReal)
def tq (i j : Nat) : EReal := turned (prj a0 a1 a2 i) (cs (i % 2048)) (sn (i % 2048)) j * qk2
def tk (i j : Nat) : EReal := turned (fun c => prj a0 a1 a2 i (512 + c)) (cs (i % 2048)) (sn (i % 2048)) j
def tv (i j : Nat) : EReal := prj a0 a1 a2 i (1024 + j)
/-- The activated convolution's channel `d`; before a sequence's start stand zeros. -/
def ty (i d : Nat) : EReal :=
  silu (conv (at2 a4 0 d) (at3 a3 0 0 d) (at3 a3 0 1 d) (at3 a3 0 2 d) (at3 a3 0 3 d) fun k => if i % 2048 < k then 0 else prj a0 a1 a2 (i - k) (1536 + d))
def tqm (i u : Nat) : EReal := if u % 128 < 64 then ty a0 a1 a2 a3 a4 i (64 * (u / 128) + u % 128) * Ideal.ofBits .f32 0x3E000000#32 else 0
def tkq (i u : Nat) : EReal := ty a0 a1 a2 a3 a4 i (if u % 128 < 64 then 256 + (64 * (u / 128) + u % 128) else 64 * (u / 128) + (u % 128 - 64))
def tmv (b h e s : Nat) : EReal := prj a0 a1 a2 (2048 * b + (256 * h + s)) (2048 + e)
def tog (i j : Nat) : EReal := Ideal.logistic (prj a0 a1 a2 i (2560 + j))
def tg (b r s : Nat) : EReal := prj a0 a1 a2 (2048 * b + s) (3072 + r)

variable {cs sn}

/-- The rotation by a full head's tables, zero where a half has no partner there, is the turning of its halves. -/
theorem rope_turned (d d' : Nat → EReal) (co up dn : Nat → EReal) (cs sn : Nat → EReal) (hd : ∀ c, c < 512 → d c = d' c)
    (hc : ∀ l, l < 128 → co l = cs (l % 32)) (hu : ∀ l, l < 128 → up l = if l % 64 < 32 then -sn (l % 32) else 0) (hn : ∀ l, l < 128 → dn l = if l % 64 < 32 then 0 else sn (l % 32)) {c : Nat} (h : c < 512) :
    rope d co up dn c = turned d' cs sn c := by
  have hm : c % 128 < 128 := Nat.mod_lt _ (by norm_num)
  unfold rope turned
  rw [hc _ hm, hu _ hm, hn _ hm, hd c h]
  by_cases h0 : c % 64 < 32
  · rw [if_pos (show c % 128 % 64 < 32 by omega), if_pos (show c % 128 % 64 < 32 by omega), if_pos h0, mul_zero, add_zero, mul_neg, ← sub_eq_add_neg,
      show lane c (c + 32) = c + 32 by unfold lane; omega, hd (c + 32) (by omega), show c % 128 % 32 = c % 64 by omega]
  · rw [if_neg (show ¬ c % 128 % 64 < 32 by omega), if_neg (show ¬ c % 128 % 64 < 32 by omega), if_neg h0, mul_zero, add_zero,
      show lane c (c + 96) = c - 32 by unfold lane; omega, hd (c - 32) (by omega), show c % 128 % 32 = c % 64 - 32 by omega]

end Cert.ProjRow
-- ==== Proof.ProjHost.lean ====
module
public import proofs.«01_k».proof.Proof.ProjOut
public import proofs.«01_k».proof.Proof.ProjMath
public import Idealize.ShloMosaic.Lib.Claim
public import Idealize.ShloMosaic.Lib.Tactic
/-! The arrays the host prepares for the input projection's call, from the arguments. -/
@[expose] public section
noncomputable section
open Idealize.ShloMosaic Idealize.ShloMosaic.TcCoe Idealize.SL.Sem

namespace Cert.ProjIdeal.Value
open Cert.ProjIdeal Cert.ProjIdeal.Gen Cert.ProjRow

/-- The angles of the rotation: position by frequency. -/
def angV : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
          (broadcastInDim S32 ![] bcast_S_S32 (constant S_ .f32 0x42800000#32))))))
def cosV : FVec Ideal S2048x32 .f32 := Host.cos angV
def sinV : FVec Ideal S2048x32 .f32 := Host.sin angV

/-- Two half tables side by side, twice over. -/
def tile (u v : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, u⟩, ⟨S2048x32, v⟩] concatenates_S2048x32_S2048x32_S2048x64_d1) shapeCasts_S2048x64_S1x2048x1x64)) shapeCasts_S1x2048x2x64_S2048x128
theorem tile_apply (u v : FVec Ideal S2048x32 .f32) (s : Fin 2048) (l : Fin 128) :
    tile u v (ix2 s l) = if l.val % 64 < 32 then u (ix2 s ⟨l.val % 32, by omega⟩) else v (ix2 s ⟨l.val % 32, by omega⟩) := by
  pointwise [tile]
  by_cases h : l.val % 64 < 32
  · rw [dif_pos h, if_pos h]
    exact congrArg u (congrArg (ix2 s) (Fin.ext (show l.val % 64 = l.val % 32 by omega)))
  · rw [dif_neg h, if_neg h]
    exact congrArg v (congrArg (ix2 s) (Fin.ext (show l.val % 64 - 32 = l.val % 32 by omega)))
def zeroV : FVec Ideal S2048x32 .f32 := broadcastInDim S2048x32 ![] bcast_S_S2048x32 (constant S_ .f32 0x00000000#32)

/-- A channel array's two halves, head by head side by side: over rows. -/
def inter (w : FVec Ideal S1024x512 .f32) : FVec Ideal S1024x512 .f32 :=
  shapeCast S1024x512 (concatenate S1024x4x128 2 [⟨S1024x4x64, shapeCast S1024x4x64 (extractStridedSlice S1024x256 ![0, 0] w slices_S1024x512_S1024x256_0_0) shapeCasts_S1024x256_S1024x4x64⟩,
    ⟨S1024x4x64, shapeCast S1024x4x64 (extractStridedSlice S1024x256 ![0, 256] w slices_S1024x512_S1024x256_0_256) shapeCasts_S1024x256_S1024x4x64⟩] concatenates_S1024x4x64_S1024x4x64_S1024x4x128_d2) shapeCasts_S1024x4x128_S1024x512
theorem inter_apply (w : FVec Ideal S1024x512 .f32) (k : Fin 1024) (u : Fin 512) : inter w (ix2 k u) = at2 w k.val (src u.val) := by
  pointwise [inter]
  unfold src at2
  by_cases h : u.val % 128 < 64
  · rw [dif_pos h, if_pos h, dif_pos ⟨k.isLt, by omega⟩]
    exact congrArg w (congrArg (ix2 k) (Fin.ext (show u.val / 128 * 64 + u.val % 128 = 64 * (u.val / 128) + u.val % 128 by omega)))
  · rw [dif_neg h, if_neg h, dif_pos ⟨k.isLt, by omega⟩]
    exact congrArg w (congrArg (ix2 k) (Fin.ext (show 256 + (u.val / 128 * 64 + (u.val % 128 - 64)) = 256 + (64 * (u.val / 128) + (u.val % 128 - 64)) by omega)))
def inter4 (w : FVec Ideal S4x512 .f32) : FVec Ideal S4x512 .f32 :=
  shapeCast S4x512 (concatenate S4x4x128 2 [⟨S4x4x64, shapeCast S4x4x64 (extractStridedSlice S4x256 ![0, 0] w slices_S4x512_S4x256_0_0) shapeCasts_S4x256_S4x4x64⟩,
    ⟨S4x4x64, shapeCast S4x4x64 (extractStridedSlice S4x256 ![0, 256] w slices_S4x512_S4x256_0_256) shapeCasts_S4x256_S4x4x64⟩] concatenates_S4x4x64_S4x4x64_S4x4x128_d2) shapeCasts_S4x4x128_S4x512
theorem inter4_apply (w : FVec Ideal S4x512 .f32) (k : Fin 4) (u : Fin 512) : inter4 w (ix2 k u) = at2 w k.val (src u.val) := by
  pointwise [inter4]
  unfold src at2
  by_cases h : u.val % 128 < 64
  · rw [dif_pos h, if_pos h, dif_pos ⟨k.isLt, by omega⟩]
    exact congrArg w (congrArg (ix2 k) (Fin.ext (show u.val / 128 * 64 + u.val % 128 = 64 * (u.val / 128) + u.val % 128 by omega)))
  · rw [dif_neg h, if_neg h, dif_pos ⟨k.isLt, by omega⟩]
    exact congrArg w (congrArg (ix2 k) (Fin.ext (show 256 + (u.val / 128 * 64 + (u.val % 128 - 64)) = 256 + (64 * (u.val / 128) + (u.val % 128 - 64)) by omega)))
def inter1 (w : FVec Ideal S512 .f32) : FVec Ideal S1x512 .f32 :=
  broadcastInDim S1x512 ![1] bcast_S512_S1x512_1 (shapeCast S512 (concatenate S4x128 1 [⟨S4x64, shapeCast S4x64 (extractStridedSlice S256 ![0] w slices_S512_S256_0) shapeCasts_S256_S4x64⟩,
    ⟨S4x64, shapeCast S4x64 (extractStridedSlice S256 ![256] w slices_S512_S256_256) shapeCasts_S256_S4x64⟩] concatenates_S4x64_S4x64_S4x128_d1) shapeCasts_S4x128_S512)
theorem inter1_apply (w : FVec Ideal S512 .f32) (u : Fin 512) : inter1 w (ix2 0 u) = if h : u.val % 128 < 64 then w (ix1 ⟨64 * (u.val / 128) + u.val % 128, by omega⟩) else w (ix1 ⟨256 + (64 * (u.val / 128) + (u.val % 128 - 64)), by omega⟩) := by
  pointwise [inter1]
  by_cases h : u.val % 128 < 64
  · rw [dif_pos h, dif_pos h]
    exact congrArg w (congrArg ix1 (Fin.ext (show u.val / 128 * 64 + u.val % 128 = 64 * (u.val / 128) + u.val % 128 by omega)))
  · rw [dif_neg h, dif_neg h]
    exact congrArg w (congrArg ix1 (Fin.ext (show 256 + (u.val / 128 * 64 + (u.val % 128 - 64)) = 256 + (64 * (u.val / 128) + (u.val % 128 - 64)) by omega)))
def wide (w : FVec Ideal S1024x3080 .f32) : FVec Ideal S1024x3200 .bf16 :=
  truncf .bf16 (concatenate S1024x3200 1 [⟨S1024x1536, extractStridedSlice S1024x1536 ![0, 0] w slices_S1024x3080_S1024x1536_0_0⟩,
    ⟨S1024x512, inter (extractStridedSlice S1024x512 ![0, 1536] w slices_S1024x3080_S1024x512_0_1536)⟩, ⟨S1024x1024, extractStridedSlice S1024x1024 ![0, 2048] w slices_S1024x3080_S1024x1024_0_2048⟩,
    ⟨S1024x128, pad S1024x128 ![0, 0] ![0, 120] ![0, 0] (extractStridedSlice S1024x8 ![0, 3072] w slices_S1024x3080_S1024x8_0_3072) (sitofp .f32 (constantI S_ 32 0#32)) pads_S1024x8_S1024x128_000_01200 h_S_⟩]
    concatenates_S1024x1536_S1024x512_S1024x1024_S1024x128_S1024x3200_d1) bitsLt_bf16_f32

theorem wide_apply (w : FVec Ideal S1024x3080 .f32) (k : Fin 1024) (c : Nat) (hc : c < 3080) : wide w (ix2 k ⟨c, by omega⟩) = at2 w k.val (colOf c) := by
  unfold wide
  generalize hp : (pad S1024x128 ![0, 0] ![0, 120] ![0, 0] (extractStridedSlice S1024x8 ![0, 3072] w slices_S1024x3080_S1024x8_0_3072) (sitofp .f32 (constantI S_ 32 0#32)) pads_S1024x8_S1024x128_000_01200 h_S_ : FVec Ideal S1024x128 .f32) = p
  have hpa : ∀ (k : Fin 1024) (j : Fin 8), p (ix2 k ⟨j.val, by omega⟩) = w (ix2 k ⟨3072 + j.val, by omega⟩) := by
    intro k j
    rw [← hp]
    pointwise
  generalize hq : inter (extractStridedSlice S1024x512 ![0, 1536] w slices_S1024x3080_S1024x512_0_1536) = q
  have hqa : ∀ (k : Fin 1024) (u : Fin 512), q (ix2 k u) = at2 w k.val (1536 + src u.val) := by
    intro k u
    rw [← hq, inter_apply]
    have hs : src u.val < 512 := by unfold src; split <;> omega
    unfold at2
    rw [dif_pos ⟨k.isLt, hs⟩, dif_pos ⟨k.isLt, by omega⟩]
    pointwise
  pointwise
  unfold colOf
  by_cases h1 : c < 1536
  · rw [dif_pos h1, if_pos h1, show at2 w k.val c = w (ix2 k ⟨c, hc⟩) from (at2_of w k ⟨c, hc⟩).symm]
  · rw [dif_neg h1, if_neg h1]
    by_cases h2 : c < 2048
    · rw [dif_pos (show c - 1536 < 512 by omega), if_pos h2]
      exact hqa k ⟨c - 1536, by omega⟩
    · rw [dif_neg (show ¬ c - 1536 < 512 by omega), if_neg h2, show at2 w k.val c = w (ix2 k ⟨c, hc⟩) from (at2_of w k ⟨c, hc⟩).symm]
      by_cases h3 : c < 3072
      · rw [dif_pos (show c - 1536 - 512 < 1024 by omega)]
        exact congrArg w (congrArg (ix2 k) (Fin.ext (show 2048 + (c - 1536 - 512) = c by omega)))
      · rw [dif_neg (show ¬ c - 1536 - 512 < 1024 by omega)]
        exact (hpa k ⟨c - 1536 - 512 - 1024, by omega⟩).trans (congrArg w (congrArg (ix2 k) (Fin.ext (show 3072 + (c - 1536 - 512 - 1024) = c by omega))))

variable (m : (ℓ : Loc nD τ sig) → Buf (Elt Ideal) ℓ)

theorem V0 (c : Dev nD) : (V m c main_v0 : FVec Ideal S65536x1024 .f32) = shapeCast S65536x1024 (m ((c : Thread nD τ).loc main_arg0) : FVec Ideal S32x2048x1024 .f32) shapeCasts_S32x2048x1024_S65536x1024 := by
  unfold_abbrev_sides
  simp only [List.flatten_cons, List.flatten_nil, List.append_nil, List.cons_append, List.nil_append]
  after_results
  rfl
theorem V74 (c : Dev nD) : (V m c main_v74 : FVec Ideal S1x1024 .f32) = broadcastInDim S1x1024 ![1] bcast_S1024_S1x1024_1 (shapeCast S1024 (m ((c : Thread nD τ).loc main_arg1) : FVec Ideal S1x1024 .f32) shapeCasts_S1x1024_S1024) := by
  unfold_abbrev_sides
  simp only [List.flatten_cons, List.flatten_nil, List.append_nil, List.cons_append, List.nil_append]
  after_results
  rfl
theorem V14 (c : Dev nD) : (V m c main_v14 : FVec Ideal S1024x3200 .bf16) = wide (shapeCast S1024x3080 (m ((c : Thread nD τ).loc main_arg2) : FVec Ideal S1x1024x3080 .f32) shapeCasts_S1x1024x3080_S1024x3080) := by
  unfold_abbrev_sides
  simp only [List.flatten_cons, List.flatten_nil, List.append_nil, List.cons_append, List.nil_append]
  after_results
  rfl
theorem V63 (c : Dev nD) : (V m c main_v63 : FVec Ideal S2048x128 .f32) = tile cosV cosV := by
  unfold_abbrev_sides
  simp only [List.flatten_cons, List.flatten_nil, List.append_nil, List.cons_append, List.nil_append]
  after_results
  rfl
theorem V68 (c : Dev nD) : (V m c main_v68 : FVec Ideal S2048x128 .f32) = tile (Host.negf sinV) zeroV := by
  unfold_abbrev_sides
  simp only [List.flatten_cons, List.flatten_nil, List.append_nil, List.cons_append, List.nil_append]
  after_results
  rfl
theorem V72 (c : Dev nD) : (V m c main_v72 : FVec Ideal S2048x128 .f32) = tile zeroV sinV := by
  unfold_abbrev_sides
  simp only [List.flatten_cons, List.flatten_nil, List.append_nil, List.cons_append, List.nil_append]
  after_results
  rfl
theorem V21 (c : Dev nD) : (V m c main_v21 : FVec Ideal S4x512 .f32) = inter4 (shapeCast S4x512 (m ((c : Thread nD τ).loc main_arg3) : FVec Ideal S1x4x512 .f32) shapeCasts_S1x4x512_S4x512) := by
  unfold_abbrev_sides
  simp only [List.flatten_cons, List.flatten_nil, List.append_nil, List.cons_append, List.nil_append]
  after_results
  rfl
theorem V29 (c : Dev nD) : (V m c main_v29 : FVec Ideal S1x512 .f32) = inter1 (shapeCast S512 (m ((c : Thread nD τ).loc main_arg4) : FVec Ideal S1x512 .f32) shapeCasts_S1x512_S512) := by
  unfold_abbrev_sides
  simp only [List.flatten_cons, List.flatten_nil, List.append_nil, List.cons_append, List.nil_append]
  after_results
  rfl
theorem V39 (c : Dev nD) : (V m c main_v39 : FVec Ideal S1x512 .f32) = inter1 (concatenate S512 0 [⟨S256, broadcastInDim S256 ![] bcast_S_S256 (constant S_ .f32 0x3E000000#32)⟩, ⟨S256, broadcastInDim S256 ![] bcast_S_S256 (constant S_ .f32 0x00000000#32)⟩] concatenates_S256_S256_S512_d0 : FVec Ideal S512 .f32) := by
  unfold_abbrev_sides
  simp only [List.flatten_cons, List.flatten_nil, List.append_nil, List.cons_append, List.nil_append]
  after_results
  rfl

/-! ## Their entries by natural numbers -/

theorem flat0 (x : FVec Ideal S32x2048x1024 .f32) (i : Fin 65536) (k : Fin 1024) : (shapeCast S65536x1024 x shapeCasts_S32x2048x1024_S65536x1024 : FVec Ideal S65536x1024 .f32) (ix2 i k) = x (ix3 ⟨i.val / 2048, by omega⟩ ⟨i.val % 2048, Nat.mod_lt _ (by norm_num)⟩ k) := by pointwise
theorem flat1 (x : FVec Ideal S1x1024 .f32) (k : Fin 1024) : (broadcastInDim S1x1024 ![1] bcast_S1024_S1x1024_1 (shapeCast S1024 x shapeCasts_S1x1024_S1024) : FVec Ideal S1x1024 .f32) (ix2 0 k) = x (ix2 0 k) := by pointwise
theorem flat2 (x : FVec Ideal S1x1024x3080 .f32) (k : Fin 1024) (c : Fin 3080) : (shapeCast S1024x3080 x shapeCasts_S1x1024x3080_S1024x3080 : FVec Ideal S1024x3080 .f32) (ix2 k c) = x (ix3 0 k c) := by pointwise
theorem flat3 (x : FVec Ideal S1x4x512 .f32) (k : Fin 4) (c : Fin 512) : (shapeCast S4x512 x shapeCasts_S1x4x512_S4x512 : FVec Ideal S4x512 .f32) (ix2 k c) = x (ix3 0 k c) := by pointwise
theorem flat4 (x : FVec Ideal S1x512 .f32) (c : Fin 512) : (shapeCast S512 x shapeCasts_S1x512_S512 : FVec Ideal S512 .f32) (ix1 c) = x (ix2 0 c) := by pointwise
theorem neg_at (x : FVec Ideal S2048x32 .f32) (s : Fin 2048) (l : Fin 32) : (Host.negf x : FVec Ideal S2048x32 .f32) (ix2 s l) = -x (ix2 s l) := by pointwise
theorem zero_at (s : Fin 2048) (l : Fin 32) : zeroV (ix2 s l) = 0 := by pointwise [zeroV]
theorem scales_at (u : Fin 512) : (concatenate S512 0 [⟨S256, broadcastInDim S256 ![] bcast_S_S256 (constant S_ .f32 0x3E000000#32)⟩, ⟨S256, broadcastInDim S256 ![] bcast_S_S256 (constant S_ .f32 0x00000000#32)⟩] concatenates_S256_S256_S512_d0 : FVec Ideal S512 .f32) (ix1 u)
    = if u.val < 256 then Ideal.ofBits .f32 0x3E000000#32 else 0 := by
  pointwise
  simp only [dite_eq_ite]

theorem n0 (c : Dev nD) {i k : Nat} (hi : i < 65536) (hk : k < 1024) : at2 (V m c main_v0 : Vec Ideal S65536x1024 .f32) i k = at3 (m ((c : Thread nD τ).loc main_arg0) : Vec Ideal S32x2048x1024 .f32) (i / 2048) (i % 2048) k := by
  rw [at2, dif_pos ⟨hi, hk⟩, at3, dif_pos ⟨by omega, Nat.mod_lt _ (by norm_num), hk⟩, V0]
  exact flat0 _ ⟨i, hi⟩ ⟨k, hk⟩
theorem n74 (c : Dev nD) {k : Nat} (hk : k < 1024) : at2 (V m c main_v74 : Vec Ideal S1x1024 .f32) 0 k = at2 (m ((c : Thread nD τ).loc main_arg1) : Vec Ideal S1x1024 .f32) 0 k := by
  rw [at2, dif_pos ⟨by norm_num, hk⟩, at2, dif_pos ⟨by norm_num, hk⟩, V74]
  exact flat1 _ ⟨k, hk⟩
theorem n14 (c : Dev nD) {k j : Nat} (hk : k < 1024) (hj : j < 3080) : at2 (V m c main_v14 : Vec Ideal S1024x3200 .bf16) k j = at3 (m ((c : Thread nD τ).loc main_arg2) : Vec Ideal S1x1024x3080 .f32) 0 k (colOf j) := by
  have hc : colOf j < 3080 := by
    unfold colOf
    split
    · omega
    · split
      · have := src_lt (show j - 1536 < 512 by omega)
        omega
      · omega
  rw [at2, dif_pos ⟨hk, by omega⟩, V14]
  refine (wide_apply _ ⟨k, hk⟩ j hj).trans ?_
  rw [at2, dif_pos ⟨hk, hc⟩, at3, dif_pos ⟨by norm_num, hk, hc⟩]
  exact flat2 _ ⟨k, hk⟩ ⟨colOf j, hc⟩
theorem n63 (c : Dev nD) {s l : Nat} (hs : s < 2048) (hl : l < 128) : at2 (V m c main_v63 : Vec Ideal S2048x128 .f32) s l = at2 cosV s (l % 32) := by
  rw [at2, dif_pos ⟨hs, hl⟩, V63]
  refine (tile_apply _ _ ⟨s, hs⟩ ⟨l, hl⟩).trans ?_
  rw [ite_self]
  exact at2_of cosV ⟨s, hs⟩ ⟨l % 32, _⟩
theorem n68 (c : Dev nD) {s l : Nat} (hs : s < 2048) (hl : l < 128) : at2 (V m c main_v68 : Vec Ideal S2048x128 .f32) s l = if l % 64 < 32 then -at2 sinV s (l % 32) else 0 := by
  rw [at2, dif_pos ⟨hs, hl⟩, V68]
  refine (tile_apply _ _ ⟨s, hs⟩ ⟨l, hl⟩).trans ?_
  rw [neg_at, zero_at, at2_of sinV]
theorem n72 (c : Dev nD) {s l : Nat} (hs : s < 2048) (hl : l < 128) : at2 (V m c main_v72 : Vec Ideal S2048x128 .f32) s l = if l % 64 < 32 then 0 else at2 sinV s (l % 32) := by
  rw [at2, dif_pos ⟨hs, hl⟩, V72]
  refine (tile_apply _ _ ⟨s, hs⟩ ⟨l, hl⟩).trans ?_
  rw [zero_at, at2_of sinV]
theorem n21 (c : Dev nD) {a u : Nat} (ha : a < 4) (hu : u < 512) : at2 (V m c main_v21 : Vec Ideal S4x512 .f32) a u = at3 (m ((c : Thread nD τ).loc main_arg3) : Vec Ideal S1x4x512 .f32) 0 a (src u) := by
  rw [at2, dif_pos ⟨ha, hu⟩, V21]
  refine (inter4_apply _ ⟨a, ha⟩ ⟨u, hu⟩).trans ?_
  rw [at2, dif_pos ⟨ha, src_lt hu⟩, at3, dif_pos ⟨by norm_num, ha, src_lt hu⟩]
  exact flat3 _ ⟨a, ha⟩ ⟨src u, src_lt hu⟩
theorem n29 (c : Dev nD) {u : Nat} (hu : u < 512) : at2 (V m c main_v29 : Vec Ideal S1x512 .f32) 0 u = at2 (m ((c : Thread nD τ).loc main_arg4) : Vec Ideal S1x512 .f32) 0 (src u) := by
  rw [at2, dif_pos ⟨by norm_num, hu⟩, V29]
  refine (inter1_apply _ ⟨u, hu⟩).trans ?_
  by_cases h : u % 128 < 64
  · rw [dif_pos (show (⟨u, hu⟩ : Fin 512).val % 128 < 64 from h), flat4, show src u = 64 * (u / 128) + u % 128 from if_pos h]
    exact at2_of _ 0 ⟨64 * (u / 128) + u % 128, _⟩
  · rw [dif_neg (show ¬ (⟨u, hu⟩ : Fin 512).val % 128 < 64 from h), flat4, show src u = 256 + (64 * (u / 128) + (u % 128 - 64)) from if_neg h]
    exact at2_of _ 0 ⟨256 + (64 * (u / 128) + (u % 128 - 64)), _⟩
theorem n39 (c : Dev nD) {u : Nat} (hu : u < 512) : at2 (V m c main_v39 : Vec Ideal S1x512 .f32) 0 u = if u % 128 < 64 then Ideal.ofBits .f32 0x3E000000#32 else 0 := by
  rw [at2, dif_pos ⟨by norm_num, hu⟩, V39]
  refine (inter1_apply _ ⟨u, hu⟩).trans ?_
  by_cases h : u % 128 < 64
  · rw [dif_pos (show (⟨u, hu⟩ : Fin 512).val % 128 < 64 from h), if_pos h, scales_at, if_pos (show 64 * (u / 128) + u % 128 < 256 by omega)]
  · rw [dif_neg (show ¬ (⟨u, hu⟩ : Fin 512).val % 128 < 64 from h), if_neg h, scales_at, if_neg (show ¬ 256 + (64 * (u / 128) + (u % 128 - 64)) < 256 by omega)]

end Cert.ProjIdeal.Value
-- ==== Proof.ProjLeft.lean ====
module
public import proofs.«01_k».proof.Proof.ProjHost
public import Idealize.ShloMosaic.Lib.Pipeline.ValueKit.Geometry
/-! The input projection's call: what its result arrays end holding, as functions of the arguments. -/
@[expose] public section
noncomputable section
open Idealize.ShloMosaic Idealize.ShloMosaic.TcCoe Idealize.SL.Sem
open Idealize.ShloMosaic.Pipeline (Dat)

namespace Cert.ProjIdeal.Value
open Cert.ProjIdeal Cert.ProjIdeal.Gen Cert.ProjRow Cert.ProjIdeal.Body

variable (m : (ℓ : Loc nD τ sig) → Buf (Elt Ideal) ℓ)

/-! ## The blocks the body loads at point `t` -/

theorem e0 : ∀ t : Fin cfg0.N, win0_0.index t = ![t.val, 0] := (by decide +kernel : ∀ t : Fin grid0.N, _)
theorem rd0 (c : Dev nD) (t : Fin cfg0.N) (i : Fin 1024) (j : Fin 1024) : (iblk m c 0 t : Vec Ideal S1024x1024 .f32) (ix2 i j)
    = (V m c main_v0 : Vec Ideal S65536x1024 .f32) (ix2 ⟨1024 * t.val + i.val, by have : t.val < 64 := t.isLt; omega⟩ j) := by
  blk_simp [iblk]
  refine congrArg (V m c main_v0) ?_
  funext a; apply Fin.ext
  match a with
  | ⟨0, _⟩ => blk_simp [e0]; show t.val * 1024 + i.val = 1024 * t.val + i.val; omega
  | ⟨1, _⟩ => blk_simp [e0]
theorem rn0 (c : Dev nD) (t : Fin cfg0.N) {i j : Nat} (hi : i < 1024) (hj : j < 1024) : at2 (iblk m c 0 t : Vec Ideal S1024x1024 .f32) i j = at2 (V m c main_v0 : Vec Ideal S65536x1024 .f32) (1024 * t.val + i) j := by
  refine (at2_of (iblk m c 0 t : Vec Ideal S1024x1024 .f32) ⟨i, hi⟩ ⟨j, hj⟩).symm.trans ((rd0 m c t ⟨i, hi⟩ ⟨j, hj⟩).trans ?_)
  exact at2_of (V m c main_v0 : Vec Ideal S65536x1024 .f32) _ _

theorem e1 : ∀ t : Fin cfg0.N, win0_1.index t = ![0, 0] := (by decide +kernel : ∀ t : Fin grid0.N, _)
theorem rd1 (c : Dev nD) (t : Fin cfg0.N) (i : Fin 1) (j : Fin 1024) : (iblk m c 1 t : Vec Ideal S1x1024 .f32) (ix2 i j)
    = (V m c main_v74 : Vec Ideal S1x1024 .f32) (ix2 i j) := by
  blk_simp [iblk]
  refine congrArg (V m c main_v74) ?_
  funext a; apply Fin.ext
  match a with
  | ⟨0, _⟩ => blk_simp [e1]
  | ⟨1, _⟩ => blk_simp [e1]
theorem rn1 (c : Dev nD) (t : Fin cfg0.N) {i j : Nat} (hi : i < 1) (hj : j < 1024) : at2 (iblk m c 1 t : Vec Ideal S1x1024 .f32) i j = at2 (V m c main_v74 : Vec Ideal S1x1024 .f32) i j := by
  refine (at2_of (iblk m c 1 t : Vec Ideal S1x1024 .f32) ⟨i, hi⟩ ⟨j, hj⟩).symm.trans ((rd1 m c t ⟨i, hi⟩ ⟨j, hj⟩).trans ?_)
  exact at2_of (V m c main_v74 : Vec Ideal S1x1024 .f32) _ _

theorem e2 : ∀ t : Fin cfg0.N, win0_2.index t = ![0, 0] := (by decide +kernel : ∀ t : Fin grid0.N, _)
theorem rd2 (c : Dev nD) (t : Fin cfg0.N) (i : Fin 1024) (j : Fin 3200) : (iblk m c 2 t : Vec Ideal S1024x3200 .bf16) (ix2 i j)
    = (V m c main_v14 : Vec Ideal S1024x3200 .bf16) (ix2 i j) := by
  blk_simp [iblk]
  refine congrArg (V m c main_v14) ?_
  funext a; apply Fin.ext
  match a with
  | ⟨0, _⟩ => blk_simp [e2]
  | ⟨1, _⟩ => blk_simp [e2]
theorem rn2 (c : Dev nD) (t : Fin cfg0.N) {i j : Nat} (hi : i < 1024) (hj : j < 3200) : at2 (iblk m c 2 t : Vec Ideal S1024x3200 .bf16) i j = at2 (V m c main_v14 : Vec Ideal S1024x3200 .bf16) i j := by
  refine (at2_of (iblk m c 2 t : Vec Ideal S1024x3200 .bf16) ⟨i, hi⟩ ⟨j, hj⟩).symm.trans ((rd2 m c t ⟨i, hi⟩ ⟨j, hj⟩).trans ?_)
  exact at2_of (V m c main_v14 : Vec Ideal S1024x3200 .bf16) _ _

theorem e3 : ∀ t : Fin cfg0.N, win0_3.index t = ![t.val % 2, 0] := (by decide +kernel : ∀ t : Fin grid0.N, _)
theorem rd3 (c : Dev nD) (t : Fin cfg0.N) (i : Fin 1024) (j : Fin 128) : (iblk m c 3 t : Vec Ideal S1024x128 .f32) (ix2 i j)
    = (V m c main_v63 : Vec Ideal S2048x128 .f32) (ix2 ⟨1024 * (t.val % 2) + i.val, by omega⟩ j) := by
  blk_simp [iblk]
  refine congrArg (V m c main_v63) ?_
  funext a; apply Fin.ext
  match a with
  | ⟨0, _⟩ => blk_simp [e3]; show t.val % 2 * 1024 + i.val = 1024 * (t.val % 2) + i.val; omega
  | ⟨1, _⟩ => blk_simp [e3]
theorem rn3 (c : Dev nD) (t : Fin cfg0.N) {i j : Nat} (hi : i < 1024) (hj : j < 128) : at2 (iblk m c 3 t : Vec Ideal S1024x128 .f32) i j = at2 (V m c main_v63 : Vec Ideal S2048x128 .f32) (1024 * (t.val % 2) + i) j := by
  refine (at2_of (iblk m c 3 t : Vec Ideal S1024x128 .f32) ⟨i, hi⟩ ⟨j, hj⟩).symm.trans ((rd3 m c t ⟨i, hi⟩ ⟨j, hj⟩).trans ?_)
  exact at2_of (V m c main_v63 : Vec Ideal S2048x128 .f32) _ _

theorem e4 : ∀ t : Fin cfg0.N, win0_4.index t = ![t.val % 2, 0] := (by decide +kernel : ∀ t : Fin grid0.N, _)
theorem rd4 (c : Dev nD) (t : Fin cfg0.N) (i : Fin 1024) (j : Fin 128) : (iblk m c 4 t : Vec Ideal S1024x128 .f32) (ix2 i j)
    = (V m c main_v68 : Vec Ideal S2048x128 .f32) (ix2 ⟨1024 * (t.val % 2) + i.val, by omega⟩ j) := by
  blk_simp [iblk]
  refine congrArg (V m c main_v68) ?_
  funext a; apply Fin.ext
  match a with
  | ⟨0, _⟩ => blk_simp [e4]; show t.val % 2 * 1024 + i.val = 1024 * (t.val % 2) + i.val; omega
  | ⟨1, _⟩ => blk_simp [e4]
theorem rn4 (c : Dev nD) (t : Fin cfg0.N) {i j : Nat} (hi : i < 1024) (hj : j < 128) : at2 (iblk m c 4 t : Vec Ideal S1024x128 .f32) i j = at2 (V m c main_v68 : Vec Ideal S2048x128 .f32) (1024 * (t.val % 2) + i) j := by
  refine (at2_of (iblk m c 4 t : Vec Ideal S1024x128 .f32) ⟨i, hi⟩ ⟨j, hj⟩).symm.trans ((rd4 m c t ⟨i, hi⟩ ⟨j, hj⟩).trans ?_)
  exact at2_of (V m c main_v68 : Vec Ideal S2048x128 .f32) _ _

theorem e5 : ∀ t : Fin cfg0.N, win0_5.index t = ![t.val % 2, 0] := (by decide +kernel : ∀ t : Fin grid0.N, _)
theorem rd5 (c : Dev nD) (t : Fin cfg0.N) (i : Fin 1024) (j : Fin 128) : (iblk m c 5 t : Vec Ideal S1024x128 .f32) (ix2 i j)
    = (V m c main_v72 : Vec Ideal S2048x128 .f32) (ix2 ⟨1024 * (t.val % 2) + i.val, by omega⟩ j) := by
  blk_simp [iblk]
  refine congrArg (V m c main_v72) ?_
  funext a; apply Fin.ext
  match a with
  | ⟨0, _⟩ => blk_simp [e5]; show t.val % 2 * 1024 + i.val = 1024 * (t.val % 2) + i.val; omega
  | ⟨1, _⟩ => blk_simp [e5]
theorem rn5 (c : Dev nD) (t : Fin cfg0.N) {i j : Nat} (hi : i < 1024) (hj : j < 128) : at2 (iblk m c 5 t : Vec Ideal S1024x128 .f32) i j = at2 (V m c main_v72 : Vec Ideal S2048x128 .f32) (1024 * (t.val % 2) + i) j := by
  refine (at2_of (iblk m c 5 t : Vec Ideal S1024x128 .f32) ⟨i, hi⟩ ⟨j, hj⟩).symm.trans ((rd5 m c t ⟨i, hi⟩ ⟨j, hj⟩).trans ?_)
  exact at2_of (V m c main_v72 : Vec Ideal S2048x128 .f32) _ _

theorem e6 : ∀ t : Fin cfg0.N, win0_6.index t = ![0, 0] := (by decide +kernel : ∀ t : Fin grid0.N, _)
theorem rd6 (c : Dev nD) (t : Fin cfg0.N) (i : Fin 4) (j : Fin 512) : (iblk m c 6 t : Vec Ideal S4x512 .f32) (ix2 i j)
    = (V m c main_v21 : Vec Ideal S4x512 .f32) (ix2 i j) := by
  blk_simp [iblk]
  refine congrArg (V m c main_v21) ?_
  funext a; apply Fin.ext
  match a with
  | ⟨0, _⟩ => blk_simp [e6]
  | ⟨1, _⟩ => blk_simp [e6]
theorem rn6 (c : Dev nD) (t : Fin cfg0.N) {i j : Nat} (hi : i < 4) (hj : j < 512) : at2 (iblk m c 6 t : Vec Ideal S4x512 .f32) i j = at2 (V m c main_v21 : Vec Ideal S4x512 .f32) i j := by
  refine (at2_of (iblk m c 6 t : Vec Ideal S4x512 .f32) ⟨i, hi⟩ ⟨j, hj⟩).symm.trans ((rd6 m c t ⟨i, hi⟩ ⟨j, hj⟩).trans ?_)
  exact at2_of (V m c main_v21 : Vec Ideal S4x512 .f32) _ _

theorem e7 : ∀ t : Fin cfg0.N, win0_7.index t = ![0, 0] := (by decide +kernel : ∀ t : Fin grid0.N, _)
theorem rd7 (c : Dev nD) (t : Fin cfg0.N) (i : Fin 1) (j : Fin 512) : (iblk m c 7 t : Vec Ideal S1x512 .f32) (ix2 i j)
    = (V m c main_v29 : Vec Ideal S1x512 .f32) (ix2 i j) := by
  blk_simp [iblk]
  refine congrArg (V m c main_v29) ?_
  funext a; apply Fin.ext
  match a with
  | ⟨0, _⟩ => blk_simp [e7]
  | ⟨1, _⟩ => blk_simp [e7]
theorem rn7 (c : Dev nD) (t : Fin cfg0.N) {i j : Nat} (hi : i < 1) (hj : j < 512) : at2 (iblk m c 7 t : Vec Ideal S1x512 .f32) i j = at2 (V m c main_v29 : Vec Ideal S1x512 .f32) i j := by
  refine (at2_of (iblk m c 7 t : Vec Ideal S1x512 .f32) ⟨i, hi⟩ ⟨j, hj⟩).symm.trans ((rd7 m c t ⟨i, hi⟩ ⟨j, hj⟩).trans ?_)
  exact at2_of (V m c main_v29 : Vec Ideal S1x512 .f32) _ _

theorem e8 : ∀ t : Fin cfg0.N, win0_8.index t = ![0, 0] := (by decide +kernel : ∀ t : Fin grid0.N, _)
theorem rd8 (c : Dev nD) (t : Fin cfg0.N) (i : Fin 1) (j : Fin 512) : (iblk m c 8 t : Vec Ideal S1x512 .f32) (ix2 i j)
    = (V m c main_v39 : Vec Ideal S1x512 .f32) (ix2 i j) := by
  blk_simp [iblk]
  refine congrArg (V m c main_v39) ?_
  funext a; apply Fin.ext
  match a with
  | ⟨0, _⟩ => blk_simp [e8]
  | ⟨1, _⟩ => blk_simp [e8]
theorem rn8 (c : Dev nD) (t : Fin cfg0.N) {i j : Nat} (hi : i < 1) (hj : j < 512) : at2 (iblk m c 8 t : Vec Ideal S1x512 .f32) i j = at2 (V m c main_v39 : Vec Ideal S1x512 .f32) i j := by
  refine (at2_of (iblk m c 8 t : Vec Ideal S1x512 .f32) ⟨i, hi⟩ ⟨j, hj⟩).symm.trans ((rd8 m c t ⟨i, hi⟩ ⟨j, hj⟩).trans ?_)
  exact at2_of (V m c main_v39 : Vec Ideal S1x512 .f32) _ _

/-! ## What each point leaves -/

/-- What stands in the eight rows before point `t`'s: zeros at a sequence's start, else the point before's last. -/
def tl (c : Dev nD) (t : Fin cfg0.N) : Nat → Nat → EReal :=
  if t.val % 2 = 0 then fun _ _ => 0 else at2 (bs (iblk m c 0 ⟨t.val - 1, Nat.lt_of_le_of_lt (Nat.sub_le _ _) t.isLt⟩) (iblk m c 1 ⟨t.val - 1, Nat.lt_of_le_of_lt (Nat.sub_le _ _) t.isLt⟩) (iblk m c 2 ⟨t.val - 1, Nat.lt_of_le_of_lt (Nat.sub_le _ _) t.isLt⟩))
theorem kept (c : Dev nD) (t : Fin cfg0.N) (h : t.val % 2 = 0) : ((outsAt0 m c t.val t.isLt).2.2.2.2.2.2.2.2 : Vec Ideal S8x512 .f32) = bs (iblk m c 0 t) (iblk m c 1 t) (iblk m c 2 t) := by
  rw [outsAt0_A m c t h]
  dsimp only
  exact oAs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t)
theorem left9 (c : Dev nD) (t : Fin cfg0.N) : ((outsAt0 m c t.val t.isLt).1 : Vec Ideal S1024x512 .bf16) = b9 (iblk m c 0 t) (iblk m c 1 t) (iblk m c 2 t) (iblk m c 3 t) (iblk m c 4 t) (iblk m c 5 t) := by
  by_cases h0 : t.val % 2 = 0
  · rw [outsAt0_A m c t h0]
    dsimp only
    exact oA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left10 (c : Dev nD) (t : Fin cfg0.N) : ((outsAt0 m c t.val t.isLt).2.1 : Vec Ideal S1024x512 .bf16) = b10 (iblk m c 0 t) (iblk m c 1 t) (iblk m c 2 t) (iblk m c 3 t) (iblk m c 4 t) (iblk m c 5 t) := by
  by_cases h0 : t.val % 2 = 0
  · rw [outsAt0_A m c t h0]
    dsimp only
    exact oA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left11 (c : Dev nD) (t : Fin cfg0.N) : ((outsAt0 m c t.val t.isLt).2.2.1 : Vec Ideal S1024x512 .bf16) = b11 (iblk m c 0 t) (iblk m c 1 t) (iblk m c 2 t) := by
  by_cases h0 : t.val % 2 = 0
  · rw [outsAt0_A m c t h0]
    dsimp only
    exact oA11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left12 (c : Dev nD) (t : Fin cfg0.N) : ((outsAt0 m c t.val t.isLt).2.2.2.1 : Vec Ideal S1024x512 .bf16) = b12 (iblk m c 0 t) (iblk m c 1 t) (iblk m c 2 t) (iblk m c 6 t) (iblk m c 7 t) (iblk m c 8 t) (tl m c t) := by
  by_cases h0 : t.val % 2 = 0
  · rw [outsAt0_A m c t h0, show tl m c t = fun _ _ => 0 from if_pos h0]
    dsimp only
    exact oA12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0, show tl m c t = _ from if_neg h0, ← kept m c ⟨t.val - 1, Nat.lt_of_le_of_lt (Nat.sub_le _ _) t.isLt⟩ (by show (t.val - 1) % 2 = 0; omega)]
    dsimp only
    exact oB12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left13 (c : Dev nD) (t : Fin cfg0.N) : ((outsAt0 m c t.val t.isLt).2.2.2.2.1 : Vec Ideal S1024x512 .bf16) = b13 (iblk m c 0 t) (iblk m c 1 t) (iblk m c 2 t) (iblk m c 6 t) (iblk m c 7 t) (tl m c t) := by
  by_cases h0 : t.val % 2 = 0
  · rw [outsAt0_A m c t h0, show tl m c t = fun _ _ => 0 from if_pos h0]
    dsimp only
    exact oA13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0, show tl m c t = _ from if_neg h0, ← kept m c ⟨t.val - 1, Nat.lt_of_le_of_lt (Nat.sub_le _ _) t.isLt⟩ (by show (t.val - 1) % 2 = 0; omega)]
    dsimp only
    exact oB13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left14 (c : Dev nD) (t : Fin cfg0.N) : ((outsAt0 m c t.val t.isLt).2.2.2.2.2.1 : Vec Ideal S1x4x512x256 .bf16) = b14 (iblk m c 0 t) (iblk m c 1 t) (iblk m c 2 t) := by
  by_cases h0 : t.val % 2 = 0
  · rw [outsAt0_A m c t h0]
    dsimp only
    exact oA14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left15 (c : Dev nD) (t : Fin cfg0.N) : ((outsAt0 m c t.val t.isLt).2.2.2.2.2.2.1 : Vec Ideal S1024x512 .bf16) = b15 (iblk m c 0 t) (iblk m c 1 t) (iblk m c 2 t) := by
  by_cases h0 : t.val % 2 = 0
  · rw [outsAt0_A m c t h0]
    dsimp only
    exact oA15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _
theorem left16 (c : Dev nD) (t : Fin cfg0.N) : ((outsAt0 m c t.val t.isLt).2.2.2.2.2.2.2.1 : Vec Ideal S1x8x1024 .f32) = b16 (iblk m c 0 t) (iblk m c 1 t) (iblk m c 2 t) := by
  by_cases h0 : t.val % 2 = 0
  · rw [outsAt0_A m c t h0]
    dsimp only
    exact oA16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact oB16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _

end Cert.ProjIdeal.Value
-- ==== Proof.ProjArray.lean ====
module
public import proofs.«01_k».proof.Proof.ProjLeft
/-! The input projection's call: its result arrays as functions of the arguments. -/
@[expose] public section
noncomputable section
open Idealize.ShloMosaic Idealize.ShloMosaic.TcCoe Idealize.SL.Sem
open Idealize.ShloMosaic.Pipeline (Dat)

namespace Cert.ProjIdeal.Value
open Cert.ProjIdeal Cert.ProjIdeal.Gen Cert.ProjRow Cert.ProjIdeal.Body

variable (m : (ℓ : Loc nD τ sig) → Buf (Elt Ideal) ℓ)

abbrev A0 (c : Dev nD) : Vec Ideal S32x2048x1024 .f32 := m ((c : Thread nD τ).loc main_arg0)
abbrev A1 (c : Dev nD) : Vec Ideal S1x1024 .f32 := m ((c : Thread nD τ).loc main_arg1)
abbrev A2 (c : Dev nD) : Vec Ideal S1x1024x3080 .f32 := m ((c : Thread nD τ).loc main_arg2)
abbrev A3 (c : Dev nD) : Vec Ideal S1x4x512 .f32 := m ((c : Thread nD τ).loc main_arg3)
abbrev A4 (c : Dev nD) : Vec Ideal S1x512 .f32 := m ((c : Thread nD τ).loc main_arg4)

theorem colOf_mid {u : Nat} (h : u < 512) : colOf (1536 + u) = 1536 + src u := by
  rw [colOf, if_neg (by omega), if_pos (by omega), Nat.add_sub_cancel_left]

/-- The projected block's entries. -/
theorem pbv (c : Dev nD) (t : Fin cfg0.N) {r j : Nat} (hr : r < 1024) (hj : j < 3080) :
    pb (iblk m c 0 t) (iblk m c 1 t) (iblk m c 2 t) r j = prj (A0 m c) (A1 m c) (A2 m c) (1024 * t.val + r) (colOf j) := by
  have ht : t.val < 64 := t.isLt
  unfold pb prj proj
  refine Finset.sum_congr rfl fun k _ => ?_
  rw [rn2 m c t k.isLt (by omega), n14 m c k.isLt hj]
  congr 2
  · funext k
    rw [rn0 m c t hr k.isLt, n0 m c (by omega) k.isLt]
  · funext k
    rw [rn1 m c t (by norm_num) k.isLt, n74 m c k.isLt]

/-- The rows the convolution reaches. -/
theorem tapv (c : Dev nD) (t : Fin cfg0.N) {r u d : Nat} (hr : r < 1024) (hu : u < 512) (hd : d < 4) :
    tap (fun q => pb (iblk m c 0 t) (iblk m c 1 t) (iblk m c 2 t) q (1536 + u)) (fun q => tl m c t q u) r d
      = if (1024 * t.val + r) % 2048 < d then 0 else prj (A0 m c) (A1 m c) (A2 m c) (1024 * t.val + r - d) (1536 + src u) := by
  have ht : t.val < 64 := t.isLt
  unfold tap
  by_cases h : r < d
  · rw [if_pos h]
    by_cases h0 : t.val % 2 = 0
    · rw [if_pos (show (1024 * t.val + r) % 2048 < d by omega)]
      dsimp only
      rw [show tl m c t = fun _ _ => 0 from if_pos h0]
    · rw [if_neg (show ¬ (1024 * t.val + r) % 2048 < d by omega)]
      dsimp only
      rw [show tl m c t = _ from if_neg h0]
      refine (at2_of (bs _ _ _) ⟨8 + r - d, by omega⟩ ⟨u, hu⟩).symm.trans ?_
      refine (pbv m c ⟨t.val - 1, Nat.lt_of_le_of_lt (Nat.sub_le _ _) t.isLt⟩ (r := 1016 + (8 + r - d)) (j := 1536 + u) (by omega) (by omega)).trans ?_
      rw [colOf_mid hu]
      exact congrArg (fun i => prj (A0 m c) (A1 m c) (A2 m c) i (1536 + src u)) (show 1024 * (t.val - 1) + (1016 + (8 + r - d)) = 1024 * t.val + r - d by omega)
  · rw [if_neg h, if_neg (show ¬ (1024 * t.val + r) % 2048 < d by omega)]
    refine (pbv m c t (r := r - d) (j := 1536 + u) (by omega) (by omega)).trans ?_
    rw [colOf_mid hu, show 1024 * t.val + (r - d) = 1024 * t.val + r - d by omega]

theorem abv (c : Dev nD) (t : Fin cfg0.N) {r u : Nat} (hr : r < 1024) (hu : u < 512) :
    ab (iblk m c 0 t) (iblk m c 1 t) (iblk m c 2 t) (iblk m c 6 t) (iblk m c 7 t) (tl m c t) r u = ty (A0 m c) (A1 m c) (A2 m c) (A3 m c) (A4 m c) (1024 * t.val + r) (src u) := by
  unfold ab ty
  rw [rn7 m c t (by norm_num) hu, n29 m c hu, rn6 m c t (by norm_num) hu, n21 m c (by norm_num) hu, rn6 m c t (by norm_num) hu, n21 m c (by norm_num) hu,
    rn6 m c t (by norm_num) hu, n21 m c (by norm_num) hu, rn6 m c t (by norm_num) hu, n21 m c (by norm_num) hu]
  exact congrArg silu (conv_congr fun d hd => tapv m c t hr hu hd)

/-- The tables at point `t`'s rows. -/
theorem turnv (c : Dev nD) (t : Fin cfg0.N) {r u o : Nat} (hr : r < 1024) (hu : u < 512) (ho : o ≤ 512) :
    rope (fun j => pb (iblk m c 0 t) (iblk m c 1 t) (iblk m c 2 t) r (o + j)) (at2 (iblk m c 3 t : Vec Ideal S1024x128 .f32) r) (at2 (iblk m c 4 t : Vec Ideal S1024x128 .f32) r) (at2 (iblk m c 5 t : Vec Ideal S1024x128 .f32) r) u
      = turned (fun j => prj (A0 m c) (A1 m c) (A2 m c) (1024 * t.val + r) (o + j)) (at2 cosV ((1024 * t.val + r) % 2048)) (at2 sinV ((1024 * t.val + r) % 2048)) u := by
  have hs : (1024 * t.val + r) % 2048 = 1024 * (t.val % 2) + r := by omega
  rw [hs]
  refine rope_turned _ _ _ _ _ _ _ (fun j hj => ?_) (fun l hl => ?_) (fun l hl => ?_) (fun l hl => ?_) hu
  · refine (pbv m c t hr (by omega)).trans ?_
    rw [show colOf (o + j) = o + j from if_pos (by omega)]
  · rw [rn3 m c t hr hl, n63 m c (by omega) hl]
  · rw [rn4 m c t hr hl, n68 m c (by omega) hl]
  · rw [rn5 m c t hr hl, n72 m c (by omega) hl]

theorem scale_named : Named.named (F := Ideal) κ "query_scale" (φ := .f32) 0x3E38AA3B#32 = qk2 := rfl

/-! ## The result arrays -/

variable (x0 : Vec Ideal S32x2048x1024 .f32) (x1 : Vec Ideal S1x1024 .f32) (x2 : Vec Ideal S1x1024x3080 .f32) (x3 : Vec Ideal S1x4x512 .f32) (x4 : Vec Ideal S1x512 .f32)
def r9 : Vec Ideal S65536x512 .bf16 := fun y => tq x0 x1 x2 (at2 cosV) (at2 sinV) (y 0).val (y 1).val
def r10 : Vec Ideal S65536x512 .bf16 := fun y => tk x0 x1 x2 (at2 cosV) (at2 sinV) (y 0).val (y 1).val
def r11 : Vec Ideal S65536x512 .bf16 := fun y => tv x0 x1 x2 (y 0).val (y 1).val
def r12 : Vec Ideal S65536x512 .bf16 := fun y => tqm x0 x1 x2 x3 x4 (y 0).val (y 1).val
def r13 : Vec Ideal S65536x512 .bf16 := fun y => tkq x0 x1 x2 x3 x4 (y 0).val (y 1).val
def r14 : Vec Ideal S32x8x512x256 .bf16 := fun y => tmv x0 x1 x2 (y 0).val (y 1).val (y 2).val (y 3).val
def r15 : Vec Ideal S65536x512 .bf16 := fun y => tog x0 x1 x2 (y 0).val (y 1).val
def r16 : Vec Ideal S32x8x2048 .f32 := fun y => tg x0 x1 x2 (y 0).val (y 1).val (y 2).val

/-- Row `r` of point `t`'s block. -/
abbrev rw' (t : Fin cfg0.N) (i : Fin 1024) : Fin 65536 := ⟨1024 * t.val + i.val, by have : t.val < 64 := t.isLt; omega⟩

theorem e9 : ∀ t : Fin cfg0.N, win0_9.index t = ![t.val, 0] := (by decide +kernel : ∀ t : Fin grid0.N, _)
theorem ends9 (c : Dev nD) : (dats m 0 c).arrAt 9 cfg0.N = (r9 (A0 m c) (A1 m c) (A2 m c) : Vec Ideal S65536x512 .bf16) := by
  refine (dats m 0 c).arrAt_eq_of_covers 9 _ (by decide +kernel) fun t hf y => ?_
  obtain ⟨i, j, rfl⟩ : ∃ (i : Fin 1024) (j : Fin 512), y = ix2 i j := ⟨y 0, y 1, ValueIdx.eq_ix2 y⟩
  have e : ((cfg0.win 9).blk t).view.emb (ix2 i j) = (ix2 (rw' t i) j : S65536x512.Idx) := by
    funext a; apply Fin.ext
    match a with
    | ⟨0, _⟩ => blk_simp [e9]; show t.val * 1024 + i.val = 1024 * t.val + i.val; omega
    | ⟨1, _⟩ => blk_simp [e9]
  rw [e]
  blk_simp
  rw [after0_9]
  refine (congrFun (left9 m c t) _).trans ?_
  show rope (pb _ _ _ i.val) _ _ _ j.val * _ = turned (prj (A0 m c) (A1 m c) (A2 m c) (1024 * t.val + i.val)) _ _ j.val * _
  rw [scale_named]
  refine congrArg (fun z : EReal => z * qk2) ?_
  have h := turnv m c t i.isLt j.isLt (Nat.zero_le _)
  simp only [Nat.zero_add] at h
  exact h

theorem e10 : ∀ t : Fin cfg0.N, win0_10.index t = ![t.val, 0] := (by decide +kernel : ∀ t : Fin grid0.N, _)
theorem ends10 (c : Dev nD) : (dats m 0 c).arrAt 10 cfg0.N = (r10 (A0 m c) (A1 m c) (A2 m c) : Vec Ideal S65536x512 .bf16) := by
  refine (dats m 0 c).arrAt_eq_of_covers 10 _ (by decide +kernel) fun t hf y => ?_
  obtain ⟨i, j, rfl⟩ : ∃ (i : Fin 1024) (j : Fin 512), y = ix2 i j := ⟨y 0, y 1, ValueIdx.eq_ix2 y⟩
  have e : ((cfg0.win 10).blk t).view.emb (ix2 i j) = (ix2 (rw' t i) j : S65536x512.Idx) := by
    funext a; apply Fin.ext
    match a with
    | ⟨0, _⟩ => blk_simp [e10]; show t.val * 1024 + i.val = 1024 * t.val + i.val; omega
    | ⟨1, _⟩ => blk_simp [e10]
  rw [e]
  blk_simp
  rw [after0_10]
  refine (congrFun (left10 m c t) _).trans ?_
  exact turnv m c t i.isLt j.isLt (le_refl _)

theorem e11 : ∀ t : Fin cfg0.N, win0_11.index t = ![t.val, 0] := (by decide +kernel : ∀ t : Fin grid0.N, _)
theorem ends11 (c : Dev nD) : (dats m 0 c).arrAt 11 cfg0.N = (r11 (A0 m c) (A1 m c) (A2 m c) : Vec Ideal S65536x512 .bf16) := by
  refine (dats m 0 c).arrAt_eq_of_covers 11 _ (by decide +kernel) fun t hf y => ?_
  obtain ⟨i, j, rfl⟩ : ∃ (i : Fin 1024) (j : Fin 512), y = ix2 i j := ⟨y 0, y 1, ValueIdx.eq_ix2 y⟩
  have e : ((cfg0.win 11).blk t).view.emb (ix2 i j) = (ix2 (rw' t i) j : S65536x512.Idx) := by
    funext a; apply Fin.ext
    match a with
    | ⟨0, _⟩ => blk_simp [e11]; show t.val * 1024 + i.val = 1024 * t.val + i.val; omega
    | ⟨1, _⟩ => blk_simp [e11]
  rw [e]
  blk_simp
  rw [after0_11]
  refine (congrFun (left11 m c t) _).trans ?_
  refine (pbv m c t (j := 1024 + j.val) i.isLt (by omega)).trans ?_
  rw [show colOf (1024 + j.val) = 1024 + j.val from if_pos (by omega)]
  rfl

theorem e12 : ∀ t : Fin cfg0.N, win0_12.index t = ![t.val, 0] := (by decide +kernel : ∀ t : Fin grid0.N, _)
theorem ends12 (c : Dev nD) : (dats m 0 c).arrAt 12 cfg0.N = (r12 (A0 m c) (A1 m c) (A2 m c) (A3 m c) (A4 m c) : Vec Ideal S65536x512 .bf16) := by
  refine (dats m 0 c).arrAt_eq_of_covers 12 _ (by decide +kernel) fun t hf y => ?_
  obtain ⟨i, j, rfl⟩ : ∃ (i : Fin 1024) (j : Fin 512), y = ix2 i j := ⟨y 0, y 1, ValueIdx.eq_ix2 y⟩
  have e : ((cfg0.win 12).blk t).view.emb (ix2 i j) = (ix2 (rw' t i) j : S65536x512.Idx) := by
    funext a; apply Fin.ext
    match a with
    | ⟨0, _⟩ => blk_simp [e12]; show t.val * 1024 + i.val = 1024 * t.val + i.val; omega
    | ⟨1, _⟩ => blk_simp [e12]
  rw [e]
  blk_simp
  rw [after0_12]
  refine (congrFun (left12 m c t) _).trans ?_
  show HMul.hMul (α := EReal) (β := EReal) (γ := EReal) (ab _ _ _ _ _ _ i.val j.val) (at2 (iblk m c 8 t : Vec Ideal S1x512 .f32) 0 j.val) = tqm (A0 m c) (A1 m c) (A2 m c) (A3 m c) (A4 m c) (1024 * t.val + i.val) j.val
  rw [abv m c t i.isLt j.isLt, rn8 m c t (by norm_num) j.isLt, n39 m c j.isLt]
  unfold tqm
  by_cases h : j.val % 128 < 64
  · rw [if_pos h, if_pos h, show src j.val = 64 * (j.val / 128) + j.val % 128 from if_pos h]
  · rw [if_neg h, if_neg h, mul_zero]

theorem e13 : ∀ t : Fin cfg0.N, win0_13.index t = ![t.val, 0] := (by decide +kernel : ∀ t : Fin grid0.N, _)
theorem ends13 (c : Dev nD) : (dats m 0 c).arrAt 13 cfg0.N = (r13 (A0 m c) (A1 m c) (A2 m c) (A3 m c) (A4 m c) : Vec Ideal S65536x512 .bf16) := by
  refine (dats m 0 c).arrAt_eq_of_covers 13 _ (by decide +kernel) fun t hf y => ?_
  obtain ⟨i, j, rfl⟩ : ∃ (i : Fin 1024) (j : Fin 512), y = ix2 i j := ⟨y 0, y 1, ValueIdx.eq_ix2 y⟩
  have e : ((cfg0.win 13).blk t).view.emb (ix2 i j) = (ix2 (rw' t i) j : S65536x512.Idx) := by
    funext a; apply Fin.ext
    match a with
    | ⟨0, _⟩ => blk_simp [e13]; show t.val * 1024 + i.val = 1024 * t.val + i.val; omega
    | ⟨1, _⟩ => blk_simp [e13]
  rw [e]
  blk_simp
  rw [after0_13]
  refine (congrFun (left13 m c t) _).trans ?_
  have hl : lane j.val (j.val + 64) < 512 := by unfold lane; omega
  refine (abv m c t i.isLt hl).trans ?_
  show _ = ty (A0 m c) (A1 m c) (A2 m c) (A3 m c) (A4 m c) (1024 * t.val + i.val) _
  refine congrArg (ty (A0 m c) (A1 m c) (A2 m c) (A3 m c) (A4 m c) (1024 * t.val + i.val)) ?_
  show src (lane j.val (j.val + 64)) = if j.val % 128 < 64 then 256 + (64 * (j.val / 128) + j.val % 128) else 64 * (j.val / 128) + (j.val % 128 - 64)
  unfold src lane
  split <;> split <;> omega

theorem e14 : ∀ t : Fin cfg0.N, win0_14.index t = ![t.val / 2, t.val % 2, 0, 0] := (by decide +kernel : ∀ t : Fin grid0.N, _)
theorem ends14 (c : Dev nD) : (dats m 0 c).arrAt 14 cfg0.N = (r14 (A0 m c) (A1 m c) (A2 m c) : Vec Ideal S32x8x512x256 .bf16) := by
  refine (dats m 0 c).arrAt_eq_of_covers 14 _ (by decide +kernel) fun t hf y => ?_
  obtain ⟨z, h, i, j, rfl⟩ : ∃ (z : Fin 1) (h : Fin 4) (i : Fin 512) (j : Fin 256), y = ix4 z h i j := ⟨y 0, y 1, y 2, y 3, ValueIdx.eq_ix4 y⟩
  obtain rfl : z = 0 := by omega
  have e : ((cfg0.win 14).blk t).view.emb (ix4 0 h i j) = (ix4 ⟨t.val / 2, by have : t.val < 64 := t.isLt; omega⟩ ⟨4 * (t.val % 2) + h.val, by omega⟩ i j : S32x8x512x256.Idx) := by
    funext a; apply Fin.ext
    match a with
    | ⟨0, _⟩ => blk_simp [e14]; rfl
    | ⟨1, _⟩ => blk_simp [e14]; show t.val % 2 * 4 + h.val = 4 * (t.val % 2) + h.val; omega
    | ⟨2, _⟩ => blk_simp [e14]
    | ⟨3, _⟩ => blk_simp [e14]
  rw [e]
  blk_simp
  rw [after0_14]
  refine (congrFun (left14 m c t) _).trans ?_
  have ht : t.val < 64 := t.isLt
  refine (pbv m c t (r := 256 * h.val + j.val) (j := 2048 + i.val) (by omega) (by omega)).trans ?_
  rw [show colOf (2048 + i.val) = 2048 + i.val by unfold colOf; rw [if_neg (by omega), if_neg (by omega)]]
  show _ = prj (A0 m c) (A1 m c) (A2 m c) (2048 * (t.val / 2) + (256 * (4 * (t.val % 2) + h.val) + j.val)) (2048 + i.val)
  rw [show 2048 * (t.val / 2) + (256 * (4 * (t.val % 2) + h.val) + j.val) = 1024 * t.val + (256 * h.val + j.val) by omega]

theorem e15 : ∀ t : Fin cfg0.N, win0_15.index t = ![t.val, 0] := (by decide +kernel : ∀ t : Fin grid0.N, _)
theorem ends15 (c : Dev nD) : (dats m 0 c).arrAt 15 cfg0.N = (r15 (A0 m c) (A1 m c) (A2 m c) : Vec Ideal S65536x512 .bf16) := by
  refine (dats m 0 c).arrAt_eq_of_covers 15 _ (by decide +kernel) fun t hf y => ?_
  obtain ⟨i, j, rfl⟩ : ∃ (i : Fin 1024) (j : Fin 512), y = ix2 i j := ⟨y 0, y 1, ValueIdx.eq_ix2 y⟩
  have e : ((cfg0.win 15).blk t).view.emb (ix2 i j) = (ix2 (rw' t i) j : S65536x512.Idx) := by
    funext a; apply Fin.ext
    match a with
    | ⟨0, _⟩ => blk_simp [e15]; show t.val * 1024 + i.val = 1024 * t.val + i.val; omega
    | ⟨1, _⟩ => blk_simp [e15]
  rw [e]
  blk_simp
  rw [after0_15]
  refine (congrFun (left15 m c t) _).trans ?_
  show Ideal.logistic _ = Ideal.logistic _
  refine congrArg Ideal.logistic ((pbv m c t (j := 2560 + j.val) i.isLt (by omega)).trans ?_)
  rw [show colOf (2560 + j.val) = 2560 + j.val by unfold colOf; rw [if_neg (by omega), if_neg (by omega)]]
  rfl

theorem e16 : ∀ t : Fin cfg0.N, win0_16.index t = ![t.val / 2, 0, t.val % 2] := (by decide +kernel : ∀ t : Fin grid0.N, _)
theorem ends16 (c : Dev nD) : (dats m 0 c).arrAt 16 cfg0.N = (r16 (A0 m c) (A1 m c) (A2 m c) : Vec Ideal S32x8x2048 .f32) := by
  refine (dats m 0 c).arrAt_eq_of_covers 16 _ (by decide +kernel) fun t hf y => ?_
  obtain ⟨z, i, j, rfl⟩ : ∃ (z : Fin 1) (i : Fin 8) (j : Fin 1024), y = ix3 z i j := ⟨y 0, y 1, y 2, ValueIdx.eq_ix3 y⟩
  obtain rfl : z = 0 := by omega
  have e : ((cfg0.win 16).blk t).view.emb (ix3 0 i j) = (ix3 ⟨t.val / 2, by have : t.val < 64 := t.isLt; omega⟩ i ⟨1024 * (t.val % 2) + j.val, by omega⟩ : S32x8x2048.Idx) := by
    funext a; apply Fin.ext
    match a with
    | ⟨0, _⟩ => blk_simp [e16]; rfl
    | ⟨1, _⟩ => blk_simp [e16]
    | ⟨2, _⟩ => blk_simp [e16]; show t.val % 2 * 1024 + j.val = 1024 * (t.val % 2) + j.val; omega
  rw [e]
  blk_simp
  rw [after0_16]
  refine (congrFun (left16 m c t) _).trans ?_
  have ht : t.val < 64 := t.isLt
  refine (pbv m c t (r := j.val) (j := 3072 + i.val) j.isLt (by omega)).trans ?_
  rw [show colOf (3072 + i.val) = 3072 + i.val by unfold colOf; rw [if_neg (by omega), if_neg (by omega)]]
  show _ = prj (A0 m c) (A1 m c) (A2 m c) (2048 * (t.val / 2) + (1024 * (t.val % 2) + j.val)) (3072 + i.val)
  rw [show 2048 * (t.val / 2) + (1024 * (t.val % 2) + j.val) = 1024 * t.val + j.val by omega]

end Cert.ProjIdeal.Value
-- ==== Proof.ProjRefRows.lean ====
module
public import proofs.«01_k».proof.Proof.Gen.ProjRefIdeal.Read
public import proofs.«01_k».proof.Proof.ProjArray
public import proofs.«01_k».proof.Proof.AttnArray
/-! The reference of the input projection, read an entry at a time: the same functions of the arguments. -/
@[expose] public section
noncomputable section
open Idealize.ShloMosaic Idealize.ShloMosaic.TcCoe Idealize.SL.Sem
namespace Cert.ProjRefIdeal.Rows
open Cert.ProjRefIdeal Cert.ProjRefIdeal.Gen Cert.ProjRefIdeal.Read Cert.ProjRow

/-- The norm of a row. -/
theorem norm (x0 : FVec Ideal S32x2048x1024 .f32) (x1 : FVec Ideal S1x1024 .f32) (b : Fin 32) (s : Fin 2048) (k : Fin 1024) :
    val_main_v14 (F := Ideal) x0 x1 (ix3 b s k) = MlpRow.rms (fun k => x0 (ix3 b s k)) (fun k => x1 (ix2 0 k)) k := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The projection. -/
theorem cell (x0 : FVec Ideal S32x2048x1024 .f32) (x1 : FVec Ideal S1x1024 .f32) (x2 : FVec Ideal S1x1024x3080 .f32) (b : Fin 32) (s : Fin 2048) (c : Fin 3080) :
    val_main_v16 (F := Ideal) x0 x1 x2 (ix3 b s c) = prj x0 x1 x2 (2048 * b.val + s.val) c.val := by
  rw [val_main_v16_apply]
  unfold prj proj
  refine Finset.sum_congr rfl fun k _ => ?_
  rw [val_main_v15_apply, show (2048 * b.val + s.val) / 2048 = b.val by omega, show (2048 * b.val + s.val) % 2048 = s.val by omega]
  congr 1
  · refine (congrArg (val_main_v14 (F := Ideal) x0 x1) (eq_ix3 _)).trans ((norm x0 x1 b s k).trans ?_)
    congr 1
    · funext k; exact at3_of x0 b s k
    · funext k; exact at2_of x1 0 k
  · refine Eq.trans (congrArg x2 ?_) (at3_of x2 0 k c)
    funext a
    apply Fin.ext
    fin_cases a
    · rfl
    · show (k.val * 3080 + c.val) / 3080 % 1024 = k.val; omega
    · show (k.val * 3080 + c.val) % 3080 = c.val; omega

variable (P : FVec Ideal S32x2048x3080 .f32) (D : FVec Ideal S32x2048x512 .f32) (C N : FVec Ideal S2048x32 .f32)

/-- The turned heads. -/
def heads : FVec Ideal S32x2048x8x64 .f32 :=
  concatenate S32x2048x8x64 3
    [⟨S32x2048x8x32, subf (mulf (extractStridedSlice S32x2048x8x32 ![0, 0, 0, 0] (shapeCast S32x2048x8x64 D shapeCasts_S32x2048x512_S32x2048x8x64) slices_S32x2048x8x64_S32x2048x8x32_0_0_0_0)
        (broadcastInDim S32x2048x8x32 ![0, 1, 2, 3] bcast_S1x2048x1x32_S32x2048x8x32_0_1_2_3 (broadcastInDim S1x2048x1x32 ![1, 3] bcast_S2048x32_S1x2048x1x32_1_3 C)))
      (mulf (extractStridedSlice S32x2048x8x32 ![0, 0, 0, 32] (shapeCast S32x2048x8x64 D shapeCasts_S32x2048x512_S32x2048x8x64) slices_S32x2048x8x64_S32x2048x8x32_0_0_0_32)
        (broadcastInDim S32x2048x8x32 ![0, 1, 2, 3] bcast_S1x2048x1x32_S32x2048x8x32_0_1_2_3 (broadcastInDim S1x2048x1x32 ![1, 3] bcast_S2048x32_S1x2048x1x32_1_3 N)))⟩,
     ⟨S32x2048x8x32, addf (mulf (extractStridedSlice S32x2048x8x32 ![0, 0, 0, 32] (shapeCast S32x2048x8x64 D shapeCasts_S32x2048x512_S32x2048x8x64) slices_S32x2048x8x64_S32x2048x8x32_0_0_0_32)
        (broadcastInDim S32x2048x8x32 ![0, 1, 2, 3] bcast_S1x2048x1x32_S32x2048x8x32_0_1_2_3 (broadcastInDim S1x2048x1x32 ![1, 3] bcast_S2048x32_S1x2048x1x32_1_3 C)))
      (mulf (extractStridedSlice S32x2048x8x32 ![0, 0, 0, 0] (shapeCast S32x2048x8x64 D shapeCasts_S32x2048x512_S32x2048x8x64) slices_S32x2048x8x64_S32x2048x8x32_0_0_0_0)
        (broadcastInDim S32x2048x8x32 ![0, 1, 2, 3] bcast_S1x2048x1x32_S32x2048x8x32_0_1_2_3 (broadcastInDim S1x2048x1x32 ![1, 3] bcast_S2048x32_S1x2048x1x32_1_3 N)))⟩]
    concatenates_S32x2048x8x32_S32x2048x8x32_S32x2048x8x64_d3

theorem heads_flat (i : Fin 65536) (j : Fin 512) :
    shapeCast S65536x512 (heads D C N) shapeCasts_S32x2048x8x64_S65536x512 (ix2 i j) = turned (fun c => at3 D (i.val / 2048) (i.val % 2048) c) (at2 C (i.val % 2048)) (at2 N (i.val % 2048)) j.val := by
  pointwise [heads]
  simp only [at3_of D, at2_of C, at2_of N, dite_eq_ite]
  unfold turned
  by_cases h : j.val % 64 < 32
  · rw [if_pos h, if_pos h, show j.val / 64 * 64 + (32 + j.val % 64) = j.val + 32 by omega]
  · rw [if_neg h, if_neg h, show j.val / 64 * 64 + (32 + (j.val % 64 - 32)) = j.val by omega, show j.val / 64 * 64 + (j.val % 64 - 32) = j.val - 32 by omega]

theorem q_eq (x0 : FVec Ideal S32x2048x1024 .f32) (x1 : FVec Ideal S1x1024 .f32) (x2 : FVec Ideal S1x1024x3080 .f32) :
  val_main_v97 (F := Ideal) x0 x1 x2 = heads (val_main_v18 (F := Ideal) x0 x1 x2) Cert.ProjIdeal.Value.cosV Cert.ProjIdeal.Value.sinV := rfl

theorem q_eq2 (x0 : FVec Ideal S32x2048x1024 .f32) (x1 : FVec Ideal S1x1024 .f32) (x2 : FVec Ideal S1x1024x3080 .f32) :
  val_main_v59 (F := Ideal) x0 x1 x2 = heads (val_main_v17 (F := Ideal) x0 x1 x2) Cert.ProjIdeal.Value.cosV Cert.ProjIdeal.Value.sinV := rfl

/-- The projected columns the convolution reads, with three rows of zeros before each sequence. -/
def padded : FVec Ideal S32x2051x512 .f32 :=
  pad S32x2051x512 ![0, 3, 0] ![0, 0, 0] ![0, 0, 0]
    (concatenate S32x2048x512 2 [⟨S32x2048x256, extractStridedSlice S32x2048x256 ![0, 0, 1536] P slices_S32x2048x3080_S32x2048x256_0_0_1536⟩, ⟨S32x2048x256, extractStridedSlice S32x2048x256 ![0, 0, 1792] P slices_S32x2048x3080_S32x2048x256_0_0_1792⟩] concatenates_S32x2048x256_S32x2048x256_S32x2048x512_d2)
    (sitofp .f32 (constantI S_ 32 0#32)) pads_S32x2048x512_S32x2051x512_000_300_000 h_S_
theorem padded_apply (b : Fin 32) (s : Fin 2051) (d : Fin 512) :
    padded P (ix3 b s d) = if s.val < 3 then 0 else at3 P b.val (s.val - 3) (1536 + d.val) := by
  pointwise [padded]
  simp only [at3_of P, dite_eq_ite]
  by_cases h : s.val < 3
  · rw [if_neg (show ¬ (3 ≤ s.val ∧ s.val - 3 < 2048) by omega), if_pos h]
    show (((0#32 : BitVec 32).toInt : ℝ) : EReal) = 0
    simp
  · rw [if_pos (show 3 ≤ s.val ∧ s.val - 3 < 2048 by omega), if_neg h]
    by_cases h2 : d.val < 256
    · rw [if_pos h2]
    · rw [if_neg h2, show 1792 + (d.val - 256) = 1536 + d.val by omega]

def Y (X : FVec Ideal S32x2051x512 .f32) (W : FVec Ideal S1x4x512 .f32) (B : FVec Ideal S1x512 .f32) : FVec Ideal S32x2048x512 .f32 :=
  addf (addf (addf (addf (broadcastInDim S32x2048x512 ![0, 1, 2] bcast_S1x1x512_S32x2048x512_0_1_2 (val_main_v108 (F := Ideal) B))
    (mulf (val_main_v106 (F := Ideal) W) (extractStridedSlice S32x2048x512 ![0, 0, 0] X slices_S32x2051x512_S32x2048x512_0_0_0)))
    (mulf (val_main_v115 (F := Ideal) W) (extractStridedSlice S32x2048x512 ![0, 1, 0] X slices_S32x2051x512_S32x2048x512_0_1_0)))
    (mulf (val_main_v122 (F := Ideal) W) (extractStridedSlice S32x2048x512 ![0, 2, 0] X slices_S32x2051x512_S32x2048x512_0_2_0)))
    (mulf (val_main_v129 (F := Ideal) W) (extractStridedSlice S32x2048x512 ![0, 3, 0] X slices_S32x2051x512_S32x2048x512_0_3_0))
theorem Y_apply (X : FVec Ideal S32x2051x512 .f32) (W : FVec Ideal S1x4x512 .f32) (B : FVec Ideal S1x512 .f32) (b : Fin 32) (s : Fin 2048) (d : Fin 512) :
    Y X W B (ix3 b s d) = conv (at2 B 0 d.val) (at3 W 0 0 d.val) (at3 W 0 1 d.val) (at3 W 0 2 d.val) (at3 W 0 3 d.val) fun k => at3 X b.val (s.val + 3 - k) d.val := by
  pointwise [Y, val_main_v108, val_main_v100, val_main_v106, val_main_v105, val_main_v103, val_main_v102, val_main_v99, val_main_v115, val_main_v114, val_main_v112, val_main_v111,
    val_main_v122, val_main_v121, val_main_v119, val_main_v118, val_main_v129, val_main_v128, val_main_v126, val_main_v125]
  simp only [at3_of X, at3_of W, at2_of B]
  unfold conv
  dsimp only
  rw [show s.val + 3 - 0 = 3 + s.val by omega, show s.val + 3 - 1 = 2 + s.val by omega, show s.val + 3 - 2 = 1 + s.val by omega, show s.val + 3 - 3 = s.val by omega]
  exact (by intros; ac_rfl : ∀ b p q r t : EReal, b + p + q + r + t = b + t + r + q + p) _ _ _ _ _
theorem y_eq (x0 : FVec Ideal S32x2048x1024 .f32) (x1 : FVec Ideal S1x1024 .f32) (x2 : FVec Ideal S1x1024x3080 .f32) (x3 : FVec Ideal S1x4x512 .f32) (x4 : FVec Ideal S1x512 .f32) :
  val_main_v131 (F := Ideal) x0 x1 x2 x3 x4 = Y (padded (val_main_v16 (F := Ideal) x0 x1 x2)) x3 x4 := rfl

/-- Queries beside zeros. -/
theorem qm_flat (i : Fin 65536) (j : Fin 512) :
  shapeCast S65536x512 (concatenate S32x2048x4x128 3 [⟨S32x2048x4x64, mulf (shapeCast S32x2048x4x64 (extractStridedSlice S32x2048x256 ![0, 0, 0] D slices_S32x2048x512_S32x2048x256_0_0_0) shapeCasts_S32x2048x256_S32x2048x4x64) (val_main_v137 (F := Ideal))⟩,
      ⟨S32x2048x4x64, val_main_v139 (F := Ideal)⟩] concatenates_S32x2048x4x64_S32x2048x4x64_S32x2048x4x128_d3 : FVec Ideal S32x2048x4x128 .f32) shapeCasts_S32x2048x4x128_S65536x512 (ix2 i j)
    = if j.val % 128 < 64 then HMul.hMul (α := EReal) (β := EReal) (γ := EReal) (at3 D (i.val / 2048) (i.val % 2048) (64 * (j.val / 128) + j.val % 128)) (Ideal.ofBits .f32 0x3E000000#32) else 0 := by
  pointwise [val_main_v137, val_main_v139, val_main_cst_12, val_main_cst_13]
  simp only [at3_of D, dite_eq_ite]
  rw [show j.val / 128 * 64 + j.val % 128 = 64 * (j.val / 128) + j.val % 128 by omega]

theorem kq_flat (i : Fin 65536) (j : Fin 512) :
  shapeCast S65536x512 (concatenate S32x2048x4x128 3 [⟨S32x2048x4x64, shapeCast S32x2048x4x64 (extractStridedSlice S32x2048x256 ![0, 0, 256] D slices_S32x2048x512_S32x2048x256_0_0_256) shapeCasts_S32x2048x256_S32x2048x4x64⟩,
      ⟨S32x2048x4x64, shapeCast S32x2048x4x64 (extractStridedSlice S32x2048x256 ![0, 0, 0] D slices_S32x2048x512_S32x2048x256_0_0_0) shapeCasts_S32x2048x256_S32x2048x4x64⟩] concatenates_S32x2048x4x64_S32x2048x4x64_S32x2048x4x128_d3 : FVec Ideal S32x2048x4x128 .f32) shapeCasts_S32x2048x4x128_S65536x512 (ix2 i j)
    = at3 D (i.val / 2048) (i.val % 2048) (if j.val % 128 < 64 then 256 + (64 * (j.val / 128) + j.val % 128) else 64 * (j.val / 128) + (j.val % 128 - 64)) := by
  pointwise
  simp only [at3_of D, dite_eq_ite]
  by_cases h : j.val % 128 < 64
  · rw [if_pos h, if_pos h, show j.val / 128 * 64 + j.val % 128 = 64 * (j.val / 128) + j.val % 128 by omega]
  · rw [if_neg h, if_neg h, show j.val / 128 * 64 + (j.val % 128 - 64) = 64 * (j.val / 128) + (j.val % 128 - 64) by omega]

theorem mv_cell (b : Fin 32) (h : Fin 8) (e : Fin 512) (s : Fin 256) :
    transpose S32x8x512x256 [0, 1, 3, 2] (shapeCast S32x8x256x512 (extractStridedSlice S32x2048x512 ![0, 0, 2048] P slices_S32x2048x3080_S32x2048x512_0_0_2048) shapeCasts_S32x2048x512_S32x8x256x512) transposes_S32x8x256x512_S32x8x512x256_0_1_3_2 (ix4 b h e s)
      = at3 P b.val (256 * h.val + s.val) (2048 + e.val) := by
  pointwise
  rw [at3_of P]
  exact congrArg (fun r => at3 P b.val r (2048 + e.val)) (show h.val * 256 + s.val = 256 * h.val + s.val by omega)

theorem g_cell (b : Fin 32) (r : Fin 8) (s : Fin 2048) :
    transpose S32x8x2048 [0, 2, 1] (concatenate S32x2048x8 2 [⟨S32x2048x4, extractStridedSlice S32x2048x4 ![0, 0, 3072] P slices_S32x2048x3080_S32x2048x4_0_0_3072⟩, ⟨S32x2048x4, extractStridedSlice S32x2048x4 ![0, 0, 3076] P slices_S32x2048x3080_S32x2048x4_0_0_3076⟩] concatenates_S32x2048x4_S32x2048x4_S32x2048x8_d2) transposes_S32x2048x8_S32x8x2048_0_2_1 (ix3 b r s)
      = at3 P b.val s.val (3072 + r.val) := by
  pointwise
  simp only [at3_of P, dite_eq_ite]
  by_cases h : r.val < 4
  · rw [if_pos h]
  · rw [if_neg h, show 3076 + (r.val - 4) = 3072 + r.val by omega]

/-- A slice of the projected columns, flattened. -/
theorem v_flat (i : Fin 65536) (j : Fin 512) :
    shapeCast S65536x512 D shapeCasts_S32x2048x512_S65536x512 (ix2 i j) = at3 D (i.val / 2048) (i.val % 2048) j.val := by
  pointwise
  rw [at3_of D]

theorem cut17 (b : Fin 32) (s : Fin 2048) (j : Fin 512) : extractStridedSlice S32x2048x512 ![0, 0, 0] P slices_S32x2048x3080_S32x2048x512_0_0_0 (ix3 b s j) = at3 P b.val s.val j.val := by
  pointwise
  rw [at3_of P]
theorem cut18 (b : Fin 32) (s : Fin 2048) (j : Fin 512) : extractStridedSlice S32x2048x512 ![0, 0, 512] P slices_S32x2048x3080_S32x2048x512_0_0_512 (ix3 b s j) = at3 P b.val s.val (512 + j.val) := by
  pointwise
  rw [at3_of P]
theorem cut19 (b : Fin 32) (s : Fin 2048) (j : Fin 512) : extractStridedSlice S32x2048x512 ![0, 0, 1024] P slices_S32x2048x3080_S32x2048x512_0_0_1024 (ix3 b s j) = at3 P b.val s.val (1024 + j.val) := by
  pointwise
  rw [at3_of P]
theorem cut23 (b : Fin 32) (s : Fin 2048) (j : Fin 512) : extractStridedSlice S32x2048x512 ![0, 0, 2560] P slices_S32x2048x3080_S32x2048x512_0_0_2560 (ix3 b s j) = at3 P b.val s.val (2560 + j.val) := by
  pointwise
  rw [at3_of P]

/-- The logistic, written out. -/
theorem sig_cell (b : Fin 32) (s : Fin 2048) (j : Fin 512) :
    (Host.divf (val_main_v161 (F := Ideal)) (addf (val_main_v159 (F := Ideal)) (Host.exp (Host.negf D))) : FVec Ideal S32x2048x512 .f32) (ix3 b s j) = Ideal.logistic (D (ix3 b s j)) := by
  pointwise [val_main_v161, val_main_v159, val_main_cst_14, val_main_cst_15]
  rfl

theorem turned_congr {d d' : Nat → EReal} {cs sn : Nat → EReal} (h : ∀ c, c < 512 → d c = d' c) {c : Nat} (hc : c < 512) : turned d cs sn c = turned d' cs sn c := by
  unfold turned
  by_cases h0 : c % 64 < 32
  · rw [if_pos h0, if_pos h0, h c hc, h (c + 32) (by omega)]
  · rw [if_neg h0, if_neg h0, h c hc, h (c - 32) (by omega)]

/-- The queries' scale. -/
theorem scale : Ideal.div (Ideal.ofBits .f32 0x3E000000#32) (Ideal.log (Ideal.ofBits .f32 0x40000000#32)) = qk2 := by
  rw [Cert.AttnReal.qscale_eq]
  unfold qk2 Cert.AttnReal.qscale
  rw [one_div (Real.log 2)]
theorem scaled (H : FVec Ideal S32x2048x8x64 .f32) (i : Fin 65536) (j : Fin 512) :
    shapeCast S65536x512 (mulf H (val_main_v62 (F := Ideal))) shapeCasts_S32x2048x8x64_S65536x512 (ix2 i j) = HMul.hMul (α := EReal) (β := EReal) (γ := EReal) (shapeCast S65536x512 H shapeCasts_S32x2048x8x64_S65536x512 (ix2 i j)) qk2 := by
  rw [← scale]
  pointwise [val_main_v62, val_main_v61, val_main_v60, val_main_cst_6, val_main_cst_7]

section Results
variable (x0 : FVec Ideal S32x2048x1024 .f32) (x1 : FVec Ideal S1x1024 .f32) (x2 : FVec Ideal S1x1024x3080 .f32) (x3 : FVec Ideal S1x4x512 .f32) (x4 : FVec Ideal S1x512 .f32)

/-- The projection by natural numbers. -/
theorem cell' {b s c : Nat} (hb : b < 32) (hs : s < 2048) (hc : c < 3080) : at3 (val_main_v16 (F := Ideal) x0 x1 x2) b s c = prj x0 x1 x2 (2048 * b + s) c :=
  (at3_of (val_main_v16 (F := Ideal) x0 x1 x2) ⟨b, hb⟩ ⟨s, hs⟩ ⟨c, hc⟩).symm.trans (cell x0 x1 x2 ⟨b, hb⟩ ⟨s, hs⟩ ⟨c, hc⟩)
theorem cellAt {i c : Nat} (hi : i < 65536) (hc : c < 3080) : at3 (val_main_v16 (F := Ideal) x0 x1 x2) (i / 2048) (i % 2048) c = prj x0 x1 x2 i c := by
  rw [cell' x0 x1 x2 (by omega) (by omega) hc, show 2048 * (i / 2048) + i % 2048 = i by omega]

theorem at17 {i c : Nat} (hi : i < 65536) (hc : c < 512) : at3 (val_main_v17 (F := Ideal) x0 x1 x2) (i / 2048) (i % 2048) c = prj x0 x1 x2 i c :=
  ((at3_of (val_main_v17 (F := Ideal) x0 x1 x2) ⟨i / 2048, by omega⟩ ⟨i % 2048, by omega⟩ ⟨c, hc⟩).symm.trans (cut17 (val_main_v16 (F := Ideal) x0 x1 x2) _ _ _)).trans (cellAt x0 x1 x2 hi (show c < 3080 by omega))
theorem at18 {i c : Nat} (hi : i < 65536) (hc : c < 512) : at3 (val_main_v18 (F := Ideal) x0 x1 x2) (i / 2048) (i % 2048) c = prj x0 x1 x2 i (512 + c) :=
  ((at3_of (val_main_v18 (F := Ideal) x0 x1 x2) ⟨i / 2048, by omega⟩ ⟨i % 2048, by omega⟩ ⟨c, hc⟩).symm.trans (cut18 (val_main_v16 (F := Ideal) x0 x1 x2) _ _ _)).trans (cellAt x0 x1 x2 hi (show 512 + c < 3080 by omega))
theorem at19 {i c : Nat} (hi : i < 65536) (hc : c < 512) : at3 (val_main_v19 (F := Ideal) x0 x1 x2) (i / 2048) (i % 2048) c = prj x0 x1 x2 i (1024 + c) :=
  ((at3_of (val_main_v19 (F := Ideal) x0 x1 x2) ⟨i / 2048, by omega⟩ ⟨i % 2048, by omega⟩ ⟨c, hc⟩).symm.trans (cut19 (val_main_v16 (F := Ideal) x0 x1 x2) _ _ _)).trans (cellAt x0 x1 x2 hi (show 1024 + c < 3080 by omega))

/-- The activated convolution. -/
theorem atY {i d : Nat} (hi : i < 65536) (hd : d < 512) : at3 (val_main_v132 (F := Ideal) x0 x1 x2 x3 x4) (i / 2048) (i % 2048) d = ty x0 x1 x2 x3 x4 i d := by
  refine (at3_of (val_main_v132 (F := Ideal) x0 x1 x2 x3 x4) ⟨i / 2048, by omega⟩ ⟨i % 2048, by omega⟩ ⟨d, hd⟩).symm.trans ?_
  show HMul.hMul (α := EReal) (β := EReal) (γ := EReal) (val_main_v131 (F := Ideal) x0 x1 x2 x3 x4 _) (val_main_call1_v5 (F := Ideal) x0 x1 x2 x3 x4 _) = _
  rw [show val_main_call1_v5 (F := Ideal) x0 x1 x2 x3 x4 _ = _ from sig_cell (val_main_v131 (F := Ideal) x0 x1 x2 x3 x4) _ _ _, y_eq, Y_apply]
  unfold ty
  refine congrArg silu (Cert.ProjIdeal.Body.conv_congr fun k hk => ?_)
  refine (at3_of (padded (val_main_v16 (F := Ideal) x0 x1 x2)) ⟨i / 2048, by omega⟩ ⟨i % 2048 + 3 - k, by omega⟩ ⟨d, hd⟩).symm.trans ?_
  rw [padded_apply]
  by_cases h : i % 2048 < k
  · rw [if_pos (show i % 2048 + 3 - k < 3 by omega), if_pos h]
  · rw [if_neg (show ¬ i % 2048 + 3 - k < 3 by omega), if_neg h, cell' x0 x1 x2 (show i / 2048 < 32 by omega) (show i % 2048 + 3 - k - 3 < 2048 by omega) (show 1536 + d < 3080 by omega),
      show 2048 * (i / 2048) + (i % 2048 + 3 - k - 3) = i - k by omega]

theorem res0 : val_main_v147 (F := Ideal) x0 x1 x2 = Cert.ProjIdeal.Value.r9 x0 x1 x2 := by
  funext y
  rw [eq_ix2 y]
  refine (scaled (val_main_v59 (F := Ideal) x0 x1 x2) _ _).trans ?_
  rw [q_eq2]
  exact congrArg (· * qk2) ((heads_flat (val_main_v17 (F := Ideal) x0 x1 x2) Cert.ProjIdeal.Value.cosV Cert.ProjIdeal.Value.sinV _ _).trans <| turned_congr (fun c hc => at17 x0 x1 x2 (y 0).isLt hc) (y 1).isLt)
theorem res1 : val_main_v149 (F := Ideal) x0 x1 x2 = Cert.ProjIdeal.Value.r10 x0 x1 x2 := by
  funext y
  rw [eq_ix2 y]
  exact (heads_flat (val_main_v18 (F := Ideal) x0 x1 x2) Cert.ProjIdeal.Value.cosV Cert.ProjIdeal.Value.sinV _ _).trans <| turned_congr (fun c hc => at18 x0 x1 x2 (y 0).isLt hc) (y 1).isLt
theorem res2 : val_main_v151 (F := Ideal) x0 x1 x2 = Cert.ProjIdeal.Value.r11 x0 x1 x2 := by
  funext y
  rw [eq_ix2 y]
  exact (v_flat (val_main_v19 (F := Ideal) x0 x1 x2) _ _).trans (at19 x0 x1 x2 (y 0).isLt (y 1).isLt)
theorem res3 : val_main_v153 (F := Ideal) x0 x1 x2 x3 x4 = Cert.ProjIdeal.Value.r12 x0 x1 x2 x3 x4 := by
  funext y
  rw [eq_ix2 y]
  have h1 : (y 1).val < 512 := (y 1).isLt
  refine (qm_flat (val_main_v132 (F := Ideal) x0 x1 x2 x3 x4) _ _).trans ?_
  show _ = tqm x0 x1 x2 x3 x4 (y 0).val (y 1).val
  unfold tqm
  rw [atY x0 x1 x2 x3 x4 (y 0).isLt (show 64 * ((y 1).val / 128) + (y 1).val % 128 < 512 by omega)]
theorem res4 : val_main_v155 (F := Ideal) x0 x1 x2 x3 x4 = Cert.ProjIdeal.Value.r13 x0 x1 x2 x3 x4 := by
  funext y
  rw [eq_ix2 y]
  have h1 : (y 1).val < 512 := (y 1).isLt
  exact (kq_flat (val_main_v132 (F := Ideal) x0 x1 x2 x3 x4) _ _).trans (atY x0 x1 x2 x3 x4 (y 0).isLt (by show (if (y 1).val % 128 < 64 then _ else _) < 512; split <;> omega))
theorem res5 : val_main_v156 (F := Ideal) x0 x1 x2 = Cert.ProjIdeal.Value.r14 x0 x1 x2 := by
  funext y
  rw [eq_ix4 y]
  have h0 : (y 0).val < 32 := (y 0).isLt
  have h1 : (y 1).val < 8 := (y 1).isLt
  have h2 : (y 2).val < 512 := (y 2).isLt
  have h3 : (y 3).val < 256 := (y 3).isLt
  exact (mv_cell (val_main_v16 (F := Ideal) x0 x1 x2) _ _ _ _).trans (cell' x0 x1 x2 h0 (by omega) (by omega))
theorem res6 : val_main_v164 (F := Ideal) x0 x1 x2 = Cert.ProjIdeal.Value.r15 x0 x1 x2 := by
  funext y
  rw [eq_ix2 y]
  have h0 : (y 0).val < 65536 := (y 0).isLt
  have h1 : (y 1).val < 512 := (y 1).isLt
  refine (v_flat (val_main_v162 (F := Ideal) x0 x1 x2) _ _).trans ?_
  refine (at3_of (val_main_v162 (F := Ideal) x0 x1 x2) ⟨(y 0).val / 2048, by omega⟩ ⟨(y 0).val % 2048, by omega⟩ ⟨(y 1).val, h1⟩).symm.trans ?_
  refine (sig_cell (val_main_v23 (F := Ideal) x0 x1 x2) _ _ _).trans (congrArg Ideal.logistic ?_)
  exact (cut23 (val_main_v16 (F := Ideal) x0 x1 x2) _ _ _).trans (cellAt x0 x1 x2 h0 (show 2560 + (y 1).val < 3080 by omega))
theorem res7 : val_main_v145 (F := Ideal) x0 x1 x2 = Cert.ProjIdeal.Value.r16 x0 x1 x2 := by
  funext y
  rw [eq_ix3 y]
  have h0 : (y 0).val < 32 := (y 0).isLt
  have h1 : (y 1).val < 8 := (y 1).isLt
  have h2 : (y 2).val < 2048 := (y 2).isLt
  exact (g_cell (val_main_v16 (F := Ideal) x0 x1 x2) _ _ _).trans (cell' x0 x1 x2 h0 h2 (by omega))
end Results

end Cert.ProjRefIdeal.Rows
-- ==== Proof.ProjClaim.lean ====
module
public import proofs.«01_k».proof.Defs
public import proofs.«01_k».proof.Proof.ProjRefRows
public import proofs.«01_k».proof.Proof.Gen.ProjRefIdeal.Run
/-! The input projection call computes what its reference computes. -/
@[expose] public section
noncomputable section
open Idealize.ShloMosaic Idealize.ShloMosaic.TcCoe Idealize.SL.Sem
namespace Cert.ProjClaim
open Cert.ProjRefIdeal.Rows

theorem algebraic : Cert.algebraic_ProjIdeal_ProjRefIdeal (hProjIdeal := Cert.ProjIdeal.Gen.facts) (hProjRefIdeal := Cert.ProjRefIdeal.Gen.facts) := by
  intro m g m' g' _ hargs
  refine ⟨fun c => Cert.ProjIdeal.Value.r9 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjIdeal.Value.r10 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjIdeal.Value.r11 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjIdeal.Value.r12 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)), fun c => Cert.ProjIdeal.Value.r13 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)), fun c => Cert.ProjIdeal.Value.r14 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjIdeal.Value.r15 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjIdeal.Value.r16 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), ?_, ?_⟩
  · refine (θ_run Cert.ProjIdeal.defs _ _).mono (fun r h c => ?_) (Cert.ProjIdeal.Value.run_blocks (F := Ideal) m g)
    exact ⟨((h c).1).trans (Cert.ProjIdeal.Value.ends9 m c), ((h c).2.1).trans (Cert.ProjIdeal.Value.ends10 m c), ((h c).2.2.1).trans (Cert.ProjIdeal.Value.ends11 m c), ((h c).2.2.2.1).trans (Cert.ProjIdeal.Value.ends12 m c), ((h c).2.2.2.2.1).trans (Cert.ProjIdeal.Value.ends13 m c), ((h c).2.2.2.2.2.1).trans (Cert.ProjIdeal.Value.ends14 m c), ((h c).2.2.2.2.2.2.1).trans (Cert.ProjIdeal.Value.ends15 m c), ((h c).2.2.2.2.2.2.2.1).trans (Cert.ProjIdeal.Value.ends16 m c), (h c).2.2.2.2.2.2.2.2⟩
  · refine (θ_run Cert.ProjRefIdeal.defs _ _).mono (fun r h c => ?_) (Cert.ProjRefIdeal.Value.run (F := Ideal) m' g')
    obtain ⟨h0, h1, h2, h3, h4⟩ := hargs c
    refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, (h c).2.2.2.2.2.2.2.2⟩
    · refine (Cert.ProjRefIdeal.Read.val_main_v147_eq _).trans ?_
      refine (res0 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]
    · refine (Cert.ProjRefIdeal.Read.val_main_v149_eq _).trans ?_
      refine (res1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]
    · refine (Cert.ProjRefIdeal.Read.val_main_v151_eq _).trans ?_
      refine (res2 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]
    · refine (Cert.ProjRefIdeal.Read.val_main_v153_eq _).trans ?_
      refine (res3 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4))).trans ?_
      rw [h0, h1, h2, h3, h4]
    · refine (Cert.ProjRefIdeal.Read.val_main_v155_eq _).trans ?_
      refine (res4 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4))).trans ?_
      rw [h0, h1, h2, h3, h4]
    · refine (Cert.ProjRefIdeal.Read.val_main_v156_eq _).trans ?_
      refine (res5 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]
    · refine (Cert.ProjRefIdeal.Read.val_main_v164_eq _).trans ?_
      refine (res6 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]
    · refine (Cert.ProjRefIdeal.Read.val_main_v145_eq _).trans ?_
      refine (res7 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))).trans ?_
      rw [h0, h1, h2]

end Cert.ProjClaim
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_finite
public import proofs.«01_k».proof.Proof.MlpClaim
public import proofs.«01_k».proof.Proof.AttnClaim
public import proofs.«01_k».proof.Proof.ProjClaim
public import Idealize.ShloMosaic.Adequacy
public import Idealize.ShloMosaic.Init
public import Idealize.ShloMosaic.Lib.Quiescent

@[expose] public section

noncomputable section

namespace Cert.Proof

open Idealize.ShloMosaic Idealize.SL.Sem

/-- The attention reference runs and leaves its arguments; it declares no semaphore. -/
theorem frame_attn_ref : Cert.quiescent_AttnRefIdeal (hAttnRefIdeal := Cert.AttnRefIdeal.Gen.facts) := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The reference of the output projection and MLP runs and leaves its arguments; it declares no semaphore. -/
theorem frame_mlp_ref : Cert.quiescent_MlpRefIdeal (hMlpRefIdeal := Cert.MlpRefIdeal.Gen.facts) := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

/-- The reference of the input projection runs and leaves its arguments; it declares no semaphore. -/
theorem frame_proj_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2, Idealize.ShloMosaic.sem_eq_zero_of_no_sems (by decide) r.2⟩)
    (Cert.ProjRefIdeal.Value.run (F := Ideal) m ρ)

/-- The projection's one named constant is the number it stands for. -/
theorem preserves_proj : Cert.preserves_Proj_ProjIdeal :=
  IdealRules.named_const.statement Cert.ProjIdeal.κ "query_scale" .f32 0x3E38AA3B#32 (((1 / 8) * (Real.log 2)⁻¹ : ℝ) : EReal) rfl

theorem claim : Cert.Claim :=
  ⟨Cert.Attn.Gen.facts, Cert.AttnIdeal.Gen.facts, Cert.AttnRefIdeal.Gen.facts, Cert.Mlp.Gen.facts, Cert.MlpIdeal.Gen.facts, Cert.MlpRefIdeal.Gen.facts,
    Cert.Proj.Gen.facts, Cert.ProjIdeal.Gen.facts, Cert.ProjRefIdeal.Gen.facts, Cert.Pre_finite.Gen.facts,
    fun m ρ _ => Cert.Attn.Gen.frame m ρ, fun m ρ _ => Cert.AttnIdeal.Gen.frame m ρ, fun m ρ _ => Cert.AttnIdeal.Gen.frame m ρ,
    frame_attn_ref, fun m ρ _ => frame_attn_ref m ρ trivial,
    fun m ρ _ => Cert.Mlp.Gen.frame m ρ, fun m ρ _ => Cert.MlpIdeal.Gen.frame m ρ, frame_mlp_ref,
    fun m ρ _ => Cert.Proj.Gen.frame m ρ, fun m ρ _ => Cert.ProjIdeal.Gen.frame m ρ, frame_proj_ref,
    trivial, Cert.AttnClaim.algebraic, trivial, Cert.MlpClaim.algebraic, preserves_proj, Cert.ProjClaim.algebraic⟩

end Cert.Proof

end
